-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  IdealRules.named_const.Statement Cert.KernelIdeal.κ "dead" .f32 0xC2D00000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)) (v2 : (c : Dev Cert.KernelIdeal.nD) → Buf (Elt Ideal) ((c.tc : Thread Cert.KernelIdeal.nD Cert.KernelIdeal.τ).loc Cert.KernelIdeal.main_v31_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_v31_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_v13) = v1 c
          ∧ r.2.mem ((c.tc : Thread Cert.Reference2Ideal.nD Cert.Reference2Ideal.τ).loc Cert.Reference2Ideal.main_v16) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  IdealRules.named_const.Statement Cert.Kernel4Ideal.κ "dead" .f32 0xC2D00000#32 ⊥

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)) (v4 : (c : Dev Cert.Kernel5Ideal.nD) → Buf (Elt Ideal) ((c.tc : Thread Cert.Kernel5Ideal.nD Cert.Kernel5Ideal.τ).loc Cert.Kernel5Ideal.main_v0_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_v0_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v66) = v0 c
          ∧ r.2.mem ((c.tc : Thread Cert.Reference5Ideal.nD Cert.Reference5Ideal.τ).loc Cert.Reference5Ideal.main_v7) = v1 c
          ∧ r.2.mem ((c.tc : Thread Cert.Reference5Ideal.nD Cert.Reference5Ideal.τ).loc Cert.Reference5Ideal.main_v18) = v2 c
          ∧ r.2.mem ((c.tc : Thread Cert.Reference5Ideal.nD Cert.Reference5Ideal.τ).loc Cert.Reference5Ideal.main_v19) = v3 c
          ∧ r.2.mem ((c.tc : Thread Cert.Reference5Ideal.nD Cert.Reference5Ideal.τ).loc Cert.Reference5Ideal.main_v68) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite4 : Cert.Pre_finite4.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite.lean ====
abbrev S8192x3072 : Shape := ⟨2, ![8192, 3072]⟩
abbrev S8192x512 : Shape := ⟨2, ![8192, 512]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)
  bcast_S_S8192x512 : S_.BroadcastsInDim S8192x512 (![] : Fin 0 → Fin S8192x512.rank)

variable [Facts]

def fn {F : FTy → Type} [FloatOps F] (main_arg0 : FVec F S8192x3072 .bf16) (main_arg1 : FVec F S8192x512 .f32) : IVec S8192x3072 1 × IVec S8192x512 1 :=
  let main_v0 : FVec F S8192x3072 .f32 := (extf .f32 · bitsLt_bf16_f32) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  (main_v3, main_v6)
-- ==== Pre_finite4.lean ====
abbrev S8192x3072 : Shape := ⟨2, ![8192, 3072]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)

variable [Facts]

def fn {F : FTy → Type} [FloatOps F] (main_arg0 : FVec F S8192x3072 .bf16) : IVec S8192x3072 1 :=
  let main_v0 : FVec F S8192x3072 .f32 := (extf .f32 · bitsLt_bf16_f32) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  main_v3
-- ==== Pre_finite5.lean ====
abbrev S8192x1024 : Shape := ⟨2, ![8192, 1024]⟩
abbrev S1x1024 : Shape := ⟨2, ![1, 1024]⟩
abbrev S4x8192x704 : Shape := ⟨3, ![4, 8192, 704]⟩
abbrev S4x704x1024 : Shape := ⟨3, ![4, 704, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bitsLt_bf16_f32 : FTy.bits .bf16 < FTy.bits .f32
  bcast_S_S4x8192x704 : S_.BroadcastsInDim S4x8192x704 (![] : Fin 0 → Fin S4x8192x704.rank)
  bcast_S_S4x704x1024 : S_.BroadcastsInDim S4x704x1024 (![] : Fin 0 → Fin S4x704x1024.rank)

variable [Facts]

def fn_part1 {F : FTy → Type} [FloatOps F] (main_arg6 : FVec F S4x704x1024 .bf16) (main_arg7 : FVec F S4x704x1024 .bf16) (main_v2 : IVec S8192x1024 1) (main_v5 : IVec S1x1024 1) (main_v8 : IVec S8192x1024 1) (main_v12 : IVec S4x8192x704 1) (main_v16 : IVec S4x8192x704 1) (main_v18 : FVec F S4x704x1024 .f32) : IVec S8192x1024 1 × IVec S1x1024 1 × IVec S8192x1024 1 × IVec S4x8192x704 1 × IVec S4x8192x704 1 × IVec S4x704x1024 1 × IVec S4x704x1024 1 × IVec S4x704x1024 1 :=
  let main_cst_4 : FVec F S_ .f32 := constant S_ .f32 0x7F800000#32
  let main_v19 : FVec F S4x704x1024 .f32 := broadcastInDim S4x704x1024 ![] bcast_S_S4x704x1024 main_cst_4
  let main_v20 : IVec S4x704x1024 1 := cmpf .olt main_v18 main_v19
  let main_v21 : FVec F S4x704x1024 .f32 := (extf .f32 · bitsLt_bf16_f32) main_arg6
  let main_v22 : FVec F S4x704x1024 .f32 := Host.absf main_v21
  let main_cst_5 : FVec F S_ .f32 := constant S_ .f32 0x7F800000#32
  let main_v23 : FVec F S4x704x1024 .f32 := broadcastInDim S4x704x1024 ![] bcast_S_S4x704x1024 main_cst_5
  let main_v24 : IVec S4x704x1024 1 := cmpf .olt main_v22 main_v23
  let main_v25 : FVec F S4x704x1024 .f32 := (extf .f32 · bitsLt_bf16_f32) main_arg7
  let main_v26 : FVec F S4x704x1024 .f32 := Host.absf main_v25
  let main_cst_6 : FVec F S_ .f32 := constant S_ .f32 0x7F800000#32
  let main_v27 : FVec F S4x704x1024 .f32 := broadcastInDim S4x704x1024 ![] bcast_S_S4x704x1024 main_cst_6
  let main_v28 : IVec S4x704x1024 1 := cmpf .olt main_v26 main_v27
  (main_v2, main_v5, main_v8, main_v12, main_v16, main_v20, main_v24, main_v28)

def fn {F : FTy → Type} [FloatOps F] (main_arg0 : FVec F S8192x1024 .f32) (main_arg1 : FVec F S1x1024 .f32) (main_arg2 : FVec F S8192x1024 .f32) (main_arg3 : FVec F S4x8192x704 .bf16) (main_arg4 : FVec F S4x8192x704 .bf16) (main_arg5 : FVec F S4x704x1024 .bf16) (main_arg6 : FVec F S4x704x1024 .bf16) (main_arg7 : FVec F S4x704x1024 .bf16) : IVec S8192x1024 1 × IVec S1x1024 1 × IVec S8192x1024 1 × IVec S4x8192x704 1 × IVec S4x8192x704 1 × IVec S4x704x1024 1 × IVec S4x704x1024 1 × IVec S4x704x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S4x8192x704 .f32 := (extf .f32 · bitsLt_bf16_f32) main_arg3
  let main_v10 : FVec F S4x8192x704 .f32 := Host.absf main_v9
  let main_cst_2 : FVec F S_ .f32 := constant S_ .f32 0x7F800000#32
  let main_v11 : FVec F S4x8192x704 .f32 := broadcastInDim S4x8192x704 ![] bcast_S_S4x8192x704 main_cst_2
  let main_v12 : IVec S4x8192x704 1 := cmpf .olt main_v10 main_v11
  let main_v13 : FVec F S4x8192x704 .f32 := (extf .f32 · bitsLt_bf16_f32) main_arg4
  let main_v14 : FVec F S4x8192x704 .f32 := Host.absf main_v13
  let main_cst_3 : FVec F S_ .f32 := constant S_ .f32 0x7F800000#32
  let main_v15 : FVec F S4x8192x704 .f32 := broadcastInDim S4x8192x704 ![] bcast_S_S4x8192x704 main_cst_3
  let main_v16 : IVec S4x8192x704 1 := cmpf .olt main_v14 main_v15
  let main_v17 : FVec F S4x704x1024 .f32 := (extf .f32 · bitsLt_bf16_f32) main_arg5
  let main_v18 : FVec F S4x704x1024 .f32 := Host.absf main_v17
  fn_part1 (F := F) main_arg6 main_arg7 main_v2 main_v5 main_v8 main_v12 main_v16 main_v18
-- ==== Kernel.lean ====
abbrev S8192x3072 : Shape := ⟨2, ![8192, 3072]⟩
abbrev S8192x512 : Shape := ⟨2, ![8192, 512]⟩
abbrev S8192x8x64 : Shape := ⟨3, ![8192, 8, 64]⟩
abbrev S8x8192x64 : Shape := ⟨3, ![8, 8192, 64]⟩
abbrev S8192 : Shape := ⟨1, ![8192]⟩
abbrev S8x8192x8192 : Shape := ⟨3, ![8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S8192x128 : Shape := ⟨2, ![8192, 128]⟩
abbrev S256x128 : Shape := ⟨2, ![256, 128]⟩
abbrev S256x256 : Shape := ⟨2, ![256, 256]⟩
abbrev S512x128 : Shape := ⟨2, ![512, 128]⟩
abbrev S128x128 : Shape := ⟨2, ![128, 128]⟩
abbrev S128 : Shape := ⟨1, ![128]⟩
abbrev S128x1 : Shape := ⟨2, ![128, 1]⟩
abbrev S256x1 : Shape := ⟨2, ![256, 1]⟩
abbrev S512x1 : Shape := ⟨2, ![512, 1]⟩
abbrev S512x256 : Shape := ⟨2, ![512, 256]⟩
abbrev S1x512x128 : Shape := ⟨3, ![1, 512, 128]⟩
abbrev S1 : Shape := ⟨1, ![1]⟩
abbrev S1x1x1 : Shape := ⟨3, ![1, 1, 1]⟩

abbrev nBuf : Space → Nat
  | .hbm => 77
  | .vmem => 18
  | .smem => 0
  | _ => 0

abbrev bufTy : (tb : Table) → Fin (tcTables nBuf tb) → BufTy
  | .hbm, ⟨0, _⟩ => ⟨S8192x3072, .bf16⟩
  | .hbm, ⟨1, _⟩ => ⟨S8192x512, .f32⟩
  | .hbm, ⟨2, _⟩ => ⟨S8192x3072, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x8x64, .f32⟩
  | .hbm, ⟨7, _⟩ => ⟨S8x8192x64, .f32⟩
  | .hbm, ⟨8, _⟩ => ⟨S8192x8x64, .f32⟩
  | .hbm, ⟨9, _⟩ => ⟨S8x8192x64, .f32⟩
  | .hbm, ⟨10, _⟩ => ⟨S8192x8x64, .f32⟩
  | .hbm, ⟨11, _⟩ => ⟨S8x8192x64, .f32⟩
  | .hbm, ⟨12, _⟩ => ⟨S8192, .i32⟩
  | .hbm, ⟨13, _⟩ => ⟨S8x8192x8192, .f32⟩
  | .hbm, ⟨14, _⟩ => ⟨S_, .f32⟩
  | .hbm, ⟨15, _⟩ => ⟨S8x8192x8192, .f32⟩
  | .hbm, ⟨16, _⟩ => ⟨S8x8192x8192, .f32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S8x8192x8192, .f32⟩
  | .hbm, ⟨23, _⟩ => ⟨S_, .f32⟩
  | .hbm, ⟨24, _⟩ => ⟨S8x8192x8192, .f32⟩
  | .hbm, ⟨25, _⟩ => ⟨S8x8192x8192, .f32⟩
  | .hbm, ⟨26, _⟩ => ⟨S8x8192x8192, .f32⟩
  | .hbm, ⟨27, _⟩ => ⟨S8x8192x8192, .f32⟩
  | .hbm, ⟨28, _⟩ => ⟨S8x8192x8192, .i1⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S8x8192x8192, .f32⟩
  | .hbm, ⟨37, _⟩ => ⟨S8x8192x8192, .f32⟩
  | .hbm, ⟨38, _⟩ => ⟨S8x8192x8192, .f32⟩
  | .hbm, ⟨39, _⟩ => ⟨S8x8192x8192, .f32⟩
  | .hbm, ⟨40, _⟩ => ⟨S_, .f32⟩
  | .hbm, ⟨41, _⟩ => ⟨S8x8192x8192, .f32⟩
  | .hbm, ⟨42, _⟩ => ⟨S8x8192x8192, .f32⟩
  | .hbm, ⟨43, _⟩ => ⟨S8x8192x8192, .f32⟩
  | .hbm, ⟨44, _⟩ => ⟨S8x8192x8192, .f32⟩
  | .hbm, ⟨45, _⟩ => ⟨S8x8192x8192, .i1⟩
  | .hbm, ⟨46, _⟩ => ⟨S8x8192x8192, .f32⟩
  | .hbm, ⟨47, _⟩ => ⟨S8x8192x8192, .f32⟩
  | .hbm, ⟨48, _⟩ => ⟨S8x8192x8192, .f32⟩
  | .hbm, ⟨49, _⟩ => ⟨S8x8192x8192, .f32⟩
  | .hbm, ⟨50, _⟩ => ⟨S8x8192x8192, .f32⟩
  | .hbm, ⟨51, _⟩ => ⟨S8x8192x8192, .f32⟩
  | .hbm, ⟨52, _⟩ => ⟨S8x8192x8192, .f32⟩
  | .hbm, ⟨53, _⟩ => ⟨S8x8192x8192, .f32⟩
  | .hbm, ⟨54, _⟩ => ⟨S8x8192x8192, .f32⟩
  | .hbm, ⟨55, _⟩ => ⟨S_, .f32⟩
  | .hbm, ⟨56, _⟩ => ⟨S_, .f32⟩
  | .hbm, ⟨57, _⟩ => ⟨S8x8192x8192, .i1⟩
  | .hbm, ⟨58, _⟩ => ⟨S8x8192x8192, .f32⟩
  | .hbm, ⟨59, _⟩ => ⟨S8x8192x8192, .f32⟩
  | .hbm, ⟨60, _⟩ => ⟨S_, .f32⟩
  | .hbm, ⟨61, _⟩ => ⟨S_, .f32⟩
  | .hbm, ⟨62, _⟩ => ⟨S8x8192x8192, .f32⟩
  | .hbm, ⟨63, _⟩ => ⟨S8x8192x8192, .f32⟩
  | .hbm, ⟨64, _⟩ => ⟨S8x8192x8192, .f32⟩
  | .hbm, ⟨65, _⟩ => ⟨S8x8192x8192, .f32⟩
  | .hbm, ⟨66, _⟩ => ⟨S_, .f32⟩
  | .hbm, ⟨67, _⟩ => ⟨S_, .f32⟩
  | .hbm, ⟨68, _⟩ => ⟨S8x8192x8192, .i1⟩
  | .hbm, ⟨69, _⟩ => ⟨S8x8192x8192, .f32⟩
  | .hbm, ⟨70, _⟩ => ⟨S8x8192x8192, .f32⟩
  | .hbm, ⟨71, _⟩ => ⟨S8x8192x64, .f32⟩
  | .hbm, ⟨72, _⟩ => ⟨S8192x8x64, .f32⟩
  | .hbm, ⟨73, _⟩ => ⟨S8192x512, .f32⟩
  | .hbm, ⟨74, _⟩ => ⟨S8192x512, .bf16⟩
  | .hbm, ⟨75, _⟩ => ⟨S8192x512, .bf16⟩
  | .hbm, ⟨76, _⟩ => ⟨S8192x512, .bf16⟩
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S8192x128, .f32⟩
  | .local _ .vmem, ⟨7, _⟩ => ⟨S8192x128, .f32⟩
  | .local _ .vmem, ⟨8, _⟩ => ⟨S8192x128, .f32⟩
  | .local _ .vmem, ⟨9, _⟩ => ⟨S8192x128, .f32⟩
  | .local _ .vmem, ⟨10, _⟩ => ⟨S8192x128, .bf16⟩
  | .local _ .vmem, ⟨11, _⟩ => ⟨S8192x128, .bf16⟩
  | .local _ .vmem, ⟨12, _⟩ => ⟨S8192x128, .bf16⟩
  | .local _ .vmem, ⟨13, _⟩ => ⟨S8192x128, .bf16⟩
  | .local _ .vmem, ⟨14, _⟩ => ⟨S8192x128, .bf16⟩
  | .local _ .vmem, ⟨15, _⟩ => ⟨S8192x128, .bf16⟩
  | .local _ .vmem, ⟨16, _⟩ => ⟨S8192x128, .f32⟩
  | .local _ .vmem, ⟨17, _⟩ => ⟨S8192x128, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v19 : Ref sig .tc := ⟨.hbm, 37, rfl⟩
abbrev main_v20 : Ref sig .tc := ⟨.hbm, 38, rfl⟩
abbrev main_call1_v0 : Ref sig .tc := ⟨.hbm, 39, rfl⟩
abbrev main_call1_call0_cst : Ref sig .tc := ⟨.hbm, 40, rfl⟩
abbrev main_call1_call0_v0 : Ref sig .tc := ⟨.hbm, 41, rfl⟩
abbrev main_call1_call0_v1 : Ref sig .tc := ⟨.hbm, 42, rfl⟩
abbrev main_call1_call0_v2 : Ref sig .tc := ⟨.hbm, 43, rfl⟩
abbrev main_call1_call0_v3 : Ref sig .tc := ⟨.hbm, 44, rfl⟩
abbrev main_call1_call0_v4 : Ref sig .tc := ⟨.hbm, 45, rfl⟩
abbrev main_call1_call0_v5 : Ref sig .tc := ⟨.hbm, 46, rfl⟩
abbrev main_call1_call0_v6 : Ref sig .tc := ⟨.hbm, 47, rfl⟩
abbrev main_call1_call0_v7 : Ref sig .tc := ⟨.hbm, 48, rfl⟩
abbrev main_call1_call0_v8 : Ref sig .tc := ⟨.hbm, 49, rfl⟩
abbrev main_call1_call0_v9 : Ref sig .tc := ⟨.hbm, 50, rfl⟩
abbrev main_call1_call0_v10 : Ref sig .tc := ⟨.hbm, 51, rfl⟩
abbrev main_call1_call0_v11 : Ref sig .tc := ⟨.hbm, 52, rfl⟩
abbrev main_call1_v1 : Ref sig .tc := ⟨.hbm, 53, rfl⟩
abbrev main_v21 : Ref sig .tc := ⟨.hbm, 54, rfl⟩
abbrev main_cst_0 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v22 : Ref sig .tc := ⟨.hbm, 59, rfl⟩
abbrev main_call3_cst : Ref sig .tc := ⟨.hbm, 60, rfl⟩
abbrev main_call3_v0 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_cst_1 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31_0 : Ref sig .tc := ⟨.hbm, 74, rfl⟩
abbrev main_v31_1 : Ref sig .tc := ⟨.hbm, 75, rfl⟩
abbrev main_v31_2 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c32_i32 : BitVec 32 := 32#32
  let v24 : BitVec 32 := Scalar.addi c0_i32 c32_i32
  let c1_i32 : BitVec 32 := 1#32
  ⟨c0_i32, v24, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c2_i32 : BitVec 32 := 2#32
  let v31 : BitVec 32 := Scalar.muli arg11 c2_i32
  let c0_i32_17 : BitVec 32 := 0#32
  let v34 : BitVec 32 := Scalar.addi v31 c0_i32_17
  let c128_i32 : BitVec 32 := 128#32
  let v35 : BitVec 32 := Scalar.muli v34 c128_i32
  v35
def k0_off1 (k0_t1 : Fin k0_t1_loop.trips) (c0_i32_17 : BitVec 32) : Fin 2 → Nat :=
  let c0_i32 : BitVec 32 := 0#32
  let c1_i32 : BitVec 32 := 1#32
  let arg11 : BitVec 32 := Scf.iv c0_i32 c1_i32 k0_t1
  let c2_i32 : BitVec 32 := 2#32
  let v31 : BitVec 32 := Scalar.muli arg11 c2_i32
  let v34 : BitVec 32 := Scalar.addi v31 c0_i32_17
  let c128_i32 : BitVec 32 := 128#32
  let v35 : BitVec 32 := Scalar.muli v34 c128_i32
  let v36 : BitVec 32 := v35
  let v37 : Index := Scalar.indexCast v36
  let c0_18 : Index := 0#32
  ![v37.toNat, 0]
def k0_mult2 (k0_t1 : Fin k0_t1_loop.trips) : BitVec 32 :=
  let c0_i32 : BitVec 32 := 0#32
  let c1_i32 : BitVec 32 := 1#32
  let arg11 : BitVec 32 := Scf.iv c0_i32 c1_i32 k0_t1
  let c2_i32 : BitVec 32 := 2#32
  let v31 : BitVec 32 := Scalar.muli arg11 c2_i32
  let c1_i32_19 : BitVec 32 := 1#32
  let v39 : BitVec 32 := Scalar.addi v31 c1_i32_19
  let c128_i32_20 : BitVec 32 := 128#32
  let v40 : BitVec 32 := Scalar.muli v39 c128_i32_20
  v40
def k0_mult3 (k0_t1 : Fin k0_t1_loop.trips) : BitVec 32 :=
  let c0_i32 : BitVec 32 := 0#32
  let c1_i32 : BitVec 32 := 1#32
  let arg11 : BitVec 32 := Scf.iv c0_i32 c1_i32 k0_t1
  let c2_i32 : BitVec 32 := 2#32
  let v31 : BitVec 32 := Scalar.muli arg11 c2_i32
  let c0_i32_33 : BitVec 32 := 0#32
  let v77 : BitVec 32 := Scalar.addi v31 c0_i32_33
  let c128_i32_34 : BitVec 32 := 128#32
  let v78 : BitVec 32 := Scalar.muli v77 c128_i32_34
  v78
def k0_mult4 (k0_t1 : Fin k0_t1_loop.trips) : BitVec 32 :=
  let c0_i32 : BitVec 32 := 0#32
  let c1_i32 : BitVec 32 := 1#32
  let arg11 : BitVec 32 := Scf.iv c0_i32 c1_i32 k0_t1
  let c2_i32 : BitVec 32 := 2#32
  let v31 : BitVec 32 := Scalar.muli arg11 c2_i32
  let c1_i32_36 : BitVec 32 := 1#32
  let v82 : BitVec 32 := Scalar.addi v31 c1_i32_36
  let c128_i32_37 : BitVec 32 := 128#32
  let v83 : BitVec 32 := Scalar.muli v82 c128_i32_37
  v83
def k0_mult5 (k0_t1 : Fin k0_t1_loop.trips) : BitVec 32 :=
  let c0_i32 : BitVec 32 := 0#32
  let c1_i32 : BitVec 32 := 1#32
  let arg11 : BitVec 32 := Scf.iv c0_i32 c1_i32 k0_t1
  let c2_i32 : BitVec 32 := 2#32
  let v31 : BitVec 32 := Scalar.muli arg11 c2_i32
  let c0_i32_51 : BitVec 32 := 0#32
  let v122 : BitVec 32 := Scalar.addi v31 c0_i32_51
  let c128_i32_52 : BitVec 32 := 128#32
  let v123 : BitVec 32 := Scalar.muli v122 c128_i32_52
  v123
def k0_mult6 (k0_t1 : Fin k0_t1_loop.trips) : BitVec 32 :=
  let c0_i32 : BitVec 32 := 0#32
  let c1_i32 : BitVec 32 := 1#32
  let arg11 : BitVec 32 := Scf.iv c0_i32 c1_i32 k0_t1
  let c2_i32 : BitVec 32 := 2#32
  let v31 : BitVec 32 := Scalar.muli arg11 c2_i32
  let c0_i32_54 : BitVec 32 := 0#32
  let v129 : BitVec 32 := Scalar.addi v31 c0_i32_54
  let c128_i32_55 : BitVec 32 := 128#32
  let v130 : BitVec 32 := Scalar.muli v129 c128_i32_55
  v130
def k0_mult7 (k0_t1 : Fin k0_t1_loop.trips) : BitVec 32 :=
  let c0_i32 : BitVec 32 := 0#32
  let c1_i32 : BitVec 32 := 1#32
  let arg11 : BitVec 32 := Scf.iv c0_i32 c1_i32 k0_t1
  let c2_i32 : BitVec 32 := 2#32
  let v31 : BitVec 32 := Scalar.muli arg11 c2_i32
  let c1_i32_63 : BitVec 32 := 1#32
  let v150 : BitVec 32 := Scalar.addi v31 c1_i32_63
  let c128_i32_64 : BitVec 32 := 128#32
  let v151 : BitVec 32 := Scalar.muli v150 c128_i32_64
  v151
def k0_mult8 (k0_t1 : Fin k0_t1_loop.trips) : BitVec 32 :=
  let c0_i32 : BitVec 32 := 0#32
  let c1_i32 : BitVec 32 := 1#32
  let arg11 : BitVec 32 := Scf.iv c0_i32 c1_i32 k0_t1
  let c2_i32 : BitVec 32 := 2#32
  let v31 : BitVec 32 := Scalar.muli arg11 c2_i32
  let c1_i32_66 : BitVec 32 := 1#32
  let v157 : BitVec 32 := Scalar.addi v31 c1_i32_66
  let c128_i32_67 : BitVec 32 := 128#32
  let v158 : BitVec 32 := Scalar.muli v157 c128_i32_67
  v158
def k0_mult9 (k0_t1 : Fin k0_t1_loop.trips) : BitVec 32 :=
  let c0_i32 : BitVec 32 := 0#32
  let c1_i32 : BitVec 32 := 1#32
  let arg11 : BitVec 32 := Scf.iv c0_i32 c1_i32 k0_t1
  let c2_i32 : BitVec 32 := 2#32
  let v31 : BitVec 32 := Scalar.muli arg11 c2_i32
  let c2_i32_15 : BitVec 32 := 2#32
  let v32 : BitVec 32 := Scalar.addi v31 c2_i32_15
  let c1_i32_16 : BitVec 32 := 1#32
  let v33 : BitVec 32 := Scalar.subi v32 c1_i32_16
  let c0_i32_75 : BitVec 32 := 0#32
  let v181 : BitVec 32 := Scalar.subi v33 c0_i32_75
  let c0_i32_76 : BitVec 32 := 0#32
  let v182 : BitVec 32 := Scalar.subi v181 c0_i32_76
  let c0_i32_77 : BitVec 32 := 0#32
  let v183 : BitVec 32 := Scalar.maxsi v182 c0_i32_77
  let c128_i32_78 : BitVec 32 := 128#32
  let v184 : BitVec 32 := Scalar.muli v183 c128_i32_78
  v184
def k0_off2 (k0_t1 : Fin k0_t1_loop.trips) (c0_i32_76 : BitVec 32) : Fin 2 → Nat :=
  let c0_i32 : BitVec 32 := 0#32
  let c1_i32 : BitVec 32 := 1#32
  let arg11 : BitVec 32 := Scf.iv c0_i32 c1_i32 k0_t1
  let c2_i32 : BitVec 32 := 2#32
  let v31 : BitVec 32 := Scalar.muli arg11 c2_i32
  let c2_i32_15 : BitVec 32 := 2#32
  let v32 : BitVec 32 := Scalar.addi v31 c2_i32_15
  let c1_i32_16 : BitVec 32 := 1#32
  let v33 : BitVec 32 := Scalar.subi v32 c1_i32_16
  let c0_i32_75 : BitVec 32 := 0#32
  let v181 : BitVec 32 := Scalar.subi v33 c0_i32_75
  let v182 : BitVec 32 := Scalar.subi v181 c0_i32_76
  let c0_i32_77 : BitVec 32 := 0#32
  let v183 : BitVec 32 := Scalar.maxsi v182 c0_i32_77
  let c128_i32_78 : BitVec 32 := 128#32
  let v184 : BitVec 32 := Scalar.muli v183 c128_i32_78
  let v185 : BitVec 32 := v184
  let v186 : Index := Scalar.indexCast v185
  let c0_79 : Index := 0#32
  ![v186.toNat, 0]
def k0_mult10 (k0_t1 : Fin k0_t1_loop.trips) : BitVec 32 :=
  let c0_i32 : BitVec 32 := 0#32
  let c1_i32 : BitVec 32 := 1#32
  let arg11 : BitVec 32 := Scf.iv c0_i32 c1_i32 k0_t1
  let c2_i32 : BitVec 32 := 2#32
  let v31 : BitVec 32 := Scalar.muli arg11 c2_i32
  let c2_i32_15 : BitVec 32 := 2#32
  let v32 : BitVec 32 := Scalar.addi v31 c2_i32_15
  let c1_i32_16 : BitVec 32 := 1#32
  let v33 : BitVec 32 := Scalar.subi v32 c1_i32_16
  let c0_i32_106 : BitVec 32 := 0#32
  let v298 : BitVec 32 := Scalar.subi v33 c0_i32_106
  let c1_i32_107 : BitVec 32 := 1#32
  let v299 : BitVec 32 := Scalar.subi v298 c1_i32_107
  let c0_i32_108 : BitVec 32 := 0#32
  let v300 : BitVec 32 := Scalar.maxsi v299 c0_i32_108
  let c128_i32_109 : BitVec 32 := 128#32
  let v301 : BitVec 32 := Scalar.muli v300 c128_i32_109
  v301
def k0_mult11 (k0_t1 : Fin k0_t1_loop.trips) : BitVec 32 :=
  let c0_i32 : BitVec 32 := 0#32
  let c1_i32 : BitVec 32 := 1#32
  let arg11 : BitVec 32 := Scf.iv c0_i32 c1_i32 k0_t1
  let c2_i32 : BitVec 32 := 2#32
  let v31 : BitVec 32 := Scalar.muli arg11 c2_i32
  let c2_i32_15 : BitVec 32 := 2#32
  let v32 : BitVec 32 := Scalar.addi v31 c2_i32_15
  let c1_i32_16 : BitVec 32 := 1#32
  let v33 : BitVec 32 := Scalar.subi v32 c1_i32_16
  let c0_i32_140 : BitVec 32 := 0#32
  let v400 : BitVec 32 := Scalar.subi v33 c0_i32_140
  let c2_i32_141 : BitVec 32 := 2#32
  let v401 : BitVec 32 := Scalar.subi v400 c2_i32_141
  let c0_i32_142 : BitVec 32 := 0#32
  let v402 : BitVec 32 := Scalar.maxsi v401 c0_i32_142
  let c128_i32_143 : BitVec 32 := 128#32
  let v403 : BitVec 32 := Scalar.muli v402 c128_i32_143
  v403
def k0_mult12 (k0_t1 : Fin k0_t1_loop.trips) : BitVec 32 :=
  let c0_i32 : BitVec 32 := 0#32
  let c1_i32 : BitVec 32 := 1#32
  let arg11 : BitVec 32 := Scf.iv c0_i32 c1_i32 k0_t1
  let c2_i32 : BitVec 32 := 2#32
  let v31 : BitVec 32 := Scalar.muli arg11 c2_i32
  let c2_i32_15 : BitVec 32 := 2#32
  let v32 : BitVec 32 := Scalar.addi v31 c2_i32_15
  let c1_i32_16 : BitVec 32 := 1#32
  let v33 : BitVec 32 := Scalar.subi v32 c1_i32_16
  let c0_i32_174 : BitVec 32 := 0#32
  let v502 : BitVec 32 := Scalar.subi v33 c0_i32_174
  let c3_i32 : BitVec 32 := 3#32
  let v503 : BitVec 32 := Scalar.subi v502 c3_i32
  let c0_i32_175 : BitVec 32 := 0#32
  let v504 : BitVec 32 := Scalar.maxsi v503 c0_i32_175
  let c128_i32_176 : BitVec 32 := 128#32
  let v505 : BitVec 32 := Scalar.muli v504 c128_i32_176
  v505
def k0_mult13 (k0_t1 : Fin k0_t1_loop.trips) (arg12 : BitVec 32) : BitVec 32 :=
  let c0_i32 : BitVec 32 := 0#32
  let c1_i32 : BitVec 32 := 1#32
  let arg11 : BitVec 32 := Scf.iv c0_i32 c1_i32 k0_t1
  let c2_i32 : BitVec 32 := 2#32
  let v31 : BitVec 32 := Scalar.muli arg11 c2_i32
  let c2_i32_15 : BitVec 32 := 2#32
  let v32 : BitVec 32 := Scalar.addi v31 c2_i32_15
  let c1_i32_16 : BitVec 32 := 1#32
  let v33 : BitVec 32 := Scalar.subi v32 c1_i32_16
  let c4_i32 : BitVec 32 := 4#32
  let v637 : BitVec 32 := Scalar.muli arg12 c4_i32
  let v638 : BitVec 32 := Scalar.subi v33 v637
  let c0_i32_218 : BitVec 32 := 0#32
  let v639 : BitVec 32 := Scalar.subi v638 c0_i32_218
  let c0_i32_219 : BitVec 32 := 0#32
  let v640 : BitVec 32 := Scalar.maxsi v639 c0_i32_219
  let c128_i32_220 : BitVec 32 := 128#32
  let v641 : BitVec 32 := Scalar.muli v640 c128_i32_220
  v641

def k0_off3 (k0_t1 : Fin k0_t1_loop.trips) (arg12 : BitVec 32) (c0_i32_218 : BitVec 32) : Fin 2 → Nat :=
  let c0_i32 : BitVec 32 := 0#32
  let c1_i32 : BitVec 32 := 1#32
  let arg11 : BitVec 32 := Scf.iv c0_i32 c1_i32 k0_t1
  let c2_i32 : BitVec 32 := 2#32
  let v31 : BitVec 32 := Scalar.muli arg11 c2_i32
  let c2_i32_15 : BitVec 32 := 2#32
  let v32 : BitVec 32 := Scalar.addi v31 c2_i32_15
  let c1_i32_16 : BitVec 32 := 1#32
  let v33 : BitVec 32 := Scalar.subi v32 c1_i32_16
  let c4_i32 : BitVec 32 := 4#32
  let v637 : BitVec 32 := Scalar.muli arg12 c4_i32
  let v638 : BitVec 32 := Scalar.subi v33 v637
  let v639 : BitVec 32 := Scalar.subi v638 c0_i32_218
  let c0_i32_219 : BitVec 32 := 0#32
  let v640 : BitVec 32 := Scalar.maxsi v639 c0_i32_219
  let c128_i32_220 : BitVec 32 := 128#32
  let v641 : BitVec 32 := Scalar.muli v640 c128_i32_220
  let v642 : BitVec 32 := v641
  let v643 : Index := Scalar.indexCast v642
  let c0_221 : Index := 0#32
  ![v643.toNat, 0]
def k0_mult14 (k0_t1 : Fin k0_t1_loop.trips) (arg12 : BitVec 32) : BitVec 32 :=
  let c0_i32 : BitVec 32 := 0#32
  let c1_i32 : BitVec 32 := 1#32
  let arg11 : BitVec 32 := Scf.iv c0_i32 c1_i32 k0_t1
  let c2_i32 : BitVec 32 := 2#32
  let v31 : BitVec 32 := Scalar.muli arg11 c2_i32
  let c2_i32_15 : BitVec 32 := 2#32
  let v32 : BitVec 32 := Scalar.addi v31 c2_i32_15
  let c1_i32_16 : BitVec 32 := 1#32
  let v33 : BitVec 32 := Scalar.subi v32 c1_i32_16
  let c4_i32_251 : BitVec 32 := 4#32
  let v740 : BitVec 32 := Scalar.muli arg12 c4_i32_251
  let v741 : BitVec 32 := Scalar.subi v33 v740
  let c1_i32_252 : BitVec 32 := 1#32
  let v742 : BitVec 32 := Scalar.subi v741 c1_i32_252
  let c0_i32_253 : BitVec 32 := 0#32
  let v743 : BitVec 32 := Scalar.maxsi v742 c0_i32_253
  let c128_i32_254 : BitVec 32 := 128#32
  let v744 : BitVec 32 := Scalar.muli v743 c128_i32_254
  v744
def k0_mult15 (k0_t1 : Fin k0_t1_loop.trips) (arg12 : BitVec 32) : BitVec 32 :=
  let c0_i32 : BitVec 32 := 0#32
  let c1_i32 : BitVec 32 := 1#32
  let arg11 : BitVec 32 := Scf.iv c0_i32 c1_i32 k0_t1
  let c2_i32 : BitVec 32 := 2#32
  let v31 : BitVec 32 := Scalar.muli arg11 c2_i32
  let c2_i32_15 : BitVec 32 := 2#32
  let v32 : BitVec 32 := Scalar.addi v31 c2_i32_15
  let c1_i32_16 : BitVec 32 := 1#32
  let v33 : BitVec 32 := Scalar.subi v32 c1_i32_16
  let c4_i32_285 : BitVec 32 := 4#32
  let v843 : BitVec 32 := Scalar.muli arg12 c4_i32_285
  let v844 : BitVec 32 := Scalar.subi v33 v843
  let c2_i32_286 : BitVec 32 := 2#32
  let v845 : BitVec 32 := Scalar.subi v844 c2_i32_286
  let c0_i32_287 : BitVec 32 := 0#32
  let v846 : BitVec 32 := Scalar.maxsi v845 c0_i32_287
  let c128_i32_288 : BitVec 32 := 128#32
  let v847 : BitVec 32 := Scalar.muli v846 c128_i32_288
  v847
def k0_mult16 (k0_t1 : Fin k0_t1_loop.trips) (arg12 : BitVec 32) : BitVec 32 :=
  let c0_i32 : BitVec 32 := 0#32
  let c1_i32 : BitVec 32 := 1#32
  let arg11 : BitVec 32 := Scf.iv c0_i32 c1_i32 k0_t1
  let c2_i32 : BitVec 32 := 2#32
  let v31 : BitVec 32 := Scalar.muli arg11 c2_i32
  let c2_i32_15 : BitVec 32 := 2#32
  let v32 : BitVec 32 := Scalar.addi v31 c2_i32_15
  let c1_i32_16 : BitVec 32 := 1#32
  let v33 : BitVec 32 := Scalar.subi v32 c1_i32_16
  let c4_i32_319 : BitVec 32 := 4#32
  let v946 : BitVec 32 := Scalar.muli arg12 c4_i32_319
  let v947 : BitVec 32 := Scalar.subi v33 v946
  let c3_i32_320 : BitVec 32 := 3#32
  let v948 : BitVec 32 := Scalar.subi v947 c3_i32_320
  let c0_i32_321 : BitVec 32 := 0#32
  let v949 : BitVec 32 := Scalar.maxsi v948 c0_i32_321
  let c128_i32_322 : BitVec 32 := 128#32
  let v950 : BitVec 32 := Scalar.muli v949 c128_i32_322
  v950

def k0_chk1 (k0_t1 : Fin k0_t1_loop.trips) (arg12 : BitVec 32) : Prop :=
  (128 ∣ (k0_mult13 k0_t1 arg12).toNat) ∧
  (∀ (r : Fin 4), ∀ a, (k0_off3 k0_t1 arg12 (BitVec.ofNat 32 r.val)) a + S128x128.size a ≤ S8192x128.size a) ∧
  (128 ∣ (k0_mult14 k0_t1 arg12).toNat) ∧
  (128 ∣ (k0_mult15 k0_t1 arg12).toNat) ∧
  (128 ∣ (k0_mult16 k0_t1 arg12).toNat)
theorem k0_mult13_dvd : ∀ (k0_t1 : Fin k0_t1_loop.trips) (arg12 : BitVec 32) (k0_hw1 : k0_chk1 k0_t1 arg12), 128 ∣ (k0_mult13 k0_t1 arg12).toNat := fun k0_t1 arg12 k0_hw1 => k0_hw1.1
theorem k0_off3_inb : ∀ (k0_t1 : Fin k0_t1_loop.trips) (arg12 : BitVec 32) (k0_hw1 : k0_chk1 k0_t1 arg12), ∀ (r : Fin 4), ∀ a, (k0_off3 k0_t1 arg12 (BitVec.ofNat 32 r.val)) a + S128x128.size a ≤ S8192x128.size a := fun k0_t1 arg12 k0_hw1 r => k0_hw1.2.1 r
theorem k0_mult14_dvd : ∀ (k0_t1 : Fin k0_t1_loop.trips) (arg12 : BitVec 32) (k0_hw1 : k0_chk1 k0_t1 arg12), 128 ∣ (k0_mult14 k0_t1 arg12).toNat := fun k0_t1 arg12 k0_hw1 => k0_hw1.2.2.1
theorem k0_mult15_dvd : ∀ (k0_t1 : Fin k0_t1_loop.trips) (arg12 : BitVec 32) (k0_hw1 : k0_chk1 k0_t1 arg12), 128 ∣ (k0_mult15 k0_t1 arg12).toNat := fun k0_t1 arg12 k0_hw1 => k0_hw1.2.2.2.1
theorem k0_mult16_dvd : ∀ (k0_t1 : Fin k0_t1_loop.trips) (arg12 : BitVec 32) (k0_hw1 : k0_chk1 k0_t1 arg12), 128 ∣ (k0_mult16 k0_t1 arg12).toNat := fun k0_t1 arg12 k0_hw1 => k0_hw1.2.2.2.2

def k0_mult17 (k0_t1 : Fin k0_t1_loop.trips) : BitVec 32 :=
  let c0_i32 : BitVec 32 := 0#32
  let c1_i32 : BitVec 32 := 1#32
  let arg11 : BitVec 32 := Scf.iv c0_i32 c1_i32 k0_t1
  let c2_i32 : BitVec 32 := 2#32
  let v31 : BitVec 32 := Scalar.muli arg11 c2_i32
  let c0_i32_211 : BitVec 32 := 0#32
  let v619 : BitVec 32 := Scalar.addi v31 c0_i32_211
  let c128_i32_212 : BitVec 32 := 128#32
  let v620 : BitVec 32 := Scalar.muli v619 c128_i32_212
  v620
def k0_mult18 (k0_t1 : Fin k0_t1_loop.trips) : BitVec 32 :=
  let c0_i32 : BitVec 32 := 0#32
  let c1_i32 : BitVec 32 := 1#32
  let arg11 : BitVec 32 := Scf.iv c0_i32 c1_i32 k0_t1
  let c2_i32 : BitVec 32 := 2#32
  let v31 : BitVec 32 := Scalar.muli arg11 c2_i32
  let c1_i32_215 : BitVec 32 := 1#32
  let v632 : BitVec 32 := Scalar.addi v31 c1_i32_215
  let c128_i32_216 : BitVec 32 := 128#32
  let v633 : BitVec 32 := Scalar.muli v632 c128_i32_216
  v633
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "dead" => some ⊥
  | _ => none
-- ==== ReferenceIdeal.lean ====
abbrev S8192x3072 : Shape := ⟨2, ![8192, 3072]⟩
abbrev S8192x512 : Shape := ⟨2, ![8192, 512]⟩
abbrev S8192x8x64 : Shape := ⟨3, ![8192, 8, 64]⟩
abbrev S8x8192x64 : Shape := ⟨3, ![8, 8192, 64]⟩
abbrev S8192 : Shape := ⟨1, ![8192]⟩
abbrev S8x8192x8192 : Shape := ⟨3, ![8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩

abbrev nBuf : Space → Nat
  | .hbm => 181
  | .vmem => 0
  | .smem => 0
  | _ => 0

abbrev hbmTy0_0 (i : Nat) : BufTy := match i % 128 with
  | 0 => ⟨S8192x3072, .bf16⟩
  | 1 => ⟨S8192x512, .f32⟩
  | 2 => ⟨S8192x3072, .f32⟩
  | 3 => ⟨S8192x512, .f32⟩
  | 4 => ⟨S8192x512, .f32⟩
  | 5 => ⟨S8192x512, .f32⟩
  | 6 => ⟨S8192x8x64, .f32⟩
  | 7 => ⟨S8x8192x64, .f32⟩
  | 8 => ⟨S8192x8x64, .f32⟩
  | 9 => ⟨S8x8192x64, .f32⟩
  | 10 => ⟨S8192x8x64, .f32⟩
  | 11 => ⟨S8x8192x64, .f32⟩
  | 12 => ⟨S8192, .i32⟩
  | 13 => ⟨S8x8192x8192, .f32⟩
  | 14 => ⟨S_, .f32⟩
  | 15 => ⟨S8x8192x8192, .f32⟩
  | 16 => ⟨S8x8192x8192, .f32⟩
  | 17 => ⟨S1x8192, .i32⟩
  | 18 => ⟨S8192x1, .i32⟩
  | 19 => ⟨S8192x8192, .i32⟩
  | 20 => ⟨S8192x8192, .i32⟩
  | 21 => ⟨S8192x8192, .i1⟩
  | 22 => ⟨S8x8192x8192, .f32⟩
  | 23 => ⟨S_, .f32⟩
  | 24 => ⟨S8x8192x8192, .f32⟩
  | 25 => ⟨S8x8192x8192, .f32⟩
  | 26 => ⟨S8x8192x8192, .f32⟩
  | 27 => ⟨S8x8192x8192, .f32⟩
  | 28 => ⟨S8x8192x8192, .i1⟩
  | 29 => ⟨S8x8192x8192, .f32⟩
  | 30 => ⟨S8x8192x8192, .f32⟩
  | 31 => ⟨S8x8192x8192, .f32⟩
  | 32 => ⟨S8x8192x8192, .f32⟩
  | 33 => ⟨S8x8192x8192, .f32⟩
  | 34 => ⟨S8x8192x8192, .f32⟩
  | 35 => ⟨S8x8192x8192, .f32⟩
  | 36 => ⟨S8x8192x8192, .f32⟩
  | 37 => ⟨S_, .f32⟩
  | 38 => ⟨S8x8192x8192, .f32⟩
  | 39 => ⟨S8x8192x8192, .i1⟩
  | 40 => ⟨S_, .f32⟩
  | 41 => ⟨S8x8192x8192, .f32⟩
  | 42 => ⟨S8x8192x8192, .f32⟩
  | 43 => ⟨S_, .f32⟩
  | 44 => ⟨S8x8192x8192, .f32⟩
  | 45 => ⟨S8x8192x8192, .i1⟩
  | 46 => ⟨S_, .f32⟩
  | 47 => ⟨S8x8192x8192, .f32⟩
  | 48 => ⟨S8x8192x8192, .f32⟩
  | 49 => ⟨S8x8192x8192, .f32⟩
  | 50 => ⟨S8x8192x8192, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S8x8192x8192, .f32⟩
  | 59 => ⟨S8x8192x8192, .i1⟩
  | 60 => ⟨S_, .f32⟩
  | 61 => ⟨S8x8192x8192, .f32⟩
  | 62 => ⟨S8x8192x8192, .f32⟩
  | 63 => ⟨S8x8192x8192, .f32⟩
  | 64 => ⟨S8x8192x8192, .f32⟩
  | 65 => ⟨S8x8192x8192, .f32⟩
  | 66 => ⟨S_, .f32⟩
  | 67 => ⟨S8x8192x8192, .f32⟩
  | 68 => ⟨S8x8192x8192, .f32⟩
  | 69 => ⟨S8x8192x8192, .f32⟩
  | 70 => ⟨S8x8192x8192, .f32⟩
  | 71 => ⟨S8x8192x8192, .f32⟩
  | 72 => ⟨S_, .f32⟩
  | 73 => ⟨S8x8192x8192, .f32⟩
  | 74 => ⟨S8x8192x8192, .f32⟩
  | 75 => ⟨S8x8192x8192, .f32⟩
  | 76 => ⟨S8x8192x8192, .f32⟩
  | 77 => ⟨S8x8192x8192, .i1⟩
  | 78 => ⟨S8x8192x8192, .f32⟩
  | 79 => ⟨S8x8192x8192, .f32⟩
  | 80 => ⟨S8x8192x8192, .f32⟩
  | 81 => ⟨S8x8192x8192, .f32⟩
  | 82 => ⟨S8x8192x8192, .f32⟩
  | 83 => ⟨S8x8192x8192, .f32⟩
  | 84 => ⟨S8x8192x8192, .f32⟩
  | 85 => ⟨S8x8192x8192, .f32⟩
  | 86 => ⟨S_, .f32⟩
  | 87 => ⟨S8x8192x8192, .f32⟩
  | 88 => ⟨S8x8192x8192, .i1⟩
  | 89 => ⟨S_, .f32⟩
  | 90 => ⟨S8x8192x8192, .f32⟩
  | 91 => ⟨S8x8192x8192, .f32⟩
  | 92 => ⟨S_, .f32⟩
  | 93 => ⟨S8x8192x8192, .f32⟩
  | 94 => ⟨S8x8192x8192, .i1⟩
  | 95 => ⟨S_, .f32⟩
  | 96 => ⟨S8x8192x8192, .f32⟩
  | 97 => ⟨S8x8192x8192, .f32⟩
  | 98 => ⟨S8x8192x8192, .f32⟩
  | 99 => ⟨S8x8192x8192, .f32⟩
  | 100 => ⟨S_, .f32⟩
  | 101 => ⟨S_, .f32⟩
  | 102 => ⟨S_, .i1⟩
  | 103 => ⟨S_, .f32⟩
  | 104 => ⟨S_, .f32⟩
  | 105 => ⟨S_, .f32⟩
  | 106 => ⟨S_, .f32⟩
  | 107 => ⟨S8x8192x8192, .f32⟩
  | 108 => ⟨S8x8192x8192, .i1⟩
  | 109 => ⟨S_, .f32⟩
  | 110 => ⟨S8x8192x8192, .f32⟩
  | 111 => ⟨S8x8192x8192, .f32⟩
  | 112 => ⟨S8x8192x8192, .f32⟩
  | 113 => ⟨S8x8192x8192, .f32⟩
  | 114 => ⟨S8x8192x8192, .f32⟩
  | 115 => ⟨S_, .f32⟩
  | 116 => ⟨S8x8192x8192, .f32⟩
  | 117 => ⟨S8x8192x8192, .f32⟩
  | 118 => ⟨S8x8192x8192, .f32⟩
  | 119 => ⟨S_, .f32⟩
  | 120 => ⟨S_, .f32⟩
  | 121 => ⟨S8x8192x8192, .i1⟩
  | 122 => ⟨S8x8192x8192, .f32⟩
  | 123 => ⟨S8x8192x8192, .f32⟩
  | 124 => ⟨S_, .f32⟩
  | 125 => ⟨S8x8192x8192, .f32⟩
  | 126 => ⟨S_, .f32⟩
  | 127 => ⟨S_, .f32⟩
  | _ => ⟨S8192x3072, .bf16⟩

abbrev hbmTy0_1 (i : Nat) : BufTy := match i % 128 with
  | 0 => ⟨S8x8192x8192, .f32⟩
  | 1 => ⟨S8x8192x8192, .f32⟩
  | 2 => ⟨S8x8192x8192, .f32⟩
  | 3 => ⟨S8x8192x8192, .f32⟩
  | 4 => ⟨S_, .f32⟩
  | 5 => ⟨S_, .f32⟩
  | 6 => ⟨S8x8192x8192, .i1⟩
  | 7 => ⟨S8x8192x8192, .f32⟩
  | 8 => ⟨S8x8192x8192, .f32⟩
  | 9 => ⟨S_, .f32⟩
  | 10 => ⟨S8x8192x8192, .f32⟩
  | 11 => ⟨S8x8192x64, .f32⟩
  | 12 => ⟨S8192x8x64, .f32⟩
  | 13 => ⟨S8192x512, .f32⟩
  | 14 => ⟨S8192x8x64, .f32⟩
  | 15 => ⟨S8x8192x64, .f32⟩
  | 16 => ⟨S8x64x8192, .f32⟩
  | 17 => ⟨S8x8192x64, .f32⟩
  | 18 => ⟨S8x8192x8192, .f32⟩
  | 19 => ⟨S_, .f32⟩
  | 20 => ⟨S8x8192x8192, .f32⟩
  | 21 => ⟨S8x8192x8192, .f32⟩
  | 22 => ⟨S8x8192x8192, .f32⟩
  | 23 => ⟨S8x8192x8192, .f32⟩
  | 24 => ⟨S_, .f32⟩
  | 25 => ⟨S_, .f32⟩
  | 26 => ⟨S8x8192x8192, .f32⟩
  | 27 => ⟨S8x8192x8192, .f32⟩
  | 28 => ⟨S_, .f32⟩
  | 29 => ⟨S8x8192x8192, .f32⟩
  | 30 => ⟨S8x8192x8192, .f32⟩
  | 31 => ⟨S8x8192x8192, .f32⟩
  | 32 => ⟨S8x8192x8192, .f32⟩
  | 33 => ⟨S8x8192x8192, .f32⟩
  | 34 => ⟨S8x8192x8192, .f32⟩
  | 35 => ⟨S8x8192x8192, .f32⟩
  | 36 => ⟨S8x8192x8192, .f32⟩
  | 37 => ⟨S8x8192x8192, .f32⟩
  | 38 => ⟨S8x8192x8192, .f32⟩
  | 39 => ⟨S_, .f32⟩
  | 40 => ⟨S8x8192x8192, .f32⟩
  | 41 => ⟨S8x8192x8192, .f32⟩
  | 42 => ⟨S8x8192x64, .f32⟩
  | 43 => ⟨S8x8192x64, .f32⟩
  | 44 => ⟨S8192x8x64, .f32⟩
  | 45 => ⟨S8192x512, .f32⟩
  | 46 => ⟨S8192x8x64, .f32⟩
  | 47 => ⟨S8192x512, .f32⟩
  | 48 => ⟨S8192x8x64, .f32⟩
  | 49 => ⟨S8192x512, .f32⟩
  | 50 => ⟨S8192x512, .bf16⟩
  | 51 => ⟨S8192x512, .bf16⟩
  | 52 => ⟨S8192x512, .bf16⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v19_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v19_2 : Ref sig .tc := ⟨.hbm, 68, rfl⟩
abbrev main_v19_0 : Ref sig .tc := ⟨.hbm, 69, rfl⟩
abbrev main_v20 : Ref sig .tc := ⟨.hbm, 70, rfl⟩
abbrev main_call1_v0 : Ref sig .tc := ⟨.hbm, 71, rfl⟩
abbrev main_call1_call0_cst : Ref sig .tc := ⟨.hbm, 72, rfl⟩
abbrev main_call1_call0_v0 : Ref sig .tc := ⟨.hbm, 73, rfl⟩
abbrev main_call1_call0_v1 : Ref sig .tc := ⟨.hbm, 74, rfl⟩
abbrev main_call1_call0_v2 : Ref sig .tc := ⟨.hbm, 75, rfl⟩
abbrev main_call1_call0_v3 : Ref sig .tc := ⟨.hbm, 76, rfl⟩
abbrev main_call1_call0_v4 : Ref sig .tc := ⟨.hbm, 77, rfl⟩
abbrev main_call1_call0_v5 : Ref sig .tc := ⟨.hbm, 78, rfl⟩
abbrev main_call1_call0_v6 : Ref sig .tc := ⟨.hbm, 79, rfl⟩
abbrev main_call1_call0_v7 : Ref sig .tc := ⟨.hbm, 80, rfl⟩
abbrev main_call1_call0_v8 : Ref sig .tc := ⟨.hbm, 81, rfl⟩
abbrev main_call1_call0_v9 : Ref sig .tc := ⟨.hbm, 82, rfl⟩
abbrev main_call1_call0_v10 : Ref sig .tc := ⟨.hbm, 83, rfl⟩
abbrev main_call1_call0_v11 : Ref sig .tc := ⟨.hbm, 84, rfl⟩
abbrev main_call1_v1_0 : Ref sig .tc := ⟨.hbm, 85, rfl⟩
abbrev main_call1_call0_cst_0 : Ref sig .tc := ⟨.hbm, 86, rfl⟩
abbrev main_call1_call0_v13 : Ref sig .tc := ⟨.hbm, 87, rfl⟩
abbrev main_call1_call0_v14 : Ref sig .tc := ⟨.hbm, 88, rfl⟩
abbrev main_call1_call0_cst_1 : Ref sig .tc := ⟨.hbm, 89, rfl⟩
abbrev main_call1_call0_v15 : Ref sig .tc := ⟨.hbm, 90, rfl⟩
abbrev main_call1_call0_v16 : Ref sig .tc := ⟨.hbm, 91, rfl⟩
abbrev main_call1_call0_cst_2 : Ref sig .tc := ⟨.hbm, 92, rfl⟩
abbrev main_call1_call0_v17 : Ref sig .tc := ⟨.hbm, 93, rfl⟩
abbrev main_call1_call0_v18 : Ref sig .tc := ⟨.hbm, 94, rfl⟩
abbrev main_call1_call0_cst_3 : Ref sig .tc := ⟨.hbm, 95, rfl⟩
abbrev main_call1_call0_v19 : Ref sig .tc := ⟨.hbm, 96, rfl⟩
abbrev main_call1_call0_v20 : Ref sig .tc := ⟨.hbm, 97, rfl⟩
abbrev main_call1_call0_v21 : Ref sig .tc := ⟨.hbm, 98, rfl⟩
abbrev main_v21_1 : Ref sig .tc := ⟨.hbm, 99, rfl⟩
abbrev main_call1_call0_cst_4 : Ref sig .tc := ⟨.hbm, 100, rfl⟩
abbrev main_call1_call0_cst_5 : Ref sig .tc := ⟨.hbm, 101, rfl⟩
abbrev main_call1_call0_v23 : Ref sig .tc := ⟨.hbm, 102, rfl⟩
abbrev main_call1_call0_cst_6 : Ref sig .tc := ⟨.hbm, 103, rfl⟩
abbrev main_call1_call0_cst_7 : Ref sig .tc := ⟨.hbm, 104, rfl⟩
abbrev main_call1_call0_v24 : Ref sig .tc := ⟨.hbm, 105, rfl⟩
abbrev main_call1_call0_cst_8 : Ref sig .tc := ⟨.hbm, 106, rfl⟩
abbrev main_call1_call0_v25 : Ref sig .tc := ⟨.hbm, 107, rfl⟩
abbrev main_call1_call0_v26 : Ref sig .tc := ⟨.hbm, 108, rfl⟩
abbrev main_call1_call0_cst_9 : Ref sig .tc := ⟨.hbm, 109, rfl⟩
abbrev main_call1_call0_v27 : Ref sig .tc := ⟨.hbm, 110, rfl⟩
abbrev main_call1_call0_v28 : Ref sig .tc := ⟨.hbm, 111, rfl⟩
abbrev main_call1_call0_v29 : Ref sig .tc := ⟨.hbm, 112, rfl⟩
abbrev main_call1_call0_v30 : Ref sig .tc := ⟨.hbm, 113, rfl⟩
abbrev main_call1_call0_v31 : Ref sig .tc := ⟨.hbm, 114, rfl⟩
abbrev main_call1_call0_cst_10 : Ref sig .tc := ⟨.hbm, 115, rfl⟩
abbrev main_call1_call0_v32 : Ref sig .tc := ⟨.hbm, 116, rfl⟩
abbrev main_v21_2 : Ref sig .tc := ⟨.hbm, 117, rfl⟩
abbrev main_v21_0 : Ref sig .tc := ⟨.hbm, 118, rfl⟩
abbrev main_cst_0 : Ref sig .tc := ⟨.hbm, 119, rfl⟩
abbrev main_call2_v0 : Ref sig .tc := ⟨.hbm, 120, rfl⟩
abbrev main_v22_1 : Ref sig .tc := ⟨.hbm, 121, rfl⟩
abbrev main_call2_v2 : Ref sig .tc := ⟨.hbm, 122, rfl⟩
abbrev main_v22_0 : Ref sig .tc := ⟨.hbm, 123, rfl⟩
abbrev main_call2_cst : Ref sig .tc := ⟨.hbm, 124, rfl⟩
abbrev main_v22_2 : Ref sig .tc := ⟨.hbm, 125, rfl⟩
abbrev main_call3_cst : Ref sig .tc := ⟨.hbm, 126, rfl⟩
abbrev main_call3_v0 : Ref sig .tc := ⟨.hbm, 127, rfl⟩
abbrev main_v23 : Ref sig .tc := ⟨.hbm, 128, rfl⟩
abbrev main_v24 : Ref sig .tc := ⟨.hbm, 129, rfl⟩
abbrev main_v25 : Ref sig .tc := ⟨.hbm, 130, rfl⟩
abbrev main_v26 : Ref sig .tc := ⟨.hbm, 131, rfl⟩
abbrev main_cst_1 : Ref sig .tc := ⟨.hbm, 132, rfl⟩
abbrev main_call4_v0 : Ref sig .tc := ⟨.hbm, 133, rfl⟩
abbrev main_v27_1 : Ref sig .tc := ⟨.hbm, 134, rfl⟩
abbrev main_call4_v2 : Ref sig .tc := ⟨.hbm, 135, rfl⟩
abbrev main_v27_0 : Ref sig .tc := ⟨.hbm, 136, rfl⟩
abbrev main_call4_cst : Ref sig .tc := ⟨.hbm, 137, rfl⟩
abbrev main_v27_2 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_call5_cst : Ref sig .tc := ⟨.hbm, 147, rfl⟩
abbrev main_call5_v0 : Ref sig .tc := ⟨.hbm, 148, rfl⟩
abbrev main_v36 : Ref sig .tc := ⟨.hbm, 149, rfl⟩
abbrev main_v37 : Ref sig .tc := ⟨.hbm, 150, rfl⟩
abbrev main_v38 : Ref sig .tc := ⟨.hbm, 151, rfl⟩
abbrev main_call6_cst : Ref sig .tc := ⟨.hbm, 152, rfl⟩
abbrev main_call6_v0 : Ref sig .tc := ⟨.hbm, 153, rfl⟩
abbrev main_v39 : Ref sig .tc := ⟨.hbm, 154, rfl⟩
abbrev main_v40 : Ref sig .tc := ⟨.hbm, 155, rfl⟩
abbrev main_call7_cst : Ref sig .tc := ⟨.hbm, 156, rfl⟩
abbrev main_call7_v0 : Ref sig .tc := ⟨.hbm, 157, rfl⟩
abbrev main_v41 : Ref sig .tc := ⟨.hbm, 158, rfl⟩
abbrev main_call8_v0 : Ref sig .tc := ⟨.hbm, 159, rfl⟩
abbrev main_call8_v1 : Ref sig .tc := ⟨.hbm, 160, rfl⟩
abbrev main_v42 : Ref sig .tc := ⟨.hbm, 161, rfl⟩
abbrev main_v43 : Ref sig .tc := ⟨.hbm, 162, rfl⟩
abbrev main_call9_v0 : Ref sig .tc := ⟨.hbm, 163, rfl⟩
abbrev main_call9_v1 : Ref sig .tc := ⟨.hbm, 164, rfl⟩
abbrev main_v44 : Ref sig .tc := ⟨.hbm, 165, rfl⟩
abbrev main_v45 : Ref sig .tc := ⟨.hbm, 166, rfl⟩
abbrev main_cst_2 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩

abbrev nD : Nat := 1
abbrev τ : Topo := Topo.v7x

variable {F : FTy → Type} [FloatOps F]
-- ==== Kernel2.lean ====
abbrev S8192x1024 : Shape := ⟨2, ![8192, 1024]⟩
abbrev S4x8192x704 : Shape := ⟨3, ![4, 8192, 704]⟩
abbrev S4x704x1024 : Shape := ⟨3, ![4, 704, 1024]⟩
abbrev S512x1024 : Shape := ⟨2, ![512, 1024]⟩
abbrev S1x512x704 : Shape := ⟨3, ![1, 512, 704]⟩
abbrev S1x704x1024 : Shape := ⟨3, ![1, 704, 1024]⟩
abbrev S704x1024 : Shape := ⟨2, ![704, 1024]⟩
abbrev S512x704 : Shape := ⟨2, ![512, 704]⟩

abbrev nBuf : Space → Nat
  | .hbm => 8
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x8192x704, .bf16⟩
  | .hbm, ⟨3, _⟩ => ⟨S4x8192x704, .bf16⟩
  | .hbm, ⟨4, _⟩ => ⟨S4x8192x704, .bf16⟩
  | .hbm, ⟨5, _⟩ => ⟨S4x704x1024, .f32⟩
  | .hbm, ⟨6, _⟩ => ⟨S4x704x1024, .f32⟩
  | .hbm, ⟨7, _⟩ => ⟨S4x704x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x512x704, .bf16⟩
  | .local _ .vmem, ⟨5, _⟩ => ⟨S1x512x704, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x512x704, .bf16⟩
  | .local _ .vmem, ⟨10, _⟩ => ⟨S1x704x1024, .f32⟩
  | .local _ .vmem, ⟨11, _⟩ => ⟨S1x704x1024, .f32⟩
  | .local _ .vmem, ⟨12, _⟩ => ⟨S1x704x1024, .f32⟩
  | .local _ .vmem, ⟨13, _⟩ => ⟨S1x704x1024, .f32⟩
  | .local _ .vmem, ⟨14, _⟩ => ⟨S1x704x1024, .f32⟩
  | .local _ .vmem, ⟨15, _⟩ => ⟨S1x704x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x704x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x704x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x704x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S8192x1024 : Shape := ⟨2, ![8192, 1024]⟩
abbrev S4x8192x704 : Shape := ⟨3, ![4, 8192, 704]⟩
abbrev S_ : Shape := ⟨0, ![]⟩
abbrev S4x704x1024 : Shape := ⟨3, ![4, 704, 1024]⟩
abbrev S4x704x8192 : Shape := ⟨3, ![4, 704, 8192]⟩
abbrev S1024x4x704 : Shape := ⟨3, ![1024, 4, 704]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x8192x704, .bf16⟩
  | .hbm, ⟨3, _⟩ => ⟨S4x8192x704, .bf16⟩
  | .hbm, ⟨4, _⟩ => ⟨S4x8192x704, .bf16⟩
  | .hbm, ⟨5, _⟩ => ⟨S8192x1024, .f32⟩
  | .hbm, ⟨6, _⟩ => ⟨S8192x1024, .f32⟩
  | .hbm, ⟨7, _⟩ => ⟨S4x8192x704, .f32⟩
  | .hbm, ⟨8, _⟩ => ⟨S4x8192x704, .f32⟩
  | .hbm, ⟨9, _⟩ => ⟨S4x8192x704, .f32⟩
  | .hbm, ⟨10, _⟩ => ⟨S_, .f32⟩
  | .hbm, ⟨11, _⟩ => ⟨S4x704x1024, .f32⟩
  | .hbm, ⟨12, _⟩ => ⟨S4x704x8192, .f32⟩
  | .hbm, ⟨13, _⟩ => ⟨S4x8192x704, .f32⟩
  | .hbm, ⟨14, _⟩ => ⟨S4x704x8192, .f32⟩
  | .hbm, ⟨15, _⟩ => ⟨S4x704x1024, .f32⟩
  | .hbm, ⟨16, _⟩ => ⟨S4x704x8192, .f32⟩
  | .hbm, ⟨17, _⟩ => ⟨S4x8192x704, .f32⟩
  | .hbm, ⟨18, _⟩ => ⟨S4x704x8192, .f32⟩
  | .hbm, ⟨19, _⟩ => ⟨S4x704x1024, .f32⟩
  | .hbm, ⟨20, _⟩ => ⟨S8192x1024, .f32⟩
  | .hbm, ⟨21, _⟩ => ⟨S1024x4x704, .f32⟩
  | .hbm, ⟨22, _⟩ => ⟨S4x704x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel3.lean ====
abbrev S8192x512 : Shape := ⟨2, ![8192, 512]⟩
abbrev S1x512 : Shape := ⟨2, ![1, 512]⟩
abbrev S8192x1024 : Shape := ⟨2, ![8192, 1024]⟩
abbrev S1024x1024 : Shape := ⟨2, ![1024, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S8192x1024, .f32⟩
  | .hbm, ⟨5, _⟩ => ⟨S1024x1024, .bf16⟩
  | .hbm, ⟨6, _⟩ => ⟨S8192x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8192x512 : Shape := ⟨2, ![8192, 512]⟩
abbrev S1x512 : Shape := ⟨2, ![1, 512]⟩
abbrev S8192x1024 : Shape := ⟨2, ![8192, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S8192x1024, .f32⟩
  | .hbm, ⟨5, _⟩ => ⟨S1024x1024, .bf16⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x1024, .f32⟩
  | .hbm, ⟨37, _⟩ => ⟨S1024x1024, .f32⟩
  | .hbm, ⟨38, _⟩ => ⟨S8192x1024, .f32⟩
  | .hbm, ⟨39, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Kernel4.lean ====
abbrev S8192x3072 : Shape := ⟨2, ![8192, 3072]⟩
abbrev S8192x512 : Shape := ⟨2, ![8192, 512]⟩
abbrev S8192x128 : Shape := ⟨2, ![8192, 128]⟩
abbrev S256x128 : Shape := ⟨2, ![256, 128]⟩
abbrev S256x256 : Shape := ⟨2, ![256, 256]⟩
abbrev S512x128 : Shape := ⟨2, ![512, 128]⟩
abbrev S128x128 : Shape := ⟨2, ![128, 128]⟩
abbrev S512x256 : Shape := ⟨2, ![512, 256]⟩
abbrev S1x512x128 : Shape := ⟨3, ![1, 512, 128]⟩
abbrev S1 : Shape := ⟨1, ![1]⟩
abbrev S1x1x1 : Shape := ⟨3, ![1, 1, 1]⟩

abbrev nBuf : Space → Nat
  | .hbm => 2
  | .vmem => 8
  | .smem => 0
  | _ => 0

abbrev bufTy : (tb : Table) → Fin (tcTables nBuf tb) → BufTy
  | .hbm, ⟨0, _⟩ => ⟨S8192x3072, .bf16⟩
  | .hbm, ⟨1, _⟩ => ⟨S8192x512, .f32⟩
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S8192x128, .f32⟩
  | .local _ .vmem, ⟨7, _⟩ => ⟨S8192x128, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c32_i32 : BitVec 32 := 32#32
  let v11 : BitVec 32 := Scalar.addi c0_i32 c32_i32
  let c1_i32 : BitVec 32 := 1#32
  ⟨c0_i32, v11, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c2_i32 : BitVec 32 := 2#32
  let v12 : BitVec 32 := Scalar.muli arg5 c2_i32
  let c0_i32_4 : BitVec 32 := 0#32
  let v15 : BitVec 32 := Scalar.addi v12 c0_i32_4
  let c128_i32 : BitVec 32 := 128#32
  let v16 : BitVec 32 := Scalar.muli v15 c128_i32
  v16
def k0_off1 (k0_t1 : Fin k0_t1_loop.trips) (c0_i32_4 : BitVec 32) : Fin 2 → Nat :=
  let c0_i32 : BitVec 32 := 0#32
  let c1_i32 : BitVec 32 := 1#32
  let arg5 : BitVec 32 := Scf.iv c0_i32 c1_i32 k0_t1
  let c2_i32 : BitVec 32 := 2#32
  let v12 : BitVec 32 := Scalar.muli arg5 c2_i32
  let v15 : BitVec 32 := Scalar.addi v12 c0_i32_4
  let c128_i32 : BitVec 32 := 128#32
  let v16 : BitVec 32 := Scalar.muli v15 c128_i32
  let v17 : BitVec 32 := v16
  let v18 : Index := Scalar.indexCast v17
  let c0 : Index := 0#32
  ![v18.toNat, 0]
def k0_mult2 (k0_t1 : Fin k0_t1_loop.trips) : BitVec 32 :=
  let c0_i32 : BitVec 32 := 0#32
  let c1_i32 : BitVec 32 := 1#32
  let arg5 : BitVec 32 := Scf.iv c0_i32 c1_i32 k0_t1
  let c2_i32 : BitVec 32 := 2#32
  let v12 : BitVec 32 := Scalar.muli arg5 c2_i32
  let c1_i32_5 : BitVec 32 := 1#32
  let v20 : BitVec 32 := Scalar.addi v12 c1_i32_5
  let c128_i32_6 : BitVec 32 := 128#32
  let v21 : BitVec 32 := Scalar.muli v20 c128_i32_6
  v21
def k0_mult3 (k0_t1 : Fin k0_t1_loop.trips) : BitVec 32 :=
  let c0_i32 : BitVec 32 := 0#32
  let c1_i32 : BitVec 32 := 1#32
  let arg5 : BitVec 32 := Scf.iv c0_i32 c1_i32 k0_t1
  let c2_i32 : BitVec 32 := 2#32
  let v12 : BitVec 32 := Scalar.muli arg5 c2_i32
  let c2_i32_2 : BitVec 32 := 2#32
  let v13 : BitVec 32 := Scalar.addi v12 c2_i32_2
  let c1_i32_3 : BitVec 32 := 1#32
  let v14 : BitVec 32 := Scalar.subi v13 c1_i32_3
  let c0_i32_19 : BitVec 32 := 0#32
  let v58 : BitVec 32 := Scalar.subi v14 c0_i32_19
  let c0_i32_20 : BitVec 32 := 0#32
  let v59 : BitVec 32 := Scalar.subi v58 c0_i32_20
  let c0_i32_21 : BitVec 32 := 0#32
  let v60 : BitVec 32 := Scalar.maxsi v59 c0_i32_21
  let c128_i32_22 : BitVec 32 := 128#32
  let v61 : BitVec 32 := Scalar.muli v60 c128_i32_22
  v61
def k0_off2 (k0_t1 : Fin k0_t1_loop.trips) (c0_i32_20 : BitVec 32) : Fin 2 → Nat :=
  let c0_i32 : BitVec 32 := 0#32
  let c1_i32 : BitVec 32 := 1#32
  let arg5 : BitVec 32 := Scf.iv c0_i32 c1_i32 k0_t1
  let c2_i32 : BitVec 32 := 2#32
  let v12 : BitVec 32 := Scalar.muli arg5 c2_i32
  let c2_i32_2 : BitVec 32 := 2#32
  let v13 : BitVec 32 := Scalar.addi v12 c2_i32_2
  let c1_i32_3 : BitVec 32 := 1#32
  let v14 : BitVec 32 := Scalar.subi v13 c1_i32_3
  let c0_i32_19 : BitVec 32 := 0#32
  let v58 : BitVec 32 := Scalar.subi v14 c0_i32_19
  let v59 : BitVec 32 := Scalar.subi v58 c0_i32_20
  let c0_i32_21 : BitVec 32 := 0#32
  let v60 : BitVec 32 := Scalar.maxsi v59 c0_i32_21
  let c128_i32_22 : BitVec 32 := 128#32
  let v61 : BitVec 32 := Scalar.muli v60 c128_i32_22
  let v62 : BitVec 32 := v61
  let v65 : Index := Scalar.indexCast v62
  let c0_24 : Index := 0#32
  ![v65.toNat, 0]
def k0_mult4 (k0_t1 : Fin k0_t1_loop.trips) : BitVec 32 :=
  let c0_i32 : BitVec 32 := 0#32
  let c1_i32 : BitVec 32 := 1#32
  let arg5 : BitVec 32 := Scf.iv c0_i32 c1_i32 k0_t1
  let c2_i32 : BitVec 32 := 2#32
  let v12 : BitVec 32 := Scalar.muli arg5 c2_i32
  let c2_i32_2 : BitVec 32 := 2#32
  let v13 : BitVec 32 := Scalar.addi v12 c2_i32_2
  let c1_i32_3 : BitVec 32 := 1#32
  let v14 : BitVec 32 := Scalar.subi v13 c1_i32_3
  let c0_i32_40 : BitVec 32 := 0#32
  let v128 : BitVec 32 := Scalar.subi v14 c0_i32_40
  let c1_i32_41 : BitVec 32 := 1#32
  let v129 : BitVec 32 := Scalar.subi v128 c1_i32_41
  let c0_i32_42 : BitVec 32 := 0#32
  let v130 : BitVec 32 := Scalar.maxsi v129 c0_i32_42
  let c128_i32_43 : BitVec 32 := 128#32
  let v131 : BitVec 32 := Scalar.muli v130 c128_i32_43
  v131
def k0_mult5 (k0_t1 : Fin k0_t1_loop.trips) : BitVec 32 :=
  let c0_i32 : BitVec 32 := 0#32
  let c1_i32 : BitVec 32 := 1#32
  let arg5 : BitVec 32 := Scf.iv c0_i32 c1_i32 k0_t1
  let c2_i32 : BitVec 32 := 2#32
  let v12 : BitVec 32 := Scalar.muli arg5 c2_i32
  let c2_i32_2 : BitVec 32 := 2#32
  let v13 : BitVec 32 := Scalar.addi v12 c2_i32_2
  let c1_i32_3 : BitVec 32 := 1#32
  let v14 : BitVec 32 := Scalar.subi v13 c1_i32_3
  let c0_i32_64 : BitVec 32 := 0#32
  let v191 : BitVec 32 := Scalar.subi v14 c0_i32_64
  let c2_i32_65 : BitVec 32 := 2#32
  let v192 : BitVec 32 := Scalar.subi v191 c2_i32_65
  let c0_i32_66 : BitVec 32 := 0#32
  let v193 : BitVec 32 := Scalar.maxsi v192 c0_i32_66
  let c128_i32_67 : BitVec 32 := 128#32
  let v194 : BitVec 32 := Scalar.muli v193 c128_i32_67
  v194
def k0_mult6 (k0_t1 : Fin k0_t1_loop.trips) : BitVec 32 :=
  let c0_i32 : BitVec 32 := 0#32
  let c1_i32 : BitVec 32 := 1#32
  let arg5 : BitVec 32 := Scf.iv c0_i32 c1_i32 k0_t1
  let c2_i32 : BitVec 32 := 2#32
  let v12 : BitVec 32 := Scalar.muli arg5 c2_i32
  let c2_i32_2 : BitVec 32 := 2#32
  let v13 : BitVec 32 := Scalar.addi v12 c2_i32_2
  let c1_i32_3 : BitVec 32 := 1#32
  let v14 : BitVec 32 := Scalar.subi v13 c1_i32_3
  let c0_i32_88 : BitVec 32 := 0#32
  let v254 : BitVec 32 := Scalar.subi v14 c0_i32_88
  let c3_i32 : BitVec 32 := 3#32
  let v255 : BitVec 32 := Scalar.subi v254 c3_i32
  let c0_i32_89 : BitVec 32 := 0#32
  let v256 : BitVec 32 := Scalar.maxsi v255 c0_i32_89
  let c128_i32_90 : BitVec 32 := 128#32
  let v257 : BitVec 32 := Scalar.muli v256 c128_i32_90
  v257
def k0_mult7 (k0_t1 : Fin k0_t1_loop.trips) (arg6 : BitVec 32) : BitVec 32 :=
  let c0_i32 : BitVec 32 := 0#32
  let c1_i32 : BitVec 32 := 1#32
  let arg5 : BitVec 32 := Scf.iv c0_i32 c1_i32 k0_t1
  let c2_i32 : BitVec 32 := 2#32
  let v12 : BitVec 32 := Scalar.muli arg5 c2_i32
  let c2_i32_2 : BitVec 32 := 2#32
  let v13 : BitVec 32 := Scalar.addi v12 c2_i32_2
  let c1_i32_3 : BitVec 32 := 1#32
  let v14 : BitVec 32 := Scalar.subi v13 c1_i32_3
  let c4_i32 : BitVec 32 := 4#32
  let v348 : BitVec 32 := Scalar.muli arg6 c4_i32
  let v349 : BitVec 32 := Scalar.subi v14 v348
  let c0_i32_122 : BitVec 32 := 0#32
  let v350 : BitVec 32 := Scalar.subi v349 c0_i32_122
  let c0_i32_123 : BitVec 32 := 0#32
  let v351 : BitVec 32 := Scalar.maxsi v350 c0_i32_123
  let c128_i32_124 : BitVec 32 := 128#32
  let v352 : BitVec 32 := Scalar.muli v351 c128_i32_124
  v352

def k0_off3 (k0_t1 : Fin k0_t1_loop.trips) (arg6 : BitVec 32) (c0_i32_122 : BitVec 32) : Fin 2 → Nat :=
  let c0_i32 : BitVec 32 := 0#32
  let c1_i32 : BitVec 32 := 1#32
  let arg5 : BitVec 32 := Scf.iv c0_i32 c1_i32 k0_t1
  let c2_i32 : BitVec 32 := 2#32
  let v12 : BitVec 32 := Scalar.muli arg5 c2_i32
  let c2_i32_2 : BitVec 32 := 2#32
  let v13 : BitVec 32 := Scalar.addi v12 c2_i32_2
  let c1_i32_3 : BitVec 32 := 1#32
  let v14 : BitVec 32 := Scalar.subi v13 c1_i32_3
  let c4_i32 : BitVec 32 := 4#32
  let v348 : BitVec 32 := Scalar.muli arg6 c4_i32
  let v349 : BitVec 32 := Scalar.subi v14 v348
  let v350 : BitVec 32 := Scalar.subi v349 c0_i32_122
  let c0_i32_123 : BitVec 32 := 0#32
  let v351 : BitVec 32 := Scalar.maxsi v350 c0_i32_123
  let c128_i32_124 : BitVec 32 := 128#32
  let v352 : BitVec 32 := Scalar.muli v351 c128_i32_124
  let v353 : BitVec 32 := v352
  let v355 : Index := Scalar.indexCast v353
  let c0_126 : Index := 0#32
  ![v355.toNat, 0]
def k0_mult8 (k0_t1 : Fin k0_t1_loop.trips) (arg6 : BitVec 32) : BitVec 32 :=
  let c0_i32 : BitVec 32 := 0#32
  let c1_i32 : BitVec 32 := 1#32
  let arg5 : BitVec 32 := Scf.iv c0_i32 c1_i32 k0_t1
  let c2_i32 : BitVec 32 := 2#32
  let v12 : BitVec 32 := Scalar.muli arg5 c2_i32
  let c2_i32_2 : BitVec 32 := 2#32
  let v13 : BitVec 32 := Scalar.addi v12 c2_i32_2
  let c1_i32_3 : BitVec 32 := 1#32
  let v14 : BitVec 32 := Scalar.subi v13 c1_i32_3
  let c4_i32_145 : BitVec 32 := 4#32
  let v412 : BitVec 32 := Scalar.muli arg6 c4_i32_145
  let v413 : BitVec 32 := Scalar.subi v14 v412
  let c1_i32_146 : BitVec 32 := 1#32
  let v414 : BitVec 32 := Scalar.subi v413 c1_i32_146
  let c0_i32_147 : BitVec 32 := 0#32
  let v415 : BitVec 32 := Scalar.maxsi v414 c0_i32_147
  let c128_i32_148 : BitVec 32 := 128#32
  let v416 : BitVec 32 := Scalar.muli v415 c128_i32_148
  v416
def k0_mult9 (k0_t1 : Fin k0_t1_loop.trips) (arg6 : BitVec 32) : BitVec 32 :=
  let c0_i32 : BitVec 32 := 0#32
  let c1_i32 : BitVec 32 := 1#32
  let arg5 : BitVec 32 := Scf.iv c0_i32 c1_i32 k0_t1
  let c2_i32 : BitVec 32 := 2#32
  let v12 : BitVec 32 := Scalar.muli arg5 c2_i32
  let c2_i32_2 : BitVec 32 := 2#32
  let v13 : BitVec 32 := Scalar.addi v12 c2_i32_2
  let c1_i32_3 : BitVec 32 := 1#32
  let v14 : BitVec 32 := Scalar.subi v13 c1_i32_3
  let c4_i32_169 : BitVec 32 := 4#32
  let v476 : BitVec 32 := Scalar.muli arg6 c4_i32_169
  let v477 : BitVec 32 := Scalar.subi v14 v476
  let c2_i32_170 : BitVec 32 := 2#32
  let v478 : BitVec 32 := Scalar.subi v477 c2_i32_170
  let c0_i32_171 : BitVec 32 := 0#32
  let v479 : BitVec 32 := Scalar.maxsi v478 c0_i32_171
  let c128_i32_172 : BitVec 32 := 128#32
  let v480 : BitVec 32 := Scalar.muli v479 c128_i32_172
  v480
def k0_mult10 (k0_t1 : Fin k0_t1_loop.trips) (arg6 : BitVec 32) : BitVec 32 :=
  let c0_i32 : BitVec 32 := 0#32
  let c1_i32 : BitVec 32 := 1#32
  let arg5 : BitVec 32 := Scf.iv c0_i32 c1_i32 k0_t1
  let c2_i32 : BitVec 32 := 2#32
  let v12 : BitVec 32 := Scalar.muli arg5 c2_i32
  let c2_i32_2 : BitVec 32 := 2#32
  let v13 : BitVec 32 := Scalar.addi v12 c2_i32_2
  let c1_i32_3 : BitVec 32 := 1#32
  let v14 : BitVec 32 := Scalar.subi v13 c1_i32_3
  let c4_i32_193 : BitVec 32 := 4#32
  let v540 : BitVec 32 := Scalar.muli arg6 c4_i32_193
  let v541 : BitVec 32 := Scalar.subi v14 v540
  let c3_i32_194 : BitVec 32 := 3#32
  let v542 : BitVec 32 := Scalar.subi v541 c3_i32_194
  let c0_i32_195 : BitVec 32 := 0#32
  let v543 : BitVec 32 := Scalar.maxsi v542 c0_i32_195
  let c128_i32_196 : BitVec 32 := 128#32
  let v544 : BitVec 32 := Scalar.muli v543 c128_i32_196
  v544

def k0_chk1 (k0_t1 : Fin k0_t1_loop.trips) (arg6 : BitVec 32) : Prop :=
  (128 ∣ (k0_mult7 k0_t1 arg6).toNat) ∧
  (∀ (r : Fin 4), ∀ a, (k0_off3 k0_t1 arg6 (BitVec.ofNat 32 r.val)) a + S128x128.size a ≤ S8192x128.size a) ∧
  (128 ∣ (k0_mult8 k0_t1 arg6).toNat) ∧
  (128 ∣ (k0_mult9 k0_t1 arg6).toNat) ∧
  (128 ∣ (k0_mult10 k0_t1 arg6).toNat)
theorem k0_mult7_dvd : ∀ (k0_t1 : Fin k0_t1_loop.trips) (arg6 : BitVec 32) (k0_hw1 : k0_chk1 k0_t1 arg6), 128 ∣ (k0_mult7 k0_t1 arg6).toNat := fun k0_t1 arg6 k0_hw1 => k0_hw1.1
theorem k0_off3_inb : ∀ (k0_t1 : Fin k0_t1_loop.trips) (arg6 : BitVec 32) (k0_hw1 : k0_chk1 k0_t1 arg6), ∀ (r : Fin 4), ∀ a, (k0_off3 k0_t1 arg6 (BitVec.ofNat 32 r.val)) a + S128x128.size a ≤ S8192x128.size a := fun k0_t1 arg6 k0_hw1 r => k0_hw1.2.1 r
theorem k0_mult8_dvd : ∀ (k0_t1 : Fin k0_t1_loop.trips) (arg6 : BitVec 32) (k0_hw1 : k0_chk1 k0_t1 arg6), 128 ∣ (k0_mult8 k0_t1 arg6).toNat := fun k0_t1 arg6 k0_hw1 => k0_hw1.2.2.1
theorem k0_mult9_dvd : ∀ (k0_t1 : Fin k0_t1_loop.trips) (arg6 : BitVec 32) (k0_hw1 : k0_chk1 k0_t1 arg6), 128 ∣ (k0_mult9 k0_t1 arg6).toNat := fun k0_t1 arg6 k0_hw1 => k0_hw1.2.2.2.1
theorem k0_mult10_dvd : ∀ (k0_t1 : Fin k0_t1_loop.trips) (arg6 : BitVec 32) (k0_hw1 : k0_chk1 k0_t1 arg6), 128 ∣ (k0_mult10 k0_t1 arg6).toNat := fun k0_t1 arg6 k0_hw1 => k0_hw1.2.2.2.2

def k0_mult11 (k0_t1 : Fin k0_t1_loop.trips) : BitVec 32 :=
  let c0_i32 : BitVec 32 := 0#32
  let c1_i32 : BitVec 32 := 1#32
  let arg5 : BitVec 32 := Scf.iv c0_i32 c1_i32 k0_t1
  let c2_i32 : BitVec 32 := 2#32
  let v12 : BitVec 32 := Scalar.muli arg5 c2_i32
  let c0_i32_115 : BitVec 32 := 0#32
  let v331 : BitVec 32 := Scalar.addi v12 c0_i32_115
  let c128_i32_116 : BitVec 32 := 128#32
  let v332 : BitVec 32 := Scalar.muli v331 c128_i32_116
  v332
def k0_mult12 (k0_t1 : Fin k0_t1_loop.trips) : BitVec 32 :=
  let c0_i32 : BitVec 32 := 0#32
  let c1_i32 : BitVec 32 := 1#32
  let arg5 : BitVec 32 := Scf.iv c0_i32 c1_i32 k0_t1
  let c2_i32 : BitVec 32 := 2#32
  let v12 : BitVec 32 := Scalar.muli arg5 c2_i32
  let c1_i32_119 : BitVec 32 := 1#32
  let v343 : BitVec 32 := Scalar.addi v12 c1_i32_119
  let c128_i32_120 : BitVec 32 := 128#32
  let v344 : BitVec 32 := Scalar.muli v343 c128_i32_120
  v344
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Kernel4Ideal.lean ====
variable {F : FTy → Type} [FloatOps F] [Named F]
def κ : String → Option EReal := fun
  | "dead" => some ⊥
  | _ => none
-- ==== Reference4Ideal.lean ====
abbrev S8192x3072 : Shape := ⟨2, ![8192, 3072]⟩
abbrev S8192x512 : Shape := ⟨2, ![8192, 512]⟩
abbrev S8192x8x64 : Shape := ⟨3, ![8192, 8, 64]⟩
abbrev S8x8192x64 : Shape := ⟨3, ![8, 8192, 64]⟩
abbrev S8192 : Shape := ⟨1, ![8192]⟩
abbrev S8x8192x8192 : Shape := ⟨3, ![8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩

abbrev nBuf : Space → Nat
  | .hbm => 73
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x8x64, .f32⟩
  | .hbm, ⟨6, _⟩ => ⟨S8x8192x64, .f32⟩
  | .hbm, ⟨7, _⟩ => ⟨S8192x8x64, .f32⟩
  | .hbm, ⟨8, _⟩ => ⟨S8x8192x64, .f32⟩
  | .hbm, ⟨9, _⟩ => ⟨S8192x8x64, .f32⟩
  | .hbm, ⟨10, _⟩ => ⟨S8x8192x64, .f32⟩
  | .hbm, ⟨11, _⟩ => ⟨S8192, .i32⟩
  | .hbm, ⟨12, _⟩ => ⟨S8x8192x8192, .f32⟩
  | .hbm, ⟨13, _⟩ => ⟨S_, .f32⟩
  | .hbm, ⟨14, _⟩ => ⟨S8x8192x8192, .f32⟩
  | .hbm, ⟨15, _⟩ => ⟨S8x8192x8192, .f32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S8x8192x8192, .f32⟩
  | .hbm, ⟨22, _⟩ => ⟨S_, .f32⟩
  | .hbm, ⟨23, _⟩ => ⟨S8x8192x8192, .f32⟩
  | .hbm, ⟨24, _⟩ => ⟨S8x8192x8192, .f32⟩
  | .hbm, ⟨25, _⟩ => ⟨S8x8192x8192, .f32⟩
  | .hbm, ⟨26, _⟩ => ⟨S8x8192x8192, .f32⟩
  | .hbm, ⟨27, _⟩ => ⟨S8x8192x8192, .i1⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S8x8192x8192, .f32⟩
  | .hbm, ⟨37, _⟩ => ⟨S8x8192x8192, .f32⟩
  | .hbm, ⟨38, _⟩ => ⟨S8x8192x8192, .f32⟩
  | .hbm, ⟨39, _⟩ => ⟨S_, .f32⟩
  | .hbm, ⟨40, _⟩ => ⟨S8x8192x8192, .f32⟩
  | .hbm, ⟨41, _⟩ => ⟨S8x8192x8192, .f32⟩
  | .hbm, ⟨42, _⟩ => ⟨S8x8192x8192, .f32⟩
  | .hbm, ⟨43, _⟩ => ⟨S8x8192x8192, .f32⟩
  | .hbm, ⟨44, _⟩ => ⟨S8x8192x8192, .i1⟩
  | .hbm, ⟨45, _⟩ => ⟨S8x8192x8192, .f32⟩
  | .hbm, ⟨46, _⟩ => ⟨S8x8192x8192, .f32⟩
  | .hbm, ⟨47, _⟩ => ⟨S8x8192x8192, .f32⟩
  | .hbm, ⟨48, _⟩ => ⟨S8x8192x8192, .f32⟩
  | .hbm, ⟨49, _⟩ => ⟨S8x8192x8192, .f32⟩
  | .hbm, ⟨50, _⟩ => ⟨S8x8192x8192, .f32⟩
  | .hbm, ⟨51, _⟩ => ⟨S8x8192x8192, .f32⟩
  | .hbm, ⟨52, _⟩ => ⟨S8x8192x8192, .f32⟩
  | .hbm, ⟨53, _⟩ => ⟨S8x8192x8192, .f32⟩
  | .hbm, ⟨54, _⟩ => ⟨S_, .f32⟩
  | .hbm, ⟨55, _⟩ => ⟨S_, .f32⟩
  | .hbm, ⟨56, _⟩ => ⟨S8x8192x8192, .i1⟩
  | .hbm, ⟨57, _⟩ => ⟨S8x8192x8192, .f32⟩
  | .hbm, ⟨58, _⟩ => ⟨S8x8192x8192, .f32⟩
  | .hbm, ⟨59, _⟩ => ⟨S_, .f32⟩
  | .hbm, ⟨60, _⟩ => ⟨S_, .f32⟩
  | .hbm, ⟨61, _⟩ => ⟨S8x8192x8192, .f32⟩
  | .hbm, ⟨62, _⟩ => ⟨S8x8192x8192, .f32⟩
  | .hbm, ⟨63, _⟩ => ⟨S8x8192x8192, .f32⟩
  | .hbm, ⟨64, _⟩ => ⟨S8x8192x8192, .f32⟩
  | .hbm, ⟨65, _⟩ => ⟨S_, .f32⟩
  | .hbm, ⟨66, _⟩ => ⟨S_, .f32⟩
  | .hbm, ⟨67, _⟩ => ⟨S8x8192x8192, .i1⟩
  | .hbm, ⟨68, _⟩ => ⟨S8x8192x8192, .f32⟩
  | .hbm, ⟨69, _⟩ => ⟨S8x8192x8192, .f32⟩
  | .hbm, ⟨70, _⟩ => ⟨S8x8192x64, .f32⟩
  | .hbm, ⟨71, _⟩ => ⟨S8192x8x64, .f32⟩
  | .hbm, ⟨72, _⟩ => ⟨S8192x512, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v19 : Ref sig .tc := ⟨.hbm, 36, rfl⟩
abbrev main_v20 : Ref sig .tc := ⟨.hbm, 37, rfl⟩
abbrev main_call1_v0 : Ref sig .tc := ⟨.hbm, 38, rfl⟩
abbrev main_call1_call0_cst : Ref sig .tc := ⟨.hbm, 39, rfl⟩
abbrev main_call1_call0_v0 : Ref sig .tc := ⟨.hbm, 40, rfl⟩
abbrev main_call1_call0_v1 : Ref sig .tc := ⟨.hbm, 41, rfl⟩
abbrev main_call1_call0_v2 : Ref sig .tc := ⟨.hbm, 42, rfl⟩
abbrev main_call1_call0_v3 : Ref sig .tc := ⟨.hbm, 43, rfl⟩
abbrev main_call1_call0_v4 : Ref sig .tc := ⟨.hbm, 44, rfl⟩
abbrev main_call1_call0_v5 : Ref sig .tc := ⟨.hbm, 45, rfl⟩
abbrev main_call1_call0_v6 : Ref sig .tc := ⟨.hbm, 46, rfl⟩
abbrev main_call1_call0_v7 : Ref sig .tc := ⟨.hbm, 47, rfl⟩
abbrev main_call1_call0_v8 : Ref sig .tc := ⟨.hbm, 48, rfl⟩
abbrev main_call1_call0_v9 : Ref sig .tc := ⟨.hbm, 49, rfl⟩
abbrev main_call1_call0_v10 : Ref sig .tc := ⟨.hbm, 50, rfl⟩
abbrev main_call1_call0_v11 : Ref sig .tc := ⟨.hbm, 51, rfl⟩
abbrev main_call1_v1 : Ref sig .tc := ⟨.hbm, 52, rfl⟩
abbrev main_v21 : Ref sig .tc := ⟨.hbm, 53, rfl⟩
abbrev main_cst_0 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v22 : Ref sig .tc := ⟨.hbm, 58, rfl⟩
abbrev main_call3_cst : Ref sig .tc := ⟨.hbm, 59, rfl⟩
abbrev main_call3_v0 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S4x8192x704 : Shape := ⟨3, ![4, 8192, 704]⟩
abbrev S4x704x1024 : Shape := ⟨3, ![4, 704, 1024]⟩
abbrev S8x1024 : Shape := ⟨2, ![8, 1024]⟩
abbrev S512x1024 : Shape := ⟨2, ![512, 1024]⟩
abbrev S1x512x704 : Shape := ⟨3, ![1, 512, 704]⟩
abbrev S1x704x1024 : Shape := ⟨3, ![1, 704, 1024]⟩
abbrev S512x704 : Shape := ⟨2, ![512, 704]⟩
abbrev S704x1024 : Shape := ⟨2, ![704, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S4x8192x704, .bf16⟩
  | .hbm, ⟨4, _⟩ => ⟨S4x8192x704, .bf16⟩
  | .hbm, ⟨5, _⟩ => ⟨S4x704x1024, .bf16⟩
  | .hbm, ⟨6, _⟩ => ⟨S4x704x1024, .bf16⟩
  | .hbm, ⟨7, _⟩ => ⟨S4x704x1024, .bf16⟩
  | .hbm, ⟨8, _⟩ => ⟨S8192x1024, .f32⟩
  | .hbm, ⟨9, _⟩ => ⟨S8192x1024, .bf16⟩
  | .hbm, ⟨10, _⟩ => ⟨S4x8192x704, .bf16⟩
  | .hbm, ⟨11, _⟩ => ⟨S4x8192x704, .bf16⟩
  | .hbm, ⟨12, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x512x704, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x704x1024, .bf16⟩
  | .local _ .vmem, ⟨10, _⟩ => ⟨S1x704x1024, .bf16⟩
  | .local _ .vmem, ⟨11, _⟩ => ⟨S1x704x1024, .bf16⟩
  | .local _ .vmem, ⟨12, _⟩ => ⟨S1x704x1024, .bf16⟩
  | .local _ .vmem, ⟨13, _⟩ => ⟨S1x704x1024, .bf16⟩
  | .local _ .vmem, ⟨14, _⟩ => ⟨S1x704x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S1x512x704, .bf16⟩
  | .local _ .vmem, ⟨20, _⟩ => ⟨S1x512x704, .bf16⟩
  | .local _ .vmem, ⟨21, _⟩ => ⟨S1x512x704, .bf16⟩
  | .local _ .vmem, ⟨22, _⟩ => ⟨S1x512x704, .bf16⟩
  | .local _ .vmem, ⟨23, _⟩ => ⟨S8x1024, .f32⟩
  | .local _ .vmem, ⟨24, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v50 : BitVec 1 := Scalar.cmpi .eq arg1 c3_i32
  let v51 : BitVec 32 := Scalar.extui v50
  let c0_i32_34 : BitVec 32 := 0#32
  let v52 : BitVec 1 := Scalar.cmpi .ne v51 c0_i32_34
  v52

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== Reference5Ideal.lean ====
abbrev S8192x1024 : Shape := ⟨2, ![8192, 1024]⟩
abbrev S1x1024 : Shape := ⟨2, ![1, 1024]⟩
abbrev S4x8192x704 : Shape := ⟨3, ![4, 8192, 704]⟩
abbrev S4x704x1024 : Shape := ⟨3, ![4, 704, 1024]⟩
abbrev S_ : Shape := ⟨0, ![]⟩
abbrev S8192x4x704 : Shape := ⟨3, ![8192, 4, 704]⟩
abbrev S4x704x8192 : Shape := ⟨3, ![4, 704, 8192]⟩
abbrev S8192 : Shape := ⟨1, ![8192]⟩
abbrev S8192x1 : Shape := ⟨2, ![8192, 1]⟩
abbrev S1024 : Shape := ⟨1, ![1024]⟩
abbrev S7x1024 : Shape := ⟨2, ![7, 1024]⟩
abbrev S8x1024 : Shape := ⟨2, ![8, 1024]⟩

abbrev nBuf : Space → Nat
  | .hbm => 104
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S4x8192x704, .bf16⟩
  | .hbm, ⟨4, _⟩ => ⟨S4x8192x704, .bf16⟩
  | .hbm, ⟨5, _⟩ => ⟨S4x704x1024, .bf16⟩
  | .hbm, ⟨6, _⟩ => ⟨S4x704x1024, .bf16⟩
  | .hbm, ⟨7, _⟩ => ⟨S4x704x1024, .bf16⟩
  | .hbm, ⟨8, _⟩ => ⟨S4x8192x704, .f32⟩
  | .hbm, ⟨9, _⟩ => ⟨S4x8192x704, .f32⟩
  | .hbm, ⟨10, _⟩ => ⟨S4x704x1024, .f32⟩
  | .hbm, ⟨11, _⟩ => ⟨S4x704x1024, .f32⟩
  | .hbm, ⟨12, _⟩ => ⟨S4x704x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .bf16⟩
  | .hbm, ⟨17, _⟩ => ⟨S_, .f32⟩
  | .hbm, ⟨18, _⟩ => ⟨S4x8192x704, .f32⟩
  | .hbm, ⟨19, _⟩ => ⟨S8192x1024, .f32⟩
  | .hbm, ⟨20, _⟩ => ⟨S8192x1024, .f32⟩
  | .hbm, ⟨21, _⟩ => ⟨S8192x4x704, .f32⟩
  | .hbm, ⟨22, _⟩ => ⟨S4x8192x704, .f32⟩
  | .hbm, ⟨23, _⟩ => ⟨S4x8192x704, .f32⟩
  | .hbm, ⟨24, _⟩ => ⟨S4x8192x704, .f32⟩
  | .hbm, ⟨25, _⟩ => ⟨S_, .f32⟩
  | .hbm, ⟨26, _⟩ => ⟨S4x8192x704, .f32⟩
  | .hbm, ⟨27, _⟩ => ⟨S4x8192x704, .f32⟩
  | .hbm, ⟨28, _⟩ => ⟨S_, .f32⟩
  | .hbm, ⟨29, _⟩ => ⟨S4x8192x704, .f32⟩
  | .hbm, ⟨30, _⟩ => ⟨S4x8192x704, .f32⟩
  | .hbm, ⟨31, _⟩ => ⟨S_, .f32⟩
  | .hbm, ⟨32, _⟩ => ⟨S4x8192x704, .f32⟩
  | .hbm, ⟨33, _⟩ => ⟨S4x8192x704, .f32⟩
  | .hbm, ⟨34, _⟩ => ⟨S4x8192x704, .f32⟩
  | .hbm, ⟨35, _⟩ => ⟨S4x8192x704, .f32⟩
  | .hbm, ⟨36, _⟩ => ⟨S4x8192x704, .f32⟩
  | .hbm, ⟨37, _⟩ => ⟨S4x8192x704, .f32⟩
  | .hbm, ⟨38, _⟩ => ⟨S4x8192x704, .f32⟩
  | .hbm, ⟨39, _⟩ => ⟨S4x8192x704, .f32⟩
  | .hbm, ⟨40, _⟩ => ⟨S4x8192x704, .f32⟩
  | .hbm, ⟨41, _⟩ => ⟨S4x8192x704, .f32⟩
  | .hbm, ⟨42, _⟩ => ⟨S4x8192x704, .f32⟩
  | .hbm, ⟨43, _⟩ => ⟨S4x8192x704, .bf16⟩
  | .hbm, ⟨44, _⟩ => ⟨S4x8192x704, .bf16⟩
  | .hbm, ⟨45, _⟩ => ⟨S_, .f32⟩
  | .hbm, ⟨46, _⟩ => ⟨S8192x1024, .f32⟩
  | .hbm, ⟨47, _⟩ => ⟨S4x704x8192, .f32⟩
  | .hbm, ⟨48, _⟩ => ⟨S4x8192x704, .f32⟩
  | .hbm, ⟨49, _⟩ => ⟨S4x704x8192, .f32⟩
  | .hbm, ⟨50, _⟩ => ⟨S4x8192x704, .f32⟩
  | .hbm, ⟨51, _⟩ => ⟨S4x8192x704, .f32⟩
  | .hbm, ⟨52, _⟩ => ⟨S4x8192x704, .f32⟩
  | .hbm, ⟨53, _⟩ => ⟨S4x704x8192, .f32⟩
  | .hbm, ⟨54, _⟩ => ⟨S8192x1024, .f32⟩
  | .hbm, ⟨55, _⟩ => ⟨S4x704x8192, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S8192x1024, .f32⟩
  | .hbm, ⟨88, _⟩ => ⟨S8192x1024, .f32⟩
  | .hbm, ⟨89, _⟩ => ⟨S8192x1, .f32⟩
  | .hbm, ⟨90, _⟩ => ⟨S_, .f32⟩
  | .hbm, ⟨91, _⟩ => ⟨S8192x1, .f32⟩
  | .hbm, ⟨92, _⟩ => ⟨S8192x1, .f32⟩
  | .hbm, ⟨93, _⟩ => ⟨S_, .f32⟩
  | .hbm, ⟨94, _⟩ => ⟨S8192, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S_, .f32⟩
  | .hbm, ⟨102, _⟩ => ⟨S7x1024, .f32⟩
  | .hbm, ⟨103, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v13_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v13_1 : Ref sig .tc := ⟨.hbm, 34, rfl⟩
abbrev main_v13_0 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_1 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_2 : Ref sig .tc := ⟨.hbm, 59, rfl⟩
abbrev main_v33 : Ref sig .tc := ⟨.hbm, 60, rfl⟩
abbrev main_v34 : Ref sig .tc := ⟨.hbm, 61, rfl⟩
abbrev main_cst_3 : Ref sig .tc := ⟨.hbm, 62, rfl⟩
abbrev main_v35 : Ref sig .tc := ⟨.hbm, 63, rfl⟩
abbrev main_v36 : Ref sig .tc := ⟨.hbm, 64, rfl⟩
abbrev main_cst_4 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_5 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_6 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_7 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_8 : Ref sig .tc := ⟨.hbm, 90, rfl⟩
abbrev main_v58 : Ref sig .tc := ⟨.hbm, 91, rfl⟩
abbrev main_v59 : Ref sig .tc := ⟨.hbm, 92, rfl⟩
abbrev main_cst_9 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_10 : Ref sig .tc := ⟨.hbm, 101, rfl⟩
abbrev main_v67 : Ref sig .tc := ⟨.hbm, 102, rfl⟩
abbrev main_v68 : Ref sig .tc := ⟨.hbm, 103, rfl⟩

abbrev nD : Nat := 1
abbrev τ : Topo := Topo.v7x

variable {F : FTy → Type} [FloatOps F]
-- ==== Proof.E.Setup.lean ====
/-
  The launch of the feed-forward network's input-gradient program: its arrays, blocks, branches and buffers.
-/
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Proof.E

open Cert.Kernel5Ideal Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- What core `c` holds when the region starts: the launch's memory. -/
abbrev V (c : Dev nD) (b : Ref sig .tc) : Buf (Elt F) ((c : Thread nD τ).loc b) := m ((c : Thread nD τ).loc b)

set_option maxHeartbeats 800000 in
/-- The program is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl

/-! ## The windows' blocks -/

/-- The block of window `w` at point `t`, of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run that leaves every input array at its data gives the frame's statement. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c)))⟩) h

/-! ## The body's branches -/

/-- The first branch is taken at the first point only, -/
theorem first_iff (t : Fin cfg0.N) : k0_cond1 (grid0.coords t) = 1#1 ↔ t.val % 64 = 0 := by
  have ht : t.val < 64 := Nat.lt_of_lt_of_eq t.isLt N_0
  have e0 : (grid0.coords t 0).val = t.val / 4 % 16 := Pipeline.Grid.coords_val t 0 (by decide) rfl
  have e1 : (grid0.coords t 1).val = t.val / 1 % 4 := Pipeline.Grid.coords_val t 1 (by decide) rfl
  simp only [k0_cond1, e0, e1]
  word_cmp

/-- the second at a row block's first column block, -/
theorem start_iff (t : Fin cfg0.N) : k0_cond2 (grid0.coords t) = 1#1 ↔ t.val % 4 = 0 := by
  have ht : t.val < 64 := Nat.lt_of_lt_of_eq t.isLt N_0
  have e1 : (grid0.coords t 1).val = t.val / 1 % 4 := Pipeline.Grid.coords_val t 1 (by decide) rfl
  simp only [k0_cond2, e1]
  word_cmp

/-- the third at its last. -/
theorem last_iff (t : Fin cfg0.N) : k0_cond3 (grid0.coords t) = 1#1 ↔ t.val % 4 = 3 := by
  have ht : t.val < 64 := Nat.lt_of_lt_of_eq t.isLt N_0
  have e1 : (grid0.coords t 1).val = t.val / 1 % 4 := Pipeline.Grid.coords_val t 1 (by decide) rfl
  simp only [k0_cond3, e1]
  word_cmp

/-! ## The windows' current buffers -/

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x704 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x704 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x704x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x704x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x704x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512x704 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x512x704 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8x1024 .f32 := win0_12.stage (cfg0.slots t 12)
abbrev hs0_12 (t : Fin cfg0.N) : (ms0_12 t).IsWhole := hstage0_12 ((cfg0.slots t 12).cast nbuf0_12)

/-- The running sum's buffer. -/
abbrev scM : Memref sig .tc .vmem S512x1024 .f32 := Memref.whole cc0_scratch0

/-- What the region starts with beside its windows: the running sum's buffer at anything, and the generator's register. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Proof.E
-- ==== Proof.E.Run.lean ====
/-
  One call of the body: what each buffer holds afterwards.
-/
module

public import proofs.«01_k».proof.Proof.E.Setup

@[expose] public section

set_option maxRecDepth 16384

noncomputable section

namespace Cert.Proof.E

open Cert.Kernel5Ideal Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Buffers

variable {κ : Kind} {sp : Space} {e : EltTy} {Val : EltTy → Type}

/-! Whole-buffer loads and stores, shape by shape. -/

theorem ld_a (v : View sig κ sp S512x1024 e) (f : v.ty.Contents Val) :
    v.readAt Val (Rect.unit ![0, 0] ![512, 1024] inb_S512x1024_S512x1024_0_0).toLoadRect f = v.read Val f := View.readAt_full v f _
theorem ld_b (v : View sig κ sp S1x1024 e) (f : v.ty.Contents Val) :
    v.readAt Val (Rect.unit ![0, 0] ![1, 1024] inb_S1x1024_S1x1024_0_0).toLoadRect f = v.read Val f := View.readAt_full v f _
theorem ld_c (v : View sig κ sp S1x512x704 e) (f : v.ty.Contents Val) :
    v.readAt Val (Rect.unit ![0, 0, 0] ![1, 512, 704] inb_S1x512x704_S1x512x704_0_0_0).toLoadRect f = v.read Val f := View.readAt_full v f _
theorem ld_d (v : View sig κ sp S1x704x1024 e) (f : v.ty.Contents Val) :
    v.readAt Val (Rect.unit ![0, 0, 0] ![1, 704, 1024] inb_S1x704x1024_S1x704x1024_0_0_0).toLoadRect f = v.read Val f := View.readAt_full v f _
theorem ld_row (v : View sig κ sp S8x1024 e) (f : v.ty.Contents Val) :
    v.readAt Val (Rect.unit ![0, 0] ![1, 1024] inb_S8x1024_S1x1024_0_0).toLoadRect f
      = VecWindow.window (v.read Val f) ![0, 0] S1x1024.size inb_S8x1024_S1x1024_0_0 := View.readAt_unit v f _ rfl _
theorem st_a (v : View sig κ sp S512x1024 e) (f : v.ty.Contents Val) (w : S512x1024.Idx → Val e) (L : List (View.Piece Val S512x1024 e)) :
    v.read Val (v.writes Val f (⟨Rect.unit ![0, 0] ![512, 1024] inb_S512x1024_S512x1024_0_0, w⟩ :: L)) = w := View.read_writes_full v f _ w L
theorem st_c (v : View sig κ sp S1x512x704 e) (f : v.ty.Contents Val) (w : S1x512x704.Idx → Val e) (L : List (View.Piece Val S1x512x704 e)) :
    v.read Val (v.writes Val f (⟨Rect.unit ![0, 0, 0] ![1, 512, 704] inb_S1x512x704_S1x512x704_0_0_0, w⟩ :: L)) = w := View.read_writes_full v f _ w L
theorem st_all (v : View sig κ sp S8x1024 e) (f : v.ty.Contents Val) (w : S8x1024.Idx → Val e) (L : List (View.Piece Val S8x1024 e)) :
    v.read Val (v.writes Val f (⟨Rect.unit ![0, 0] ![8, 1024] inb_S8x1024_S8x1024_0_0, w⟩ :: L)) = w := View.read_writes_full v f _ w L
theorem st_row (v : View sig κ sp S8x1024 e) (f : v.ty.Contents Val) (w : S1x1024.Idx → Val e) (L : List (View.Piece Val S8x1024 e)) :
    v.read Val (v.writes Val f (⟨Rect.unit ![0, 0] ![1, 1024] inb_S8x1024_S1x1024_0_0, w⟩ :: L))
      = VecWindow.put (v.read Val (v.writes Val f L)) ![0, 0] S1x1024.size w := View.read_writes_cons_put v f _ w L rfl
theorem cov_eq [∀ e, Nonempty (Val e)] {S : Shape} (v : View sig κ sp S e) (L : List (View.Piece Val S e)) (r : LoadRect S) :
    v.readCov L r = v.readAt Val r (v.writes Val v.junk L) := rfl

end Buffers

/-- The input blocks of one point. -/
structure Ins (F : FTy → Type) where
  x : Vec F S512x1024 .f32
  g : Vec F S1x1024 .f32
  dy : Vec F S512x1024 .f32
  ga : Vec F S1x512x704 .bf16
  up : Vec F S1x512x704 .bf16
  wg : Vec F S1x704x1024 .bf16
  wu : Vec F S1x704x1024 .bf16
  wd : Vec F S1x704x1024 .bf16

/-- What the body carries from point to point: the output gradient's block, the gain row, the running sum, and the input gradient's block. -/
structure St (F : FTy → Type) where
  dx : Vec F S512x1024 .f32
  dyh : Vec F S512x1024 .bf16
  st : Vec F S8x1024 .f32
  sum : Vec F S512x1024 .f32

variable (i : grid0.Coords) (x : Ins F) (s : St F)

/-- The halved output gradient in use at the point, -/
def dyhOf : Vec F S512x1024 .bf16 := if k0_cond2 i = 1#1 then k0_pay9 x.dy else s.dyh
/-- the gradient to the gate's input, -/
def daOf (d : Vec F S512x1024 .bf16) : FVec F S512x704 .bf16 := k0_pay14 x.ga x.up d x.wd
/-- the gradient to the other factor, -/
def dbOf (d : Vec F S512x1024 .bf16) : FVec F S512x704 .bf16 := k0_pay15 x.ga d x.wd
/-- the running sum, -/
def sumOf : Vec F S512x1024 .f32 :=
  k0_pay3 (daOf x (dyhOf i x s)) (dbOf x (dyhOf i x s)) (if k0_cond2 i = 1#1 then k0_pay10 else s.sum) x.wg x.wu
/-- the gain rows before the point's own, -/
def gainOf : Vec F S8x1024 .f32 := if k0_cond1 i = 1#1 then k0_pay8 else s.st
/-- the gain rows with the point's own, -/
def stOf : Vec F S8x1024 .f32 :=
  if k0_cond3 i = 1#1 then
    VecWindow.put (gainOf i s) ![0, 0] S1x1024.size
      (k0_pay7 x.x (sumOf i x s) (VecWindow.window (gainOf i s) ![0, 0] S1x1024.size inb_S8x1024_S1x1024_0_0))
  else gainOf i s
/-- and the input gradient. -/
def dxOf : Vec F S512x1024 .f32 := if k0_cond3 i = 1#1 then k0_pay6 x.x (sumOf i x s) x.g x.dy else s.dx

/-- The carried values after the point. -/
def next : St F := ⟨dxOf i x s, dyhOf i x s, stOf i x s, sumOf i x s⟩

variable (c : Dev nD)
  (arg2 : Memref sig .tc .vmem S512x1024 .f32) (harg2 : arg2.IsWhole)
  (arg3 : Memref sig .tc .vmem S1x1024 .f32) (harg3 : arg3.IsWhole)
  (arg4 : Memref sig .tc .vmem S512x1024 .f32) (harg4 : arg4.IsWhole)
  (arg5 : Memref sig .tc .vmem S1x512x704 .bf16) (harg5 : arg5.IsWhole)
  (arg6 : Memref sig .tc .vmem S1x512x704 .bf16) (harg6 : arg6.IsWhole)
  (arg7 : Memref sig .tc .vmem S1x704x1024 .bf16) (harg7 : arg7.IsWhole)
  (arg8 : Memref sig .tc .vmem S1x704x1024 .bf16) (harg8 : arg8.IsWhole)
  (arg9 : Memref sig .tc .vmem S1x704x1024 .bf16) (harg9 : arg9.IsWhole)
  (arg10 : Memref sig .tc .vmem S512x1024 .f32) (harg10 : arg10.IsWhole)
  (arg11 : Memref sig .tc .vmem S512x1024 .bf16) (harg11 : arg11.IsWhole)
  (arg12 : Memref sig .tc .vmem S1x512x704 .bf16) (harg12 : arg12.IsWhole)
  (arg13 : Memref sig .tc .vmem S1x512x704 .bf16) (harg13 : arg13.IsWhole)
  (arg14 : Memref sig .tc .vmem S8x1024 .f32) (harg14 : arg14.IsWhole)
  (arg15 : Memref sig .tc .vmem S512x1024 .f32) (harg15 : arg15.IsWhole)

/-- The input buffers at their blocks. -/
def heldIn : sProp 𝕄 :=
  iprop(owns (c : Thread nD τ) arg2 fullShare x.x ∗ owns (c : Thread nD τ) arg3 fullShare x.g ∗ owns (c : Thread nD τ) arg4 fullShare x.dy ∗ owns (c : Thread nD τ) arg5 fullShare x.ga ∗ owns (c : Thread nD τ) arg6 fullShare x.up ∗ owns (c : Thread nD τ) arg7 fullShare x.wg ∗ owns (c : Thread nD τ) arg8 fullShare x.wu ∗ owns (c : Thread nD τ) arg9 fullShare x.wd)

/-- The carried buffers at `s`. -/
def heldSt : sProp 𝕄 :=
  iprop(owns (c : Thread nD τ) arg10 fullShare s.dx ∗ owns (c : Thread nD τ) arg11 fullShare s.dyh ∗ owns (c : Thread nD τ) arg14 fullShare s.st ∗ owns (c : Thread nD τ) arg15 fullShare s.sum)

set_option maxHeartbeats 8000000 in
/-- The body's triple: the inputs kept, the carried buffers advanced, the two factor gradients written. -/
theorem bodyRun (h12 : k0_cond1 i = 1#1 → k0_cond2 i = 1#1) (h23 : k0_cond2 i = 1#1 → ¬ k0_cond3 i = 1#1)
    (E : Set ℕ) (K : PUnit → sProp 𝕄) :
    iprop(heldIn x c arg2 arg3 arg4 arg5 arg6 arg7 arg8 arg9 ∗ heldSt s c arg10 arg11 arg14 arg15
        ∗ (∃ d, owns (c : Thread nD τ) arg12 fullShare d) ∗ (∃ d, owns (c : Thread nD τ) arg13 fullShare d)
        ∗ (iprop(heldIn x c arg2 arg3 arg4 arg5 arg6 arg7 arg8 arg9 ∗ heldSt (next i x s) c arg10 arg11 arg14 arg15
            ∗ owns (c : Thread nD τ) arg12 fullShare (k0_pay1 (daOf x (dyhOf i x s))) ∗ owns (c : Thread nD τ) arg13 fullShare (k0_pay2 (dbOf x (dyhOf i x s)))) -∗ K ⟨⟩))
      ⊢ wp frame (wpE (defs₀ (F := F)) Variants.none c none) E
        (cc0_ffn1_bwd_dx i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ffn1_bwd_dx_eq_skeleton]; unfold cc0_ffn1_bwd_dx_skel
  simp only [k0_part1_eq_skeleton]
  unfold heldIn heldSt owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨⟨%f8, %hf8, H8⟩, ⟨%f9, %hf9, H9⟩, ⟨%f12, %hf12, H12⟩, ⟨%f13, %hf13, H13⟩⟩, ⟨%d10, %f10, -, H10⟩, ⟨%d11, %f11, -, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hf12; obtain rfl := harg15.eq_unread hf13
  by_cases hc1 : k0_cond1 i = 1#1 <;> by_cases hc2 : k0_cond2 i = 1#1 <;> by_cases hc3 : k0_cond3 i = 1#1
  all_goals first | exact absurd (h12 hc1) hc2 | exact absurd hc3 (h23 hc2) | skip
  all_goals
    sl_exec (disch := first | sl_exact hc1 | sl_exact hc2 | sl_exact hc3)
    sl_step
    iapply Hk
  all_goals
    isplitl [H0 H1 H2 H3 H4 H5 H6 H7]
    · isplitl [H0]
      · iexists _; isplitr; · ipureintro; exact hf0
        iexact H0
      isplitl [H1]
      · iexists _; isplitr; · ipureintro; exact hf1
        iexact H1
      isplitl [H2]
      · iexists _; isplitr; · ipureintro; exact hf2
        iexact H2
      isplitl [H3]
      · iexists _; isplitr; · ipureintro; exact hf3
        iexact H3
      isplitl [H4]
      · iexists _; isplitr; · ipureintro; exact hf4
        iexact H4
      isplitl [H5]
      · iexists _; isplitr; · ipureintro; exact hf5
        iexact H5
      isplitl [H6]
      · iexists _; isplitr; · ipureintro; exact hf6
        iexact H6
      iexists _; isplitr; · ipureintro; exact hf7
      iexact H7
    isplitl [H8 H9 H12 H13]
    isplitl [H8]; iexists _; isplitr; swap; iexact H8; ipureintro; rotate_left
    isplitl [H9]; iexists _; isplitr; swap; iexact H9; ipureintro; rotate_left
    isplitl [H12]; iexists _; isplitr; swap; iexact H12; ipureintro; rotate_left
    iexists _; isplitr; swap; iexact H13; ipureintro; rotate_left
    isplitl [H10]; iexists _; isplitr; swap; iexact H10; ipureintro; rotate_left
    iexists _; isplitr; swap; iexact H11; ipureintro; rotate_left
    all_goals try delta bodyRun.sl.v64
    all_goals try delta bodyRun.sl.H9_1_1
    all_goals try delta bodyRun.sl.v38_1
    all_goals try delta bodyRun.sl.H9_1
    all_goals try delta bodyRun.sl.v38
    all_goals try delta bodyRun.sl.H13_1_2
    all_goals try delta bodyRun.sl.r bodyRun.sl.r_1 bodyRun.sl.r_2 bodyRun.sl.r_3 bodyRun.sl.r_4 bodyRun.sl.r_5 bodyRun.sl.r_6 bodyRun.sl.r_7 bodyRun.sl.v15 bodyRun.sl.v15_1 bodyRun.sl.v39 bodyRun.sl.v39_1 bodyRun.sl.v39_2 bodyRun.sl.v39_3 bodyRun.sl.v42 bodyRun.sl.v42_1 bodyRun.sl.v42_2 bodyRun.sl.v42_3
    all_goals try delta bodyRun.sl.r bodyRun.sl.r_1 bodyRun.sl.r_2 bodyRun.sl.r_3 bodyRun.sl.r_4 bodyRun.sl.r_5 bodyRun.sl.r_6 bodyRun.sl.r_7 bodyRun.sl.v15 bodyRun.sl.v15_1 bodyRun.sl.v39 bodyRun.sl.v39_1 bodyRun.sl.v39_2 bodyRun.sl.v39_3 bodyRun.sl.v42 bodyRun.sl.v42_1 bodyRun.sl.v42_2 bodyRun.sl.v42_3
    all_goals try delta bodyRun.sl.H9_1_1
    all_goals try delta bodyRun.sl.H9_1
    all_goals try delta bodyRun.sl.v38_1
    all_goals try delta bodyRun.sl.v38
    all_goals try delta bodyRun.sl.H13_1_2
    all_goals try delta bodyRun.sl.H13_1_1
    all_goals try delta bodyRun.sl.H13_1
    all_goals simp only [next, dxOf, stOf, sumOf, gainOf, dyhOf, daOf, dbOf, ld_a, ld_b, ld_c, ld_d, ld_row, st_a, st_c, st_all, st_row, cov_eq, View.writes_nil, if_pos, if_neg, hc1, hc2, hc3, not_false_eq_true, hf0, hf1, hf2, hf3, hf4, hf5, hf6, hf7, hf8, hf9, hf12, hf13]

end Cert.Proof.E
-- ==== Proof.E.Loop.lean ====
/-
  The whole program's run, and its frame.
-/
module

public import proofs.«01_k».proof.Proof.E.Run
public import Idealize.ShloMosaic.Lib.Claim

@[expose] public section

set_option maxRecDepth 16384

noncomputable section

namespace Cert.Proof.E

open Cert.Kernel5Ideal Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input blocks at point `t`. -/
def insAt (c : Dev nD) (t : Fin cfg0.N) : Ins F :=
  ⟨iblk m c 0 t, iblk m c 1 t, iblk m c 2 t, iblk m c 3 t, iblk m c 4 t, iblk m c 5 t, iblk m c 6 t, iblk m c 7 t⟩

/-- Before the first point: nothing that is read. -/
def blank : St F := ⟨k0_pay10, k0_pay9 k0_pay10, k0_pay8, k0_pay10⟩

/-- The carried values after point `n`. -/
def stAt (c : Dev nD) : (n : ℕ) → n < cfg0.N → St F
  | 0, h => next (grid0.coords ⟨0, h⟩) (insAt m c ⟨0, h⟩) blank
  | n + 1, h => next (grid0.coords ⟨n + 1, h⟩) (insAt m c ⟨n + 1, h⟩) (stAt c n (Nat.lt_of_succ_lt h))

/-- The carried values before point `n`. -/
def prevAt (c : Dev nD) : (n : ℕ) → n < cfg0.N → St F
  | 0, _ => blank
  | n + 1, h => stAt m c n (Nat.lt_of_succ_lt h)

theorem stAt_eq (c : Dev nD) (t : Fin cfg0.N) :
    stAt m c t.val t.isLt = next (grid0.coords t) (insAt m c t) (prevAt m c t.val t.isLt) := by
  obtain ⟨n, h⟩ := t
  cases n <;> rfl

theorem prevAt_pos (c : Dev nD) (t : Fin cfg0.N) (ht : t.val ≠ 0) :
    prevAt m c t.val t.isLt = stAt m c (t.val - 1) (by omega) := by
  obtain ⟨n, h⟩ := t
  cases n with
  | zero => exact absurd rfl ht
  | succ n => rfl

/-- Before position `n`: the running sum's buffer at its value once a point has run. -/
def PhiS (c : Dev nD) : (n : ℕ) → n ≤ cfg0.N → sProp 𝕄
  | 0, _ => Pipeline.ΦA spec0 c
  | n + 1, hn => iprop(owns (c : Thread nD τ) scM fullShare (stAt m c n hn).sum ∗ (∃ r, prngReg c r))

theorem PhiS_pos (c : Dev nD) (n : ℕ) (h : n ≤ cfg0.N) (hz : n ≠ 0) :
    PhiS m c n h = iprop(owns (c : Thread nD τ) scM fullShare (stAt m c (n - 1) (by omega)).sum ∗ (∃ r, prngReg c r)) := by
  cases n with
  | zero => exact absurd rfl hz
  | succ n => rfl

/-- The pipeline's data: each input keeps its block, each output holds what the body leaves in it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (stAt m c t.val t.isLt).dx
    | ⟨9, _⟩ => (stAt m c t.val t.isLt).dyh
    | ⟨10, _⟩ => k0_pay1 (daOf (insAt m c t) (stAt m c t.val t.isLt).dyh)
    | ⟨11, _⟩ => k0_pay2 (dbOf (insAt m c t) (stAt m c t.val t.isLt).dyh)
    | ⟨12, _⟩ => (stAt m c t.val t.isLt).st
  Φ t := PhiS m c t.val (Nat.le_of_lt_succ t.isLt)
  q _ := fullShare
  owed _ := 0

/-- The data's arrays are what the region finds. -/
theorem A_eq (c : Dev nD) (w : Fin cfg0.W) : (dats m 0 c).A w = V m c (Pipeline.arrRef spec0 w) := by
  dsimp only [dats]

/-! What the body leaves, window by window. -/

theorem after0_0 (c : Dev nD) (t : Fin cfg0.N) : (dats m 0 c).after 0 t = iblk m c 0 t := rfl
theorem after0_1 (c : Dev nD) (t : Fin cfg0.N) : (dats m 0 c).after 1 t = iblk m c 1 t := rfl
theorem after0_2 (c : Dev nD) (t : Fin cfg0.N) : (dats m 0 c).after 2 t = iblk m c 2 t := rfl
theorem after0_3 (c : Dev nD) (t : Fin cfg0.N) : (dats m 0 c).after 3 t = iblk m c 3 t := rfl
theorem after0_4 (c : Dev nD) (t : Fin cfg0.N) : (dats m 0 c).after 4 t = iblk m c 4 t := rfl
theorem after0_5 (c : Dev nD) (t : Fin cfg0.N) : (dats m 0 c).after 5 t = iblk m c 5 t := rfl
theorem after0_6 (c : Dev nD) (t : Fin cfg0.N) : (dats m 0 c).after 6 t = iblk m c 6 t := rfl
theorem after0_7 (c : Dev nD) (t : Fin cfg0.N) : (dats m 0 c).after 7 t = iblk m c 7 t := rfl
theorem after0_8 (c : Dev nD) (t : Fin cfg0.N) : (dats m 0 c).after 8 t = (stAt m c t.val t.isLt).dx := rfl
theorem after0_9 (c : Dev nD) (t : Fin cfg0.N) : (dats m 0 c).after 9 t = (stAt m c t.val t.isLt).dyh := rfl
theorem after0_10 (c : Dev nD) (t : Fin cfg0.N) : (dats m 0 c).after 10 t = k0_pay1 (daOf (insAt m c t) (stAt m c t.val t.isLt).dyh) := rfl
theorem after0_11 (c : Dev nD) (t : Fin cfg0.N) : (dats m 0 c).after 11 t = k0_pay2 (dbOf (insAt m c t) (stAt m c t.val t.isLt).dyh) := rfl
theorem after0_12 (c : Dev nD) (t : Fin cfg0.N) : (dats m 0 c).after 12 t = (stAt m c t.val t.isLt).st := rfl

/-! Each input's current buffer holds its block at every point. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## Idle points -/

theorem idle8 : ∀ t : Fin cfg0.N, ¬ t.val % 4 = 3 → cfg0.idle 8 (grid0.coords t) = true ∧ (cfg0.win 8).flush t = false := by decide +kernel
theorem live8 : ∀ t : Fin cfg0.N, t.val % 4 = 3 → cfg0.idle 8 (grid0.coords t) = false := by decide +kernel
theorem idle9 : ∀ t : Fin cfg0.N, ¬ t.val % 4 = 0 → cfg0.idle 9 (grid0.coords t) = true := by decide +kernel
theorem live9 : ∀ t : Fin cfg0.N, t.val % 4 = 0 → cfg0.idle 9 (grid0.coords t) = false := by decide +kernel
theorem flush9 : ∀ t : Fin cfg0.N, ¬ t.val % 4 = 3 → (cfg0.win 9).flush t = false := by decide +kernel
theorem wb9 : ∀ t : Fin cfg0.N, t.val % 4 = 3 → (cfg0.win 9).flush t = true := by decide +kernel
theorem idle12 : ∀ t : Fin cfg0.N, t.val ≠ 0 → ¬ t.val % 4 = 3 → cfg0.idle 12 (grid0.coords t) = true ∧ (cfg0.win 12).flush t = false := by decide +kernel
theorem live12 : ∀ t : Fin cfg0.N, t.val = 0 ∨ t.val % 4 = 3 → cfg0.idle 12 (grid0.coords t) = false := by decide +kernel

/-- Whether window 9's buffer holds nothing of the region's yet, position by position. -/
def fresh9 (n : ℕ) : Bool := n % 4 == 0
theorem fresh9_step : ∀ t : Fin cfg0.N,
    fresh9 (t.val + 1) = ((cfg0.win 9).flush t || (cfg0.idle 9 (cfg0.grid.coords t) && fresh9 t.val)) := by decide +kernel
theorem fresh9_eq (t : Fin cfg0.N) : cfg0.fresh 9 t.val = fresh9 t.val :=
  Pipeline.Cfg.fresh_tab cfg0 9 fresh9 rfl fresh9_step t.val (Nat.le_of_lt t.isLt)

/-- The same of window 12's. -/
def fresh12 (n : ℕ) : Bool := n % 64 == 0
theorem fresh12_step : ∀ t : Fin cfg0.N,
    fresh12 (t.val + 1) = ((cfg0.win 12).flush t || (cfg0.idle 12 (cfg0.grid.coords t) && fresh12 t.val)) := by decide +kernel
theorem fresh12_eq (t : Fin cfg0.N) : cfg0.fresh 12 t.val = fresh12 t.val :=
  Pipeline.Cfg.fresh_tab cfg0 12 fresh12 rfl fresh12_step t.val (Nat.le_of_lt t.isLt)

/-! ## What carries through -/

theorem dyh_keep (c : Dev nD) (t : Fin cfg0.N) (h : ¬ t.val % 4 = 0) :
    (stAt m c t.val t.isLt).dyh = (prevAt m c t.val t.isLt).dyh := by
  rw [stAt_eq]; exact if_neg (fun e => h ((start_iff t).mp e))

theorem st_keep (c : Dev nD) (t : Fin cfg0.N) (h0 : t.val ≠ 0) (h : ¬ t.val % 4 = 3) :
    (stAt m c t.val t.isLt).st = (prevAt m c t.val t.isLt).st := by
  have hN : t.val < 64 := lt_of_lt_of_eq t.isLt (show cfg0.N = 64 from N_0)
  rw [stAt_eq]
  exact (if_neg (fun e => h ((last_iff t).mp e))).trans (if_neg (fun e => by have := (first_iff t).mp e; omega))

/-- Before a row block's later points the output gradient's buffer holds what the point before left, -/
theorem before9 (c : Dev nD) (t : Fin cfg0.N) (h : ¬ t.val % 4 = 0) (d) :
    (dats m 0 c).before 9 t d = (prevAt m c t.val t.isLt).dyh := by
  rw [Dat.before_out_traj _ 9 rfl (fun _ _ => rfl) (fun t ht hi _ => by
      have h4 : ¬ t.val % 4 = 0 := fun e => by rw [live9 t e] at hi; exact absurd hi Bool.false_ne_true
      rw [after0_9, after0_9, dyh_keep m c t h4, prevAt_pos m c t ht]) t.val t rfl d,
    if_neg (by rw [fresh9_eq]; unfold fresh9; simpa using h), prevAt_pos m c t (by intro e; rw [e] at h; exact h rfl)]
  rfl

/-- and before every point but the first the gain rows' does. -/
theorem before12 (c : Dev nD) (t : Fin cfg0.N) (h : t.val ≠ 0) (d) :
    (dats m 0 c).before 12 t d = (prevAt m c t.val t.isLt).st := by
  have hN : t.val < 64 := lt_of_lt_of_eq t.isLt (show cfg0.N = 64 from N_0)
  rw [Dat.before_out_traj _ 12 rfl (fun _ _ => rfl) (fun t ht hi _ => by
      have h4 : ¬ t.val % 4 = 3 := fun e => by rw [live12 t (.inr e)] at hi; exact absurd hi Bool.false_ne_true
      rw [after0_12, after0_12, st_keep m c t ht h4, prevAt_pos m c t ht]) t.val t rfl d,
    if_neg (by rw [fresh12_eq]; unfold fresh12; simp only [beq_iff_eq]; omega), prevAt_pos m c t h]
  rfl

section Agree

variable (i : grid0.Coords) (x : Ins F) (s s' : St F)

theorem dyh_agree (h : ¬ k0_cond2 i = 1#1 → s.dyh = s'.dyh) : dyhOf i x s = dyhOf i x s' := by
  unfold dyhOf; split
  · rfl
  · exact h ‹_›

theorem sum_agree (h : ¬ k0_cond2 i = 1#1 → s.dyh = s'.dyh) (h' : ¬ k0_cond2 i = 1#1 → s.sum = s'.sum) : sumOf i x s = sumOf i x s' := by
  unfold sumOf; rw [dyh_agree i x s s' h]
  split
  · rfl
  · rw [h' ‹_›]

theorem st_agree (h : ¬ k0_cond2 i = 1#1 → s.dyh = s'.dyh) (h' : ¬ k0_cond2 i = 1#1 → s.sum = s'.sum) (h'' : ¬ k0_cond1 i = 1#1 → s.st = s'.st) :
    stOf i x s = stOf i x s' := by
  have e : gainOf i s = gainOf i s' := by
    unfold gainOf; split
    · rfl
    · exact h'' ‹_›
  unfold stOf; rw [sum_agree i x s s' h h', e]

theorem dx_agree (hl : k0_cond3 i = 1#1) (h : ¬ k0_cond2 i = 1#1 → s.dyh = s'.dyh) (h' : ¬ k0_cond2 i = 1#1 → s.sum = s'.sum) :
    dxOf i x s = dxOf i x s' := by
  unfold dxOf; rw [if_pos hl, if_pos hl, sum_agree i x s s' h h']

end Agree

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

/-- A buffer at what the data say, or, idle and not written back, as it was found, is what the obligation takes. -/
theorem leave (c : Dev nD) (w : Fin cfg0.W) (t : Fin cfg0.N) (v)
    (h : v = (dats m 0 c).after w t ∨ (cfg0.idle w (grid0.coords t) = true ∧ (cfg0.win w).flush t = false) ∧ ∃ d, v = (dats m 0 c).before w t d)
    (h' : ¬ (cfg0.idle w (grid0.coords t) = true ∧ (cfg0.win w).flush t = false) ∨ ∃ d, v = (dats m 0 c).before w t d) :
    owns (c : Thread nD τ) ((cfg0.win w).stage (cfg0.slots t w)) fullShare v ⊢ (dats m 0 c).leavesExact w t := by
  by_cases hi : cfg0.idle w (grid0.coords t) = true ∧ (cfg0.win w).flush t = false
  · rw [Dat.leavesExact_idle _ w t hi.1 hi.2]
    rcases h' with h' | ⟨d, rfl⟩
    · exact absurd hi h'
    · iintro H; iexists d; iexact H
  · rcases h with rfl | ⟨h, -⟩
    · have e : (dats m 0 c).leavesExact w t = owns (c : Thread nD τ) ((cfg0.win w).stage (cfg0.slots t w)) fullShare ((dats m 0 c).after w t) := by
        unfold Dat.leavesExact
        cases h1 : cfg0.idle w (cfg0.grid.coords t)
        · rfl
        · cases h2 : (cfg0.win w).flush t
          · exact absurd ⟨h1, h2⟩ hi
          · rfl
      rw [e]
    · exact absurd h hi

/-- Before any point the running sum's buffer holds some value, that of the point before if one has run. -/
theorem Phi_in (c : Dev nD) (t : Fin cfg0.N) :
    (dats m 0 c).Φ t.castSucc ⊢ iprop(∃ d, ⌜t.val ≠ 0 → d = (prevAt m c t.val t.isLt).sum⌝ ∗ owns (c : Thread nD τ) scM fullShare d ∗ (∃ r, prngReg c r)) := by
  rw [show (dats m 0 c).Φ t.castSucc = PhiS m c t.val (Nat.le_of_lt t.isLt) from rfl]
  by_cases hz : t.val = 0
  · obtain ⟨n, h⟩ := t
    obtain rfl : n = 0 := hz
    rw [show PhiS m c 0 (Nat.le_of_lt h) = Pipeline.ΦA spec0 c from rfl, PhiA0_eq]
    iintro ⟨⟨%d, H⟩, Hg⟩
    iexists d
    isplitr
    · ipureintro; exact fun e => absurd rfl e
    isplitl [H]; · iexact H
    iexact Hg
  · rw [PhiS_pos m c _ _ hz]
    iintro ⟨H, Hg⟩
    iexists _
    isplitr
    swap
    · isplitl [H]; · iexact H
      iexact Hg
    ipureintro; intro _; rw [prevAt_pos m c t hz]

set_option maxHeartbeats 4000000 in
/-- The body at any point. -/
theorem sound_body (c : Dev nD) (t : Fin cfg0.N) :
    bodyPre m c t ⊢ wp Idealize.ShloMosaic.frame (wpE (defs₀ (F := F)) Variants.none c none) Set.univ (bodyAt0 t) (fun _ => bodyPost m c t) := by
  have hN : t.val < 64 := lt_of_lt_of_eq t.isLt (show cfg0.N = 64 from N_0)
  have hc1 := first_iff t
  have hc2 := start_iff t
  have hc3 := last_iff t
  unfold bodyPre bodyPost bodyAt0
  simp only [before0_0, before0_1, before0_2, before0_3, before0_4, before0_5, before0_6, before0_7]
  rw [show (dats m 0 c).owesAt () t.succ = (dats m 0 c).owesAt () t.castSucc from rfl,
    show (dats m 0 c).Φ t.succ = iprop(owns (c : Thread nD τ) scM fullShare (stAt m c t.val t.isLt).sum ∗ (∃ r, prngReg c r)) from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave HP := (Phi_in m c t) $$ HΦ
  icases HP with ⟨%ds, %hds, HS, Hg⟩
  have ey : ¬ k0_cond2 (grid0.coords t) = 1#1 → (dats m 0 c).before 9 t d9 = (prevAt m c t.val t.isLt).dyh := fun h =>
    before9 m c t (fun e => h (hc2.mpr e)) d9
  have es : ¬ k0_cond2 (grid0.coords t) = 1#1 → ds = (prevAt m c t.val t.isLt).sum := fun h =>
    hds (fun e => h (hc2.mpr (by rw [e])))
  have eg : ¬ k0_cond1 (grid0.coords t) = 1#1 → (dats m 0 c).before 12 t d12 = (prevAt m c t.val t.isLt).st := fun h =>
    before12 m c t (fun e => h (hc1.mpr (by rw [e]))) d12
  let s : St F := ⟨(dats m 0 c).before 8 t d8, (dats m 0 c).before 9 t d9, (dats m 0 c).before 12 t d12, ds⟩
  have f9 : (next (grid0.coords t) (insAt m c t) s).dyh = (stAt m c t.val t.isLt).dyh := by
    rw [stAt_eq]; exact dyh_agree _ _ s _ ey
  have fs : (next (grid0.coords t) (insAt m c t) s).sum = (stAt m c t.val t.isLt).sum := by
    rw [stAt_eq]; exact sum_agree _ _ s _ ey es
  have f12 : (next (grid0.coords t) (insAt m c t) s).st = (stAt m c t.val t.isLt).st := by
    rw [stAt_eq]; exact st_agree _ _ s _ ey es eg
  iapply (bodyRun (grid0.coords t) (insAt m c t) s c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM (Memref.isWhole_whole _)
    (fun h => hc2.mpr (by have := hc1.mp h; omega)) (fun h h' => by have := hc2.mp h; have := hc3.mp h'; omega) Set.univ _)
  unfold heldIn heldSt
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8 H9 H12 HS]
  · isplitl [H8]; · iexact H8
    isplitl [H9]; · iexact H9
    isplitl [H12]; · iexact H12
    iexact HS
  isplitl [H10]; · iexists _; iexact H10
  isplitl [H11]; · iexists _; iexact H11
  iintro ⟨⟨H0, H1, H2, H3, H4, H5, H6, H7⟩, ⟨H8, H9, H12, HS⟩, H10, H11⟩
  isplitl [HS Hg]
  · isplitl [HS]; · rw [← fs]; iexact HS
    iexact Hg
  isplitl [Ho]; · iexact Ho
  isplitl [H0]; · iapply (leave m c 0 t _ (.inl rfl) (.inl (fun h => absurd h.1 Bool.false_ne_true))); iexact H0
  isplitl [H1]; · iapply (leave m c 1 t _ (.inl rfl) (.inl (fun h => absurd h.1 Bool.false_ne_true))); iexact H1
  isplitl [H2]; · iapply (leave m c 2 t _ (.inl rfl) (.inl (fun h => absurd h.1 Bool.false_ne_true))); iexact H2
  isplitl [H3]; · iapply (leave m c 3 t _ (.inl rfl) (.inl (fun h => absurd h.1 Bool.false_ne_true))); iexact H3
  isplitl [H4]; · iapply (leave m c 4 t _ (.inl rfl) (.inl (fun h => absurd h.1 Bool.false_ne_true))); iexact H4
  isplitl [H5]; · iapply (leave m c 5 t _ (.inl rfl) (.inl (fun h => absurd h.1 Bool.false_ne_true))); iexact H5
  isplitl [H6]; · iapply (leave m c 6 t _ (.inl rfl) (.inl (fun h => absurd h.1 Bool.false_ne_true))); iexact H6
  isplitl [H7]; · iapply (leave m c 7 t _ (.inl rfl) (.inl (fun h => absurd h.1 Bool.false_ne_true))); iexact H7
  isplitl [H8]
  · have o : (t.val % 4 = 3 ∧ (next (grid0.coords t) (insAt m c t) s).dx = (dats m 0 c).after 8 t)
        ∨ (¬ t.val % 4 = 3 ∧ (next (grid0.coords t) (insAt m c t) s).dx = (dats m 0 c).before 8 t d8) := by
      by_cases h : t.val % 4 = 3
      · refine .inl ⟨h, ?_⟩
        rw [after0_8, stAt_eq]; exact dx_agree _ _ s _ (hc3.mpr h) ey es
      · exact .inr ⟨h, if_neg (fun e => h (hc3.mp e))⟩
    iapply (leave m c 8 t _ (o.imp (fun o => o.2) (fun o => ⟨idle8 t o.1, _, o.2⟩))
      (o.imp (fun o h => by rw [live8 t o.1] at h; exact absurd h.1 Bool.false_ne_true) (fun o => ⟨_, o.2⟩)))
    iexact H8
  isplitl [H9]
  · have o : (t.val % 4 = 0) ∨ (¬ t.val % 4 = 0 ∧ (next (grid0.coords t) (insAt m c t) s).dyh = (dats m 0 c).before 9 t d9) := by
      by_cases h : t.val % 4 = 0
      · exact .inl h
      · exact .inr ⟨h, if_neg (fun e => h (hc2.mp e))⟩
    iapply (leave m c 9 t _ (.inl f9)
      (o.imp (fun o h => by rw [live9 t o] at h; exact absurd h.1 Bool.false_ne_true) (fun o => ⟨_, o.2⟩)))
    iexact H9
  isplitl [H10]
  · iapply (leave m c 10 t _ (.inl (congrArg (fun d => k0_pay1 (daOf (insAt m c t) d)) f9)) (.inl (fun h => absurd h.1 Bool.false_ne_true))); iexact H10
  isplitl [H11]
  · iapply (leave m c 11 t _ (.inl (congrArg (fun d => k0_pay2 (dbOf (insAt m c t) d)) f9)) (.inl (fun h => absurd h.1 Bool.false_ne_true))); iexact H11
  have o : (t.val = 0 ∨ t.val % 4 = 3) ∨ ((next (grid0.coords t) (insAt m c t) s).st = (dats m 0 c).before 12 t d12) := by
    by_cases h : t.val = 0 ∨ t.val % 4 = 3
    · exact .inl h
    · exact .inr ((if_neg (fun e => h (.inr (hc3.mp e)))).trans (if_neg (fun e => h (.inl (by have := hc1.mp e; omega)))))
  iapply (leave m c 12 t _ (.inl f12)
    (o.imp (fun o h => by rw [live12 t o] at h; exact absurd h.1 Bool.false_ne_true) (fun o => ⟨_, o⟩)))
  iexact H12

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- After the last point the running sum is forgotten. -/
theorem hout (c : Dev nD) : (dats m 0 c).Φ (Fin.last cfg0.N) ⊢ Pipeline.ΦA spec0 c := by
  rw [show (dats m 0 c).Φ (Fin.last cfg0.N) = PhiS m c cfg0.N le_rfl from rfl, PhiS_pos m c _ _ (by rw [show cfg0.N = 64 from N_0]; decide), PhiA0_eq]
  iintro ⟨H, Hg⟩
  isplitl [H]
  · iexists _; iexact H
  iexact Hg

/-! ## The run and the frame -/

set_option backward.isDefEq.respectTransparency.types false in
/-- The launch: every array ends at what its data say, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := hout m)

/-- The run: every array of the pipeline ends at what its data say, every other buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the program ends, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.Proof.E
-- ==== Proof.E.Bits.lean ====
/-
  The feed-forward block's kernel before idealization: the same text, and so the same frame.
-/
module

public import proofs.«01_k».proof.Proof.E.Loop
public import proofs.«01_k».proof.Proof.Gen.Kernel5
public import Idealize.ShloMosaic.PureOps.BitExact

@[expose] public section

set_option maxRecDepth 16384

noncomputable section

namespace Cert.Proof.E

open Idealize.ShloMosaic Idealize.SL.Sem

set_option maxHeartbeats 2000000 in
/-- Both texts' body tables are the same. -/
theorem body_eq : @Cert.Kernel5.defs₀ Bits _ _ = @Cert.Kernel5Ideal.defs₀ Bits _ _ := by
  unfold Cert.Kernel5.defs₀ Cert.Kernel5Ideal.defs₀
  refine congrArg Defs.onTc ?_
  funext l a
  match l, a with
  | 0, (t, b) => rfl

section
open Cert.Kernel5
/-- The kernel runs, and leaves its arguments and every counter as they were. -/
theorem frame_bits (m : (ℓ : Loc nD τ sig) → Buf (Elt Bits) ℓ) (ρ : Dev nD → PrngReg) :
    θ_run (defs (F := Bits)) (onTc (τ := τ) (main (F := Bits))) ⟨m, fun _ => 0, ρ⟩
      (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))
        ∧ r.2.sem = fun _ => 0) := by
  change θ_run (Pipeline.defs pcfgs defs₀) _ _ _
  rw [body_eq]
  exact E.frame (F := Bits) m ρ
end

end Cert.Proof.E
-- ==== Proof.Finite.lean ====
/-
  Finite arguments are arrays of reals.
-/
module

public import proofs.«01_k».proof.Pre_finite
public import Idealize.ShloMosaic.Lib.Pointwise

@[expose] public section

set_option maxRecDepth 16384

noncomputable section

namespace Cert.Proof

open Idealize.ShloMosaic
open Cert.Pre_finite

theorem finite_facts : Cert.Pre_finite.Facts := by
  constructor <;> decide

theorem coe_of_lt {x : EReal} (h : BitVec.ofBool (decide (FloatOps.absf (F := Ideal) (φ := .f32) x < Ideal.ofBits .f32 0x7F800000#32)) = 1#1) :
    x = ((x.toReal : ℝ) : EReal) := by
  have ht : Ideal.ofBits .f32 0x7F800000#32 = ⊤ := by simp [Ideal.ofBits, Ideal.ieee]
  rw [ht, Ideal.absf_def] at h
  have h : max x (-x) < ⊤ := by
    by_contra hn
    rw [decide_eq_false hn] at h
    exact absurd h (by decide)
  refine (EReal.coe_toReal ?_ ?_).symm
  · rintro rfl; simp at h
  · rintro rfl; simp at h

variable [Cert.Pre_finite.Facts] {a : FVec Ideal S8192x3072 .bf16} {b : FVec Ideal S8192x512 .f32}

theorem real0 (h : (fn (F := Ideal) a b).1 = fun _ => 1#1) (P : Fin 8192) (j : Fin 3072) : a (ix2 P j) = (((a (ix2 P j)).toReal : ℝ) : EReal) := by
  have := congrFun h (ix2 P j)
  pointwise [fn] at this
  exact coe_of_lt this

theorem real1 (h : (fn (F := Ideal) a b).2 = fun _ => 1#1) (P : Fin 8192) (j : Fin 512) : b (ix2 P j) = (((b (ix2 P j)).toReal : ℝ) : EReal) := by
  have := congrFun h (ix2 P j)
  pointwise [fn] at this
  exact coe_of_lt this

/-- By number. -/
theorem exists_real {n k : ℕ} (x : (⟨2, ![n, k]⟩ : Shape).Idx → EReal) (h : ∀ (P : Fin n) (j : Fin k), x (ix2 P j) = (((x (ix2 P j)).toReal : ℝ) : EReal)) :
    ∃ A : ℕ → ℕ → ℝ, ∀ (P : Fin n) (j : Fin k), x (ix2 P j) = ((A P.val j.val : ℝ) : EReal) :=
  ⟨fun P j => if hP : P < n then if hj : j < k then (x (ix2 ⟨P, hP⟩ ⟨j, hj⟩)).toReal else 0 else 0, fun P j => by
    simp only [P.isLt, j.isLt, dif_pos]; exact h P j⟩

end Cert.Proof
-- ==== Proof.E.Block.lean ====
/-
  What the feed-forward block's backward kernel computes: its blocks, read at an index.
-/
module

public import proofs.«01_k».proof.Proof.E.Loop
public import proofs.«01_k».proof.Proof.Gen.Reference5Ideal.Run
public import Idealize.ShloMosaic.Lib.Pipeline.ValueKit

@[expose] public section

set_option maxRecDepth 16384

noncomputable section

namespace Cert.Proof.E

open Idealize.ShloMosaic
open Idealize.ShloMosaic.TcCoe

section Kernel
open Cert.Kernel5Ideal Cert.Kernel5Ideal.Gen

/-- The cotangent of the activation at a gate `a`, a factor `u` and the product `d`. -/
def gateCot (a u d : EReal) : EReal :=
  d * u * (Ideal.logistic a * (Ideal.ofBits .f32 0x3F800000#32 + a * (Ideal.ofBits .f32 0x3F800000#32 - Ideal.logistic a)))
def upCot (a d : EReal) : EReal := d * (a * Ideal.logistic a)

theorem pay9_apply (y) (r : Fin 512) (e : Fin 1024) : k0_pay9 (F := Ideal) y (ix2 r e) = Ideal.ofBits .f32 0x3F000000#32 * y (ix2 r e) := by
  pointwise [k0_pay9]
theorem pay14_apply (a u d w) (r : Fin 512) (f : Fin 704) : k0_pay14 (F := Ideal) a u d w (ix2 r f)
    = gateCot (a (ix3 0 r f)) (u (ix3 0 r f)) (∑ e : Fin 1024, d (ix2 r e) * w (ix3 0 f e)) := by
  pointwise [k0_pay14, k0_pay13, k0_pay12, k0_pay11, gateCot]
theorem pay15_apply (a d w) (r : Fin 512) (f : Fin 704) : k0_pay15 (F := Ideal) a d w (ix2 r f)
    = upCot (a (ix3 0 r f)) (∑ e : Fin 1024, d (ix2 r e) * w (ix3 0 f e)) := by
  pointwise [k0_pay15, k0_pay13, k0_pay12, k0_pay11, upCot]
theorem pay1_apply (v) (r : Fin 512) (f : Fin 704) : k0_pay1 (F := Ideal) v (ix3 0 r f) = v (ix2 r f) := by
  pointwise [k0_pay1]
theorem pay2_apply (v) (r : Fin 512) (f : Fin 704) : k0_pay2 (F := Ideal) v (ix3 0 r f) = v (ix2 r f) := by
  pointwise [k0_pay2]
theorem pay10_apply (i) : k0_pay10 (F := Ideal) i = (0 : EReal) := by pointwise [k0_pay10]
theorem pay8_apply (i) : k0_pay8 (F := Ideal) i = (0 : EReal) := by pointwise [k0_pay8]
theorem pay3_apply (a b s wg wu) (r : Fin 512) (e : Fin 1024) : k0_pay3 (F := Ideal) a b s wg wu (ix2 r e)
    = s (ix2 r e) + (∑ f : Fin 704, a (ix2 r f) * wg (ix3 0 f e) + ∑ f : Fin 704, b (ix2 r f) * wu (ix3 0 f e)) := by
  pointwise [k0_pay3]

/-- The reciprocal of a row's root mean square. -/
def inv (row : Fin 1024 → EReal) : EReal :=
  Ideal.rsqrt (Ideal.div (∑ k, row k * row k) (Ideal.ofBits .f32 0x44800000#32) + Ideal.ofBits .f32 0x358637BD#32)

theorem pay6_apply (x s g y) (r : Fin 512) (e : Fin 1024) : k0_pay6 (F := Ideal) x s g y (ix2 r e)
    = y (ix2 r e) + inv (fun k => x (ix2 r k)) * (s (ix2 r e) * g (ix2 0 e) - x (ix2 r e) * inv (fun k => x (ix2 r k)) *
        Ideal.div (∑ k, s (ix2 r k) * g (ix2 0 k) * (x (ix2 r k) * inv (fun k => x (ix2 r k)))) (Ideal.ofBits .f32 0x44800000#32)) := by
  pointwise [k0_pay6, k0_pay5, k0_pay4, inv]
theorem pay7_apply (x s g) (e : Fin 1024) : k0_pay7 (F := Ideal) x s g (ix2 0 e)
    = g (ix2 0 e) + ∑ r : Fin 512, s (ix2 r e) * (x (ix2 r e) * inv (fun k => x (ix2 r k))) := by
  pointwise [k0_pay7, k0_pay5, k0_pay4, inv]

theorem idx : ∀ t : Fin cfg0.N, win0_0.index t = ![t.val / 4, 0] ∧ win0_1.index t = ![0, 0] ∧ win0_2.index t = ![t.val / 4, 0]
    ∧ win0_3.index t = ![t.val % 4, t.val / 4, 0] ∧ win0_4.index t = ![t.val % 4, t.val / 4, 0] ∧ win0_5.index t = ![t.val % 4, 0, 0]
    ∧ win0_6.index t = ![t.val % 4, 0, 0] ∧ win0_7.index t = ![t.val % 4, 0, 0] ∧ win0_8.index t = ![t.val / 4, 0] ∧ win0_9.index t = ![t.val / 4, 0]
    ∧ win0_10.index t = ![t.val % 4, t.val / 4, 0] ∧ win0_11.index t = ![t.val % 4, t.val / 4, 0] ∧ win0_12.index t = ![0, 0] :=
  (by decide +kernel : ∀ t : Fin grid0.N, _)

variable (m : (ℓ : Loc nD τ sig) → Buf (Elt Ideal) ℓ) (c : Dev nD)

/-- The arguments: the block's input, the norm's gain, the output's cotangent, the two inner products and the three weights. -/
def arg0 : FVec Ideal Cert.Reference5Ideal.S8192x1024 .f32 := m ((c.tc : Thread nD τ).loc main_arg0)
def arg1 : FVec Ideal Cert.Reference5Ideal.S1x1024 .f32 := m ((c.tc : Thread nD τ).loc main_arg1)
def arg2 : FVec Ideal Cert.Reference5Ideal.S8192x1024 .f32 := m ((c.tc : Thread nD τ).loc main_arg2)
def arg3 : FVec Ideal Cert.Reference5Ideal.S4x8192x704 .bf16 := m ((c.tc : Thread nD τ).loc main_arg3)
def arg4 : FVec Ideal Cert.Reference5Ideal.S4x8192x704 .bf16 := m ((c.tc : Thread nD τ).loc main_arg4)
def arg5 : FVec Ideal Cert.Reference5Ideal.S4x704x1024 .bf16 := m ((c.tc : Thread nD τ).loc main_arg5)
def arg6 : FVec Ideal Cert.Reference5Ideal.S4x704x1024 .bf16 := m ((c.tc : Thread nD τ).loc main_arg6)
def arg7 : FVec Ideal Cert.Reference5Ideal.S4x704x1024 .bf16 := m ((c.tc : Thread nD τ).loc main_arg7)

variable (t : Fin cfg0.N) (n : Fin 4) (r : Fin 512) (f : Fin 704) (e : Fin 1024) (l : Fin 8192)
  (hl : l.val = t.val / 4 * 512 + r.val) (hn : n.val = t.val % 4)

include hl
theorem block0 : iblk m c 0 t (ix2 r e) = arg0 m c (ix2 l e) := by
  blk_point [iblk, V, arg0, idx t]
theorem block2 : iblk m c 2 t (ix2 r e) = arg2 m c (ix2 l e) := by
  blk_point [iblk, V, arg2, idx t]
include hn
theorem block3 : iblk m c 3 t (ix3 0 r f) = arg3 m c (ix3 n l f) := by
  blk_point [iblk, V, arg3, idx t]
theorem block4 : iblk m c 4 t (ix3 0 r f) = arg4 m c (ix3 n l f) := by
  blk_point [iblk, V, arg4, idx t]
omit hl
theorem block5 : iblk m c 5 t (ix3 0 f e) = arg5 m c (ix3 n f e) := by
  blk_point [iblk, V, arg5, idx t]
theorem block6 : iblk m c 6 t (ix3 0 f e) = arg6 m c (ix3 n f e) := by
  blk_point [iblk, V, arg6, idx t]
theorem block7 : iblk m c 7 t (ix3 0 f e) = arg7 m c (ix3 n f e) := by
  blk_point [iblk, V, arg7, idx t]
omit hn
theorem block1 : iblk m c 1 t (ix2 0 e) = arg1 m c (ix2 0 e) := by
  blk_point [iblk, V, arg1, idx t]

end Kernel

end Cert.Proof.E
-- ==== Proof.E.Host.lean ====
/-
  The feed-forward block's backward pass in plain maths, read at an index.
-/
module

public import proofs.«01_k».proof.Proof.E.Block
public import proofs.«01_k».proof.Proof.Gen.Reference5Ideal.Run
public import Idealize.ShloMosaic.Lib.Pipeline.ValueKit

@[expose] public section

set_option maxRecDepth 16384

noncomputable section

namespace Cert.Proof.E

open Idealize.ShloMosaic
open Idealize.ShloMosaic.TcCoe

section Reference
open Cert.Reference5Ideal Cert.Reference5Ideal.Gen

/-- The number one, in the hidden width's shape. -/
def ones : FVec Ideal S4x8192x704 .f32 := broadcastInDim S4x8192x704 ![] bcast_S_S4x8192x704 (constant S_ .f32 0x3F800000#32)
/-- The halved cotangent. -/
def halved (y : FVec Ideal S8192x1024 .f32) : FVec Ideal S8192x1024 .bf16 :=
  truncf .bf16 (mulf (broadcastInDim S8192x1024 ![] bcast_S_S8192x1024 (constant S_ .f32 0x3F000000#32)) y) bitsLt_bf16_f32
/-- The activation's cotangent. -/
def actCot (y : FVec Ideal S8192x1024 .f32) (w : FVec Ideal S4x704x1024 .bf16) : FVec Ideal S4x8192x704 .f32 :=
  transpose S4x8192x704 [1, 0, 2] (Host.dotGeneral dot_S8192x1024_S4x704x1024_S8192x4x704_1_2_0_01_n_n none
    (extf .f32 (halved y) bitsLt_bf16_f32) (extf .f32 w bitsLt_bf16_f32)) transposes_S8192x4x704_S4x8192x704_1_0_2
/-- The gate's logistic function. -/
def gateSig (a : FVec Ideal S4x8192x704 .bf16) : FVec Ideal S4x8192x704 .f32 :=
  Host.divf ones (addf ones (Host.exp (Host.negf (extf .f32 a bitsLt_bf16_f32))))
/-- The gate's cotangent. -/
def gateR (y : FVec Ideal S8192x1024 .f32) (w : FVec Ideal S4x704x1024 .bf16) (a u : FVec Ideal S4x8192x704 .bf16) : FVec Ideal S4x8192x704 .bf16 :=
  truncf .bf16 (addf (mulf (mulf (actCot y w) (extf .f32 u bitsLt_bf16_f32)) (gateSig a))
    (mulf (mulf (extf .f32 a bitsLt_bf16_f32) (mulf (actCot y w) (extf .f32 u bitsLt_bf16_f32))) (mulf (gateSig a) (subf ones (gateSig a))))) bitsLt_bf16_f32
/-- The other factor's. -/
def upR (y : FVec Ideal S8192x1024 .f32) (w : FVec Ideal S4x704x1024 .bf16) (a : FVec Ideal S4x8192x704 .bf16) : FVec Ideal S4x8192x704 .bf16 :=
  truncf .bf16 (mulf (mulf (extf .f32 a bitsLt_bf16_f32) (gateSig a)) (actCot y w)) bitsLt_bf16_f32
/-- The normed input's. -/
def normedCot (da db : FVec Ideal S4x8192x704 .bf16) (wg wu : FVec Ideal S4x704x1024 .bf16) : FVec Ideal S8192x1024 .f32 :=
  addf (Host.dotGeneral dot_S4x704x8192_S4x704x1024_S8192x1024_01_01_2_2_n_n none
      (transpose S4x704x8192 [0, 2, 1] (extf .f32 db bitsLt_bf16_f32) transposes_S4x8192x704_S4x704x8192_0_2_1) (extf .f32 wu bitsLt_bf16_f32))
    (Host.dotGeneral dot_S4x704x8192_S4x704x1024_S8192x1024_01_01_2_2_n_n none
      (transpose S4x704x8192 [0, 2, 1] (extf .f32 da bitsLt_bf16_f32) transposes_S4x8192x704_S4x704x8192_0_2_1) (extf .f32 wg bitsLt_bf16_f32))
/-- The rows' mean squares. -/
def meanSq (x : FVec Ideal S8192x1024 .f32) : FVec Ideal S8192x1 .f32 :=
  addf (Host.divf (broadcastInDim S8192x1 ![0] bcast_S8192_S8192x1_0 (Host.reduceAdd (mulf x x) (constant S_ .f32 0x00000000#32) reducesTo_S8192x1024_S8192_d1 h_S_))
      (broadcastInDim S8192x1 ![] bcast_S_S8192x1 (constant S_ .f32 0x44800000#32)))
    (broadcastInDim S8192x1 ![] bcast_S_S8192x1 (constant S_ .f32 0x358637BD#32))
/-- The rows' reciprocals, along the rows. -/
def invs (x : FVec Ideal S8192x1024 .f32) : FVec Ideal S8192x1024 .f32 :=
  broadcastInDim S8192x1024 ![0, 1] bcast_S8192x1_S8192x1024_0_1 (Host.rsqrt (meanSq x))
/-- The gain's gradient, with seven rows of zeros. -/
def gainR (x d : FVec Ideal S8192x1024 .f32) : FVec Ideal S8x1024 .f32 :=
  concatenate S8x1024 0 [⟨S1x1024, (shapeCast _ (Host.reduceAdd (mulf (mulf x (invs x)) d) (constant S_ .f32 0x00000000#32) reducesTo_S8192x1024_S1024_d0 h_S_) shapeCasts_S1024_S1x1024)⟩,
    ⟨S7x1024, (broadcastInDim S7x1024 ![] bcast_S_S7x1024 (constant S_ .f32 0x00000000#32))⟩] concatenates_S1x1024_S7x1024_S8x1024_d0
/-- The cotangent times the gain. -/
def gained (d : FVec Ideal S8192x1024 .f32) (g : FVec Ideal S1x1024 .f32) : FVec Ideal S8192x1024 .f32 :=
  mulf d (broadcastInDim S8192x1024 ![0, 1] bcast_S1x1024_S8192x1024_0_1 g)
/-- Half of what a row's mean square passes back. -/
def back (x d : FVec Ideal S8192x1024 .f32) (g : FVec Ideal S1x1024 .f32) : FVec Ideal S8192x1024 .f32 :=
  broadcastInDim S8192x1024 ![0] bcast_S8192_S8192x1024_0 (Host.reduceAdd (Host.divf
    (mulf (shapeCast _ (Host.reduceAdd (mulf x (gained d g)) (constant S_ .f32 0x00000000#32) reducesTo_S8192x1024_S8192_d1 h_S_) shapeCasts_S8192_S8192x1)
      (mulf (broadcastInDim S8192x1 ![] bcast_S_S8192x1 (constant S_ .f32 0xBF000000#32)) (Host.divf (Host.rsqrt (meanSq x)) (meanSq x))))
    (broadcastInDim S8192x1 ![] bcast_S_S8192x1 (constant S_ .f32 0x44800000#32))) (constant S_ .f32 0x00000000#32) reducesTo_S8192x1_S8192_d1 h_S_)
/-- The input's gradient. -/
def inputR (x y d : FVec Ideal S8192x1024 .f32) (g : FVec Ideal S1x1024 .f32) : FVec Ideal S8192x1024 .f32 :=
  addf y (addf (addf (mulf (gained d g) (invs x)) (mulf x (back x d g))) (mulf (back x d g) x))

variable (l : Fin 8192) (n : Fin 4) (f : Fin 704) (e : Fin 1024)

theorem halved_apply (y) : halved y (ix2 l e) = Ideal.ofBits .f32 0x3F000000#32 * y (ix2 l e) := by pointwise [halved]
theorem actCot_apply (y w) : actCot y w (ix3 n l f) = ∑ e : Fin 1024, halved y (ix2 l e) * w (ix3 n f e) := by pointwise [actCot]
theorem gateR_apply (y w a u) : gateR y w a u (ix3 n l f) = actCot y w (ix3 n l f) * u (ix3 n l f) * gateSig a (ix3 n l f)
    + a (ix3 n l f) * (actCot y w (ix3 n l f) * u (ix3 n l f)) * (gateSig a (ix3 n l f) * (Ideal.ofBits .f32 0x3F800000#32 - gateSig a (ix3 n l f))) := by
  pointwise [gateR, ones]
theorem gateSig_apply (a) : gateSig a (ix3 n l f) = Ideal.logistic (a (ix3 n l f)) := by
  pointwise [gateSig, ones, Ideal.logistic]
theorem upR_apply (y w a) : upR y w a (ix3 n l f) = a (ix3 n l f) * gateSig a (ix3 n l f) * actCot y w (ix3 n l f) := by
  pointwise [upR]
theorem normedCot_apply (da db wg wu) : normedCot da db wg wu (ix2 l e)
    = (∑ n : Fin 4, ∑ f : Fin 704, db (ix3 n l f) * wu (ix3 n f e)) + ∑ n : Fin 4, ∑ f : Fin 704, da (ix3 n l f) * wg (ix3 n f e) := by
  pointwise [normedCot]
theorem invs_apply (x) : invs x (ix2 l e) = inv (fun k => x (ix2 l k)) := by
  pointwise [invs, meanSq, inv]
theorem gainR_apply (x d) : gainR x d (ix2 0 e) = ∑ l : Fin 8192, x (ix2 l e) * inv (fun k => x (ix2 l k)) * d (ix2 l e) := by
  pointwise [gainR, invs, meanSq, inv]
theorem gainR_rest (x d) (k : Fin 8) (hk : k ≠ 0) : gainR x d (ix2 k e) = 0 := by
  have : k.val ≠ 0 := fun h => hk (Fin.ext h)
  pointwise [gainR]
  exact dif_neg (by omega)
theorem gained_apply (d g) : gained d g (ix2 l e) = d (ix2 l e) * g (ix2 0 e) := by pointwise [gained]
theorem back_apply (x d g) : back x d g (ix2 l e) = Ideal.div ((∑ k, x (ix2 l k) * gained d g (ix2 l k)) * (Ideal.ofBits .f32 0xBF000000#32 *
    Ideal.div (inv fun k => x (ix2 l k)) (Ideal.div (∑ k, x (ix2 l k) * x (ix2 l k)) (Ideal.ofBits .f32 0x44800000#32) + Ideal.ofBits .f32 0x358637BD#32)))
      (Ideal.ofBits .f32 0x44800000#32) := by
  pointwise [back, meanSq, inv]
  exact Fin.sum_univ_one _
theorem inputR_apply (x y d g) : inputR x y d g (ix2 l e) = y (ix2 l e) + (gained d g (ix2 l e) * invs x (ix2 l e)
    + x (ix2 l e) * back x d g (ix2 l e) + back x d g (ix2 l e) * x (ix2 l e)) := by pointwise [inputR]

end Reference

end Cert.Proof.E
-- ==== Proof.E.Scalar.lean ====
/-
  The feed-forward block's backward pass on real numbers: the activation's derivative and the norm's, each in both its forms.
-/
module

public import proofs.«01_k».proof.Proof.E.Host

@[expose] public section

set_option maxRecDepth 16384

noncomputable section

namespace Cert.Proof.E

open Idealize.ShloMosaic

/-- An extended real that is a real. -/
def IsR (x : EReal) : Prop := ∃ v : ℝ, x = (v : EReal)

theorem IsR.mul {x y} (hx : IsR x) (hy : IsR y) : IsR (x * y) := by
  obtain ⟨a, rfl⟩ := hx
  obtain ⟨b, rfl⟩ := hy
  exact ⟨a * b, (EReal.coe_mul a b).symm⟩

theorem IsR.add {x y} (hx : IsR x) (hy : IsR y) : IsR (x + y) := by
  obtain ⟨a, rfl⟩ := hx
  obtain ⟨b, rfl⟩ := hy
  exact ⟨a + b, (EReal.coe_add a b).symm⟩

theorem coe_sum {ι : Type} (s : Finset ι) (x : ι → ℝ) : ((∑ k ∈ s, x k : ℝ) : EReal) = ∑ k ∈ s, (x k : EReal) := by
  classical
  induction s using Finset.induction_on with
  | empty => simp
  | insert a s ha ih => rw [Finset.sum_insert ha, Finset.sum_insert ha, EReal.coe_add, ih]

theorem IsR.sum {ι : Type} {s : Finset ι} {x : ι → EReal} (h : ∀ k, IsR (x k)) : IsR (∑ k ∈ s, x k) := by
  choose v hv using h
  exact ⟨∑ k ∈ s, v k, by rw [coe_sum]; exact Finset.sum_congr rfl fun k _ => hv k⟩

theorem one_eq : Ideal.ofBits .f32 0x3F800000#32 = ((1 : ℝ) : EReal) := by
  simp [Ideal.ofBits, Ideal.ieee]
  rw [← EReal.coe_mul]
  norm_num
theorem half_eq : Ideal.ofBits .f32 0x3F000000#32 = ((1 / 2 : ℝ) : EReal) := by
  simp [Ideal.ofBits, Ideal.ieee]
  rw [← EReal.coe_mul]
  norm_num
theorem minusHalf_eq : Ideal.ofBits .f32 0xBF000000#32 = ((-(1 / 2) : ℝ) : EReal) := by
  simp [Ideal.ofBits, Ideal.ieee]
  rw [← EReal.coe_mul]
  norm_num
theorem width_eq : Ideal.ofBits .f32 0x44800000#32 = ((1024 : ℝ) : EReal) := by
  simp [Ideal.ofBits, Ideal.ieee]
  rw [← EReal.coe_mul]
  norm_num
theorem eps_pos : ∃ v : ℝ, 0 < v ∧ Ideal.ofBits .f32 0x358637BD#32 = (v : EReal) := by
  simp [Ideal.ofBits, Ideal.ieee]
  exact ⟨8796093 * (2 ^ 43)⁻¹, by positivity, (EReal.coe_mul _ _).symm⟩

theorem IsR.logistic {a} (ha : IsR a) : IsR (Ideal.logistic a) := by
  obtain ⟨a, rfl⟩ := ha
  exact ⟨_, Ideal.logistic_coe a⟩

/-- The derivative of the gate's product with its logistic function, factored and expanded. -/
theorem gateCot_eq {a u d : EReal} (ha : IsR a) (hu : IsR u) (hd : IsR d) : gateCot a u d
    = d * u * Ideal.logistic a + a * (d * u) * (Ideal.logistic a * (Ideal.ofBits .f32 0x3F800000#32 - Ideal.logistic a)) := by
  obtain ⟨s, hs⟩ := ha.logistic
  obtain ⟨a, rfl⟩ := ha
  obtain ⟨u, rfl⟩ := hu
  obtain ⟨d, rfl⟩ := hd
  rw [gateCot, hs, one_eq]
  simp only [← EReal.coe_mul, ← EReal.coe_add, ← EReal.coe_sub]
  exact congrArg _ (by ring)

theorem gateCot_real {a u d : EReal} (ha : IsR a) (hu : IsR u) (hd : IsR d) : IsR (gateCot a u d) := by
  obtain ⟨s, hs⟩ := ha.logistic
  obtain ⟨a, rfl⟩ := ha
  obtain ⟨u, rfl⟩ := hu
  obtain ⟨d, rfl⟩ := hd
  rw [gateCot, hs, one_eq]
  simp only [← EReal.coe_mul, ← EReal.coe_add, ← EReal.coe_sub]
  exact ⟨_, rfl⟩

theorem upCot_real {a d : EReal} (ha : IsR a) (hd : IsR d) : IsR (upCot a d) := hd.mul (ha.mul ha.logistic)

theorem meanSq_pos (X : Fin 1024 → ℝ) : ∃ v : ℝ, 0 < v ∧ Ideal.div (∑ k, (X k : EReal) * (X k : EReal)) (Ideal.ofBits .f32 0x44800000#32)
    + Ideal.ofBits .f32 0x358637BD#32 = (v : EReal) := by
  obtain ⟨p, hp, he⟩ := eps_pos
  refine ⟨(∑ k, X k * X k) * (1 / 1024) + p, add_pos_of_nonneg_of_pos (mul_nonneg (Finset.sum_nonneg fun k _ => mul_self_nonneg _) (by norm_num)) hp, ?_⟩
  rw [he, width_eq, Ideal.div_coe (by norm_num), EReal.coe_add, EReal.coe_mul, coe_sum]
  simp only [EReal.coe_mul]

/-- What a norm passes back to its input, by the normed row and by the input's row. -/
theorem normBack_eq (x d : Fin 1024 → EReal) (hx : ∀ k, IsR (x k)) (hd : ∀ k, IsR (d k)) (e : Fin 1024) :
    inv x * (d e - x e * inv x * Ideal.div (∑ k, d k * (x k * inv x)) (Ideal.ofBits .f32 0x44800000#32))
    = d e * inv x + x e * Ideal.div ((∑ k, x k * d k) * (Ideal.ofBits .f32 0xBF000000#32 *
        Ideal.div (inv x) (Ideal.div (∑ k, x k * x k) (Ideal.ofBits .f32 0x44800000#32) + Ideal.ofBits .f32 0x358637BD#32))) (Ideal.ofBits .f32 0x44800000#32)
      + Ideal.div ((∑ k, x k * d k) * (Ideal.ofBits .f32 0xBF000000#32 *
        Ideal.div (inv x) (Ideal.div (∑ k, x k * x k) (Ideal.ofBits .f32 0x44800000#32) + Ideal.ofBits .f32 0x358637BD#32))) (Ideal.ofBits .f32 0x44800000#32) * x e := by
  choose X hX using hx
  choose D hD using hd
  obtain rfl : x = fun k => (X k : EReal) := funext hX
  obtain rfl : d = fun k => (D k : EReal) := funext hD
  obtain ⟨v, hv, hm⟩ := meanSq_pos X
  have hi : inv (fun k => (X k : EReal)) = (((Real.sqrt v)⁻¹ : ℝ) : EReal) := by
    rw [inv, hm, Ideal.rsqrt_coe, if_neg (not_lt.2 hv.le), if_neg hv.ne']
  have hs : 1 / v = (Real.sqrt v)⁻¹ * (Real.sqrt v)⁻¹ := by
    rw [← mul_inv, Real.mul_self_sqrt hv.le, one_div]
  rw [hi, hm, minusHalf_eq, width_eq]
  simp only [Ideal.div_coe hv.ne', Ideal.div_coe (show (1024 : ℝ) ≠ 0 by norm_num), ← EReal.coe_mul, ← coe_sum, ← EReal.coe_add, ← EReal.coe_sub]
  refine congrArg _ ?_
  have h1 : ∑ k, D k * (X k * (Real.sqrt v)⁻¹) = (∑ k, X k * D k) * (Real.sqrt v)⁻¹ := by
    rw [Finset.sum_mul]
    exact Finset.sum_congr rfl fun k _ => by ring
  rw [h1, hs]
  ring

end Cert.Proof.E
-- ==== Proof.E.Carry.lean ====
/-
  What the feed-forward block's backward kernel carries from point to point, by the points' blocks.
-/
module

public import proofs.«01_k».proof.Proof.E.Scalar
public import proofs.«01_k».proof.Proof.Gen.Reference5Ideal.Run
public import Idealize.ShloMosaic.Lib.Pipeline.ValueKit

@[expose] public section

set_option maxRecDepth 16384

noncomputable section

namespace Cert.Proof.E

open Idealize.ShloMosaic
open Idealize.ShloMosaic.TcCoe

section
open Cert.Kernel5Ideal Cert.Kernel5Ideal.Gen

variable (m : (ℓ : Loc nD τ sig) → Buf (Elt Ideal) ℓ) (c : Dev nD)

/-- Every element of the arguments is a real. -/
structure Reals : Prop where
  h0 : ∀ i, IsR (arg0 m c i)
  h1 : ∀ i, IsR (arg1 m c i)
  h2 : ∀ i, IsR (arg2 m c i)
  h3 : ∀ i, IsR (arg3 m c i)
  h4 : ∀ i, IsR (arg4 m c i)
  h5 : ∀ i, IsR (arg5 m c i)
  h6 : ∀ i, IsR (arg6 m c i)
  h7 : ∀ i, IsR (arg7 m c i)

/-- The results in plain maths: the cotangents of the two factors, of the normed input, and the gradients. -/
abbrev gateV := gateR (arg2 m c) (arg7 m c) (arg3 m c) (arg4 m c)
abbrev upV := upR (arg2 m c) (arg7 m c) (arg3 m c)
abbrev normV := normedCot (gateV m c) (upV m c) (arg5 m c) (arg6 m c)

variable {m c}

theorem halved_real (h : Reals m c) (l : Fin 8192) (e : Fin 1024) : IsR (halved (arg2 m c) (ix2 l e)) := by
  rw [halved_apply, half_eq]
  exact IsR.mul ⟨_, rfl⟩ (h.h2 _)

theorem actCot_real (h : Reals m c) (n : Fin 4) (l : Fin 8192) (f : Fin 704) : IsR (actCot (arg2 m c) (arg7 m c) (ix3 n l f)) := by
  rw [actCot_apply]
  exact IsR.sum fun e => (halved_real h l e).mul (h.h7 _)

theorem gateV_eq (h : Reals m c) (n : Fin 4) (l : Fin 8192) (f : Fin 704) : gateV m c (ix3 n l f)
    = gateCot (arg3 m c (ix3 n l f)) (arg4 m c (ix3 n l f)) (actCot (arg2 m c) (arg7 m c) (ix3 n l f)) := by
  rw [gateCot_eq (h.h3 _) (h.h4 _) (actCot_real h n l f), gateV, gateR_apply, gateSig_apply]

theorem upV_eq (n : Fin 4) (l : Fin 8192) (f : Fin 704) : upV m c (ix3 n l f)
    = upCot (arg3 m c (ix3 n l f)) (actCot (arg2 m c) (arg7 m c) (ix3 n l f)) := by
  rw [upV, upR_apply, gateSig_apply, upCot, mul_comm]

theorem normV_real (h : Reals m c) (l : Fin 8192) (e : Fin 1024) : IsR (normV m c (ix2 l e)) := by
  rw [normV, normedCot_apply]
  refine IsR.add (IsR.sum fun n => IsR.sum fun f => IsR.mul ?_ (h.h6 _)) (IsR.sum fun n => IsR.sum fun f => IsR.mul ?_ (h.h5 _))
  · rw [upV_eq]
    exact upCot_real (h.h3 _) (actCot_real h n l f)
  · rw [gateV_eq h]
    exact gateCot_real (h.h3 _) (h.h4 _) (actCot_real h n l f)

variable (m c)

/-- At every point the block of the halved cotangent is its rows'. -/
theorem dyh_at (r : Fin 512) (e : Fin 1024) (l : Fin 8192) (n : ℕ) (hn : n < cfg0.N) (hl : l.val = n / 4 * 512 + r.val) :
    (stAt m c n hn).dyh (ix2 r e) = halved (arg2 m c) (ix2 l e) := by
  induction n with
  | zero =>
    rw [stAt_eq m c ⟨0, hn⟩]
    show dyhOf _ _ _ (ix2 r e) = _
    rw [dyhOf, if_pos ((start_iff ⟨0, hn⟩).2 rfl), pay9_apply, halved_apply]
    exact congrArg _ (block2 m c ⟨0, hn⟩ r e l hl)
  | succ n ih =>
    rw [stAt_eq m c ⟨n + 1, hn⟩]
    show dyhOf _ _ _ (ix2 r e) = _
    rw [dyhOf]
    by_cases hs : (n + 1) % 4 = 0
    · rw [if_pos ((start_iff ⟨n + 1, hn⟩).2 hs), pay9_apply, halved_apply]
      exact congrArg _ (block2 m c ⟨n + 1, hn⟩ r e l hl)
    · rw [if_neg fun h => hs ((start_iff ⟨n + 1, hn⟩).1 h)]
      exact ih (Nat.lt_of_succ_lt hn) (by omega)

/-- What a block of rows adds to the gain's gradient. -/
def rows (e : Fin 1024) (k : ℕ) : EReal :=
  if hk : k < 16 then ∑ r : Fin 512, normV m c (ix2 ⟨k * 512 + r.val, by omega⟩ e) * (arg0 m c (ix2 ⟨k * 512 + r.val, by omega⟩ e)
    * inv (fun j => arg0 m c (ix2 ⟨k * 512 + r.val, by omega⟩ j))) else 0

variable (t : Fin cfg0.N) (s : Fin 4) (r : Fin 512) (l : Fin 8192) (f : Fin 704)
  (hl : l.val = t.val / 4 * 512 + r.val) (hn : s.val = t.val % 4)

include hl hn

theorem act_at : ∑ e : Fin 1024, (stAt m c t.val t.isLt).dyh (ix2 r e) * iblk m c 7 t (ix3 0 f e) = actCot (arg2 m c) (arg7 m c) (ix3 s l f) := by
  rw [actCot_apply]
  exact Finset.sum_congr rfl fun e _ => congrArg₂ (· * ·) (dyh_at m c r e l t.val t.isLt hl) (block7 m c t s f e hn)

theorem gate_at (h : Reals m c) : daOf (insAt m c t) (stAt m c t.val t.isLt).dyh (ix2 r f) = gateV m c (ix3 s l f) := by
  rw [daOf, pay14_apply, gateV_eq h]
  show gateCot (iblk m c 3 t (ix3 0 r f)) (iblk m c 4 t (ix3 0 r f)) (∑ e : Fin 1024, _ * iblk m c 7 t (ix3 0 f e)) = _
  rw [act_at m c t s r l f hl hn, block3 m c t s r f l hl hn, block4 m c t s r f l hl hn]

theorem up_at : dbOf (insAt m c t) (stAt m c t.val t.isLt).dyh (ix2 r f) = upV m c (ix3 s l f) := by
  rw [dbOf, pay15_apply, upV_eq]
  show upCot (iblk m c 3 t (ix3 0 r f)) (∑ e : Fin 1024, _ * iblk m c 7 t (ix3 0 f e)) = _
  rw [act_at m c t s r l f hl hn, block3 m c t s r f l hl hn]

omit hl hn

/-- What a shard of the hidden width adds to the normed input's cotangent. -/
def shard (l : Fin 8192) (e : Fin 1024) (k : ℕ) : EReal :=
  if hk : k < 4 then ∑ f : Fin 704, gateV m c (ix3 ⟨k, hk⟩ l f) * arg5 m c (ix3 ⟨k, hk⟩ f e)
    + ∑ f : Fin 704, upV m c (ix3 ⟨k, hk⟩ l f) * arg6 m c (ix3 ⟨k, hk⟩ f e) else 0

/-- A point adds its shard. -/
theorem sum_step (h : Reals m c) (e : Fin 1024) (hl : l.val = t.val / 4 * 512 + r.val) : (stAt m c t.val t.isLt).sum (ix2 r e)
    = (if k0_cond2 (grid0.coords t) = 1#1 then k0_pay10 (F := Ideal) else (prevAt m c t.val t.isLt).sum : FVec Ideal S512x1024 .f32) (ix2 r e) + shard m c l e (t.val % 4) := by
  have hk : t.val % 4 < 4 := by omega
  have e1 : (stAt m c t.val t.isLt).sum = k0_pay3 (daOf (insAt m c t) (stAt m c t.val t.isLt).dyh) (dbOf (insAt m c t) (stAt m c t.val t.isLt).dyh)
      (if k0_cond2 (grid0.coords t) = 1#1 then k0_pay10 (F := Ideal) else (prevAt m c t.val t.isLt).sum) (iblk m c 5 t) (iblk m c 6 t) := by
    rw [stAt_eq m c t]; rfl
  rw [e1, pay3_apply, shard, dif_pos hk]
  refine congrArg _ (congrArg₂ (· + ·) (Finset.sum_congr rfl fun f _ => ?_) (Finset.sum_congr rfl fun f _ => ?_))
  · rw [gate_at m c t ⟨_, hk⟩ r l f hl rfl h, block5 m c t ⟨_, hk⟩ f e rfl]
  · rw [up_at m c t ⟨_, hk⟩ r l f hl rfl, block6 m c t ⟨_, hk⟩ f e rfl]

/-- At every point the running sum is of the shards so far. -/
theorem sum_at (h : Reals m c) (r : Fin 512) (e : Fin 1024) (l : Fin 8192) (n : ℕ) (hn : n < cfg0.N) (hl : l.val = n / 4 * 512 + r.val) :
    (stAt m c n hn).sum (ix2 r e) = ∑ k ∈ Finset.range (n % 4 + 1), shard m c l e k := by
  induction n with
  | zero =>
    rw [sum_step m c ⟨0, hn⟩ r l h e hl, if_pos ((start_iff ⟨0, hn⟩).2 rfl), pay10_apply, zero_add]
    exact (Finset.sum_range_one _).symm
  | succ n ih =>
    rw [sum_step m c ⟨n + 1, hn⟩ r l h e hl]
    by_cases hs : (n + 1) % 4 = 0
    · rw [if_pos ((start_iff ⟨n + 1, hn⟩).2 hs), pay10_apply, zero_add]
      show shard m c l e ((n + 1) % 4) = _
      rw [hs]
      exact (Finset.sum_range_one _).symm
    · rw [if_neg fun h => hs ((start_iff ⟨n + 1, hn⟩).1 h)]
      refine (congrArg (· + _) (ih (Nat.lt_of_succ_lt hn) (by omega))).trans ?_
      show _ + shard m c l e ((n + 1) % 4) = _
      rw [show (n + 1) % 4 = n % 4 + 1 by omega, ← Finset.sum_range_succ]

/-- The last shard's point has the whole cotangent of the normed input. -/
theorem norm_at (h : Reals m c) (e : Fin 1024) (hl : l.val = t.val / 4 * 512 + r.val) (ht : t.val % 4 = 3) :
    (stAt m c t.val t.isLt).sum (ix2 r e) = normV m c (ix2 l e) := by
  rw [sum_at m c h r e l t.val t.isLt hl, ht, normV, normedCot_apply, Finset.sum_range, ← Finset.sum_add_distrib]
  refine Finset.sum_congr rfl fun k _ => ?_
  rw [shard, dif_pos k.isLt, add_comm]

/-- And so the input's gradient. -/
theorem dx_at (h : Reals m c) (e : Fin 1024) (hl : l.val = t.val / 4 * 512 + r.val) (ht : t.val % 4 = 3) :
    (stAt m c t.val t.isLt).dx (ix2 r e) = inputR (arg0 m c) (arg2 m c) (normV m c) (arg1 m c) (ix2 l e) := by
  have e1 : (stAt m c t.val t.isLt).dx = k0_pay6 (iblk m c 0 t) (stAt m c t.val t.isLt).sum (iblk m c 1 t) (iblk m c 2 t) := by
    rw [stAt_eq m c t]
    exact if_pos ((last_iff t).2 ht)
  rw [e1, pay6_apply, inputR_apply, block2 m c t r e l hl]
  simp only [block0 m c t r _ l hl, block1, norm_at m c t r l h _ hl ht, back_apply, invs_apply, gained_apply]
  exact congrArg _ (normBack_eq (fun k => arg0 m c (ix2 l k)) (fun k => normV m c (ix2 l k) * arg1 m c (ix2 0 k)) (fun k => h.h0 _)
    (fun k => (normV_real h l k).mul (h.h1 _)) e)

/-! ## The gain's gradient -/

theorem put_row (x : FVec Ideal S8x1024 .f32) (w : FVec Ideal S1x1024 .f32) (e : Fin 1024) :
    VecWindow.put x ![0, 0] S1x1024.size w (ix2 0 e) = w (ix2 0 e) := by
  refine (dif_pos ?_).trans (congrArg w ?_)
  · intro a
    fin_cases a
    · exact ⟨Nat.le_refl _, by show 0 < 0 + 1; omega⟩
    · exact ⟨Nat.zero_le _, by show e.val < 0 + 1024; omega⟩
  · ext a
    fin_cases a
    · rfl
    · rfl

theorem put_rest (x : FVec Ideal S8x1024 .f32) (w : FVec Ideal S1x1024 .f32) (k : Fin 8) (hk : k ≠ 0) (e : Fin 1024) :
    VecWindow.put x ![0, 0] S1x1024.size w (ix2 k e) = x (ix2 k e) := by
  refine dif_neg fun h => hk (Fin.ext ?_)
  have h0 : k.val < 0 + 1 := (h 0).2
  show k.val = 0
  omega

theorem window_row (x : FVec Ideal S8x1024 .f32) (e : Fin 1024) :
    VecWindow.window x ![0, 0] S1x1024.size inb_S8x1024_S1x1024_0_0 (ix2 0 e) = x (ix2 0 e) := by
  refine congrArg x ?_
  ext a
  fin_cases a
  · rfl
  · show 0 + 1 * e.val = e.val
    omega

/-- A block's last point adds its rows to the first row and leaves the others. -/
theorem gain_step (h : Reals m c) (k : Fin 8) (e : Fin 1024) : (stAt m c t.val t.isLt).st (ix2 k e)
    = gainOf (grid0.coords t) (prevAt m c t.val t.isLt) (ix2 k e) + (if k = 0 ∧ t.val % 4 = 3 then rows m c e (t.val / 4) else 0) := by
  have ht : t.val < 64 := Nat.lt_of_lt_of_eq t.isLt N_0
  have e1 : (stAt m c t.val t.isLt).st = if k0_cond3 (grid0.coords t) = 1#1 then
      VecWindow.put (gainOf (grid0.coords t) (prevAt m c t.val t.isLt)) ![0, 0] S1x1024.size (k0_pay7 (iblk m c 0 t) (stAt m c t.val t.isLt).sum
        (VecWindow.window (gainOf (grid0.coords t) (prevAt m c t.val t.isLt)) ![0, 0] S1x1024.size inb_S8x1024_S1x1024_0_0))
      else gainOf (grid0.coords t) (prevAt m c t.val t.isLt) := by
    rw [stAt_eq m c t]; rfl
  rw [e1]
  by_cases h3 : t.val % 4 = 3
  · rw [if_pos ((last_iff t).2 h3)]
    by_cases hk : k = 0
    · subst hk
      have hq : t.val / 4 < 16 := by omega
      rw [put_row, pay7_apply, window_row, if_pos ⟨rfl, h3⟩, rows, dif_pos hq]
      refine congrArg _ (Finset.sum_congr rfl fun r _ => ?_)
      simp only [block0 m c t r _ ⟨t.val / 4 * 512 + r.val, by omega⟩ rfl, norm_at m c t r ⟨t.val / 4 * 512 + r.val, by omega⟩ h _ rfl h3]
    · rw [put_rest _ _ k hk, if_neg fun h => hk h.1, add_zero]
  · rw [if_neg fun h => h3 ((last_iff t).1 h), if_neg fun h => h3 h.2, add_zero]

/-- After every point the first row is the sum over the blocks that are done, and the others are zero. -/
theorem gain_at (h : Reals m c) (k : Fin 8) (e : Fin 1024) (n : ℕ) (hn : n < cfg0.N) :
    (stAt m c n hn).st (ix2 k e) = if k = 0 then ∑ j ∈ Finset.range ((n + 1) / 4), rows m c e j else 0 := by
  induction n with
  | zero =>
    rw [gain_step m c ⟨0, hn⟩ h k e, gainOf, if_pos ((first_iff ⟨0, hn⟩).2 rfl), pay8_apply, if_neg fun h => by simp at h, zero_add]
    simp
  | succ n ih =>
    have h64 : n + 1 < 64 := Nat.lt_of_lt_of_eq hn N_0
    rw [gain_step m c ⟨n + 1, hn⟩ h k e, gainOf, if_neg fun h => by have := (first_iff ⟨n + 1, hn⟩).1 h; simp only at this; omega]
    refine (congrArg (· + _) (ih (Nat.lt_of_succ_lt hn))).trans ?_
    by_cases hk : k = 0
    · by_cases h3 : (n + 1) % 4 = 3
      · rw [if_pos hk, if_pos ⟨hk, h3⟩, if_pos hk, show (n + 1 + 1) / 4 = (n + 1) / 4 + 1 by omega, Finset.sum_range_succ]
      · rw [if_pos hk, if_neg fun h => h3 h.2, if_pos hk, add_zero, show (n + 1 + 1) / 4 = (n + 1) / 4 by omega]
    · rw [if_neg hk, if_neg fun h => hk h.1, if_neg hk, add_zero]

/-- After the last point: the gain's gradient, and seven rows of zeros. -/
theorem gain_last (h : Reals m c) (k : Fin 8) (e : Fin 1024) (hn : 63 < cfg0.N) :
    (stAt m c 63 hn).st (ix2 k e) = gainR (arg0 m c) (normV m c) (ix2 k e) := by
  rw [gain_at m c h k e 63 hn]
  by_cases hk : k = 0
  · subst hk
    have e1 : ∀ s : Fin 16, rows m c e s.val = ∑ r : Fin 512, normV m c (ix2 ⟨s.val * 512 + r.val, by omega⟩ e)
        * (arg0 m c (ix2 ⟨s.val * 512 + r.val, by omega⟩ e) * inv (fun j => arg0 m c (ix2 ⟨s.val * 512 + r.val, by omega⟩ j))) := fun s => dif_pos s.isLt
    rw [if_pos rfl, gainR_apply, show (63 + 1) / 4 = 16 by rfl, Finset.sum_range]
    simp only [e1]
    exact Fin.sum_mul_add_congr fun s r hl => mul_comm _ _
  · rw [if_neg hk, gainR_rest _ _ _ k hk]

end

end Cert.Proof.E
-- ==== Proof.E.Value.lean ====
/-
  The feed-forward block's backward kernel's arrays are the gradients.
-/
module

public import proofs.«01_k».proof.Proof.E.Carry
public import proofs.«01_k».proof.Proof.Gen.Reference5Ideal.Run
public import Idealize.ShloMosaic.Lib.Pipeline.ValueKit

@[expose] public section

set_option maxRecDepth 16384

noncomputable section

namespace Cert.Proof.E

open Idealize.ShloMosaic
open Idealize.ShloMosaic.TcCoe

section
open Cert.Kernel5Ideal Cert.Kernel5Ideal.Gen

variable (m : (ℓ : Loc nD τ sig) → Buf (Elt Ideal) ℓ) (c : Dev nD)

theorem flush8 : ∀ t : Fin cfg0.N, (cfg0.win 8).flush t = true → t.val % 4 = 3 := by decide +kernel
theorem flush12 : ∀ t : Fin cfg0.N, (cfg0.win 12).flush t = true → t.val = 63 := by decide +kernel

/-- The input's gradient. -/
theorem result8 (h : Reals m c) : (dats m 0 c).arrAt 8 cfg0.N = (inputR (arg0 m c) (arg2 m c) (normV m c) (arg1 m c) :
    FVec Ideal Cert.Reference5Ideal.S8192x1024 .f32) := by
  refine (dats m 0 c).arrAt_eq_of_covers 8 _ (by decide +kernel) fun t hf y => ?_
  blk_simp
  rw [after0_8]
  obtain ⟨r, e, rfl⟩ : ∃ (r : Fin 512) (e : Fin 1024), y = ix2 r e := ⟨y 0, y 1, by ext a; fin_cases a <;> rfl⟩
  have ht : t.val < 64 := Nat.lt_of_lt_of_eq t.isLt N_0
  have eq : (win0_8.blk t).view.emb (ix2 r e) = ix2 (⟨t.val / 4 * 512 + r.val, by omega⟩ : Fin 8192) e := by blk_ext [idx t]
  rw [eq]
  exact dx_at m c t r ⟨t.val / 4 * 512 + r.val, by omega⟩ h e rfl (flush8 t hf)

/-- The halved cotangent. -/
theorem result9 : (dats m 0 c).arrAt 9 cfg0.N = (halved (arg2 m c) : FVec Ideal Cert.Reference5Ideal.S8192x1024 .bf16) := by
  refine (dats m 0 c).arrAt_eq_of_covers 9 _ (by decide +kernel) fun t hf y => ?_
  blk_simp
  rw [after0_9]
  obtain ⟨r, e, rfl⟩ : ∃ (r : Fin 512) (e : Fin 1024), y = ix2 r e := ⟨y 0, y 1, by ext a; fin_cases a <;> rfl⟩
  have ht : t.val < 64 := Nat.lt_of_lt_of_eq t.isLt N_0
  have eq : (win0_9.blk t).view.emb (ix2 r e) = ix2 (⟨t.val / 4 * 512 + r.val, by omega⟩ : Fin 8192) e := by blk_ext [idx t]
  rw [eq]
  exact dyh_at m c r e ⟨t.val / 4 * 512 + r.val, by omega⟩ t.val t.isLt rfl

/-- The gate's cotangent. -/
theorem result10 (h : Reals m c) : (dats m 0 c).arrAt 10 cfg0.N = (gateV m c : FVec Ideal Cert.Reference5Ideal.S4x8192x704 .bf16) := by
  refine (dats m 0 c).arrAt_eq_of_covers 10 _ (by decide +kernel) fun t hf y => ?_
  blk_simp
  rw [after0_10]
  obtain ⟨r, f, rfl⟩ : ∃ (r : Fin 512) (f : Fin 704), y = ix3 0 r f := ⟨y 1, y 2, by
    ext a; fin_cases a
    · exact Nat.lt_one_iff.1 (y 0).isLt
    · rfl
    · rfl⟩
  have ht : t.val < 64 := Nat.lt_of_lt_of_eq t.isLt N_0
  have eq : (win0_10.blk t).view.emb (ix3 0 r f) = ix3 (⟨t.val % 4, by omega⟩ : Fin 4) (⟨t.val / 4 * 512 + r.val, by omega⟩ : Fin 8192) f := by blk_ext [idx t]
  rw [eq, pay1_apply]
  exact gate_at m c t ⟨t.val % 4, by omega⟩ r ⟨t.val / 4 * 512 + r.val, by omega⟩ f rfl rfl h

/-- The other factor's. -/
theorem result11 : (dats m 0 c).arrAt 11 cfg0.N = (upV m c : FVec Ideal Cert.Reference5Ideal.S4x8192x704 .bf16) := by
  refine (dats m 0 c).arrAt_eq_of_covers 11 _ (by decide +kernel) fun t hf y => ?_
  blk_simp
  rw [after0_11]
  obtain ⟨r, f, rfl⟩ : ∃ (r : Fin 512) (f : Fin 704), y = ix3 0 r f := ⟨y 1, y 2, by
    ext a; fin_cases a
    · exact Nat.lt_one_iff.1 (y 0).isLt
    · rfl
    · rfl⟩
  have ht : t.val < 64 := Nat.lt_of_lt_of_eq t.isLt N_0
  have eq : (win0_11.blk t).view.emb (ix3 0 r f) = ix3 (⟨t.val % 4, by omega⟩ : Fin 4) (⟨t.val / 4 * 512 + r.val, by omega⟩ : Fin 8192) f := by blk_ext [idx t]
  rw [eq, pay2_apply]
  exact up_at m c t ⟨t.val % 4, by omega⟩ r ⟨t.val / 4 * 512 + r.val, by omega⟩ f rfl rfl

/-- The gain's gradient. -/
theorem result12 (h : Reals m c) : (dats m 0 c).arrAt 12 cfg0.N = (gainR (arg0 m c) (normV m c) : FVec Ideal Cert.Reference5Ideal.S8x1024 .f32) := by
  refine (dats m 0 c).arrAt_eq_of_covers 12 _ (by decide +kernel) fun t hf y => ?_
  blk_simp
  rw [after0_12]
  obtain ⟨k, e, rfl⟩ : ∃ (k : Fin 8) (e : Fin 1024), y = ix2 k e := ⟨y 0, y 1, by ext a; fin_cases a <;> rfl⟩
  have eq : (win0_12.blk t).view.emb (ix2 k e) = ix2 k e := by blk_ext [idx t]
  obtain ⟨n, hn⟩ := t
  obtain rfl : n = 63 := flush12 ⟨n, hn⟩ hf
  rw [eq]
  exact gain_last m c h k e hn

end

end Cert.Proof.E
-- ==== Proof.E.Algebraic.lean ====
/-
  On finite arguments the feed-forward block's backward kernel and the reference end the same.
-/
module

public import proofs.«01_k».proof.Defs
public import proofs.«01_k».proof.Proof.Finite
public import proofs.«01_k».proof.Proof.E.Value
public import proofs.«01_k».proof.Proof.Gen.Reference5Ideal.Run
public import Idealize.ShloMosaic.Lib.Quiescent

@[expose] public section

set_option maxRecDepth 16384

noncomputable section

namespace Cert.Proof.E

open Idealize.ShloMosaic Idealize.SL.Sem

theorem finite_facts : Cert.Pre_finite5.Facts := by
  constructor <;> decide

/-- An array whose numbers are reals at every pair of indices holds reals. -/
theorem isR_of2 {n k : ℕ} (x : (⟨2, ![n, k]⟩ : Shape).Idx → EReal) (h : ∀ (r : Fin n) (e : Fin k), IsR (x (ix2 r e))) (i) : IsR (x i) := by
  obtain ⟨r, e, rfl⟩ : ∃ (r : Fin n) (e : Fin k), i = ix2 r e := ⟨i 0, i 1, by ext a; fin_cases a <;> rfl⟩
  exact h r e

/-- The same at every triple. -/
theorem isR_of3 {b n k : ℕ} (x : (⟨3, ![b, n, k]⟩ : Shape).Idx → EReal) (h : ∀ (s : Fin b) (r : Fin n) (e : Fin k), IsR (x (ix3 s r e))) (i) : IsR (x i) := by
  obtain ⟨s, r, e, rfl⟩ : ∃ (s : Fin b) (r : Fin n) (e : Fin k), i = ix3 s r e := ⟨i 0, i 1, i 2, by ext a; fin_cases a <;> rfl⟩
  exact h s r e

section Finite
open Cert.Pre_finite5
variable [Cert.Pre_finite5.Facts] {x : FVec Ideal S8192x1024 .f32} {d : FVec Ideal S1x1024 .f32} {y : FVec Ideal S8192x1024 .f32}
  {a u : FVec Ideal S4x8192x704 .bf16} {wg wu w : FVec Ideal S4x704x1024 .bf16}

theorem fin0 (h : (fn (F := Ideal) x d y a u wg wu w).1 = fun _ => 1#1) (i) : IsR (x i) :=
  isR_of2 x (fun r e => ⟨_, by
    have := congrFun h (ix2 r e)
    pointwise [fn, fn_part1] at this
    exact coe_of_lt this⟩) i

theorem fin1 (h : (fn (F := Ideal) x d y a u wg wu w).2.1 = fun _ => 1#1) (i) : IsR (d i) :=
  isR_of2 d (fun r e => ⟨_, by
    have := congrFun h (ix2 r e)
    pointwise [fn, fn_part1] at this
    exact coe_of_lt this⟩) i

theorem fin2 (h : (fn (F := Ideal) x d y a u wg wu w).2.2.1 = fun _ => 1#1) (i) : IsR (y i) :=
  isR_of2 y (fun r e => ⟨_, by
    have := congrFun h (ix2 r e)
    pointwise [fn, fn_part1] at this
    exact coe_of_lt this⟩) i

theorem fin3 (h : (fn (F := Ideal) x d y a u wg wu w).2.2.2.1 = fun _ => 1#1) (i) : IsR (a i) :=
  isR_of3 a (fun s r e => ⟨_, by
    have := congrFun h (ix3 s r e)
    pointwise [fn, fn_part1] at this
    exact coe_of_lt this⟩) i

theorem fin4 (h : (fn (F := Ideal) x d y a u wg wu w).2.2.2.2.1 = fun _ => 1#1) (i) : IsR (u i) :=
  isR_of3 u (fun s r e => ⟨_, by
    have := congrFun h (ix3 s r e)
    pointwise [fn, fn_part1] at this
    exact coe_of_lt this⟩) i

theorem fin5 (h : (fn (F := Ideal) x d y a u wg wu w).2.2.2.2.2.1 = fun _ => 1#1) (i) : IsR (wg i) :=
  isR_of3 wg (fun s r e => ⟨_, by
    have := congrFun h (ix3 s r e)
    pointwise [fn, fn_part1] at this
    exact coe_of_lt this⟩) i

theorem fin6 (h : (fn (F := Ideal) x d y a u wg wu w).2.2.2.2.2.2.1 = fun _ => 1#1) (i) : IsR (wu i) :=
  isR_of3 wu (fun s r e => ⟨_, by
    have := congrFun h (ix3 s r e)
    pointwise [fn, fn_part1] at this
    exact coe_of_lt this⟩) i

theorem fin7 (h : (fn (F := Ideal) x d y a u wg wu w).2.2.2.2.2.2.2 = fun _ => 1#1) (i) : IsR (w i) :=
  isR_of3 w (fun s r e => ⟨_, by
    have := congrFun h (ix3 s r e)
    pointwise [fn, fn_part1] at this
    exact coe_of_lt this⟩) i
end Finite

/-- Finite arguments hold reals. -/
theorem reals_of_finite (m : (ℓ : Loc Cert.Kernel5Ideal.nD Cert.Kernel5Ideal.τ Cert.Kernel5Ideal.sig) → Buf (Elt Ideal) ℓ)
    (h : Cert.Pre_Kernel5Ideal_finite5 (hPre_finite5 := finite_facts) m) (c : Dev Cert.Kernel5Ideal.nD) : Reals m c := by
  haveI := Cert.Proof.E.finite_facts
  haveI := Cert.Proof.finite_facts
  obtain ⟨h0, h1, h2, h3, h4, h5, h6, h7⟩ := h c
  exact ⟨fin0 h0, fin1 h1, fin2 h2, fin3 h3, fin4 h4, fin5 h5, fin6 h6, fin7 h7⟩

section Kernel
open Cert.Kernel5Ideal Cert.Kernel5Ideal.Gen
variable (m : (ℓ : Loc nD τ sig) → Buf (Elt Ideal) ℓ) (g : Dev nD → PrngReg)

/-- What the kernel leaves on finite arguments. -/
theorem run_value (hr : ∀ c, Reals m c) : θ_run (defs (F := Ideal)) (onTc (τ := τ) (main (F := Ideal))) ⟨m, fun _ => 0, g⟩ (fun r => ∀ c : Dev nD,
      r.2.mem ((c.tc : Thread nD τ).loc main_v0_0) = inputR (arg0 m c) (arg2 m c) (normV m c) (arg1 m c)
      ∧ r.2.mem ((c.tc : Thread nD τ).loc main_v0_1) = halved (arg2 m c)
      ∧ r.2.mem ((c.tc : Thread nD τ).loc main_v0_2) = gateV m c
      ∧ r.2.mem ((c.tc : Thread nD τ).loc main_v0_3) = upV m c
      ∧ r.2.mem ((c.tc : Thread nD τ).loc main_v0_4) = gainR (arg0 m c) (normV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run _ _ _).mono (fun r h c => ?_) (θ_run_and (run_main m g) (frame m g))
  have a := (h.1 c).1
  exact ⟨(a 8).trans (result8 m c (hr c)), (a 9).trans (result9 m c), (a 10).trans (result10 m c (hr c)), (a 11).trans (result11 m c),
    (a 12).trans (result12 m c (hr c)), h.2.1 c⟩
end Kernel

/-- From the same finite arguments the five arrays end the same. -/
theorem algebraic : Cert.algebraic_Kernel5Ideal_Reference5Ideal_pre_finite5 (hPre_finite5 := finite_facts) := by
  intro m g m' g' hpre hagree
  refine ⟨fun c => inputR (arg0 m c) (arg2 m c) (normV m c) (arg1 m c), fun c => halved (arg2 m c), fun c => gateV m c, fun c => upV m c,
    fun c => gainR (arg0 m c) (normV m c), run_value m g (reals_of_finite m hpre), ?_⟩
  refine (θ_run _ _ _).mono (fun r h c => ?_) (Cert.Reference5Ideal.Value.run m' g')
  have h := h c
  obtain ⟨e0, e1, e2, e3, e4, e5, e6, e7⟩ := hagree c
  refine ⟨h.1.trans ?_, h.2.1.trans ?_, h.2.2.1.trans ?_, h.2.2.2.1.trans ?_, h.2.2.2.2.1.trans ?_, h.2.2.2.2.2⟩
  · unfold Cert.Reference5Ideal.Value.res_main_v66
    rw [e0, e1, e2, e3, e4, e5, e6, e7]; rfl
  · rw [e2]; rfl
  · rw [e2, e3, e4, e7]; rfl
  · rw [e2, e3, e7]; rfl
  · unfold Cert.Reference5Ideal.Value.res_main_v68
    rw [e0, e2, e3, e4, e5, e6, e7]; rfl

end Cert.Proof.E
-- ==== Proof.Own.lean ====
/-
  Load and store rules over `owns`: a load returns the owned value at the loaded coordinates, a store of every
  element of a rectangle replaces the owned value there (`Rect.overlay`).
-/
module

public import Idealize.ShloMosaic.Lib.Tactic
public import Idealize.ShloMosaic.Lib.Claim
public import Idealize.ShloMosaic.Lib.Memref
public import Idealize.ShloMosaic.Lib.VecWindow
public import Idealize.ShloMosaic.Lib.Pipeline.FrameBody
public import Idealize.ShloMosaic.Lib.Pipeline.Value

@[expose] public section

noncomputable section

namespace Cert.Proof.Own

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [RA.URA U] {Lvl : Type} {Λ : Labels}
local notation "𝕄" => MT nD τ sig Ix Val Name U Lvl
variable [Preorder Lvl] {defs : Defs nD τ sig Val Λ} (𝒱 : Variants) (c : Thread nD τ)
  (bd : Option 𝒱.V) {Γ : PendingWaitsCtx sig Ix} (E : Set Name)
variable {s : Shape} {e : EltTy} {α : Type}
variable {Q : α → sProp (MT nD τ sig Ix Val Name U Lvl)}

/-- A load from an owned memref returns the owned value at the coordinates loaded. -/
theorem load {cs : CoreSpace} {m : Memref sig c.2.kind cs s e} {r : Rect s} {hl : m.view.LoadsAt r.toLoadRect}
    {k : (r.toLoadRect.shape.Idx → Val e) → Prog (TpuEff nD τ sig Val Λ c.2) α} {q : PosShare TreeShare} {X : s.Idx → Val e} :
    (owns c m q X : sProp 𝕄)
      ⊢ iprop(((owns c m q X : sProp 𝕄) -∗ wp frame (wpE' defs 𝒱 c bd Γ) E (k (View.ld X r)) Q)
        -∗ wp frame (wpE' defs 𝒱 c bd Γ) E (.op (.load m r.toLoadRect hl) k) Q) := by
  unfold owns
  iintro ⟨%f, %hf, H⟩ Hk
  iapply (wp_load 𝒱 c bd E (m := m) (r := r.toLoadRect) (S := m.view.set) (m.view.setOn_subset_set _)) $$ H
  iintro H
  rw [View.readAt_eq_ld, hf]
  iapply Hk
  iexists f
  isplitr; · ipureintro; exact hf
  iexact H

/-- A store of every element of a rectangle of an owned memref leaves the stored value there and the old one elsewhere. -/
theorem store {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    (owns c m fullShare X : sProp 𝕄)
      ⊢ iprop(((owns c m fullShare (r.overlay X w) : sProp 𝕄) -∗ wp frame (wpE' defs 𝒱 c bd Γ) E (k ⟨⟩) Q)
        -∗ wp frame (wpE' defs 𝒱 c bd Γ) E (.op (.store m r w Finset.univ hx hm) k) Q) := by
  unfold owns
  iintro ⟨%f, %hf, H⟩ Hk
  iapply (wp_store 𝒱 c bd E (m := m) (r := r) (w := w) (S := m.view.set)
    (((m.access r).setOn_subset_set _).trans (m.view.set_slice_subset r))) $$ H
  iintro H
  iapply Hk
  iexists ((m.access r).write Val f w Finset.univ)
  isplitr
  · ipureintro
    funext y
    by_cases hy : y ∈ r.set
    · obtain ⟨x, -, rfl⟩ := Finset.mem_map.mp (by rwa [← Rect.map_emb_univ] at hy)
      rw [Rect.overlay_emb]
      exact View.read_slice_write_emb r f w (Finset.mem_univ x)
    · rw [Rect.overlay_of_not_mem _ _ _ hy, ← hf]
      exact View.read_slice_write_of_not_mem r f w _ (by rwa [Rect.map_emb_univ])
  iexact H

/-- A rectangle with the shape's own extents holds every index: overlaying it replaces everything. -/
theorem overlay_whole {s : Shape} {α : Type} {off : Fin s.rank → ℕ} (inb : ∀ a, off a + s.size a ≤ s.size a)
    (X W : s.Idx → α) : (Rect.unit off s.size inb).overlay X W = W := by
  funext y
  have h := Rect.overlay_emb (Rect.unit off s.size inb) X W y
  rwa [Rect.emb_unit_full] at h

/-- A load through such a rectangle returns everything. -/
theorem ld_whole {s : Shape} {e : EltTy} {off : Fin s.rank → ℕ} (inb : ∀ a, off a + s.size a ≤ s.size a)
    (X : s.Idx → Val e) : View.ld X (Rect.unit off s.size inb) = X := by
  funext y
  exact congrArg X (Rect.emb_unit_full inb y)

end Cert.Proof.Own
-- ==== Proof.P.State.lean ====
/-
  What the walk over the keys carries.
-/
module

public import proofs.«01_k».proof.Proof.Own
public import proofs.«01_k».proof.Proof.Gen.Kernel.Skeleton

@[expose] public section

noncomputable section

namespace Cert.Proof.P

open Cert.Kernel Cert.Kernel.Gen
open Idealize.ShloMosaic
open Idealize.ShloMosaic.TcCoe

variable {F : FTy → Type} [FloatOps F]

/-- What the walk over the keys carries: the two running sums, the query gradient, and the two accumulators. -/
structure St (F : FTy → Type) [FloatOps F] where
  m : FVec F S512x128 .f32
  g : FVec F S512x128 .f32
  dq : FVec F S512x128 .f32
  dk : Vec F S8192x128 .f32
  dv : Vec F S8192x128 .f32

/-- The last query tile of trip `t`'s query block. -/
abbrev lastOf (t : Fin k0_t1_loop.trips) : BitVec 32 :=
  Scalar.subi (Scalar.addi (Scalar.muli (Scf.iv 0#32 1#32 t) 2#32) 2#32) 1#32

end Cert.Proof.P
-- ==== Proof.Host.lean ====
/-
  The host's attention, forward and backward: the reference's operations, named.
-/
module

public import proofs.«01_k».proof.Proof.Gen.ReferenceIdeal.Run

@[expose] public section

set_option maxRecDepth 16384

noncomputable section

namespace Cert.Proof.Host

open Cert.ReferenceIdeal Cert.ReferenceIdeal.Gen
open Idealize.ShloMosaic
open Idealize.ShloMosaic.TcCoe

variable {F : FTy → Type} [FloatOps F]

/-- Columns split by head, -/
def byHead (x : FVec F S8192x512 .f32) : FVec F S8x8192x64 .f32 :=
  transpose S8x8192x64 [1, 0, 2] (shapeCast S8192x8x64 x shapeCasts_S8192x512_S8192x8x64) transposes_S8192x8x64_S8x8192x64_1_0_2
/-- and put back, -/
def fromHeads (x : FVec F S8x8192x64 .f32) : FVec F S8192x512 .f32 :=
  shapeCast S8192x512 (transpose S8192x8x64 [1, 0, 2] x transposes_S8x8192x64_S8192x8x64_1_0_2) shapeCasts_S8192x8x64_S8192x512
/-- and rounded. -/
def rounded (x : FVec F S8192x512 .f32) : FVec F S8192x512 .bf16 := truncf .bf16 x bitsLt_bf16_f32

/-- The queries, -/
def hq (a : FVec F S8192x3072 .bf16) : FVec F S8x8192x64 .f32 :=
  byHead (extractStridedSlice S8192x512 ![0, 0] (extf .f32 a bitsLt_bf16_f32) slices_S8192x3072_S8192x512_0_0)
/-- keys -/
def hk (a : FVec F S8192x3072 .bf16) : FVec F S8x8192x64 .f32 :=
  byHead (extractStridedSlice S8192x512 ![0, 512] (extf .f32 a bitsLt_bf16_f32) slices_S8192x3072_S8192x512_0_512)
/-- and values. -/
def hv (a : FVec F S8192x3072 .bf16) : FVec F S8x8192x64 .f32 :=
  byHead (extractStridedSlice S8192x512 ![0, 1024] (extf .f32 a bitsLt_bf16_f32) slices_S8192x3072_S8192x512_0_1024)

/-- A word everywhere. -/
abbrev all (w : BitVec 32) : FVec F S8x8192x8192 .f32 := broadcastInDim S8x8192x8192 ![] bcast_S_S8x8192x8192 (constant S_ .f32 w)

/-- Products over a head's lanes. -/
def prods (x y : FVec F S8x8192x64 .f32) : FVec F S8x8192x8192 .f32 :=
  Host.dotGeneral dot_S8x8192x64_S8x8192x64_S8x8192x8192_2_2_1_1_0_0 none x y
/-- The scores. -/
def scores (a : FVec F S8192x3072 .bf16) : FVec F S8x8192x8192 .f32 := mulf (prods (hq a) (hk a)) (all 0x3E000000#32)
/-- Which keys a position may attend to. -/
def valid : IVec S8x8192x8192 1 :=
  broadcastInDim S8x8192x8192 ![1, 2] bcast_S8192x8192_S8x8192x8192_1_2
    (cmpi .slt (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))
/-- Only there. -/
def masked (x : FVec F S8x8192x8192 .f32) : FVec F S8x8192x8192 .f32 := select valid x (all 0x00000000#32)

/-- The soft plus, -/
def soft (x : FVec F S8x8192x8192 .f32) : FVec F S8x8192x8192 .f32 :=
  select (cmpf .une (subf x (all 0x00000000#32)) (subf x (all 0x00000000#32))) (addf x (all 0x00000000#32))
    (addf (maximumf x (all 0x00000000#32)) (Host.log1p (Host.exp (Host.negf (Host.absf (subf x (all 0x00000000#32)))))))
/-- its slope -/
def slope (x : FVec F S8x8192x8192 .f32) : FVec F S8x8192x8192 .f32 :=
  Host.exp (subf (select (cmpf .oeq x (all 0x7F800000#32)) (all 0x00000000#32) x)
    (select (cmpf .oeq (soft x) (all 0x7F800000#32)) (all 0x00000000#32) (soft x)))
/-- and the log of a sigmoid. -/
def logSig (x : FVec F S8x8192x8192 .f32) : FVec F S8x8192x8192 .f32 := Host.negf (soft (Host.negf x))

/-- A running sum from a key on -/
def since (x : FVec F S8x8192x8192 .f32) : FVec F S8x8192x8192 .f32 :=
  Host.reduceWindowAdd ![1, 1, 8192] ![1, 1, 1] ![0, 0, 0] ![0, 0, 8191] x (broadcastInDim S_ ![] bcast_S_S_ (constant S_ .f32 0x00000000#32))
    reduceWindows_S8x8192x8192_S8x8192x8192_w1s1p0_0_w1s1p0_0_w8192s1p0_8191 h_S_
/-- and up to it. -/
def upto (x : FVec F S8x8192x8192 .f32) : FVec F S8x8192x8192 .f32 :=
  Host.reduceWindowAdd ![1, 1, 8192] ![1, 1, 1] ![0, 0, 8191] ![0, 0, 0] x (broadcastInDim S_ ![] bcast_S_S_ (constant S_ .f32 0x00000000#32))
    reduceWindows_S8x8192x8192_S8x8192x8192_w1s1p0_0_w1s1p0_0_w8192s1p8191_0 h_S_

/-- The weights before the mask, from the scores. -/
def weights (z : FVec F S8x8192x8192 .f32) : FVec F S8x8192x8192 .f32 :=
  Host.exp (addf (logSig z) (subf (since (masked (logSig (Host.negf z)))) (masked (logSig (Host.negf z)))))
/-- Weighted sums over the keys. -/
def over (w : FVec F S8x8192x8192 .f32) (x : FVec F S8x8192x64 .f32) : FVec F S8x8192x64 .f32 :=
  Host.dotGeneral dot_S8x8192x8192_S8x8192x64_S8x8192x64_2_1_1_2_0_0 none w x
/-- The attention's output. -/
def output (a : FVec F S8192x3072 .bf16) : FVec F S8192x512 .f32 := fromHeads (over (masked (weights (scores a))) (hv a))

variable (a : FVec F S8192x3072 .bf16) (b : FVec F S8192x512 .f32)

/-- The values' gradient. -/
def dv : FVec F S8192x512 .bf16 :=
  rounded (fromHeads (transpose S8x8192x64 [0, 2, 1]
    (Host.dotGeneral dot_S8x8192x64_S8x8192x8192_S8x64x8192_1_1_2_2_0_0 none (byHead b) (masked (weights (scores a)))) transposes_S8x64x8192_S8x8192x64_0_2_1))
/-- The log weights' gradient. -/
def share : FVec F S8x8192x8192 .f32 := mulf (masked (prods (byHead b) (hv a))) (weights (scores a))
/-- The gradient of what the keys leave. -/
def left : FVec F S8x8192x8192 .f32 := masked (addf (Host.negf (share a b)) (upto (share a b)))
/-- The scores' gradient, scaled. -/
def dscores : FVec F S8x8192x8192 .f32 :=
  mulf (addf (Host.negf (Host.negf (mulf (Host.negf (left a b)) (slope (Host.negf (Host.negf (scores a)))))))
    (Host.negf (mulf (Host.negf (share a b)) (slope (Host.negf (scores a)))))) (all 0x3E000000#32)
/-- The keys' gradient. -/
def dk : FVec F S8192x512 .bf16 :=
  rounded (fromHeads (Host.dotGeneral dot_S8x8192x8192_S8x8192x64_S8x8192x64_1_1_2_2_0_0 none (dscores a b) (hq a)))
/-- The queries' gradient. -/
def dq : FVec F S8192x512 .bf16 := rounded (fromHeads (over (dscores a b) (hk a)))

variable (m : (ℓ : Loc nD τ sig) → Buf (Elt F) ℓ) (c : Dev nD)

theorem res_dv : Value.res_main_v58 m c = dv (m ((c.tc : Thread nD τ).loc main_arg0)) (m ((c.tc : Thread nD τ).loc main_arg1)) := rfl
theorem res_dk : Value.res_main_v57 m c = dk (m ((c.tc : Thread nD τ).loc main_arg0)) (m ((c.tc : Thread nD τ).loc main_arg1)) := rfl
theorem res_dq : Value.res_main_v56 m c = dq (m ((c.tc : Thread nD τ).loc main_arg0)) (m ((c.tc : Thread nD τ).loc main_arg1)) := rfl

end Cert.Proof.Host
-- ==== Proof.Row.lean ====
/-
  One row of queries against one tile of 128 keys, in the reals.
-/
module

public import Idealize.ShloMosaic.Lib.Pointwise

@[expose] public section

noncomputable section

namespace Cert.Proof

open Idealize.ShloMosaic

/-- The soft plus. -/
def spl (x : ℝ) : ℝ := max x 0 + Real.log (1 + Real.exp (-|x|))

namespace Row

variable (q d : Fin 128 → ℝ) (K V : Fin 128 → Fin 128 → ℝ) (ok : Fin 128 → Prop) [DecidablePred ok] (tot m g : ℝ)

/-- The scores. -/
def z (l : Fin 128) : ℝ := (∑ c, q c * K l c) * (1 / 8)
/-- The log of what a key leaves. -/
def stay (l : Fin 128) : ℝ := if ok l then -spl (z q K l) else 0
/-- Its sum over the later keys of the tile. -/
def after (l : Fin 128) : ℝ := ∑ k, stay q K ok k * (if l < k then 1 else 0)
/-- The weights. -/
def w (l : Fin 128) : ℝ := if ok l then Real.exp (z q K l - spl (z q K l) + (m + after q K ok l)) else 0
/-- Their share of the loss's change. -/
def share (l : Fin 128) : ℝ := w q K ok m l * ∑ c, d c * V l c
/-- Its sum over this key and the later ones. -/
def since (l : Fin 128) : ℝ := ∑ k, share q d K V ok m k * (if l ≤ k then 1 else 0)
/-- The scaled gradient of the scores. -/
def dz (l : Fin 128) : ℝ :=
  (if ok l then share q d K V ok m l - Real.exp (z q K l - spl (z q K l)) * (share q d K V ok m l + (tot - (g + since q d K V ok m l)))
    else 0) * (1 / 8)
/-- The running sums after the tile. -/
def m' : ℝ := m + ∑ k, stay q K ok k
/-- The other one. -/
def g' : ℝ := g + ∑ k, share q d K V ok m k

end Row

theorem eighth : Ideal.ofBits .f32 0x3E000000#32 = ((1 / 8 : ℝ) : EReal) := by
  simp [Ideal.ofBits, Ideal.ieee, -EReal.coe_mul]; norm_num

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  Monotone.map_max EReal.coe_strictMono.monotone

end Cert.Proof
-- ==== Proof.Cumsum.lean ====
/-
  Running sums along the last axis, as the host writes them.
-/
module

public import proofs.«01_k».proof.Proof.Row
public import proofs.«01_k».proof.Proof.Gen.ReferenceIdeal
public import Idealize.ShloMosaic.Lib.Pointwise

@[expose] public section

set_option maxRecDepth 32768

noncomputable section

namespace Cert.Proof

open Idealize.ShloMosaic
open Cert.ReferenceIdeal (S8x8192x8192)

theorem foldl_sum {N : ℕ} (g : Fin N → EReal) (v : EReal) : (List.finRange N).foldl (fun r n => r + g n) v = v + ∑ n, g n := by
  have h : ∀ (l : List (Fin N)) (v : EReal), l.foldl (fun r n => r + g n) v = v + (l.map g).sum := by
    intro l
    induction l with
    | nil => intro v; simp
    | cons a l ih => intro v; rw [List.foldl_cons, ih, List.map_cons, List.sum_cons, add_assoc]
  rw [h, Fin.sum_univ_def]

/-- The windows: whole rows of the last axis. -/
abbrev Win : Shape := ⟨3, ![1, 1, 8192]⟩

theorem sum_win (g : Win.Idx → EReal) : ∑ i, g i = ∑ k : Fin 8192, g (ix3 (0 : Fin 1) (0 : Fin 1) k) := by
  refine Fintype.sum_equiv ⟨fun i => i 2, fun k => ix3 (0 : Fin 1) (0 : Fin 1) k, fun i => ?_, fun k => rfl⟩ _ _ fun i => ?_
  · funext a
    match a with
    | ⟨0, _⟩ => exact Subsingleton.elim (α := Fin 1) _ _
    | ⟨1, _⟩ => exact Subsingleton.elim (α := Fin 1) _ _
    | ⟨2, _⟩ => rfl
  · congr 1
    funext a
    match a with
    | ⟨0, _⟩ => exact Subsingleton.elim (α := Fin 1) _ _
    | ⟨1, _⟩ => exact Subsingleton.elim (α := Fin 1) _ _
    | ⟨2, _⟩ => rfl

/-- A window sum of a row, from a zero start: the sum over the window's places, nothing where it hangs over. -/
theorem window_sum (x : S8x8192x8192.Idx → EReal) (lo hi : Fin 3 → ℕ) (h : S8x8192x8192.ReduceWindows ![1, 1, 8192] ![1, 1, 1] lo hi S8x8192x8192)
    (h0 : lo 0 = 0) (h1 : lo 1 = 0) (a : Fin 8) (p u : Fin 8192) :
    Ideal.hostReduceWindowAdd ![1, 1, 8192] ![1, 1, 1] lo hi h x 0 (ix3 a p u)
      = ∑ k : Fin 8192, if hk : lo 2 ≤ u.val + k.val ∧ u.val + k.val - lo 2 < 8192 then x (ix3 a p (⟨u.val + k.val - lo 2, hk.2⟩ : Fin 8192)) else 0 := by
  unfold Ideal.hostReduceWindowAdd Host.reduceWindow
  dsimp only
  rw [foldl_sum, zero_add]
  refine Eq.trans (Finset.sum_congr rfl fun n _ => congrArg (fun i => @dite EReal _ i _ _) (Subsingleton.elim _ _)) ((Equiv.sum_comp (Win.rowMajor.symm) (fun i => (if hin : ∀ b, lo b ≤ ((ix3 a p u : S8x8192x8192.Idx) b).val * (![1, 1, 1] : Fin 3 → ℕ) b + (i b).val
      ∧ ((ix3 a p u : S8x8192x8192.Idx) b).val * (![1, 1, 1] : Fin 3 → ℕ) b + (i b).val - lo b < S8x8192x8192.size b
      then x (fun b => ⟨((ix3 a p u : S8x8192x8192.Idx) b).val * (![1, 1, 1] : Fin 3 → ℕ) b + (i b).val - lo b, (hin b).2⟩) else 0 : EReal))).trans ?_)
  rw [sum_win]
  refine Finset.sum_congr rfl fun k _ => ?_
  have ha := a.isLt
  have hp := p.isLt
  by_cases hk : lo 2 ≤ u.val + k.val ∧ u.val + k.val - lo 2 < 8192
  · rw [dif_pos hk, dif_pos]
    · congr 1
      funext b
      apply Fin.ext
      match b with
      | ⟨0, _⟩ => show a.val * 1 + 0 - lo 0 = a.val; omega
      | ⟨1, _⟩ => show p.val * 1 + 0 - lo 1 = p.val; omega
      | ⟨2, _⟩ => show u.val * 1 + k.val - lo 2 = u.val + k.val - lo 2; omega
    · intro b
      match b with
      | ⟨0, _⟩ => show lo 0 ≤ a.val * 1 + 0 ∧ a.val * 1 + 0 - lo 0 < 8; omega
      | ⟨1, _⟩ => show lo 1 ≤ p.val * 1 + 0 ∧ p.val * 1 + 0 - lo 1 < 8192; omega
      | ⟨2, _⟩ => show lo 2 ≤ u.val * 1 + k.val ∧ u.val * 1 + k.val - lo 2 < 8192; omega
  · rw [dif_neg hk, dif_neg]
    intro hin
    have h2 : lo 2 ≤ u.val * 1 + k.val ∧ u.val * 1 + k.val - lo 2 < 8192 := hin 2
    exact hk (by omega)

/-- The sum over the keys from this one on. -/
theorem since_at (x : S8x8192x8192.Idx → EReal) (h : S8x8192x8192.ReduceWindows ![1, 1, 8192] ![1, 1, 1] ![0, 0, 0] ![0, 0, 8191] S8x8192x8192)
    (f : ℕ → ℝ) (a : Fin 8) (p : Fin 8192) (hx : ∀ j : Fin 8192, x (ix3 a p j) = ((f j.val : ℝ) : EReal)) (u : Fin 8192) :
    Ideal.hostReduceWindowAdd ![1, 1, 8192] ![1, 1, 1] ![0, 0, 0] ![0, 0, 8191] h x 0 (ix3 a p u)
      = ((∑ j ∈ Finset.Ico u.val 8192, f j : ℝ) : EReal) := by
  have hu := u.isLt
  rw [window_sum x _ _ h rfl rfl]
  have e : ∀ k : Fin 8192, (if hk : (![0, 0, 0] : Fin 3 → ℕ) 2 ≤ u.val + k.val ∧ u.val + k.val - (![0, 0, 0] : Fin 3 → ℕ) 2 < 8192
      then x (ix3 a p (⟨u.val + k.val - (![0, 0, 0] : Fin 3 → ℕ) 2, hk.2⟩ : Fin 8192)) else 0 : EReal)
      = ((if u.val + k.val < 8192 then f (u.val + k.val) else 0 : ℝ) : EReal) := fun k => by
    split_ifs with h1 h2 h2
    · rw [hx]; rfl
    · exact absurd h1.2 h2
    · exact absurd ⟨Nat.zero_le _, h2⟩ h1
    · rfl
  rw [Finset.sum_congr rfl fun k _ => e k, ← coe_sum, ← Finset.sum_range (fun k => if u.val + k < 8192 then f (u.val + k) else 0),
    Finset.sum_Ico_eq_sum_range f u.val 8192, ← Finset.sum_filter]
  congr 2
  ext k
  simp only [Finset.mem_filter, Finset.mem_range]
  omega

/-- The sum over the keys up to this one. -/
theorem upto_at (x : S8x8192x8192.Idx → EReal) (h : S8x8192x8192.ReduceWindows ![1, 1, 8192] ![1, 1, 1] ![0, 0, 8191] ![0, 0, 0] S8x8192x8192)
    (f : ℕ → ℝ) (a : Fin 8) (p : Fin 8192) (hx : ∀ j : Fin 8192, x (ix3 a p j) = ((f j.val : ℝ) : EReal)) (u : Fin 8192) :
    Ideal.hostReduceWindowAdd ![1, 1, 8192] ![1, 1, 1] ![0, 0, 8191] ![0, 0, 0] h x 0 (ix3 a p u)
      = ((∑ j ∈ Finset.range (u.val + 1), f j : ℝ) : EReal) := by
  have hu := u.isLt
  rw [window_sum x _ _ h rfl rfl]
  have e : ∀ k : Fin 8192, (if hk : (![0, 0, 8191] : Fin 3 → ℕ) 2 ≤ u.val + k.val ∧ u.val + k.val - (![0, 0, 8191] : Fin 3 → ℕ) 2 < 8192
      then x (ix3 a p (⟨u.val + k.val - (![0, 0, 8191] : Fin 3 → ℕ) 2, hk.2⟩ : Fin 8192)) else 0 : EReal)
      = ((if 8191 ≤ u.val + k.val then f (u.val + k.val - 8191) else 0 : ℝ) : EReal) := fun k => by
    have hk := k.isLt
    split_ifs with h1 h2 h2
    · rw [hx]; rfl
    · exact absurd h1.1 h2
    · exact absurd ⟨h2, show u.val + k.val - 8191 < 8192 by omega⟩ h1
    · rfl
  rw [Finset.sum_congr rfl fun k _ => e k, ← coe_sum, ← Finset.sum_range (fun k => if 8191 ≤ u.val + k then f (u.val + k - 8191) else 0),
    ← Finset.sum_filter]
  refine congrArg Real.toEReal ?_
  have gen : ∀ (N v : ℕ), v < N + 1 → ∑ k ∈ Finset.range (N + 1) with N ≤ v + k, f (v + k - N) = ∑ j ∈ Finset.range (v + 1), f j := fun N v hv => by
    refine Finset.sum_nbij' (fun k => v + k - N) (fun j => j + N - v) ?_ ?_ ?_ ?_ ?_ <;> intro k hk <;>
      simp only [Finset.mem_filter, Finset.mem_range] at hk ⊢ <;> omega
  exact gen 8191 u.val hu

end Cert.Proof
-- ==== Proof.Model.lean ====
/-
  One row of queries against all the keys, in the reals, and a tile of keys of it.
-/
module

public import proofs.«01_k».proof.Proof.Row

@[expose] public section

noncomputable section

namespace Cert.Proof

/-- The sum from key `n` on. -/
def tail (f : ℕ → ℝ) (n : ℕ) : ℝ := ∑ u ∈ Finset.Ico n 8192, f u

namespace Full

variable (q d : Fin 128 → ℝ) (k v : ℕ → Fin 128 → ℝ) (P : ℕ) (T : ℝ)

/-- The scores. -/
def Z (u : ℕ) : ℝ := (∑ c, q c * k u c) * (1 / 8)
/-- The log of what a key leaves. -/
def L (u : ℕ) : ℝ := if u < P then -spl (Z q k u) else 0
/-- The weights. -/
def W (u : ℕ) : ℝ := if u < P then Real.exp (Z q k u - spl (Z q k u) + tail (L q k P) (u + 1)) else 0
/-- Their share of the loss's change. -/
def S (u : ℕ) : ℝ := W q k P u * ∑ c, d c * v u c
/-- The scaled gradient of the scores. -/
def DZ (u : ℕ) : ℝ :=
  (if u < P then S q d k v P u - Real.exp (Z q k u - spl (Z q k u)) * (S q d k v P u + (T - tail (S q d k v P) u)) else 0) * (1 / 8)

end Full

/-! ### Sums by tiles -/

theorem tail_tile (f : ℕ → ℝ) (j : ℕ) (hj : j < 64) : tail f (128 * j) = tail f (128 * (j + 1)) + ∑ l : Fin 128, f (128 * j + l.val) := by
  unfold tail
  rw [← Finset.sum_Ico_consecutive f (show 128 * j ≤ 128 * (j + 1) by omega) (show 128 * (j + 1) ≤ 8192 by omega), add_comm,
    Finset.sum_Ico_eq_sum_range f (128 * j), show 128 * (j + 1) - 128 * j = 128 by omega, Finset.sum_range]

theorem tail_after (f : ℕ → ℝ) (j : ℕ) (hj : j < 64) (l : Fin 128) :
    tail f (128 * j + l.val + 1) = tail f (128 * (j + 1)) + ∑ i : Fin 128, f (128 * j + i.val) * (if l < i then 1 else 0) := by
  have hl := l.isLt
  unfold tail
  rw [← Finset.sum_Ico_consecutive f (show 128 * j + l.val + 1 ≤ 128 * (j + 1) by omega) (show 128 * (j + 1) ≤ 8192 by omega), add_comm]
  congr 1
  have h : ∑ i : Fin 128, f (128 * j + i.val) * (if l < i then (1 : ℝ) else 0)
      = ∑ i ∈ Finset.range 128, (if l.val < i then f (128 * j + i) else 0) := by
    rw [Finset.sum_range]; refine Finset.sum_congr rfl fun i _ => ?_
    simp only [Fin.lt_def, mul_ite, mul_one, mul_zero]
  rw [h, ← Finset.sum_filter, show (Finset.range 128).filter (fun i => l.val < i) = Finset.Ico (l.val + 1) 128 by
    ext i; simp only [Finset.mem_filter, Finset.mem_range, Finset.mem_Ico]; omega,
    Finset.sum_Ico_add f (l.val + 1) 128 (128 * j)]
  congr 2 <;> omega

theorem tail_since (f : ℕ → ℝ) (j : ℕ) (hj : j < 64) (l : Fin 128) :
    tail f (128 * j + l.val) = tail f (128 * (j + 1)) + ∑ i : Fin 128, f (128 * j + i.val) * (if l ≤ i then 1 else 0) := by
  have hl := l.isLt
  unfold tail
  rw [← Finset.sum_Ico_consecutive f (show 128 * j + l.val ≤ 128 * (j + 1) by omega) (show 128 * (j + 1) ≤ 8192 by omega), add_comm]
  congr 1
  have h : ∑ i : Fin 128, f (128 * j + i.val) * (if l ≤ i then (1 : ℝ) else 0)
      = ∑ i ∈ Finset.range 128, (if l.val ≤ i then f (128 * j + i) else 0) := by
    rw [Finset.sum_range]; refine Finset.sum_congr rfl fun i _ => ?_
    simp only [Fin.le_def, mul_ite, mul_one, mul_zero]
  rw [h, ← Finset.sum_filter, show (Finset.range 128).filter (fun i => l.val ≤ i) = Finset.Ico l.val 128 by
    ext i; simp only [Finset.mem_filter, Finset.mem_range, Finset.mem_Ico]; omega,
    Finset.sum_Ico_add f l.val 128 (128 * j)]
  congr 2 <;> omega

/-! ### A tile of the row -/

section
variable (q d : Fin 128 → ℝ) (k v : ℕ → Fin 128 → ℝ) (P : ℕ) (T : ℝ) (j : ℕ) (hj : j < 64)

/-- Tile `j` of the keys. -/
abbrev til (k : ℕ → Fin 128 → ℝ) (j : ℕ) : Fin 128 → Fin 128 → ℝ := fun l c => k (128 * j + l.val) c
/-- Which of its keys the row may attend to. -/
abbrev tok (P j : ℕ) : Fin 128 → Prop := fun l => 128 * j + l.val < P

theorem row_stay (l : Fin 128) : Row.stay q (til k j) (tok P j) l = Full.L q k P (128 * j + l.val) := rfl

include hj in
theorem row_w (l : Fin 128) : Row.w q (til k j) (tok P j) (tail (Full.L q k P) (128 * (j + 1))) l = Full.W q k P (128 * j + l.val) := by
  rw [Row.w, Full.W, tail_after _ j hj]; rfl

include hj in
theorem row_share (l : Fin 128) :
    Row.share q d (til k j) (til v j) (tok P j) (tail (Full.L q k P) (128 * (j + 1))) l = Full.S q d k v P (128 * j + l.val) := by
  rw [Row.share, row_w q k P j hj]; rfl

include hj in
theorem row_dz (l : Fin 128) :
    Row.dz q d (til k j) (til v j) (tok P j) T (tail (Full.L q k P) (128 * (j + 1))) (tail (Full.S q d k v P) (128 * (j + 1))) l
      = Full.DZ q d k v P T (128 * j + l.val) := by
  rw [Row.dz, Full.DZ, tail_since _ j hj, Row.since]
  simp only [row_share q d k v P j hj]
  rfl

include hj in
theorem row_m : tail (Full.L q k P) (128 * (j + 1)) + ∑ l, Row.stay q (til k j) (tok P j) l = tail (Full.L q k P) (128 * j) := by
  rw [tail_tile _ j hj]; rfl

include hj in
theorem row_g : tail (Full.S q d k v P) (128 * (j + 1))
      + ∑ l, Row.share q d (til k j) (til v j) (tok P j) (tail (Full.L q k P) (128 * (j + 1))) l
    = tail (Full.S q d k v P) (128 * j) := by
  rw [tail_tile _ j hj]; simp only [row_share q d k v P j hj]

end

/-! ### A tile without keys -/

section
variable (q d : Fin 128 → ℝ) (K V : Fin 128 → Fin 128 → ℝ) (T m g : ℝ) (l : Fin 128)

theorem none_stay : Row.stay q K (fun _ => False) l = 0 := rfl
theorem none_w : Row.w q K (fun _ => False) m l = 0 := rfl
theorem none_share : Row.share q d K V (fun _ => False) m l = 0 := by rw [Row.share, none_w, zero_mul]
theorem none_dz : Row.dz q d K V (fun _ => False) T m g l = 0 := by rw [Row.dz, if_neg not_false, zero_mul]

end

/-- Past the row's own position there is nothing. -/
theorem tail_L_zero (q : Fin 128 → ℝ) (k : ℕ → Fin 128 → ℝ) (P n : ℕ) (h : P ≤ n) : tail (Full.L q k P) n = 0 :=
  Finset.sum_eq_zero fun u hu => if_neg (by have := (Finset.mem_Ico.1 hu).1; omega)
theorem W_zero (q : Fin 128 → ℝ) (k : ℕ → Fin 128 → ℝ) (P u : ℕ) (h : P ≤ u) : Full.W q k P u = 0 := if_neg (by omega)
theorem S_zero (q d : Fin 128 → ℝ) (k v : ℕ → Fin 128 → ℝ) (P u : ℕ) (h : P ≤ u) : Full.S q d k v P u = 0 := by
  rw [Full.S, W_zero q k P u h, zero_mul]
theorem DZ_zero (q d : Fin 128 → ℝ) (k v : ℕ → Fin 128 → ℝ) (P : ℕ) (T : ℝ) (u : ℕ) (h : P ≤ u) : Full.DZ q d k v P T u = 0 := by
  rw [Full.DZ, if_neg (by omega), zero_mul]

end Cert.Proof
-- ==== Proof.PI.Tile.lean ====
/-
  One key tile of the walk, on 512 stacked rows: the scores, the two running sums and the three gradients' parts, as
  functions of the blocks read.
-/
module

public import proofs.«01_k».proof.Proof.Own
public import proofs.«01_k».proof.Proof.Gen.KernelIdeal.Skeleton

@[expose] public section

noncomputable section

namespace Cert.Proof.PI

open Cert.KernelIdeal Cert.KernelIdeal.Gen
open Idealize.ShloMosaic
open Idealize.ShloMosaic.TcCoe

variable {F : FTy → Type} [FloatOps F] [Named F]

/-- What the walk over the keys carries: the two running sums, the query gradient, and the two accumulators. -/
structure St (F : FTy → Type) [FloatOps F] [Named F] where
  m : FVec F S512x128 .f32
  g : FVec F S512x128 .f32
  dq : FVec F S512x128 .f32
  dk : Vec F S8192x128 .f32
  dv : Vec F S8192x128 .f32

/-- What one query block's walk reads besides the state: stacked queries and output gradients, the two suffix matrices
    and the row totals. -/
structure Blk (F : FTy → Type) [FloatOps F] [Named F] where
  q : FVec F S512x128 .bf16
  ue : FVec F S256x256 .bf16
  dO : FVec F S512x128 .bf16
  ui : FVec F S256x256 .bf16
  tot : FVec F S512x128 .f32

/-- Which keys of tile `j` the stacked rows of query tile `b` (and the one after it) may attend to. -/
def tValid (j b : BitVec 32) : IVec S512x128 1 :=
  cmpi .slt
    (addi (broadcast S512x128 (Scalar.select (Scalar.cmpi .sge j 0#32) (Scalar.muli j 128#32) 1073741824#32))
      (iota .tc S512x128 32 [1] iota_S512x128_d1_w32))
    (addi (broadcast S512x128 (Scalar.muli b 128#32))
      (addi (andi (iota .tc S512x128 32 [0] iota_S512x128_d0_w32) (broadcast S512x128 127#32))
        (shli (shrsi (iota .tc S512x128 32 [0] iota_S512x128_d0_w32) (broadcast S512x128 8#32)) (broadcast S512x128 7#32))))

/-- The scaled scores. -/
def tz (q : FVec F S512x128 .bf16) (k : FVec F S128x128 .bf16) : FVec F S512x128 .f32 :=
  mulf (matmul dot_S512x128_S128x128_S512x128_1_1_0_0_n_n none q k (constant S512x128 .f32 0x00000000#32))
    (broadcast S512x128 (Scalar.ofBits .f32 0x3E000000#32))

/-- The soft plus of the scores. -/
def tsp (z : FVec F S512x128 .f32) : FVec F S512x128 .f32 :=
  addf (maximumf z (broadcast S512x128 (Scalar.ofBits .f32 0x00000000#32)))
    (log (addf (broadcast S512x128 (Scalar.ofBits .f32 0x3F800000#32))
      (exp (subf (broadcast S512x128 (Scalar.ofBits .f32 0x00000000#32)) (absf z)))))

/-- A tile times a suffix matrix, the tile given as a leading and a trailing part. -/
def tsplit (x : FVec F S512x128 .f32) (u : FVec F S256x256 .bf16) : FVec F S512x256 .f32 :=
  matmul dot_S512x256_S256x256_S512x256_1_0_0_1_n_n none
    (concatenate S512x256 1 [⟨S512x128, truncf .bf16 x bitsLt_bf16_f32⟩,
      ⟨S512x128, truncf .bf16 (subf x (extf .f32 (truncf .bf16 x bitsLt_bf16_f32) bitsLt_bf16_f32)) bitsLt_bf16_f32⟩]
      concatenates_S512x128_S512x128_S512x256_d1)
    u (constant S512x256 .f32 0x00000000#32)

/-- The products of a split: the sums over the later keys of the tile, -/
def lo (x : FVec F S512x256 .f32) : FVec F S512x128 .f32 := extractStridedSlice S512x128 ![0, 0] x slices_S512x256_o0_0_S512x128
/-- and over all of them. -/
def hi (x : FVec F S512x256 .f32) : FVec F S512x128 .f32 := extractStridedSlice S512x128 ![0, 128] x slices_S512x256_o0_128_S512x128

/-- The log of what a key leaves, zero where it may not be attended to. -/
def tstay (valid : IVec S512x128 1) (sp : FVec F S512x128 .f32) : FVec F S512x128 .f32 :=
  select valid (subf (broadcast S512x128 (Scalar.ofBits .f32 0x00000000#32)) sp)
    (broadcast S512x128 (Scalar.ofBits .f32 0x00000000#32))

/-- The weights. -/
def tw (valid : IVec S512x128 1) (z sp m sums : FVec F S512x128 .f32) : FVec F S512x128 .bf16 :=
  truncf .bf16 (select valid (exp (addf (subf z sp) (addf m sums)))
    (broadcast S512x128 (Scalar.ofBits .f32 0x00000000#32))) bitsLt_bf16_f32

/-- The weights' share of the loss's change. -/
def tg (wb : FVec F S512x128 .bf16) (dO : FVec F S512x128 .bf16) (v : FVec F S128x128 .bf16) : FVec F S512x128 .f32 :=
  mulf (extf .f32 wb bitsLt_bf16_f32)
    (matmul dot_S512x128_S128x128_S512x128_1_1_0_0_n_n none dO v (constant S512x128 .f32 0x00000000#32))

/-- The scores' gradient, scaled. -/
def tdz (valid : IVec S512x128 1) (z sp g cg tot sums : FVec F S512x128 .f32) : FVec F S512x128 .bf16 :=
  truncf .bf16 (mulf (select valid (subf g (mulf (exp (subf z sp)) (addf g (subf tot (addf cg sums)))))
      (broadcast S512x128 (Scalar.ofBits .f32 0x00000000#32)))
    (broadcast S512x128 (Scalar.ofBits .f32 0x3E000000#32))) bitsLt_bf16_f32

/-- An accumulator's tile with a product of stacked rows added. -/
def tacc (d b : FVec F S512x128 .bf16) (x : FVec F S128x128 .f32) : FVec F S128x128 .f32 :=
  shapeCast S128x128 (addf x (matmul dot_S512x128_S512x128_S128x128_0_0_1_1_n_n none d b (constant S128x128 .f32 0x00000000#32)))
    shapeCasts_S128x128_S128x128

/-- The tile's weights, -/
def tileW (valid : IVec S512x128 1) (B : Blk F) (k : FVec F S128x128 .bf16) (m : FVec F S512x128 .f32) : FVec F S512x128 .bf16 :=
  tw valid (tz B.q k) (tsp (tz B.q k)) m (lo (tsplit (tstay valid (tsp (tz B.q k))) B.ue))

/-- their share of the loss's change, -/
def tileG (valid : IVec S512x128 1) (B : Blk F) (k v : FVec F S128x128 .bf16) (m : FVec F S512x128 .f32) : FVec F S512x128 .f32 :=
  tg (tileW valid B k m) B.dO v

/-- and the scores' gradient. -/
def tileDz (valid : IVec S512x128 1) (B : Blk F) (k v : FVec F S128x128 .bf16) (m g : FVec F S512x128 .f32) : FVec F S512x128 .bf16 :=
  tdz valid (tz B.q k) (tsp (tz B.q k)) (tileG valid B k v m) g B.tot (lo (tsplit (tileG valid B k v m) B.ui))

/-- The 128 rows of a block at an offset. -/
abbrev rows (off : Fin 2 → ℕ) (inb : ∀ a, off a + S128x128.size a ≤ S8192x128.size a) : Rect S8192x128 :=
  Rect.unit (s := S8192x128) off S128x128.size inb

/-- One key tile: the state after it. -/
def tileSt (valid : IVec S512x128 1) (B : Blk F) (xk xv : Vec F S8192x128 .bf16) (off : Fin 2 → ℕ)
    (inb : ∀ a, off a + S128x128.size a ≤ S8192x128.size a) (s : St F) : St F where
  m := addf s.m (hi (tsplit (tstay valid (tsp (tz B.q (View.ld xk (rows off inb))))) B.ue))
  g := addf s.g (hi (tsplit (tileG valid B (View.ld xk (rows off inb)) (View.ld xv (rows off inb)) s.m) B.ui))
  dq := addf s.dq (matmul dot_S512x128_S128x128_S512x128_1_0_0_1_n_n none
    (tileDz valid B (View.ld xk (rows off inb)) (View.ld xv (rows off inb)) s.m s.g) (View.ld xk (rows off inb))
    (constant S512x128 .f32 0x00000000#32))
  dk := (rows off inb).overlay s.dk
    (tacc (tileDz valid B (View.ld xk (rows off inb)) (View.ld xv (rows off inb)) s.m s.g) B.q (View.ld s.dk (rows off inb)))
  dv := (rows off inb).overlay s.dv
    (tacc (tileW valid B (View.ld xk (rows off inb)) s.m) B.dO (View.ld s.dv (rows off inb)))

/-- The last query tile of trip `t`'s query block. -/
abbrev lastOf (t : Fin k0_t1_loop.trips) : BitVec 32 :=
  Scalar.subi (Scalar.addi (Scalar.muli (Scf.iv 0#32 1#32 t) 2#32) 2#32) 1#32

/-- The first. -/
abbrev firstOf (t : Fin k0_t1_loop.trips) : BitVec 32 := Scalar.addi (Scalar.muli (Scf.iv 0#32 1#32 t) 2#32) 0#32

/-- Trip `n` of the walk of query block `t`: four key tiles, from the later to the earlier. -/
def tripSt (t : Fin k0_t1_loop.trips) (B : Blk F) (xk xv : Vec F S8192x128 .bf16) (n : BitVec 32) (hn : k0_chk1 t n) (s : St F) : St F :=
  let tl (r : Fin 4) : St F → St F :=
    tileSt (tValid (Scalar.subi (Scalar.subi (lastOf t) (Scalar.muli n 4#32)) (BitVec.ofNat 32 r.val)) (firstOf t)) B xk xv
      (k0_off3 t n (BitVec.ofNat 32 r.val)) (k0_off3_inb t n hn r)
  tl 3 (tl 2 (tl 1 (tl 0 s)))

end Cert.Proof.PI
-- ==== Proof.PI.While.lean ====
/-
  One trip of the walk over the keys: the loads, stores and values of the while's body, run on whole buffers, and
  what it hands to the next test.
-/
module

public import proofs.«01_k».proof.Proof.PI.Tile

@[expose] public section

noncomputable section

namespace Cert.Proof.PI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The variants of the walk's calls: the trips left. -/
abbrev 𝒱₀ : Variants := Variants.nat

/-- The rows of key tile `r` of trip `n`. -/
abbrev rc3 (t : Fin k0_t1_loop.trips) (n : BitVec 32) (h : k0_chk1 t n) (r : Fin 4) : Rect S8192x128 :=
  Rect.unit (s := S8192x128) (k0_off3 t n (BitVec.ofNat 32 r.val)) S128x128.size (k0_off3_inb t n h r)

variable (c : Dev nD) (i : grid0.Coords) (t : Fin k0_t1_loop.trips)
  (arg2 : Memref sig .tc .vmem S8192x128 .bf16) (harg2 : arg2.IsWhole) (q2 : FVec F S512x128 .bf16) (ue : FVec F S256x256 .bf16)
  (arg3 : Memref sig .tc .vmem S8192x128 .bf16) (harg3 : arg3.IsWhole) (do2 : FVec F S512x128 .bf16) (ui : FVec F S256x256 .bf16)
  (tot : FVec F S512x128 .f32) (arg9 : Memref sig .tc .vmem S8192x128 .f32) (harg9 : arg9.IsWhole)
  (arg10 : Memref sig .tc .vmem S8192x128 .f32) (harg10 : arg10.IsWhole)

/-- The buffers the walk touches: the keys and values as they are, the two accumulators at the state's. -/
def held (xk xv : Vec F S8192x128 .bf16) (dk dv : Vec F S8192x128 .f32) : sProp 𝕄 :=
  iprop(owns (c : Thread nD τ) arg2 fullShare xk ∗ owns (c : Thread nD τ) arg3 fullShare xv
    ∗ owns (c : Thread nD τ) arg9 fullShare dk ∗ owns (c : Thread nD τ) arg10 fullShare dv)

/-- The test before trip `n`. -/
abbrev going (n alive : BitVec 32) : Prop :=
  Scalar.andi (Scalar.cmpi .sle (Scalar.muli n 4#32)
    (Scalar.subi (Scalar.addi (Scalar.muli (Scf.iv 0#32 1#32 t) 2#32) 2#32) 1#32)) (Scalar.cmpi .sgt alive 0#32) = 1#1

/-- Whether any row still has weight left. -/
abbrev aliveOf (m : FVec F S512x128 .f32) : BitVec 32 :=
  Scalar.extui (Scalar.cmpf .ogt (k0_pay13 m) (Named.named κ "dead" 0xC2D00000#32))

/-- One trip: its state, with the run of the body from the passed test to the next call. -/
def tripRun (xk xv : Vec F S8192x128 .bf16) (n : BitVec 32) (hn : k0_chk1 t n) (s : St F) :
    { s' : St F // ∀ (bd : Option 𝒱₀.V) (E : Set ℕ) (alive : BitVec 32) (hgo : going t n alive)
        (K : BitVec 32 × BitVec 32 × FVec F S512x128 .f32 × FVec F S512x128 .f32 × FVec F S512x128 .f32 → sProp 𝕄),
      iprop(held c arg2 arg3 arg9 arg10 xk xv s.dk s.dv
          ∗ (held c arg2 arg3 arg9 arg10 xk xv s'.dk s'.dv
              -∗ wp frame (wpE (defs₀ (F := F)) 𝒱₀ (c : Thread nD τ) bd) E
                (.op (.call (1 : (Λ₀ F).Label) ⟨i, t, arg2, harg2, q2, ue, arg3, harg3, do2, ui, tot, arg9, harg9, arg10, harg10,
                  Scalar.addi n 1#32, aliveOf s'.m, s'.m, s'.g, s'.dq⟩) .ret) K))
        ⊢ wp frame (wpE (defs₀ (F := F)) 𝒱₀ (c : Thread nD τ) bd) E
          (cc0_while1 i t arg2 harg2 q2 ue arg3 harg3 do2 ui tot arg9 harg9 arg10 harg10 n alive s.m s.g s.dq) K } := by
  refine ⟨⟨?_, ?_, ?_, ?_, ?_⟩, fun bd E alive hgo K => ?run⟩
  case run =>
    simp only [cc0_while1_eq_skeleton]; unfold cc0_while1_skel
    simp only [k0_part15_eq_skeleton, k0_part16_eq_skeleton, k0_part17_eq_skeleton, k0_part18_eq_skeleton, k0_part19_eq_skeleton,
      k0_part20_eq_skeleton, k0_part21_eq_skeleton, k0_part22_eq_skeleton, k0_part23_eq_skeleton]
    unfold going at hgo
    simp only [hgo, ↓reduceIte]
    unfold k0_part15_skel k0_part16_skel k0_part17_skel k0_part18_skel k0_part19_skel k0_part20_skel k0_part21_skel
      k0_part22_skel k0_part23_skel
    simp only [Prog.lift, Prog.bind_op, Prog.bind_ret, Prog.pure_eq_ret]
    unfold held
    iintro ⟨⟨H2, H3, H9, H10⟩, Hk⟩
    iapply (wp_assume 𝒱₀ (c : Thread nD τ) bd E hn)
    -- key tile 0
    iapply (Own.load 𝒱₀ (c : Thread nD τ) bd E (r := rc3 t n hn 0)) $$ H2; iintro H2
    iapply (Own.load 𝒱₀ (c : Thread nD τ) bd E (r := rc3 t n hn 0)) $$ H3; iintro H3
    iapply (Own.load 𝒱₀ (c : Thread nD τ) bd E (r := rc3 t n hn 0)) $$ H9; iintro H9
    iapply (Own.load 𝒱₀ (c : Thread nD τ) bd E (r := rc3 t n hn 0)) $$ H9; iintro H9
    iapply (Own.store 𝒱₀ (c : Thread nD τ) bd E (r := rc3 t n hn 0)) $$ H9; iintro H9
    iapply (Own.load 𝒱₀ (c : Thread nD τ) bd E (r := rc3 t n hn 0)) $$ H10; iintro H10
    iapply (Own.load 𝒱₀ (c : Thread nD τ) bd E (r := rc3 t n hn 0)) $$ H10; iintro H10
    iapply (Own.store 𝒱₀ (c : Thread nD τ) bd E (r := rc3 t n hn 0)) $$ H10; iintro H10
    -- key tile 1
    iapply (Own.load 𝒱₀ (c : Thread nD τ) bd E (r := rc3 t n hn 1)) $$ H2; iintro H2
    iapply (Own.load 𝒱₀ (c : Thread nD τ) bd E (r := rc3 t n hn 1)) $$ H3; iintro H3
    iapply (Own.load 𝒱₀ (c : Thread nD τ) bd E (r := rc3 t n hn 1)) $$ H9; iintro H9
    iapply (Own.load 𝒱₀ (c : Thread nD τ) bd E (r := rc3 t n hn 1)) $$ H9; iintro H9
    iapply (Own.store 𝒱₀ (c : Thread nD τ) bd E (r := rc3 t n hn 1)) $$ H9; iintro H9
    iapply (Own.load 𝒱₀ (c : Thread nD τ) bd E (r := rc3 t n hn 1)) $$ H10; iintro H10
    iapply (Own.load 𝒱₀ (c : Thread nD τ) bd E (r := rc3 t n hn 1)) $$ H10; iintro H10
    iapply (Own.store 𝒱₀ (c : Thread nD τ) bd E (r := rc3 t n hn 1)) $$ H10; iintro H10
    -- key tile 2
    iapply (Own.load 𝒱₀ (c : Thread nD τ) bd E (r := rc3 t n hn 2)) $$ H2; iintro H2
    iapply (Own.load 𝒱₀ (c : Thread nD τ) bd E (r := rc3 t n hn 2)) $$ H3; iintro H3
    iapply (Own.load 𝒱₀ (c : Thread nD τ) bd E (r := rc3 t n hn 2)) $$ H9; iintro H9
    iapply (Own.load 𝒱₀ (c : Thread nD τ) bd E (r := rc3 t n hn 2)) $$ H9; iintro H9
    iapply (Own.store 𝒱₀ (c : Thread nD τ) bd E (r := rc3 t n hn 2)) $$ H9; iintro H9
    iapply (Own.load 𝒱₀ (c : Thread nD τ) bd E (r := rc3 t n hn 2)) $$ H10; iintro H10
    iapply (Own.load 𝒱₀ (c : Thread nD τ) bd E (r := rc3 t n hn 2)) $$ H10; iintro H10
    iapply (Own.store 𝒱₀ (c : Thread nD τ) bd E (r := rc3 t n hn 2)) $$ H10; iintro H10
    -- key tile 3
    iapply (Own.load 𝒱₀ (c : Thread nD τ) bd E (r := rc3 t n hn 3)) $$ H2; iintro H2
    iapply (Own.load 𝒱₀ (c : Thread nD τ) bd E (r := rc3 t n hn 3)) $$ H3; iintro H3
    iapply (Own.load 𝒱₀ (c : Thread nD τ) bd E (r := rc3 t n hn 3)) $$ H9; iintro H9
    iapply (Own.load 𝒱₀ (c : Thread nD τ) bd E (r := rc3 t n hn 3)) $$ H9; iintro H9
    iapply (Own.store 𝒱₀ (c : Thread nD τ) bd E (r := rc3 t n hn 3)) $$ H9; iintro H9
    iapply (Own.load 𝒱₀ (c : Thread nD τ) bd E (r := rc3 t n hn 3)) $$ H10; iintro H10
    iapply (Own.load 𝒱₀ (c : Thread nD τ) bd E (r := rc3 t n hn 3)) $$ H10; iintro H10
    iapply (Own.store 𝒱₀ (c : Thread nD τ) bd E (r := rc3 t n hn 3)) $$ H10; iintro H10
    iapply Hk
    isplitl [H2]; · iexact H2
    isplitl [H3]; · iexact H3
    isplitl [H9]; · iexact H9
    iexact H10

/-! ### The walk -/

/-- The walk from trip `a` on, at most `k` trips: the state when the test first fails. -/
def walk (t : Fin k0_t1_loop.trips) (step : (n : BitVec 32) → k0_chk1 t n → St F → St F) : ℕ → ℕ → BitVec 32 → St F → St F
  | 0, _, _, s => s
  | k + 1, a, alive, s =>
    if going t (BitVec.ofNat 32 a) alive then
      if h : k0_chk1 t (BitVec.ofNat 32 a) then
        walk t step k (a + 1) (aliveOf (step (BitVec.ofNat 32 a) h s).m) (step (BitVec.ofNat 32 a) h s)
      else s
    else s

/-- The test's part on the key tiles left. -/
abbrev left (t : Fin k0_t1_loop.trips) (n : BitVec 32) : Prop := Scalar.cmpi .sle (Scalar.muli n 4#32) (lastOf t) = 1#1

theorem left_of_going {n alive : BitVec 32} (h : going t n alive) : left t n := by
  unfold going at h
  unfold left
  revert h
  generalize Scalar.cmpi .sle (Scalar.muli n 4#32) (lastOf t) = a
  generalize Scalar.cmpi .sgt alive 0#32 = b
  revert a b
  decide

theorem left_lt : ∀ t : Fin k0_t1_loop.trips, ¬ left t (BitVec.ofNat 32 17) := by decide +kernel

theorem chk_of_left : ∀ (t : Fin k0_t1_loop.trips) (a : Fin 17), left t (BitVec.ofNat 32 a.val) → k0_chk1 t (BitVec.ofNat 32 a.val) := by
  decide +kernel

theorem addi_succ (a : ℕ) : Scalar.addi (BitVec.ofNat 32 a) 1#32 = BitVec.ofNat 32 (a + 1) := by
  show BitVec.ofNat 32 a + BitVec.ofNat 32 1 = _
  rw [← BitVec.ofNat_add]

/-- The trip's state as a step of the walk. -/
abbrev stepOf (xk xv : Vec F S8192x128 .bf16) (n : BitVec 32) (hn : k0_chk1 t n) (s : St F) : St F :=
  (tripRun c i t arg2 harg2 q2 ue arg3 harg3 do2 ui tot arg9 harg9 arg10 harg10 xk xv n hn s).1

/-- The label's specification with at most `k` trips to run from `a`: it returns the walk's query gradient and leaves its
    accumulators. -/
def spec (xk xv : Vec F S8192x128 .bf16) (k a : ℕ) (alive : BitVec 32) (s : St F) :
    sWPT 𝕄 (BitVec 32 × BitVec 32 × FVec F S512x128 .f32 × FVec F S512x128 .f32 × FVec F S512x128 .f32) := do
  sWPT.consume (held c arg2 arg3 arg9 arg10 xk xv s.dk s.dv)
  let r ← sWPT.arbitrary
  sWPT.assume (r.2.2.2.2 = (walk t (stepOf c i t arg2 harg2 q2 ue arg3 harg3 do2 ui tot arg9 harg9 arg10 harg10 xk xv) k a alive s).dq)
  sWPT.produce (held c arg2 arg3 arg9 arg10 xk xv
    (walk t (stepOf c i t arg2 harg2 q2 ue arg3 harg3 do2 ui tot arg9 harg9 arg10 harg10 xk xv) k a alive s).dk
    (walk t (stepOf c i t arg2 harg2 q2 ue arg3 harg3 do2 ui tot arg9 harg9 arg10 harg10 xk xv) k a alive s).dv)
  pure r

theorem spec_apply (xk xv : Vec F S8192x128 .bf16) (k a : ℕ) (alive : BitVec 32) (s : St F)
    (K : BitVec 32 × BitVec 32 × FVec F S512x128 .f32 × FVec F S512x128 .f32 × FVec F S512x128 .f32 → sProp 𝕄) :
    spec c i t arg2 harg2 q2 ue arg3 harg3 do2 ui tot arg9 harg9 arg10 harg10 xk xv k a alive s K
      = iprop(held c arg2 arg3 arg9 arg10 xk xv s.dk s.dv ∗ ∀ r : BitVec 32 × BitVec 32 × FVec F S512x128 .f32 × FVec F S512x128 .f32 × FVec F S512x128 .f32,
        ⌜r.2.2.2.2 = (walk t (stepOf c i t arg2 harg2 q2 ue arg3 harg3 do2 ui tot arg9 harg9 arg10 harg10 xk xv) k a alive s).dq⌝
          -∗ (held c arg2 arg3 arg9 arg10 xk xv
            (walk t (stepOf c i t arg2 harg2 q2 ue arg3 harg3 do2 ui tot arg9 harg9 arg10 harg10 xk xv) k a alive s).dk
            (walk t (stepOf c i t arg2 harg2 q2 ue arg3 harg3 do2 ui tot arg9 harg9 arg10 harg10 xk xv) k a alive s).dv -∗ K r)) := rfl

/-- The label's body meets it, by induction on the trips left. -/
theorem spec_le (E : Set ℕ) (xk xv : Vec F S8192x128 .bf16) :
    ∀ k a, a + k = 17 → ∀ alive s K,
      spec c i t arg2 harg2 q2 ue arg3 harg3 do2 ui tot arg9 harg9 arg10 harg10 xk xv k a alive s K
      ⊢ wp frame (wpE (defs₀ (F := F)) 𝒱₀ (c : Thread nD τ) (some k)) E
          (defs₀ (F := F) .tc 1 ⟨i, t, arg2, harg2, q2, ue, arg3, harg3, do2, ui, tot, arg9, harg9, arg10, harg10,
            BitVec.ofNat 32 a, alive, s.m, s.g, s.dq⟩) K := by
  intro k
  induction k with
  | zero =>
    intro a ha alive s K
    obtain rfl : a = 17 := by omega
    rw [spec_apply]
    show _ ⊢ wp frame (wpE (defs₀ (F := F)) 𝒱₀ (c : Thread nD τ) (some 0)) E
      (cc0_while1 i t arg2 harg2 q2 ue arg3 harg3 do2 ui tot arg9 harg9 arg10 harg10 (BitVec.ofNat 32 17) alive s.m s.g s.dq) K
    have hno : ¬ going t (BitVec.ofNat 32 17) alive := fun h => left_lt t (left_of_going t h)
    simp only [cc0_while1_eq_skeleton]; unfold cc0_while1_skel
    unfold going at hno
    simp only [hno, ↓reduceIte, Prog.pure_eq_ret]
    iintro ⟨H, Hk⟩
    rw [wp_ret]; imodintro
    iapply Hk
    · ipureintro; rfl
    · iexact H
  | succ k ih =>
    intro a ha alive s K
    rw [spec_apply]
    show _ ⊢ wp frame (wpE (defs₀ (F := F)) 𝒱₀ (c : Thread nD τ) (some (k + 1))) E
      (cc0_while1 i t arg2 harg2 q2 ue arg3 harg3 do2 ui tot arg9 harg9 arg10 harg10 (BitVec.ofNat 32 a) alive s.m s.g s.dq) K
    by_cases hgo : going t (BitVec.ofNat 32 a) alive
    · have hn : k0_chk1 t (BitVec.ofNat 32 a) := chk_of_left t ⟨a, by omega⟩ (left_of_going t hgo)
      have hw : walk t (stepOf c i t arg2 harg2 q2 ue arg3 harg3 do2 ui tot arg9 harg9 arg10 harg10 xk xv) (k + 1) a alive s
          = walk t (stepOf c i t arg2 harg2 q2 ue arg3 harg3 do2 ui tot arg9 harg9 arg10 harg10 xk xv) k (a + 1)
            (aliveOf (stepOf c i t arg2 harg2 q2 ue arg3 harg3 do2 ui tot arg9 harg9 arg10 harg10 xk xv (BitVec.ofNat 32 a) hn s).m)
            (stepOf c i t arg2 harg2 q2 ue arg3 harg3 do2 ui tot arg9 harg9 arg10 harg10 xk xv (BitVec.ofNat 32 a) hn s) := by
        rw [walk, if_pos hgo, dif_pos hn]
      rw [hw]
      iintro ⟨H, Hk⟩
      iapply ((tripRun c i t arg2 harg2 q2 ue arg3 harg3 do2 ui tot arg9 harg9 arg10 harg10 xk xv (BitVec.ofNat 32 a) hn s).2
        (some (k + 1)) E alive hgo K)
      isplitl [H]; · iexact H
      iintro H
      have ih' := ih (a + 1) (by omega)
        (aliveOf (stepOf c i t arg2 harg2 q2 ue arg3 harg3 do2 ui tot arg9 harg9 arg10 harg10 xk xv (BitVec.ofNat 32 a) hn s).m)
        (stepOf c i t arg2 harg2 q2 ue arg3 harg3 do2 ui tot arg9 harg9 arg10 harg10 xk xv (BitVec.ofNat 32 a) hn s)
      rw [← addi_succ] at ih'
      iapply (wp_call_spec 𝒱₀ (c : Thread nD τ) (some (k + 1)) E
        (spec c i t arg2 harg2 q2 ue arg3 harg3 do2 ui tot arg9 harg9 arg10 harg10 xk xv k (a + 1)
          (aliveOf (stepOf c i t arg2 harg2 q2 ue arg3 harg3 do2 ui tot arg9 harg9 arg10 harg10 xk xv (BitVec.ofNat 32 a) hn s).m)
          (stepOf c i t arg2 harg2 q2 ue arg3 harg3 do2 ui tot arg9 harg9 arg10 harg10 xk xv (BitVec.ofNat 32 a) hn s)) k
        (fun u hu => by cases hu; exact Nat.lt_succ_self k)
        ih')
      rw [spec_apply]
      isplitl [H]; · iexact H
      iintro %r %hr H
      rw [wp_ret]; imodintro
      iapply Hk
      · ipureintro; exact hr
      · iexact H
    · have hw : walk t (stepOf c i t arg2 harg2 q2 ue arg3 harg3 do2 ui tot arg9 harg9 arg10 harg10 xk xv) (k + 1) a alive s = s := by
        rw [walk, if_neg hgo]
      rw [hw]
      simp only [cc0_while1_eq_skeleton]; unfold cc0_while1_skel
      unfold going at hgo
      simp only [hgo, ↓reduceIte, Prog.pure_eq_ret]
      iintro ⟨H, Hk⟩
      rw [wp_ret]; imodintro
      iapply Hk
      · ipureintro; rfl
      · iexact H

end Cert.Proof.PI
-- ==== Proof.PI.TripVal.lean ====
/-
  The state a trip of the walk leaves, as four key tiles.
-/
module

public import proofs.«01_k».proof.Proof.PI.While

@[expose] public section

noncomputable section

namespace Cert.Proof.PI

open Cert.KernelIdeal Cert.KernelIdeal.Gen
open Idealize.ShloMosaic
open Idealize.ShloMosaic.TcCoe

variable {F : FTy → Type} [FloatOps F] [Named F]

section Payloads
variable (q dO w dz : FVec F S512x128 .bf16) (ue ui : FVec F S256x256 .bf16) (k v : FVec F S128x128 .bf16) (x y : FVec F S128x128 .f32)
  (val : IVec S512x128 1) (z sp m g dq tot g0 g1 g2 : FVec F S512x128 .f32) (sums : FVec F S512x256 .f32)

/-- The weights of a tile from its scores and what its keys leave. -/
abbrev wOf (val : IVec S512x128 1) (z sp m : FVec F S512x128 .f32) (ue : FVec F S256x256 .bf16) : FVec F S512x128 .bf16 :=
  tw val z sp m (lo (tsplit (tstay val sp) ue))
/-- The running sum after it. -/
abbrev mOf (val : IVec S512x128 1) (sp m : FVec F S512x128 .f32) (ue : FVec F S256x256 .bf16) : FVec F S512x128 .f32 :=
  addf m (hi (tsplit (tstay val sp) ue))

-- key tile 0
theorem p107 : k0_pay107 ue m val sp (Scalar.ofBits .f32 0x00000000#32) = mOf val sp m ue := rfl
theorem p108 : k0_pay108 ue m val z sp (Scalar.ofBits .f32 0x00000000#32) = wOf val z sp m ue := rfl
theorem p110 : k0_pay110 ue dO ui m val z sp (Scalar.ofBits .f32 0x00000000#32) v = tsplit (tg (wOf val z sp m ue) dO v) ui := rfl
theorem p111 : k0_pay111 ue dO ui tot m g val z sp (Scalar.ofBits .f32 0x00000000#32) v
    = tdz val z sp (tg (wOf val z sp m ue) dO v) g tot (lo (tsplit (tg (wOf val z sp m ue) dO v) ui)) := rfl
theorem p113 : k0_pay113 (k0_pay112 q ue dO ui tot m g val z sp (Scalar.ofBits .f32 0x00000000#32) v x)
    = tacc (tdz val z sp (tg (wOf val z sp m ue) dO v) g tot (lo (tsplit (tg (wOf val z sp m ue) dO v) ui))) q x := rfl
theorem p114 : k0_pay114 dO w x = tacc w dO x := rfl
theorem p115 : k0_pay115 g sums = addf g (hi sums) := rfl
theorem p116 : k0_pay116 dq k dz = addf dq (matmul dot_S512x128_S128x128_S512x128_1_0_0_1_n_n none dz k (constant S512x128 .f32 0x00000000#32)) := rfl
-- key tile 1
theorem p122 : k0_pay122 q ue m k val = mOf val (tsp (tz q k)) m ue := rfl
theorem p123 : k0_pay123 q ue m k val = wOf val (tz q k) (tsp (tz q k)) m ue := rfl
theorem p125 : k0_pay125 q ue dO ui m k val v = tsplit (tg (wOf val (tz q k) (tsp (tz q k)) m ue) dO v) ui := rfl
theorem p129 : k0_pay129 q val (k0_pay124 q ue dO m k val v) (k0_pay126 q ue dO ui tot m g k val v) (k0_pay127 q k) x
    = tacc (tdz val (tz q k) (tsp (tz q k)) (tg (wOf val (tz q k) (tsp (tz q k)) m ue) dO v) g tot
        (lo (tsplit (tg (wOf val (tz q k) (tsp (tz q k)) m ue) dO v) ui))) q x := rfl
theorem p130 : k0_pay130 dO w x = tacc w dO x := rfl
theorem p131 : k0_pay131 g sums = addf g (hi sums) := rfl
theorem p132 : k0_pay132 dq k val (k0_pay124 q ue dO m k val v) (k0_pay126 q ue dO ui tot m g k val v) (k0_pay127 q k)
    = addf dq (matmul dot_S512x128_S128x128_S512x128_1_0_0_1_n_n none
      (tdz val (tz q k) (tsp (tz q k)) (tg (wOf val (tz q k) (tsp (tz q k)) m ue) dO v) g tot
        (lo (tsplit (tg (wOf val (tz q k) (tsp (tz q k)) m ue) dO v) ui))) k (constant S512x128 .f32 0x00000000#32)) := rfl
-- key tile 2
theorem p135 (j b : BitVec 32) : k0_pay135 j b (iota .tc S512x128 32 [0] iota_S512x128_d0_w32) k0_pay133 k0_pay134 = cmpi .slt
      (addi (broadcast S512x128 (Scalar.select (Scalar.cmpi .sge j 0#32) (Scalar.muli j 128#32) 1073741824#32))
        (iota .tc S512x128 32 [1] iota_S512x128_d1_w32))
      (addi (broadcast S512x128 (Scalar.muli b 128#32))
        (addi (andi (iota .tc S512x128 32 [0] iota_S512x128_d0_w32) (broadcast S512x128 127#32))
          (shli (shrsi (iota .tc S512x128 32 [0] iota_S512x128_d0_w32) (broadcast S512x128 8#32)) (broadcast S512x128 7#32)))) := rfl
theorem p140 (j b : BitVec 32) (a c d : IVec S512x128 32) : k0_pay140 q ue m j k b a c d
    = select (k0_pay135 j b a c d) (exp (addf (subf (tz q k) (tsp (tz q k))) (addf m (lo (tsplit (tstay (k0_pay135 j b a c d) (tsp (tz q k))) ue)))))
        (broadcast S512x128 (Scalar.ofBits .f32 0x00000000#32)) := rfl
theorem p141 (j b : BitVec 32) (a c d : IVec S512x128 32) : k0_pay141 q ue m j k b a c d
    = mOf (k0_pay135 j b a c d) (tsp (tz q k)) m ue := rfl
theorem p146 : k0_pay146 q dO ui tot g val (k0_pay138 q k) g0 v x
    = tacc (tdz val (tz q k) (tsp (tz q k)) (tg (truncf .bf16 g0 bitsLt_bf16_f32) dO v) g tot
        (lo (tsplit (tg (truncf .bf16 g0 bitsLt_bf16_f32) dO v) ui))) q x := rfl
theorem p147 : k0_pay147 dO g0 x = tacc (truncf .bf16 g0 bitsLt_bf16_f32) dO x := rfl
theorem p148 : k0_pay148 dO ui g g0 v = addf g (hi (tsplit (tg (truncf .bf16 g0 bitsLt_bf16_f32) dO v) ui)) := rfl
theorem p149 : k0_pay149 dO ui tot g dq k val (k0_pay138 q k) g0 v
    = addf dq (matmul dot_S512x128_S128x128_S512x128_1_0_0_1_n_n none
      (tdz val (tz q k) (tsp (tz q k)) (tg (truncf .bf16 g0 bitsLt_bf16_f32) dO v) g tot
        (lo (tsplit (tg (truncf .bf16 g0 bitsLt_bf16_f32) dO v) ui))) k (constant S512x128 .f32 0x00000000#32)) := rfl
-- key tile 3
theorem p156 : k0_pay156 ue m val (k0_pay153 q k) (Scalar.ofBits .f32 0x00000000#32) = mOf val (tsp (tz q k)) m ue := rfl
theorem p157 : k0_pay157 ue m val (k0_pay151 q k) (k0_pay152 q k) (k0_pay153 q k) (Scalar.ofBits .f32 0x00000000#32)
    = wOf val (tz q k) (tsp (tz q k)) m ue := rfl
theorem p159 : k0_pay159 ue dO ui m val (k0_pay151 q k) (k0_pay152 q k) (k0_pay153 q k) (Scalar.ofBits .f32 0x00000000#32) v
    = tsplit (tg (wOf val (tz q k) (tsp (tz q k)) m ue) dO v) ui := rfl
theorem p160 : k0_pay160 ue dO ui tot m g val (k0_pay151 q k) (k0_pay152 q k) (k0_pay153 q k) (Scalar.ofBits .f32 0x00000000#32) v
    = tdz val (tz q k) (tsp (tz q k)) (tg (wOf val (tz q k) (tsp (tz q k)) m ue) dO v) g tot
        (lo (tsplit (tg (wOf val (tz q k) (tsp (tz q k)) m ue) dO v) ui)) := rfl
theorem p161 : k0_pay161 q ue dO ui tot m g val (k0_pay151 q k) (k0_pay152 q k) (k0_pay153 q k) (Scalar.ofBits .f32 0x00000000#32) v x
    = tacc (tdz val (tz q k) (tsp (tz q k)) (tg (wOf val (tz q k) (tsp (tz q k)) m ue) dO v) g tot
        (lo (tsplit (tg (wOf val (tz q k) (tsp (tz q k)) m ue) dO v) ui))) q x := rfl
theorem p10 : k0_pay10 dO w x = tacc w dO x := rfl
theorem p11 : k0_pay11 g sums = addf g (hi sums) := rfl
theorem p12 : k0_pay12 dq k dz = addf dq (matmul dot_S512x128_S128x128_S512x128_1_0_0_1_n_n none dz k (constant S512x128 .f32 0x00000000#32)) := rfl
-- which keys
theorem p103 : k0_pay103 q k = tz q k := rfl
theorem p104 : k0_pay104 q k = tsp (tz q k) := rfl
theorem p102 (n b l : BitVec 32) : k0_pay102 n b l = tValid (Scalar.subi (Scalar.subi l (Scalar.muli n 4#32)) 0#32) (Scalar.addi b 0#32) := rfl
theorem p117 (n b l : BitVec 32) : k0_pay117 n b l = tValid (Scalar.subi (Scalar.subi l (Scalar.muli n 4#32)) 1#32) (Scalar.addi b 0#32) := rfl
theorem p150 (b l e : BitVec 32) : k0_pay150 b l e = tValid (Scalar.subi (Scalar.subi l e) 3#32) (Scalar.addi b 0#32) := rfl
end Payloads

variable (c : Dev nD) (i : grid0.Coords) (t : Fin k0_t1_loop.trips)
  (arg2 : Memref sig .tc .vmem S8192x128 .bf16) (harg2 : arg2.IsWhole) (q2 : FVec F S512x128 .bf16) (ue : FVec F S256x256 .bf16)
  (arg3 : Memref sig .tc .vmem S8192x128 .bf16) (harg3 : arg3.IsWhole) (do2 : FVec F S512x128 .bf16) (ui : FVec F S256x256 .bf16)
  (tot : FVec F S512x128 .f32) (arg9 : Memref sig .tc .vmem S8192x128 .f32) (harg9 : arg9.IsWhole)
  (arg10 : Memref sig .tc .vmem S8192x128 .f32) (harg10 : arg10.IsWhole)

theorem tripRun_val (xk xv : Vec F S8192x128 .bf16) (n : BitVec 32) (hn : k0_chk1 t n) (s : St F) :
    (tripRun c i t arg2 harg2 q2 ue arg3 harg3 do2 ui tot arg9 harg9 arg10 harg10 xk xv n hn s).1
      = tripSt t ⟨q2, ue, do2, ui, tot⟩ xk xv n hn s := by
  unfold tripRun
  dsimp only
  simp only [p107, p108, p110, p111, p113, p114, p115, p116, p122, p123, p125, p129, p130, p131, p132,
    p135, p140, p141, p146, p147, p148, p149, p156, p157, p159, p160, p161, p10, p11, p12, p103, p104, p102, p117, p150]
  simp only [tripSt, tileSt, tileDz, tileG, tileW, tw, tValid]
  rfl
end Cert.Proof.PI
-- ==== Proof.PI.Trip.lean ====
/-
  One query block: its stacked rows, the peeled first trip over the keys, the walk over the rest, and the block's rows
  of the query gradient.
-/
module

public import proofs.«01_k».proof.Proof.PI.While

@[expose] public section

noncomputable section

namespace Cert.Proof.PI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The rows of query tile `r` of block `t`. -/
abbrev rc1 (t : Fin k0_t1_loop.trips) (r : Fin 2) : Rect S8192x128 :=
  Rect.unit (s := S8192x128) (k0_off1 t (BitVec.ofNat 32 r.val)) S128x128.size (k0_off1_inb t r)

/-- The rows of key tile `r` of the peeled trip. -/
abbrev rc2 (t : Fin k0_t1_loop.trips) (r : Fin 4) : Rect S8192x128 :=
  Rect.unit (s := S8192x128) (k0_off2 t (BitVec.ofNat 32 r.val)) S128x128.size (k0_off2_inb t r)

/-- The five input blocks. -/
structure Ins (F : FTy → Type) [FloatOps F] [Named F] where
  q : Vec F S8192x128 .bf16
  k : Vec F S8192x128 .bf16
  v : Vec F S8192x128 .bf16
  o : Vec F S8192x128 .f32
  dO : Vec F S8192x128 .f32

/-- What the peeled trip hands to the walk. -/
structure Head (F : FTy → Type) [FloatOps F] [Named F] where
  q : FVec F S512x128 .bf16
  dO : FVec F S512x128 .bf16
  tot : FVec F S512x128 .f32
  alive : BitVec 32
  s : St F

variable (c : Dev nD) (i : grid0.Coords)
  (arg1 : Memref sig .tc .vmem S8192x128 .bf16) (harg1 : arg1.IsWhole) (arg2 : Memref sig .tc .vmem S8192x128 .bf16) (harg2 : arg2.IsWhole)
  (arg3 : Memref sig .tc .vmem S8192x128 .bf16) (harg3 : arg3.IsWhole) (arg4 : Memref sig .tc .vmem S8192x128 .f32) (harg4 : arg4.IsWhole)
  (arg5 : Memref sig .tc .vmem S8192x128 .f32) (harg5 : arg5.IsWhole) (arg6 : Memref sig .tc .vmem S8192x128 .bf16) (harg6 : arg6.IsWhole)
  (arg7 : Memref sig .tc .vmem S8192x128 .bf16) (harg7 : arg7.IsWhole) (arg8 : Memref sig .tc .vmem S8192x128 .bf16) (harg8 : arg8.IsWhole)
  (arg9 : Memref sig .tc .vmem S8192x128 .f32) (harg9 : arg9.IsWhole) (arg10 : Memref sig .tc .vmem S8192x128 .f32) (harg10 : arg10.IsWhole)

/-- The buffers a query block touches. -/
def heldB (x : Ins F) (d : Vec F S8192x128 .bf16) (dk dv : Vec F S8192x128 .f32) : sProp 𝕄 :=
  iprop(owns (c : Thread nD τ) arg1 fullShare x.q ∗ owns (c : Thread nD τ) arg2 fullShare x.k
    ∗ owns (c : Thread nD τ) arg3 fullShare x.v ∗ owns (c : Thread nD τ) arg4 fullShare x.o
    ∗ owns (c : Thread nD τ) arg5 fullShare x.dO ∗ owns (c : Thread nD τ) arg6 fullShare d
    ∗ owns (c : Thread nD τ) arg9 fullShare dk ∗ owns (c : Thread nD τ) arg10 fullShare dv)

/-- The state a block's walk ends with. -/
abbrev endOf (t : Fin k0_t1_loop.trips) (x : Ins F) (h : Head F) : St F :=
  walk t (stepOf c i t arg2 harg2 h.q (k0_pay3 (F := F)) arg3 harg3 h.dO (k0_pay4 (F := F)) h.tot arg9 harg9 arg10 harg10 x.k x.v)
    16 1 h.alive h.s

/-- The call of the walk's label after a peeled trip. -/
theorem walkCall (t : Fin k0_t1_loop.trips) (x : Ins F) (h : Head F) (E : Set ℕ) {α : Type}
    (kk : BitVec 32 × BitVec 32 × FVec F S512x128 .f32 × FVec F S512x128 .f32 × FVec F S512x128 .f32 → Prog (TpuEff nD τ sig (Elt F) (Λ₀ F) .tc) α)
    (K : α → sProp 𝕄) :
    iprop(held c arg2 arg3 arg9 arg10 x.k x.v h.s.dk h.s.dv
        ∗ ∀ r : BitVec 32 × BitVec 32 × FVec F S512x128 .f32 × FVec F S512x128 .f32 × FVec F S512x128 .f32,
          ⌜r.2.2.2.2 = (endOf c i arg2 harg2 arg3 harg3 arg9 harg9 arg10 harg10 t x h).dq⌝
          -∗ (held c arg2 arg3 arg9 arg10 x.k x.v (endOf c i arg2 harg2 arg3 harg3 arg9 harg9 arg10 harg10 t x h).dk
              (endOf c i arg2 harg2 arg3 harg3 arg9 harg9 arg10 harg10 t x h).dv
            -∗ wp frame (wpE (defs₀ (F := F)) 𝒱₀ (c : Thread nD τ) none) E (kk r) K))
      ⊢ wp frame (wpE (defs₀ (F := F)) 𝒱₀ (c : Thread nD τ) none) E
        (.op (.call (1 : (Λ₀ F).Label) ⟨i, t, arg2, harg2, h.q, (k0_pay3 (F := F)), arg3, harg3, h.dO, (k0_pay4 (F := F)), h.tot,
          arg9, harg9, arg10, harg10, 1#32, h.alive, h.s.m, h.s.g, h.s.dq⟩) kk) K := by
  rw [← spec_apply c i t arg2 harg2 h.q (k0_pay3 (F := F)) arg3 harg3 h.dO (k0_pay4 (F := F)) h.tot arg9 harg9 arg10 harg10 x.k x.v 16 1 h.alive h.s
    (fun r => wp frame (wpE (defs₀ (F := F)) 𝒱₀ (c : Thread nD τ) none) E (kk r) K)]
  refine wp_call_spec (Λ := Λ₀ F) (ℓ := (1 : (Λ₀ F).Label)) 𝒱₀ (c : Thread nD τ) none E
      (spec c i t arg2 harg2 h.q (k0_pay3 (F := F)) arg3 harg3 h.dO (k0_pay4 (F := F)) h.tot arg9 harg9 arg10 harg10 x.k x.v 16 1 h.alive h.s)
      (16 : ℕ) (fun u hu => nomatch hu) ?_
  exact spec_le c i t arg2 harg2 h.q (k0_pay3 (F := F)) arg3 harg3 h.dO (k0_pay4 (F := F)) h.tot arg9 harg9 arg10 harg10 E x.k x.v
    16 1 rfl h.alive h.s

set_option maxHeartbeats 4000000 in
/-- One query block: what its peeled trip hands over, with the run of the whole block. -/
def blockRun (t : Fin k0_t1_loop.trips) (x : Ins F) (dk dv : Vec F S8192x128 .f32) :
    { h : Head F // ∀ (E : Set ℕ) (d : Vec F S8192x128 .bf16) (K : PUnit → sProp 𝕄),
      iprop(heldB c arg1 arg2 arg3 arg4 arg5 arg6 arg9 arg10 x d dk dv
          ∗ (heldB c arg1 arg2 arg3 arg4 arg5 arg6 arg9 arg10 x
              ((rc1 t 1).overlay ((rc1 t 0).overlay d (k0_pay100 (endOf c i arg2 harg2 arg3 harg3 arg9 harg9 arg10 harg10 t x h).dq))
                (k0_pay101 (endOf c i arg2 harg2 arg3 harg3 arg9 harg9 arg10 harg10 t x h).dq))
              (endOf c i arg2 harg2 arg3 harg3 arg9 harg9 arg10 harg10 t x h).dk (endOf c i arg2 harg2 arg3 harg3 arg9 harg9 arg10 harg10 t x h).dv
              -∗ K ⟨⟩))
        ⊢ wp frame (wpE (defs₀ (F := F)) 𝒱₀ (c : Thread nD τ) none) E
          (k0_part14 i arg1 harg1 arg2 harg2 arg3 harg3 arg4 harg4 arg5 harg5 arg6 harg6 arg7 harg7 arg8 harg8 arg9 harg9 arg10 harg10
            (k0_pay3 (F := F)) (k0_pay4 (F := F)) (k0_pay5 (F := F)) 0#32 1#32 t) K } := by
  refine ⟨⟨?q, ?dO, ?tot, ?al, ⟨?m, ?g, ?dq, ?dk, ?dv⟩⟩, fun E d K => ?run⟩
  case run =>
    rw [k0_part14_eq_skeleton]; unfold k0_part14_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton]
    unfold k0_part1_skel k0_part2_skel k0_part3_skel k0_part4_skel k0_part5_skel k0_part6_skel k0_part7_skel k0_part8_skel
      k0_part9_skel k0_part10_skel k0_part11_skel k0_part12_skel k0_part13_skel
    simp only [Prog.lift, Prog.bind_op, Prog.bind_ret, Prog.pure_eq_ret]
    unfold heldB
    iintro ⟨⟨H1, H2, H3, H4, H5, H6, H9, H10⟩, Hk⟩
    iapply (Own.load 𝒱₀ (c : Thread nD τ) none E (r := rc1 t 0)) $$ H1; iintro H1
    iapply (Own.load 𝒱₀ (c : Thread nD τ) none E (r := rc1 t 1)) $$ H1; iintro H1
    iapply (Own.load 𝒱₀ (c : Thread nD τ) none E (r := rc1 t 0)) $$ H5; iintro H5
    iapply (Own.load 𝒱₀ (c : Thread nD τ) none E (r := rc1 t 1)) $$ H5; iintro H5
    iapply (Own.load 𝒱₀ (c : Thread nD τ) none E (r := rc1 t 0)) $$ H5; iintro H5
    iapply (Own.load 𝒱₀ (c : Thread nD τ) none E (r := rc1 t 0)) $$ H4; iintro H4
    iapply (Own.load 𝒱₀ (c : Thread nD τ) none E (r := rc1 t 1)) $$ H5; iintro H5
    iapply (Own.load 𝒱₀ (c : Thread nD τ) none E (r := rc1 t 1)) $$ H4; iintro H4
    -- key tile 0 of the peeled trip
    iapply (Own.load 𝒱₀ (c : Thread nD τ) none E (r := rc2 t 0)) $$ H2; iintro H2
    iapply (Own.load 𝒱₀ (c : Thread nD τ) none E (r := rc2 t 0)) $$ H3; iintro H3
    iapply (Own.load 𝒱₀ (c : Thread nD τ) none E (r := rc2 t 0)) $$ H9; iintro H9
    iapply (Own.load 𝒱₀ (c : Thread nD τ) none E (r := rc2 t 0)) $$ H9; iintro H9
    iapply (Own.store 𝒱₀ (c : Thread nD τ) none E (r := rc2 t 0)) $$ H9; iintro H9
    iapply (Own.load 𝒱₀ (c : Thread nD τ) none E (r := rc2 t 0)) $$ H10; iintro H10
    iapply (Own.load 𝒱₀ (c : Thread nD τ) none E (r := rc2 t 0)) $$ H10; iintro H10
    iapply (Own.store 𝒱₀ (c : Thread nD τ) none E (r := rc2 t 0)) $$ H10; iintro H10
    -- key tile 1 of the peeled trip
    iapply (Own.load 𝒱₀ (c : Thread nD τ) none E (r := rc2 t 1)) $$ H2; iintro H2
    iapply (Own.load 𝒱₀ (c : Thread nD τ) none E (r := rc2 t 1)) $$ H3; iintro H3
    iapply (Own.load 𝒱₀ (c : Thread nD τ) none E (r := rc2 t 1)) $$ H9; iintro H9
    iapply (Own.load 𝒱₀ (c : Thread nD τ) none E (r := rc2 t 1)) $$ H9; iintro H9
    iapply (Own.store 𝒱₀ (c : Thread nD τ) none E (r := rc2 t 1)) $$ H9; iintro H9
    iapply (Own.load 𝒱₀ (c : Thread nD τ) none E (r := rc2 t 1)) $$ H10; iintro H10
    iapply (Own.load 𝒱₀ (c : Thread nD τ) none E (r := rc2 t 1)) $$ H10; iintro H10
    iapply (Own.store 𝒱₀ (c : Thread nD τ) none E (r := rc2 t 1)) $$ H10; iintro H10
    -- key tile 2 of the peeled trip
    iapply (Own.load 𝒱₀ (c : Thread nD τ) none E (r := rc2 t 2)) $$ H2; iintro H2
    iapply (Own.load 𝒱₀ (c : Thread nD τ) none E (r := rc2 t 2)) $$ H3; iintro H3
    iapply (Own.load 𝒱₀ (c : Thread nD τ) none E (r := rc2 t 2)) $$ H9; iintro H9
    iapply (Own.load 𝒱₀ (c : Thread nD τ) none E (r := rc2 t 2)) $$ H9; iintro H9
    iapply (Own.store 𝒱₀ (c : Thread nD τ) none E (r := rc2 t 2)) $$ H9; iintro H9
    iapply (Own.load 𝒱₀ (c : Thread nD τ) none E (r := rc2 t 2)) $$ H10; iintro H10
    iapply (Own.load 𝒱₀ (c : Thread nD τ) none E (r := rc2 t 2)) $$ H10; iintro H10
    iapply (Own.store 𝒱₀ (c : Thread nD τ) none E (r := rc2 t 2)) $$ H10; iintro H10
    -- key tile 3 of the peeled trip
    iapply (Own.load 𝒱₀ (c : Thread nD τ) none E (r := rc2 t 3)) $$ H2; iintro H2
    iapply (Own.load 𝒱₀ (c : Thread nD τ) none E (r := rc2 t 3)) $$ H3; iintro H3
    iapply (Own.load 𝒱₀ (c : Thread nD τ) none E (r := rc2 t 3)) $$ H9; iintro H9
    iapply (Own.load 𝒱₀ (c : Thread nD τ) none E (r := rc2 t 3)) $$ H9; iintro H9
    iapply (Own.store 𝒱₀ (c : Thread nD τ) none E (r := rc2 t 3)) $$ H9; iintro H9
    iapply (Own.load 𝒱₀ (c : Thread nD τ) none E (r := rc2 t 3)) $$ H10; iintro H10
    iapply (Own.load 𝒱₀ (c : Thread nD τ) none E (r := rc2 t 3)) $$ H10; iintro H10
    iapply (Own.store 𝒱₀ (c : Thread nD τ) none E (r := rc2 t 3)) $$ H10; iintro H10
    -- the walk over the rest
    iapply (walkCall c i arg2 harg2 arg3 harg3 arg9 harg9 arg10 harg10 t x ⟨?q, ?dO, ?tot, ?al, ⟨?m, ?g, ?dq, ?dk, ?dv⟩⟩ E _ K)
    unfold held
    isplitl [H2 H3 H9 H10]
    · isplitl [H2]; · iexact H2
      isplitl [H3]; · iexact H3
      isplitl [H9]; · iexact H9
      iexact H10
    iintro %r %hr ⟨H2, H3, H9, H10⟩
    obtain ⟨r0, r1, r2, r3, r4⟩ := r
    simp only at hr
    subst hr
    simp only
    iapply (Own.load 𝒱₀ (c : Thread nD τ) none E (r := rc1 t 0)) $$ H6; iintro H6
    iapply (Own.store 𝒱₀ (c : Thread nD τ) none E (r := rc1 t 0)) $$ H6; iintro H6
    iapply (Own.load 𝒱₀ (c : Thread nD τ) none E (r := rc1 t 1)) $$ H6; iintro H6
    iapply (Own.store 𝒱₀ (c : Thread nD τ) none E (r := rc1 t 1)) $$ H6; iintro H6
    rw [wp_ret]; imodintro
    iapply Hk
    isplitl [H1]; · iexact H1
    isplitl [H2]; · iexact H2
    isplitl [H3]; · iexact H3
    isplitl [H4]; · iexact H4
    isplitl [H5]; · iexact H5
    isplitl [H6]; · iexact H6
    isplitl [H9]; · iexact H9
    iexact H10

end Cert.Proof.PI
-- ==== Proof.PI.HeadRun.lean ====
/-
  The peeled trip's record as the tile functions.
-/
module

public import proofs.«01_k».proof.Proof.PI.TripVal
public import proofs.«01_k».proof.Proof.PI.Trip

@[expose] public section

set_option maxRecDepth 16384

noncomputable section

namespace Cert.Proof.PI

open Cert.KernelIdeal Cert.KernelIdeal.Gen
open Idealize.ShloMosaic
open Idealize.ShloMosaic.TcCoe

variable {F : FTy → Type} [FloatOps F] [Named F]

section Payloads
variable (q dO w dz : FVec F S512x128 .bf16) (k v : FVec F S128x128 .bf16) (x : FVec F S128x128 .f32) (ue ui : FVec F S256x256 .bf16)
  (val : IVec S512x128 1) (m g dq tot gg e : FVec F S512x128 .f32) (sums : FVec F S512x256 .f32)

/-- A block's product added to the query gradient. -/
abbrev dqOf (dq : FVec F S512x128 .f32) (dz : FVec F S512x128 .bf16) (k : FVec F S128x128 .bf16) : FVec F S512x128 .f32 :=
  addf dq (matmul dot_S512x128_S128x128_S512x128_1_0_0_1_n_n none dz k (constant S512x128 .f32 0x00000000#32))
/-- The weights from their exponentials. -/
abbrev cut (val : IVec S512x128 1) (e : FVec F S512x128 .f32) : FVec F S512x128 .bf16 :=
  truncf .bf16 (select val e (broadcast S512x128 (Scalar.ofBits .f32 0x00000000#32))) bitsLt_bf16_f32

-- key tile 1
theorem p56 : k0_pay56 ue m val (k0_pay51 q k) (k0_pay52 q k) (Scalar.ofBits .f32 0x3F800000#32) = mOf val (tsp (tz q k)) m ue := rfl
theorem p57 : k0_pay57 ue m val (k0_pay50 q k) (k0_pay51 q k) (k0_pay52 q k) (Scalar.ofBits .f32 0x3F800000#32)
    = wOf val (tz q k) (tsp (tz q k)) m ue := rfl
theorem p59 : k0_pay59 ue ui dO m val (k0_pay50 q k) (k0_pay51 q k) (k0_pay52 q k) (Scalar.ofBits .f32 0x3F800000#32) v
    = tsplit (tg (wOf val (tz q k) (tsp (tz q k)) m ue) dO v) ui := rfl
theorem p60 : k0_pay60 ue ui dO tot m g val (k0_pay50 q k) (k0_pay51 q k) (k0_pay52 q k) (Scalar.ofBits .f32 0x3F800000#32) v
    = tdz val (tz q k) (tsp (tz q k)) (tg (wOf val (tz q k) (tsp (tz q k)) m ue) dO v) g tot
        (lo (tsplit (tg (wOf val (tz q k) (tsp (tz q k)) m ue) dO v) ui)) := rfl
theorem p61 : k0_pay61 q dz x (constant S128x128 .f32 0x00000000#32) = tacc dz q x := rfl
theorem p62 : k0_pay62 dO w x = tacc w dO x := rfl
theorem p63 : k0_pay63 g sums = addf g (hi sums) := rfl
theorem p64 : k0_pay64 dq k dz = dqOf dq dz k := rfl
-- key tile 2
theorem p72 (b : BitVec 32) (a c : IVec S512x128 32) (d : BitVec 32) : k0_pay72 ue q m k b a c d
    = mOf (k0_pay67 b a c d) (tsp (tz q k)) m ue := rfl
theorem p73 (b : BitVec 32) (a c : IVec S512x128 32) (d : BitVec 32) : k0_pay73 ue q m k b a c d
    = wOf (k0_pay67 b a c d) (tz q k) (tsp (tz q k)) m ue := rfl
theorem p74 (b : BitVec 32) (a c : IVec S512x128 32) (d : BitVec 32) : k0_pay74 ue q dO m k b a c d v
    = tg (wOf (k0_pay67 b a c d) (tz q k) (tsp (tz q k)) m ue) dO v := rfl
theorem p75 (b : BitVec 32) (a c : IVec S512x128 32) (d : BitVec 32) : k0_pay75 ue ui q dO m k b a c d v
    = tsplit (tg (wOf (k0_pay67 b a c d) (tz q k) (tsp (tz q k)) m ue) dO v) ui := rfl
theorem p77 : k0_pay77 q tot g val (k0_pay70 q k) gg sums x = tacc (tdz val (tz q k) (tsp (tz q k)) gg g tot (lo sums)) q x := rfl
theorem p78 : k0_pay78 dO w x = tacc w dO x := rfl
theorem p79 : k0_pay79 g sums = addf g (hi sums) := rfl
theorem p80 : k0_pay80 tot g dq k val (k0_pay70 q k) gg sums = dqOf dq (tdz val (tz q k) (tsp (tz q k)) gg g tot (lo sums)) k := rfl
-- key tile 3
theorem p86 (j b : BitVec 32) (a c : IVec S512x128 32) : k0_pay86 ue q j k b a c = tsplit (tstay (k0_pay82 j b a c) (tsp (tz q k))) ue := rfl
theorem p87 (j b : BitVec 32) (a c : IVec S512x128 32) : k0_pay87 ue q m j k b a c
    = exp (addf (subf (tz q k) (tsp (tz q k))) (addf m (lo (tsplit (tstay (k0_pay82 j b a c) (tsp (tz q k))) ue)))) := rfl
theorem p89 : k0_pay89 m sums = addf m (hi sums) := rfl
theorem p94 : k0_pay94 ui q dO tot g val (k0_pay85 q k) e k0_pay88 v x
    = tacc (tdz val (tz q k) (tsp (tz q k)) (tg (cut val e) dO v) g tot (lo (tsplit (tg (cut val e) dO v) ui))) q x := rfl
theorem p95 : k0_pay95 dO val e k0_pay88 x = tacc (cut val e) dO x := rfl
theorem p96 : k0_pay96 ui dO g val e k0_pay88 v = addf g (hi (tsplit (tg (cut val e) dO v) ui)) := rfl
theorem p98 : k0_pay98 dq (k0_pay97 ui dO tot g k val (k0_pay85 q k) e k0_pay88 v)
    = dqOf dq (tdz val (tz q k) (tsp (tz q k)) (tg (cut val e) dO v) g tot (lo (tsplit (tg (cut val e) dO v) ui))) k := rfl
theorem p99 : k0_pay99 m = k0_pay13 m := rfl
-- which keys
theorem p49 (b l : BitVec 32) : k0_pay49 b l = tValid (Scalar.subi (Scalar.subi l 0#32) 1#32) (Scalar.addi b 0#32) := rfl
theorem p67 (b l : BitVec 32) : k0_pay67 b k0_pay65 (k0_pay66 l) 128#32 = tValid (Scalar.subi (Scalar.subi l 0#32) 2#32) b := rfl
theorem p82 (j b : BitVec 32) : k0_pay82 j b (iota .tc S512x128 32 [0] iota_S512x128_d0_w32) k0_pay81 = tValid j b := rfl
end Payloads

variable (t : Fin k0_t1_loop.trips) (x : Ins F) (dk dv : Vec F S8192x128 .f32)

/-- The two query tiles, stacked by head, -/
def hQ : FVec F S512x128 .bf16 :=
  k0_pay17 (View.ld x.q (rc1 t 1)) (k0_pay14 (View.ld x.q (rc1 t 0))) k0_pay15 (k0_pay16 (View.ld x.q (rc1 t 1))) (Scalar.ofBits .f32 0x3F800000#32)
/-- the output's gradient, -/
def hD : FVec F S512x128 .bf16 :=
  k0_pay22 (k0_pay18 (View.ld x.dO (rc1 t 0))) (k0_pay19 (View.ld x.dO (rc1 t 1))) k0_pay20 k0_pay21
/-- and the row totals. -/
def hT : FVec F S512x128 .f32 :=
  k0_pay25 (k0_pay23 (View.ld x.dO (rc1 t 0)) (View.ld x.o (rc1 t 0))) (k0_pay24 (View.ld x.dO (rc1 t 1))) (View.ld x.o (rc1 t 1))

/-- What the block's walk reads. -/
abbrev hB : Blk F := ⟨hQ t x, k0_pay3, hD t x, k0_pay4, hT t x⟩

/-- The block's later query tile. -/
abbrev laterOf : BitVec 32 := Scalar.addi (Scalar.muli (Scf.iv 0#32 1#32 t) 2#32) 1#32
/-- Which of the last key tile's keys the later query tile's rows may attend to. -/
abbrev val0 : IVec S256x128 1 := k0_pay30 (Scalar.subi (Scalar.subi (lastOf t) 0#32) 0#32) (laterOf t) k0_pay28 k0_pay29
/-- Its weights, -/
abbrev w0 : FVec F S256x128 .bf16 :=
  k0_pay36 k0_pay3 (Scalar.subi (Scalar.subi (lastOf t) 0#32) 0#32) (View.ld x.k (rc2 t 0)) (laterOf t) (k0_pay26 (hQ t x)) (k0_pay27 k0_pay5) k0_pay28 k0_pay29
/-- widened. -/
abbrev w0' : FVec F S256x128 .f32 :=
  k0_pay37 k0_pay3 (Scalar.subi (Scalar.subi (lastOf t) 0#32) 0#32) (View.ld x.k (rc2 t 0)) (laterOf t) (k0_pay26 (hQ t x)) (k0_pay27 k0_pay5) k0_pay28 k0_pay29

/-- After the last key tile. -/
def st0 : St F where
  m := k0_pay44 k0_pay5
    (k0_pay35 k0_pay3 (Scalar.subi (Scalar.subi (lastOf t) 0#32) 0#32) (View.ld x.k (rc2 t 0)) (laterOf t) (k0_pay26 (hQ t x)) (k0_pay27 k0_pay5) k0_pay28 k0_pay29)
  g := k0_pay47 (k0_pay45 k0_pay4 k0_pay5 (w0' t x) (k0_pay38 (hD t x)) (View.ld x.v (rc2 t 0))) (k0_pay46 k0_pay5)
  dq := k0_pay48 k0_pay5 (View.ld x.k (rc2 t 0))
    (k0_pay41 k0_pay4 k0_pay5 (hT t x) (val0 t) (k0_pay33 (View.ld x.k (rc2 t 0)) (k0_pay26 (hQ t x))) (w0' t x) (k0_pay38 (hD t x)) (View.ld x.v (rc2 t 0)))
  dk := (rc2 t 0).overlay dk (k0_pay42 k0_pay4 k0_pay5 (hQ t x) (hT t x) (val0 t) (k0_pay33 (View.ld x.k (rc2 t 0)) (k0_pay26 (hQ t x))) (w0' t x)
    (k0_pay38 (hD t x)) (View.ld x.v (rc2 t 0)) (View.ld dk (rc2 t 0)))
  dv := (rc2 t 0).overlay dv (k0_pay43 (hD t x) (w0 t x) (View.ld dv (rc2 t 0)))

/-- After the peeled trip. -/
def headSt : St F :=
  let tl (r : Fin 4) : St F → St F :=
    tileSt (tValid (Scalar.subi (Scalar.subi (lastOf t) 0#32) (BitVec.ofNat 32 r.val)) (firstOf t)) (hB t x) x.k x.v
      (k0_off2 t (BitVec.ofNat 32 r.val)) (k0_off2_inb t r)
  tl 3 (tl 2 (tl 1 (st0 t x dk dv)))

/-- What the peeled trip hands to the walk. -/
def headOf : Head F := ⟨hQ t x, hD t x, hT t x, aliveOf (headSt t x dk dv).m, headSt t x dk dv⟩

variable (c : Dev nD) (i : grid0.Coords)
  (arg1 : Memref sig .tc .vmem S8192x128 .bf16) (harg1 : arg1.IsWhole) (arg2 : Memref sig .tc .vmem S8192x128 .bf16) (harg2 : arg2.IsWhole)
  (arg3 : Memref sig .tc .vmem S8192x128 .bf16) (harg3 : arg3.IsWhole) (arg4 : Memref sig .tc .vmem S8192x128 .f32) (harg4 : arg4.IsWhole)
  (arg5 : Memref sig .tc .vmem S8192x128 .f32) (harg5 : arg5.IsWhole) (arg6 : Memref sig .tc .vmem S8192x128 .bf16) (harg6 : arg6.IsWhole)
  (arg7 : Memref sig .tc .vmem S8192x128 .bf16) (harg7 : arg7.IsWhole) (arg8 : Memref sig .tc .vmem S8192x128 .bf16) (harg8 : arg8.IsWhole)
  (arg9 : Memref sig .tc .vmem S8192x128 .f32) (harg9 : arg9.IsWhole) (arg10 : Memref sig .tc .vmem S8192x128 .f32) (harg10 : arg10.IsWhole)

theorem blockRun_val :
    (blockRun c i arg1 harg1 arg2 harg2 arg3 harg3 arg4 harg4 arg5 harg5 arg6 harg6 arg7 harg7 arg8 harg8 arg9 harg9 arg10 harg10 t x dk dv).1
      = headOf t x dk dv := by
  unfold blockRun
  dsimp only
  simp only [p56, p57, p59, p60, p61, p62, p63, p64, p72, p73, p74, p75, p77, p78, p79, p80, p86, p87, p89, p94, p95, p96, p98, p99, p49, p67, p82]
  simp only [headOf, headSt, st0, tileSt, tileDz, tileG, tileW, tw]
  rfl
end Cert.Proof.PI
-- ==== Proof.PI.TileVal.lean ====
/-
  A key tile's functions read at an index, over the reals.
-/
module

public import proofs.«01_k».proof.Proof.PI.TripVal
public import proofs.«01_k».proof.Proof.Row
public import Idealize.ShloMosaic.Lib.WordCmp

@[expose] public section

set_option maxRecDepth 16384

noncomputable section

namespace Cert.Proof.PI

open Cert.KernelIdeal Cert.KernelIdeal.Gen
open Idealize.ShloMosaic
open Idealize.ShloMosaic.TcCoe

/-! ### The suffix matrices -/

theorem suffix_entry (p : Prop) [Decidable p] :
    FloatOps.sitofp (F := Ideal) .f32 ((BitVec.ofBool (decide p)).setWidth 32) = (((if p then 1 else 0 : ℝ)) : EReal) := by
  show (((BitVec.toInt _ : ℤ) : ℝ) : EReal) = _
  by_cases hp : p <;> simp [hp]

theorem ue_at (a b : Fin 256) :
    k0_pay3 (F := Ideal) (ix2 a b) = (((if b.val < 128 then (if b.val < a.val % 128 then 1 else 0) else 1) : ℝ) : EReal) := by
  pointwise [k0_pay3, k0_pay1, k0_pay2]
  have ha : IntOp.andi (BitVec.ofNat 32 a.val) 127#32 = BitVec.ofNat 32 (a.val % 128) := by revert a; decide
  by_cases h : b.val < 128
  · rw [dif_pos h, if_pos h, ha, WordCmp.cmpi_sgt_ofNat (by omega) (by omega), suffix_entry]
  · rw [dif_neg h, if_neg h]; rfl

theorem ui_at (a b : Fin 256) :
    k0_pay4 (F := Ideal) (ix2 a b) = (((if b.val < 128 then (if b.val ≤ a.val % 128 then 1 else 0) else 1) : ℝ) : EReal) := by
  pointwise [k0_pay4, k0_pay1, k0_pay2]
  have ha : IntOp.andi (BitVec.ofNat 32 a.val) 127#32 = BitVec.ofNat 32 (a.val % 128) := by revert a; decide
  by_cases h : b.val < 128
  · rw [dif_pos h, if_pos h, ha, WordCmp.cmpi_sge_ofNat (by omega) (by omega), suffix_entry]
  · rw [dif_neg h, if_neg h]; rfl

section Row
variable {q dO : FVec Ideal S512x128 .bf16} {k v : FVec Ideal S128x128 .bf16} {Q D : Fin 128 → ℝ} {K V : Fin 128 → Fin 128 → ℝ} {r : Fin 512}
  {ok : Fin 128 → Prop} [DecidablePred ok] {val : IVec S512x128 1} {M G T : ℝ} {m g tot : FVec Ideal S512x128 .f32}
  {ue ui : FVec Ideal S256x256 .bf16}

/-- A matrix of the strictly later keys, -/
def IsUe (ue : FVec Ideal S256x256 .bf16) : Prop :=
  ∀ a b : Fin 256, ue (ix2 a b) = (((if b.val < 128 then (if b.val < a.val % 128 then 1 else 0) else 1) : ℝ) : EReal)
/-- and one of a key and the later ones. -/
def IsUi (ui : FVec Ideal S256x256 .bf16) : Prop :=
  ∀ a b : Fin 256, ui (ix2 a b) = (((if b.val < 128 then (if b.val ≤ a.val % 128 then 1 else 0) else 1) : ℝ) : EReal)

theorem tz_at (hq : ∀ c, q (ix2 r c) = ((Q c : ℝ) : EReal)) (hk : ∀ l c, k (ix2 l c) = ((K l c : ℝ) : EReal)) (l : Fin 128) :
    tz q k (ix2 r l) = ((Row.z Q K l : ℝ) : EReal) := by
  pointwise [tz, hq, hk]
  rw [eighth, Row.z]
  push_cast [coe_sum]
  rfl

theorem coe_spl (Z : ℝ) : max (Z : EReal) 0 + FloatOps.log (F := Ideal) (φ := .f32) (1 + FloatOps.exp (F := Ideal) (φ := .f32) (0 - FloatOps.absf (F := Ideal) (φ := .f32) (Z : EReal)))
    = ((spl Z : ℝ) : EReal) := by
  have h : FloatOps.absf (F := Ideal) (φ := .f32) (Z : EReal) = ((|Z| : ℝ) : EReal) := by
    rw [Ideal.absf_def, abs, ← EReal.coe_neg]; exact (coe_max _ _).symm
  rw [h, ← EReal.coe_zero, ← EReal.coe_sub]
  show max (Z : EReal) _ + Ideal.log (1 + Ideal.exp _) = _
  rw [Ideal.exp_coe, ← EReal.coe_one, ← EReal.coe_add, Ideal.log_coe, if_neg, ← coe_max, ← EReal.coe_add]
  · rw [spl, zero_sub]
  · have := Real.exp_pos (0 - |Z|); linarith

theorem tsp_at {z : FVec Ideal S512x128 .f32} {Z : ℝ} {l : Fin 128} (hz : z (ix2 r l) = (Z : EReal)) :
    tsp z (ix2 r l) = ((spl Z : ℝ) : EReal) := by
  pointwise [tsp, hz]
  exact coe_spl Z

theorem lo_tsplit {x : FVec Ideal S512x128 .f32} {u : FVec Ideal S256x256 .bf16} {X : Fin 128 → ℝ} {U : Fin 256 → Fin 256 → ℝ}
    (hx : ∀ l, x (ix2 r l) = ((X l : ℝ) : EReal)) (hu : ∀ a b, u (ix2 a b) = ((U a b : ℝ) : EReal)) (l : Fin 128) :
    lo (tsplit x u) (ix2 r l) = ((∑ j : Fin 128, X j * U ⟨j.val, by omega⟩ ⟨l.val, by omega⟩ : ℝ) : EReal) := by
  pointwise [lo, tsplit, hx, hu]
  simp only [← EReal.coe_sub, sub_self, EReal.coe_zero, zero_mul, Finset.sum_const_zero, add_zero, coe_sum, EReal.coe_mul]

theorem hi_tsplit {x : FVec Ideal S512x128 .f32} {u : FVec Ideal S256x256 .bf16} {X : Fin 128 → ℝ} {U : Fin 256 → Fin 256 → ℝ}
    (hx : ∀ l, x (ix2 r l) = ((X l : ℝ) : EReal)) (hu : ∀ a b, u (ix2 a b) = ((U a b : ℝ) : EReal)) (l : Fin 128) :
    hi (tsplit x u) (ix2 r l) = ((∑ j : Fin 128, X j * U ⟨j.val, by omega⟩ ⟨128 + l.val, by omega⟩ : ℝ) : EReal) := by
  pointwise [hi, tsplit, hx, hu]
  simp only [← EReal.coe_sub, sub_self, EReal.coe_zero, zero_mul, Finset.sum_const_zero, add_zero, coe_sum, EReal.coe_mul]

theorem lo_ue {x : FVec Ideal S512x128 .f32} {X : Fin 128 → ℝ} (hx : ∀ l, x (ix2 r l) = ((X l : ℝ) : EReal)) (hu : IsUe ue) (l : Fin 128) :
    lo (tsplit x ue) (ix2 r l) = ((∑ j : Fin 128, X j * (if l < j then 1 else 0) : ℝ) : EReal) := by
  rw [lo_tsplit hx hu]
  congr 2; funext j
  simp [Nat.mod_eq_of_lt j.isLt]

theorem lo_ui {x : FVec Ideal S512x128 .f32} {X : Fin 128 → ℝ} (hx : ∀ l, x (ix2 r l) = ((X l : ℝ) : EReal)) (hu : IsUi ui) (l : Fin 128) :
    lo (tsplit x ui) (ix2 r l) = ((∑ j : Fin 128, X j * (if l ≤ j then 1 else 0) : ℝ) : EReal) := by
  rw [lo_tsplit hx hu]
  congr 2; funext j
  simp [Nat.mod_eq_of_lt j.isLt]

theorem hi_ue {x : FVec Ideal S512x128 .f32} {X : Fin 128 → ℝ} (hx : ∀ l, x (ix2 r l) = ((X l : ℝ) : EReal)) (hu : IsUe ue) (l : Fin 128) :
    hi (tsplit x ue) (ix2 r l) = ((∑ j : Fin 128, X j : ℝ) : EReal) := by
  rw [hi_tsplit hx hu]
  simp

theorem hi_ui {x : FVec Ideal S512x128 .f32} {X : Fin 128 → ℝ} (hx : ∀ l, x (ix2 r l) = ((X l : ℝ) : EReal)) (hu : IsUi ui) (l : Fin 128) :
    hi (tsplit x ui) (ix2 r l) = ((∑ j : Fin 128, X j : ℝ) : EReal) := by
  rw [hi_tsplit hx hu]
  simp

theorem tstay_at (hq : ∀ c, q (ix2 r c) = ((Q c : ℝ) : EReal)) (hk : ∀ l c, k (ix2 l c) = ((K l c : ℝ) : EReal))
    (hv : ∀ l, val (ix2 r l) = BitVec.ofBool (decide (ok l))) (l : Fin 128) :
    tstay val (tsp (tz q k)) (ix2 r l) = ((Row.stay Q K ok l : ℝ) : EReal) := by
  have h := tsp_at (tz_at hq hk l)
  pointwise [tstay, h, hv]
  rw [Row.stay]
  split
  · rw [← EReal.coe_zero, ← EReal.coe_sub, zero_sub]
  · rfl

variable (B : Blk Ideal)

theorem tileW_at (hq : ∀ c, B.q (ix2 r c) = ((Q c : ℝ) : EReal)) (hk : ∀ l c, k (ix2 l c) = ((K l c : ℝ) : EReal))
    (hv : ∀ l, val (ix2 r l) = BitVec.ofBool (decide (ok l))) (hue : IsUe B.ue) (hm : ∀ l, m (ix2 r l) = ((M : ℝ) : EReal)) (l : Fin 128) :
    tileW val B k m (ix2 r l) = ((Row.w Q K ok M l : ℝ) : EReal) := by
  have h := tsp_at (tz_at hq hk l)
  have hz := tz_at hq hk l
  have ha := lo_ue (tstay_at hq hk hv) hue l
  rw [tileW]
  generalize lo (tsplit (tstay val (tsp (tz B.q k))) B.ue) = A at *
  generalize tsp (tz B.q k) = sp at *
  generalize tz B.q k = zz at *
  pointwise [tw, h, hz, ha, hv, hm]
  rw [Row.w]
  split
  · rw [← EReal.coe_sub, ← EReal.coe_add, ← EReal.coe_add]; exact Ideal.exp_coe _
  · rfl

theorem tileG_at (hq : ∀ c, B.q (ix2 r c) = ((Q c : ℝ) : EReal)) (hd : ∀ c, B.dO (ix2 r c) = ((D c : ℝ) : EReal))
    (hk : ∀ l c, k (ix2 l c) = ((K l c : ℝ) : EReal)) (hvv : ∀ l c, v (ix2 l c) = ((V l c : ℝ) : EReal))
    (hv : ∀ l, val (ix2 r l) = BitVec.ofBool (decide (ok l))) (hue : IsUe B.ue) (hm : ∀ l, m (ix2 r l) = ((M : ℝ) : EReal)) (l : Fin 128) :
    tileG val B k v m (ix2 r l) = ((Row.share Q D K V ok M l : ℝ) : EReal) := by
  have h := tileW_at B hq hk hv hue hm l
  rw [tileG]
  generalize tileW val B k m = wb at *
  pointwise [tg, h, hd, hvv]
  rw [Row.share]
  push_cast [coe_sum]
  rfl

theorem tileDz_at (hq : ∀ c, B.q (ix2 r c) = ((Q c : ℝ) : EReal)) (hd : ∀ c, B.dO (ix2 r c) = ((D c : ℝ) : EReal))
    (ht : ∀ l, B.tot (ix2 r l) = ((T : ℝ) : EReal))
    (hk : ∀ l c, k (ix2 l c) = ((K l c : ℝ) : EReal)) (hvv : ∀ l c, v (ix2 l c) = ((V l c : ℝ) : EReal))
    (hv : ∀ l, val (ix2 r l) = BitVec.ofBool (decide (ok l))) (hue : IsUe B.ue) (hui : IsUi B.ui)
    (hm : ∀ l, m (ix2 r l) = ((M : ℝ) : EReal)) (hg : ∀ l, g (ix2 r l) = ((G : ℝ) : EReal)) (l : Fin 128) :
    tileDz val B k v m g (ix2 r l) = ((Row.dz Q D K V ok T M G l : ℝ) : EReal) := by
  have h := tsp_at (tz_at hq hk l)
  have hz := tz_at hq hk l
  have hG := tileG_at B hq hd hk hvv hv hue hm l
  have ha := lo_ui (tileG_at B hq hd hk hvv hv hue hm) hui l
  rw [tileDz]
  generalize lo (tsplit (tileG val B k v m) B.ui) = A at *
  generalize tileG val B k v m = gg at *
  generalize tsp (tz B.q k) = sp at *
  generalize tz B.q k = zz at *
  pointwise [tdz, h, hz, ha, hv, hm, hG, hg, ht]
  rw [Row.dz, eighth, EReal.coe_mul]
  congr 1
  split
  · rw [← EReal.coe_sub (Row.z Q K l)]
    rw [Ideal.exp_coe, ← EReal.coe_add, ← EReal.coe_sub, ← EReal.coe_add, ← EReal.coe_mul, ← EReal.coe_sub]; rfl
  · rfl

theorem dq_at {dq : FVec Ideal S512x128 .f32} {d : FVec Ideal S512x128 .bf16} {X : Fin 128 → ℝ} {Y : ℝ} (c : Fin 128)
    (hd : ∀ l, d (ix2 r l) = ((X l : ℝ) : EReal)) (hk : ∀ l c, k (ix2 l c) = ((K l c : ℝ) : EReal)) (hy : dq (ix2 r c) = ((Y : ℝ) : EReal)) :
    addf dq (matmul dot_S512x128_S128x128_S512x128_1_0_0_1_n_n none d k (constant S512x128 .f32 0x00000000#32)) (ix2 r c)
      = ((Y + ∑ l, X l * K l c : ℝ) : EReal) := by
  pointwise [hd, hk, hy]
  push_cast [coe_sum]
  rfl

end Row

theorem tacc_at {d b : FVec Ideal S512x128 .bf16} {x : FVec Ideal S128x128 .f32} {X Y : Fin 512 → Fin 128 → ℝ} {A : ℝ} (l c : Fin 128)
    (hd : ∀ r l, d (ix2 r l) = ((X r l : ℝ) : EReal)) (hb : ∀ r c, b (ix2 r c) = ((Y r c : ℝ) : EReal)) (hx : x (ix2 l c) = ((A : ℝ) : EReal)) :
    tacc d b x (ix2 l c) = ((A + ∑ r, X r l * Y r c : ℝ) : EReal) := by
  pointwise [tacc, hd, hb, hx]
  push_cast [coe_sum]
  rfl

end Cert.Proof.PI
-- ==== Proof.PI.Inv.lean ====
/-
  What the walk over the keys keeps: after the tiles from `N` on, the sums over the keys from `128 N` on.
-/
module

public import proofs.«01_k».proof.Proof.PI.TileVal
public import proofs.«01_k».proof.Proof.Model

@[expose] public section

set_option maxRecDepth 16384

noncomputable section

namespace Cert.Proof.PI

open Cert.KernelIdeal Cert.KernelIdeal.Gen
open Idealize.ShloMosaic
open Idealize.ShloMosaic.TcCoe

/-! ### Rows of a block at an offset -/

theorem ld_rows {α : EltTy} (x : Vec Ideal S8192x128 α) (off : Fin 2 → ℕ) (inb : ∀ a, off a + S128x128.size a ≤ S8192x128.size a)
    (j : ℕ) (hj : j < 64) (ho : off = ![128 * j, 0]) (l c : Fin 128) :
    View.ld x (rows off inb) (ix2 l c) = x (ix2 (⟨128 * j + l.val, by omega⟩ : Fin 8192) c) := by
  subst ho
  show x _ = x _
  congr 1
  funext a
  apply Fin.ext
  fin_cases a
  · show 128 * j + 1 * l.val = _; simp [ix2]
  · show 0 + 1 * c.val = _; simp [ix2]

theorem overlay_in {α : Type} (x : S8192x128.Idx → α) (off : Fin 2 → ℕ) (inb : ∀ a, off a + S128x128.size a ≤ S8192x128.size a)
    (g : S128x128.Idx → α) (j : ℕ) (hj : j < 64) (ho : off = ![128 * j, 0]) (l c : Fin 128) :
    (rows off inb).overlay x g (ix2 (⟨128 * j + l.val, by omega⟩ : Fin 8192) c) = g (ix2 l c) := by
  subst ho
  have h : (ix2 (⟨128 * j + l.val, by omega⟩ : Fin 8192) c : S8192x128.Idx) = (rows ![128 * j, 0] inb).emb (ix2 l c) := by
    funext a
    apply Fin.ext
    fin_cases a
    · show _ = 128 * j + 1 * l.val; simp [ix2]
    · show _ = 0 + 1 * c.val; simp [ix2]
  rw [h]; exact Rect.overlay_emb _ _ _ _

theorem overlay_out {α : Type} (x : S8192x128.Idx → α) (off : Fin 2 → ℕ) (inb : ∀ a, off a + S128x128.size a ≤ S8192x128.size a)
    (g : S128x128.Idx → α) (j : ℕ) (ho : off = ![128 * j, 0]) (u : Fin 8192) (c : Fin 128) (h : ¬ (128 * j ≤ u.val ∧ u.val < 128 * j + 128)) :
    (rows off inb).overlay x g (ix2 u c) = x (ix2 u c) := by
  subst ho
  refine Rect.overlay_of_not_mem _ _ _ fun hm => h ?_
  rw [Rect.mem_set_unit] at hm
  exact hm 0

/-- Key `l` of tile `j`. -/
abbrev keyAt (j : ℕ) (hj : j < 64) (l : Fin 128) : Fin 8192 := ⟨128 * j + l.val, by omega⟩

theorem in_tile (j : ℕ) (hj : j < 64) (u : Fin 8192) (h : 128 * j ≤ u.val ∧ u.val < 128 * j + 128) :
    ∃ l : Fin 128, u = keyAt j hj l :=
  ⟨⟨u.val - 128 * j, by omega⟩, by apply Fin.ext; show u.val = 128 * j + (u.val - 128 * j); omega⟩

/-- An accumulator whose keys from tile `j + 1` on are done, -/
def AccIs (x : S8192x128.Idx → EReal) (n : ℕ) (a b : ℕ → Fin 128 → ℝ) : Prop :=
  ∀ (u : Fin 8192) (c : Fin 128), x (ix2 u c) = ((a u.val c + (if 128 * n ≤ u.val then b u.val c else 0) : ℝ) : EReal)

section Acc
variable {x : Vec Ideal S8192x128 .f32} {off : Fin 2 → ℕ} {inb : ∀ a, off a + S128x128.size a ≤ S8192x128.size a}
  {j : ℕ} {a b : ℕ → Fin 128 → ℝ}

/-- its tile `j` as read -/
theorem AccIs.ld (hx : AccIs x (j + 1) a b) (hj : j < 64) (ho : off = ![128 * j, 0]) (l c : Fin 128) :
    View.ld x (rows off inb) (ix2 l c) = ((a (128 * j + l.val) c : ℝ) : EReal) := by
  rw [ld_rows x off inb j hj ho, hx]
  have h1 : ¬ 128 * (j + 1) ≤ 128 * j + l.val := by omega
  simp only [if_neg h1, add_zero]

/-- and as written. -/
theorem AccIs.step (hx : AccIs x (j + 1) a b) (hj : j < 64) (ho : off = ![128 * j, 0]) {g : S128x128.Idx → EReal}
    (hg : ∀ l c : Fin 128, g (ix2 l c) = ((a (128 * j + l.val) c + b (128 * j + l.val) c : ℝ) : EReal)) :
    AccIs ((rows off inb).overlay x g) j a b := fun u c => by
  by_cases hu : 128 * j ≤ u.val ∧ u.val < 128 * j + 128
  · obtain ⟨l, rfl⟩ := in_tile j hj u hu
    refine (overlay_in x off inb g j hj ho l c).trans ((hg l c).trans ?_)
    have h2 : 128 * j ≤ 128 * j + l.val := by omega
    simp only [if_pos h2]
  · refine (overlay_out x off inb g j ho u c hu).trans ((hx u c).trans ?_)
    have : (128 * (j + 1) ≤ u.val) = (128 * j ≤ u.val) := by apply propext; omega
    simp only [this]

/-- A write of what is there. -/
theorem AccIs.same {n : ℕ} (hx : AccIs x n a b) (hj : j < 64) (ho : off = ![128 * j, 0]) {g : S128x128.Idx → EReal}
    (hg : ∀ l c : Fin 128, g (ix2 l c) = View.ld x (rows off inb) (ix2 l c)) :
    AccIs ((rows off inb).overlay x g) n a b := fun u c => by
  by_cases hu : 128 * j ≤ u.val ∧ u.val < 128 * j + 128
  · obtain ⟨l, rfl⟩ := in_tile j hj u hu
    exact (overlay_in x off inb g j hj ho l c).trans ((hg l c).trans ((ld_rows x off inb j hj ho l c).trans (hx _ c)))
  · exact (overlay_out x off inb g j ho u c hu).trans (hx u c)
end Acc

/-! ### The real data -/

/-- The five input blocks, over the reals: queries, keys, values, the output's gradient, and the row totals by head. -/
structure RIn where
  q : ℕ → Fin 128 → ℝ
  k : ℕ → Fin 128 → ℝ
  v : ℕ → Fin 128 → ℝ
  dO : ℕ → Fin 128 → ℝ
  tot : ℕ → ℕ → ℝ

variable (X : RIn) (t : ℕ)

/-- The position of a stacked row, -/
def pos (r : Fin 512) : ℕ := 256 * t + 128 * (r.val / 256) + r.val % 128
/-- and its head. -/
def hd (r : Fin 512) : ℕ := r.val / 128 % 2
/-- The stacked queries, -/
def rQ (r : Fin 512) (c : Fin 128) : ℝ := if c.val / 64 = hd r then X.q (pos t r) c else 0
/-- output gradients -/
def rD (r : Fin 512) (c : Fin 128) : ℝ := if c.val / 64 = hd r then X.dO (pos t r) c else 0
/-- and row totals. -/
def rT (r : Fin 512) : ℝ := X.tot (pos t r) (hd r)

/-- The log of what a key leaves, -/
abbrev rL (r : Fin 512) : ℕ → ℝ := Full.L (rQ X t r) X.k (pos t r)
/-- the weights, -/
abbrev rW (r : Fin 512) : ℕ → ℝ := Full.W (rQ X t r) X.k (pos t r)
/-- the shares -/
abbrev rS (r : Fin 512) : ℕ → ℝ := Full.S (rQ X t r) (rD X t r) X.k X.v (pos t r)
/-- and the scores' gradient, of a stacked row. -/
abbrev rDZ (r : Fin 512) : ℕ → ℝ := Full.DZ (rQ X t r) (rD X t r) X.k X.v (pos t r) (rT X t r)

/-- The block's data are the real ones. -/
structure IsBlk (B : Blk Ideal) : Prop where
  q : ∀ r c, B.q (ix2 r c) = ((rQ X t r c : ℝ) : EReal)
  d : ∀ r c, B.dO (ix2 r c) = ((rD X t r c : ℝ) : EReal)
  tot : ∀ r (l : Fin 128), B.tot (ix2 r l) = ((rT X t r : ℝ) : EReal)
  ue : IsUe B.ue
  ui : IsUi B.ui

/-- After the tiles from `N` on. -/
structure Inv (N : ℕ) (dk0 dv0 : ℕ → Fin 128 → ℝ) (s : St Ideal) : Prop where
  m : ∀ r (l : Fin 128), s.m (ix2 r l) = ((tail (rL X t r) (128 * N) : ℝ) : EReal)
  g : ∀ r (l : Fin 128), s.g (ix2 r l) = ((tail (rS X t r) (128 * N) : ℝ) : EReal)
  dq : ∀ r (c : Fin 128), s.dq (ix2 r c) = ((tail (fun u => rDZ X t r u * X.k u c) (128 * N) : ℝ) : EReal)
  dk : AccIs s.dk N dk0 (fun u c => ∑ r, rDZ X t r u * rQ X t r c)
  dv : AccIs s.dv N dv0 (fun u c => ∑ r, rW X t r u * rD X t r c)

/-- A block read is the real one. -/
def Is (x : Vec Ideal S8192x128 .bf16) (f : ℕ → Fin 128 → ℝ) : Prop := ∀ (u : Fin 8192) (c : Fin 128), x (ix2 u c) = ((f u.val c : ℝ) : EReal)

variable {X t} {B : Blk Ideal} {dk0 dv0 : ℕ → Fin 128 → ℝ} {s : St Ideal} {val : IVec S512x128 1} {xk xv : Vec Ideal S8192x128 .bf16}
  {off : Fin 2 → ℕ} {inb : ∀ a, off a + S128x128.size a ≤ S8192x128.size a}

/-- A tile of keys. -/
theorem tile_inv (hB : IsBlk X t B) (hk : Is xk X.k) (hv : Is xv X.v) (j : ℕ) (hj : j < 64) (ho : off = ![128 * j, 0])
    (hval : ∀ r (l : Fin 128), val (ix2 r l) = BitVec.ofBool (decide (128 * j + l.val < pos t r)))
    (h : Inv X t (j + 1) dk0 dv0 s) : Inv X t j dk0 dv0 (tileSt val B xk xv off inb s) := by
  have hK : ∀ l c, View.ld xk (rows off inb) (ix2 l c) = ((til X.k j l c : ℝ) : EReal) := fun l c => by
    rw [ld_rows xk off inb j hj ho, hk]
  have hV : ∀ l c, View.ld xv (rows off inb) (ix2 l c) = ((til X.v j l c : ℝ) : EReal) := fun l c => by
    rw [ld_rows xv off inb j hj ho, hv]
  have hw := fun r => tileW_at (k := View.ld xk (rows off inb)) (ok := tok (pos t r) j) B (hB.q r) hK (hval r) hB.ue (h.m r)
  have hg := fun r => tileG_at (k := View.ld xk (rows off inb)) (v := View.ld xv (rows off inb)) (ok := tok (pos t r) j) B (hB.q r) (hB.d r) hK hV (hval r) hB.ue (h.m r)
  have hz := fun r => tileDz_at (k := View.ld xk (rows off inb)) (v := View.ld xv (rows off inb)) (ok := tok (pos t r) j) B (hB.q r) (hB.d r) (hB.tot r) hK hV (hval r) hB.ue hB.ui (h.m r) (h.g r)
  simp only [row_w _ _ _ j hj] at hw
  simp only [row_share _ _ _ _ _ j hj] at hg
  simp only [row_dz _ _ _ _ _ _ j hj] at hz
  refine ⟨fun r l => ?_, fun r l => ?_, fun r c => ?_, h.dk.step hj ho fun l c => ?_, h.dv.step hj ho fun l c => ?_⟩
  · have := hi_ue (tstay_at (ok := tok (pos t r) j) (hB.q r) hK (hval r)) hB.ue l
    show s.m _ + _ = _
    rw [← row_m (rQ X t r) X.k (pos t r) j hj, EReal.coe_add, h.m]
    exact congrArg _ this
  · have := hi_ui (hg r) hB.ui l
    show s.g _ + _ = _
    rw [h.g, tail_tile _ j hj, EReal.coe_add]; exact congrArg _ this
  · refine (dq_at c (hz r) hK (h.dq r c)).trans ?_
    rw [tail_tile _ j hj]
  · exact tacc_at l c hz hB.q (h.dk.ld hj ho l c)
  · exact tacc_at l c hw hB.d (h.dv.ld hj ho l c)

/-- A tile past the first key: nothing changes. -/
theorem pad_inv (hB : IsBlk X t B) (hk : Is xk X.k) (hv : Is xv X.v) (ho : off = ![128 * 0, 0])
    (hval : ∀ r (l : Fin 128), val (ix2 r l) = BitVec.ofBool (decide False))
    (h : Inv X t 0 dk0 dv0 s) : Inv X t 0 dk0 dv0 (tileSt val B xk xv off inb s) := by
  have hK : ∀ l c, View.ld xk (rows off inb) (ix2 l c) = ((til X.k 0 l c : ℝ) : EReal) := fun l c => by
    rw [ld_rows xk off inb 0 (by omega) ho, hk]
  have hV : ∀ l c, View.ld xv (rows off inb) (ix2 l c) = ((til X.v 0 l c : ℝ) : EReal) := fun l c => by
    rw [ld_rows xv off inb 0 (by omega) ho, hv]
  have hw := fun r => tileW_at (k := View.ld xk (rows off inb)) (ok := fun _ => False) B (hB.q r) hK (hval r) hB.ue (h.m r)
  have hg := fun r => tileG_at (k := View.ld xk (rows off inb)) (v := View.ld xv (rows off inb)) (ok := fun _ => False) B (hB.q r) (hB.d r) hK hV (hval r) hB.ue (h.m r)
  have hz := fun r => tileDz_at (k := View.ld xk (rows off inb)) (v := View.ld xv (rows off inb)) (ok := fun _ => False) B (hB.q r) (hB.d r) (hB.tot r) hK hV (hval r) hB.ue hB.ui (h.m r) (h.g r)
  simp only [none_w] at hw
  simp only [none_share] at hg
  simp only [none_dz] at hz
  refine ⟨fun r l => ?_, fun r l => ?_, fun r c => ?_, h.dk.same (by omega) ho fun l c => ?_, h.dv.same (by omega) ho fun l c => ?_⟩
  · have := hi_ue (tstay_at (ok := fun _ => False) (hB.q r) hK (hval r)) hB.ue l
    simp only [none_stay, Finset.sum_const_zero] at this
    show s.m _ + _ = _
    rw [h.m]; refine (congrArg _ this).trans ?_; rw [← EReal.coe_add, add_zero]
  · have := hi_ui (hg r) hB.ui l
    simp only [Finset.sum_const_zero] at this
    show s.g _ + _ = _
    rw [h.g]; refine (congrArg _ this).trans ?_; rw [← EReal.coe_add, add_zero]
  · refine (dq_at c (hz r) hK (h.dq r c)).trans ?_
    simp only [zero_mul, Finset.sum_const_zero, add_zero]
  · have := (ld_rows s.dk off inb 0 (by omega) ho l c).trans (h.dk _ c)
    refine (tacc_at l c hz hB.q this).trans (Eq.trans ?_ this.symm)
    simp only [zero_mul, Finset.sum_const_zero, add_zero]
  · have := (ld_rows s.dv off inb 0 (by omega) ho l c).trans (h.dv _ c)
    refine (tacc_at l c hw hB.d this).trans (Eq.trans ?_ this.symm)
    simp only [zero_mul, Finset.sum_const_zero, add_zero]

end Cert.Proof.PI
-- ==== Proof.PI.WalkVal.lean ====
/-
  The whole walk: it takes the sums down to the first key.
-/
module

public import proofs.«01_k».proof.Proof.PI.Inv

@[expose] public section

set_option maxRecDepth 16384

noncomputable section

namespace Cert.Proof.PI

open Cert.KernelIdeal Cert.KernelIdeal.Gen
open Idealize.ShloMosaic
open Idealize.ShloMosaic.TcCoe

/-- The key tile of a trip. -/
abbrev tileWord (t : Fin k0_t1_loop.trips) (n r : BitVec 32) : BitVec 32 := Scalar.subi (Scalar.subi (lastOf t) (Scalar.muli n 4#32)) r

theorem start_word : ∀ (t : Fin k0_t1_loop.trips) (a : Fin 17) (r : Fin 4), 4 * a.val ≤ 2 * t.val + 1 →
    Scalar.select (Scalar.cmpi .sge (tileWord t (BitVec.ofNat 32 a.val) (BitVec.ofNat 32 r.val)) 0#32)
      (Scalar.muli (tileWord t (BitVec.ofNat 32 a.val) (BitVec.ofNat 32 r.val)) 128#32) 1073741824#32
    = BitVec.ofNat 32 (if 4 * a.val + r.val ≤ 2 * t.val + 1 then 128 * (2 * t.val + 1 - 4 * a.val - r.val) else 1073741824) := by decide +kernel

theorem off3_eq : ∀ (t : Fin k0_t1_loop.trips) (a : Fin 17) (r : Fin 4), 4 * a.val ≤ 2 * t.val + 1 →
    k0_off3 t (BitVec.ofNat 32 a.val) (BitVec.ofNat 32 r.val) = ![128 * (2 * t.val + 1 - 4 * a.val - r.val), 0] := by decide +kernel

theorem off2_eq : ∀ (t : Fin k0_t1_loop.trips) (r : Fin 4),
    k0_off2 t (BitVec.ofNat 32 r.val) = ![128 * (2 * t.val + 1 - r.val), 0] := by decide +kernel

theorem first_word : ∀ t : Fin k0_t1_loop.trips, Scalar.muli (firstOf t) 128#32 = BitVec.ofNat 32 (256 * t.val) := by decide +kernel

theorem left_iff : ∀ (t : Fin k0_t1_loop.trips) (a : Fin 18), left t (BitVec.ofNat 32 a.val) ↔ 4 * a.val ≤ 2 * t.val + 1 := by decide +kernel

theorem row_word : ∀ r : Fin 512, IntOp.addi (IntOp.andi (BitVec.ofNat 32 r.val) 127#32) (IntOp.shli .vector (IntOp.shrsi .vector (BitVec.ofNat 32 r.val) 8#32) 7#32)
    = BitVec.ofNat 32 (128 * (r.val / 256) + r.val % 128) := by decide +kernel

theorem trips_lt (t : Fin k0_t1_loop.trips) : t.val < 32 := lt_of_lt_of_eq t.isLt (by decide)

/-- Which keys a row may attend to, by position. -/
theorem valid_at (t : Fin k0_t1_loop.trips) (j : BitVec 32) (st : ℕ) (hst : st < 2 ^ 31 - 8192)
    (hw : Scalar.select (Scalar.cmpi .sge j 0#32) (Scalar.muli j 128#32) 1073741824#32 = BitVec.ofNat 32 st) (r : Fin 512) (l : Fin 128) :
    tValid j (firstOf t) (ix2 r l) = BitVec.ofBool (decide (st + l.val < pos t r)) := by
  have ht := trips_lt t
  pointwise [tValid]
  rw [hw, first_word, row_word]
  show IntOp.cmpi .slt (BitVec.ofNat 32 st + BitVec.ofNat 32 l.val) (BitVec.ofNat 32 (256 * t.val) + BitVec.ofNat 32 _) = _
  rw [← BitVec.ofNat_add, ← BitVec.ofNat_add, WordCmp.cmpi_slt_ofNat (by omega) (by omega), pos]
  simp only [add_assoc]

variable {X : RIn} {t : Fin k0_t1_loop.trips} {B : Blk Ideal} {dk0 dv0 : ℕ → Fin 128 → ℝ} {s : St Ideal} {xk xv : Vec Ideal S8192x128 .bf16}

theorem pos_lt (t : Fin k0_t1_loop.trips) (r : Fin 512) : pos t r < 8192 := by
  have := trips_lt t; unfold pos; omega

/-- One tile of a trip, with or without keys. -/
theorem any_inv (hB : IsBlk X t B) (hk : Is xk X.k) (hv : Is xv X.v) (w : BitVec 32) (n : ℕ)
    (hw : Scalar.select (Scalar.cmpi .sge w 0#32) (Scalar.muli w 128#32) 1073741824#32
      = BitVec.ofNat 32 (if n ≤ 2 * t.val + 1 then 128 * (2 * t.val + 1 - n) else 1073741824))
    {off : Fin 2 → ℕ} {inb : ∀ a, off a + S128x128.size a ≤ S8192x128.size a} (ho : off = ![128 * (2 * t.val + 1 - n), 0])
    (h : Inv X t (2 * t.val + 2 - n) dk0 dv0 s) :
    Inv X t (2 * t.val + 2 - (n + 1)) dk0 dv0 (tileSt (tValid w (firstOf t)) B xk xv off inb s) := by
  have ht := trips_lt t
  by_cases hn : n ≤ 2 * t.val + 1
  · rw [if_pos hn] at hw
    rw [show 2 * t.val + 2 - (n + 1) = 2 * t.val + 1 - n by omega]
    rw [show 2 * t.val + 2 - n = (2 * t.val + 1 - n) + 1 by omega] at h
    exact tile_inv hB hk hv _ (by omega) ho (fun r l => valid_at t w _ (by omega) hw r l) h
  · rw [if_neg hn] at hw
    rw [show 2 * t.val + 2 - (n + 1) = 0 by omega]
    rw [show 2 * t.val + 2 - n = 0 by omega] at h
    refine pad_inv hB hk hv (by rw [ho, show 2 * t.val + 1 - n = 0 by omega]) (fun r l => ?_) h
    rw [valid_at t w _ (by omega) hw r l]
    have := pos_lt t r
    have h2 : ¬ 1073741824 + l.val < pos t r := by omega
    simp only [h2]

/-- One trip. -/
theorem trip_inv (hB : IsBlk X t B) (hk : Is xk X.k) (hv : Is xv X.v) (a : ℕ) (ha : 4 * a ≤ 2 * t.val + 1) (hn : k0_chk1 t (BitVec.ofNat 32 a))
    (h : Inv X t (2 * t.val + 2 - 4 * a) dk0 dv0 s) :
    Inv X t (2 * t.val + 2 - 4 * (a + 1)) dk0 dv0 (tripSt t B xk xv (BitVec.ofNat 32 a) hn s) := by
  have ht := trips_lt t
  have hw := fun r => start_word t ⟨a, by omega⟩ r ha
  have ho := fun r => off3_eq t ⟨a, by omega⟩ r ha
  simp only [Nat.sub_sub] at hw ho
  simp only [← Nat.sub_sub] at hw ho
  have h0 := any_inv hB hk hv _ (4 * a + 0) (by rw [hw 0, Nat.sub_sub]; rfl) (inb := k0_off3_inb t _ hn 0) ((ho 0).trans (by rw [Nat.sub_sub]; rfl)) h
  have h1 := any_inv hB hk hv _ (4 * a + 1) (by rw [hw 1, Nat.sub_sub]; rfl) (inb := k0_off3_inb t _ hn 1) ((ho 1).trans (by rw [Nat.sub_sub]; rfl)) h0
  have h2 := any_inv hB hk hv _ (4 * a + 2) (by rw [hw 2, Nat.sub_sub]; rfl) (inb := k0_off3_inb t _ hn 2) ((ho 2).trans (by rw [Nat.sub_sub]; rfl)) h1
  exact any_inv hB hk hv _ (4 * a + 3) (by rw [hw 3, Nat.sub_sub]; rfl) (inb := k0_off3_inb t _ hn 3) ((ho 3).trans (by rw [Nat.sub_sub]; rfl)) h2

/-- Rows that are all real have weight left. -/
theorem alive_of_inv {N : ℕ} (h : Inv X t N dk0 dv0 s) : Scalar.cmpi .sgt (aliveOf s.m) 0#32 = 1#1 := by
  have hd : (Named.named (F := Ideal) κ "dead" 0xC2D00000#32 : Ideal .f32) = (⊥ : EReal) := by
    rfl
  pointwise [aliveOf, k0_pay13]
  rw [hd]
  have : (⊥ : EReal) < Finset.fold max (Ideal.ofBits FTy.f32 4286578688#32) (fun x : Fin 512 × Fin 128 => s.m (ix2 x.1 x.2)) Finset.univ := by
    rw [Finset.lt_fold_max]
    refine .inr ⟨(0, 0), Finset.mem_univ _, ?_⟩
    rw [h.m]; exact EReal.bot_lt_coe _
  rw [decide_eq_true this]; rfl

/-- The walk ends at the first key. -/
theorem walk_inv (hB : IsBlk X t B) (hk : Is xk X.k) (hv : Is xv X.v) :
    ∀ (k a : ℕ) (alive : BitVec 32) (s : St Ideal), a + k = 17 → Scalar.cmpi .sgt alive 0#32 = 1#1 → Inv X t (2 * t.val + 2 - 4 * a) dk0 dv0 s →
      Inv X t 0 dk0 dv0 (walk t (tripSt t B xk xv) k a alive s)
  | 0, a, alive, s, hka, _, h => by
    have ht := trips_lt t
    rw [walk]; rwa [show 2 * t.val + 2 - 4 * a = 0 by omega] at h
  | k + 1, a, alive, s, hka, hal, h => by
    have ht := trips_lt t
    rw [walk]
    by_cases ha : 4 * a ≤ 2 * t.val + 1
    · have hl := (left_iff t ⟨a, by omega⟩).2 ha
      have hg : going t (BitVec.ofNat 32 a) alive := by
        unfold going; unfold left at hl; rw [hal, show Scalar.cmpi .sle (Scalar.muli (BitVec.ofNat 32 a) 4#32) _ = 1#1 from hl]; rfl
      have hc := chk_of_left t ⟨a, by omega⟩ hl
      rw [if_pos hg, dif_pos hc]
      have h' := trip_inv hB hk hv a ha hc h
      exact walk_inv hB hk hv k (a + 1) _ _ (by omega) (alive_of_inv h') h'
    · rw [show 2 * t.val + 2 - 4 * a = 0 by omega] at h
      by_cases hg : going t (BitVec.ofNat 32 a) alive
      · have hl := left_of_going t hg
        exact absurd ((left_iff t ⟨a, by omega⟩).1 hl) ha
      · rwa [if_neg hg]

end Cert.Proof.PI
-- ==== Proof.PI.HeadVal.lean ====
/-
  The peeled trip's stacked rows and its last key tile, over the reals.
-/
module

public import proofs.«01_k».proof.Proof.PI.HeadRun
public import proofs.«01_k».proof.Proof.PI.WalkVal

@[expose] public section

set_option maxRecDepth 16384

noncomputable section

namespace Cert.Proof.PI

open Cert.KernelIdeal Cert.KernelIdeal.Gen
open Idealize.ShloMosaic
open Idealize.ShloMosaic.TcCoe

/-! ### Stacking two query tiles by head -/

theorem below64 {α : Type} (c : Fin 128) (x y : α) :
    Scalar.select (IntOp.cmpi .slt (BitVec.ofNat 32 c.val) 64#32) x y = if c.val < 64 then x else y := by
  have := c.isLt
  rw [show (64#32 : BitVec 32) = BitVec.ofNat 32 64 from rfl, WordCmp.cmpi_slt_ofNat (by omega) (by omega), WordCmp.select_decide]
theorem from64 {α : Type} (c : Fin 128) (x y : α) :
    Scalar.select (IntOp.cmpi .sge (BitVec.ofNat 32 c.val) 64#32) x y = if 64 ≤ c.val then x else y := by
  have := c.isLt
  rw [show (64#32 : BitVec 32) = BitVec.ofNat 32 64 from rfl, WordCmp.cmpi_sge_ofNat (by omega) (by omega), WordCmp.select_decide]

/-- A block of rows stacked by head. -/
def stk (A : ℕ → Fin 128 → ℝ) (t : ℕ) (r : Fin 512) (c : Fin 128) : ℝ := if c.val / 64 = hd r then A (pos t r) c else 0

/-- The four stacked parts, by the row. -/
theorem stack_cases {A : ℕ → Fin 128 → ℝ} {t : ℕ} {a b : Fin 128 → Fin 128 → EReal}
    (ha : ∀ l c, a l c = ((A (256 * t + l.val) c : ℝ) : EReal)) (hb : ∀ l c, b l c = ((A (256 * t + 128 + l.val) c : ℝ) : EReal))
    (r : Fin 512) (c : Fin 128) :
    (if h : r.val < 256 then
      if h_1 : r.val < 128 then (if c.val < 64 then a ⟨r.val, h_1⟩ c else 0)
      else (if 64 ≤ c.val then a ⟨r.val - 128, by omega⟩ c else 0)
    else
      if h_1 : r.val - 256 < 128 then (if c.val < 64 then b ⟨r.val - 256, h_1⟩ c else 0)
      else (if 64 ≤ c.val then b ⟨r.val - 256 - 128, by omega⟩ c else 0)) = ((stk A t r c : ℝ) : EReal) := by
  have hr := r.isLt
  have hc := c.isLt
  simp only [ha, hb, stk]
  have lift : ∀ (p q : Prop) [Decidable p] [Decidable q] (x y : ℝ), (p ↔ q) → (q → x = y) →
      (if p then (x : EReal) else 0) = ((if q then y else 0 : ℝ) : EReal) := by
    intro p q _ _ x y hpq hxy
    by_cases hq : q
    · rw [if_pos hq, if_pos (hpq.2 hq), hxy hq]
    · rw [if_neg hq, if_neg (fun hp => hq (hpq.1 hp))]; rfl
  by_cases h : r.val < 256
  · rw [dif_pos h]
    by_cases h1 : r.val < 128
    · rw [dif_pos h1]; exact lift _ _ _ _ (by unfold hd; omega) fun _ => by rw [pos]; congr 1; omega
    · rw [dif_neg h1]; exact lift _ _ _ _ (by unfold hd; omega) fun _ => by rw [pos]; congr 1; omega
  · rw [dif_neg h]
    by_cases h1 : r.val - 256 < 128
    · rw [dif_pos h1]; exact lift _ _ _ _ (by unfold hd; omega) fun _ => by rw [pos]; congr 1; omega
    · rw [dif_neg h1]; exact lift _ _ _ _ (by unfold hd; omega) fun _ => by rw [pos]; congr 1; omega

section Stack
variable {a b : FVec Ideal S128x128 .bf16} {a' b' oa ob : FVec Ideal S128x128 .f32} {A O : ℕ → Fin 128 → ℝ} {t : ℕ}

theorem stackQ_at (ha : ∀ l c, a (ix2 l c) = ((A (256 * t + l.val) c : ℝ) : EReal))
    (hb : ∀ l c, b (ix2 l c) = ((A (256 * t + 128 + l.val) c : ℝ) : EReal)) (r : Fin 512) (c : Fin 128) :
    k0_pay17 (F := Ideal) b (k0_pay14 a) k0_pay15 (k0_pay16 b) (Scalar.ofBits .f32 0x3F800000#32) (ix2 r c) = ((stk A t r c : ℝ) : EReal) := by
  rw [← stack_cases (a := fun l c => a (ix2 l c)) (b := fun l c => b (ix2 l c)) ha hb]
  pointwise [k0_pay17, k0_pay14, k0_pay15, k0_pay16]
  simp only [below64, from64]

theorem stackD_at (ha : ∀ l c, a' (ix2 l c) = ((A (256 * t + l.val) c : ℝ) : EReal))
    (hb : ∀ l c, b' (ix2 l c) = ((A (256 * t + 128 + l.val) c : ℝ) : EReal)) (r : Fin 512) (c : Fin 128) :
    k0_pay22 (F := Ideal) (k0_pay18 a') (k0_pay19 b') k0_pay20 k0_pay21 (ix2 r c) = ((stk A t r c : ℝ) : EReal) := by
  rw [← stack_cases (a := fun l c => a' (ix2 l c)) (b := fun l c => b' (ix2 l c)) ha hb]
  pointwise [k0_pay18, k0_pay19, k0_pay20, k0_pay21, k0_pay22]
  simp only [below64, from64]

theorem stackT_at (ha : ∀ l c, a' (ix2 l c) = ((A (256 * t + l.val) c : ℝ) : EReal))
    (hb : ∀ l c, b' (ix2 l c) = ((A (256 * t + 128 + l.val) c : ℝ) : EReal))
    (hoa : ∀ l c, oa (ix2 l c) = ((O (256 * t + l.val) c : ℝ) : EReal))
    (hob : ∀ l c, ob (ix2 l c) = ((O (256 * t + 128 + l.val) c : ℝ) : EReal)) (r : Fin 512) (c : Fin 128) :
    k0_pay25 (F := Ideal) (k0_pay23 a' oa) (k0_pay24 b') ob (ix2 r c)
      = ((∑ x, stk (fun p x => A p x * O p x) t r x : ℝ) : EReal) := by
  generalize hR : ((∑ x, stk (fun p x => A p x * O p x) t r x : ℝ) : EReal) = R
  pointwise [k0_pay25, k0_pay23, k0_pay24]
  rw [← hR, coe_sum]
  simp only [← stack_cases (A := fun p x => A p x * O p x) (a := fun l c => a' (ix2 l c) * oa (ix2 l c)) (b := fun l c => b' (ix2 l c) * ob (ix2 l c))
    (fun l c => by rw [ha, hoa, EReal.coe_mul]) (fun l c => by rw [hb, hob, EReal.coe_mul]), below64, from64]
  split <;> split <;> rfl
end Stack

/-! ### The last key tile, for the later query tile's rows -/

section Last
variable {q dO : FVec Ideal S512x128 .bf16} {tot : FVec Ideal S512x128 .f32} {k v : FVec Ideal S128x128 .bf16} {x : FVec Ideal S128x128 .f32}
  {ue ui : FVec Ideal S256x256 .bf16} {Q D : Fin 128 → ℝ} {K V : Fin 128 → Fin 128 → ℝ} {r : Fin 256}
  {ok : Fin 128 → Prop} [DecidablePred ok] {T : ℝ} {w b : BitVec 32} {p p' : IVec S256x128 32}

/-- A row of the later query tile, stacked. -/
abbrev later (r : Fin 256) : Fin 512 := ⟨256 + r.val, by omega⟩

theorem z0_at (hq : ∀ c, q (ix2 (later r) c) = ((Q c : ℝ) : EReal)) (hk : ∀ l c, k (ix2 l c) = ((K l c : ℝ) : EReal)) (l : Fin 128) :
    k0_pay31 (F := Ideal) k (k0_pay26 q) (ix2 r l) = ((Row.z Q K l : ℝ) : EReal) := by
  pointwise [k0_pay31, k0_pay26, hq, hk]
  rw [eighth, Row.z]
  push_cast [coe_sum]
  rfl

theorem sp0_at (hq : ∀ c, q (ix2 (later r) c) = ((Q c : ℝ) : EReal)) (hk : ∀ l c, k (ix2 l c) = ((K l c : ℝ) : EReal)) (l : Fin 128) :
    k0_pay32 (F := Ideal) k (k0_pay26 q) (ix2 r l) = ((spl (Row.z Q K l) : ℝ) : EReal) := by
  have h := z0_at hq hk l
  pointwise [k0_pay32, h]
  exact coe_spl _

theorem sub0_at (hq : ∀ c, q (ix2 (later r) c) = ((Q c : ℝ) : EReal)) (hk : ∀ l c, k (ix2 l c) = ((K l c : ℝ) : EReal)) (l : Fin 128) :
    k0_pay33 (F := Ideal) k (k0_pay26 q) (ix2 r l) = ((Row.z Q K l - spl (Row.z Q K l) : ℝ) : EReal) := by
  have h := z0_at hq hk l
  have h' := sp0_at hq hk l
  pointwise [k0_pay33, h, h']
  rfl

theorem sums0_at (hq : ∀ c, q (ix2 (later r) c) = ((Q c : ℝ) : EReal)) (hk : ∀ l c, k (ix2 l c) = ((K l c : ℝ) : EReal))
    (hv : ∀ l, k0_pay30 w b p p' (ix2 r l) = BitVec.ofBool (decide (ok l))) {U : Fin 256 → Fin 256 → ℝ}
    (hu : ∀ a b, ue (ix2 a b) = ((U a b : ℝ) : EReal)) (e : Fin 256) :
    k0_pay34 (F := Ideal) ue w k b (k0_pay26 q) p p' (ix2 r e) = ((∑ j : Fin 128, Row.stay Q K ok j * U ⟨j.val, by omega⟩ e : ℝ) : EReal) := by
  have h := sp0_at hq hk
  have hs : ∀ l, (if ok l then (0 : EReal) - ((spl (Row.z Q K l) : ℝ) : EReal) else 0) = ((Row.stay Q K ok l : ℝ) : EReal) := fun l => by
    rw [Row.stay]; split
    · rw [← EReal.coe_zero, ← EReal.coe_sub, zero_sub]
    · rfl
  pointwise [k0_pay34, h, hv, hu]
  simp only [hs, ← EReal.coe_sub, sub_self, EReal.coe_zero, zero_mul, Finset.sum_const_zero, add_zero, coe_sum, EReal.coe_mul]

theorem m0_at (hq : ∀ c, q (ix2 (later r) c) = ((Q c : ℝ) : EReal)) (hk : ∀ l c, k (ix2 l c) = ((K l c : ℝ) : EReal))
    (hv : ∀ l, k0_pay30 w b p p' (ix2 r l) = BitVec.ofBool (decide (ok l))) (hu : IsUe ue) (l : Fin 128) :
    k0_pay35 (F := Ideal) ue w k b (k0_pay26 q) (k0_pay27 k0_pay5) p p' (ix2 r l) = ((∑ j, Row.stay Q K ok j : ℝ) : EReal) := by
  have h := sums0_at hq hk hv hu
  pointwise [k0_pay35, k0_pay27, k0_pay5, h]

theorem w0_at (hq : ∀ c, q (ix2 (later r) c) = ((Q c : ℝ) : EReal)) (hk : ∀ l c, k (ix2 l c) = ((K l c : ℝ) : EReal))
    (hv : ∀ l, k0_pay30 w b p p' (ix2 r l) = BitVec.ofBool (decide (ok l))) (hu : IsUe ue) (l : Fin 128) :
    k0_pay36 (F := Ideal) ue w k b (k0_pay26 q) (k0_pay27 k0_pay5) p p' (ix2 r l) = ((Row.w Q K ok 0 l : ℝ) : EReal) := by
  have h := sums0_at hq hk hv hu
  have h' := sub0_at hq hk l
  pointwise [k0_pay36, k0_pay27, k0_pay5, h, h', hv]
  rw [Row.w]
  have e : (∑ x : Fin 128, Row.stay Q K ok x * if l.val < x.val % 128 then 1 else 0) = Row.after Q K ok l := by
    rw [Row.after]; simp [Nat.mod_eq_of_lt (Fin.isLt _)]
  split
  · show Ideal.exp (((_ : ℝ) : EReal) + ((∑ x : Fin 128, Row.stay Q K ok x * if l.val < x.val % 128 then 1 else 0 : ℝ) : EReal)) = _
    rw [e, ← EReal.coe_add, Ideal.exp_coe, zero_add (Row.after Q K ok l)]
  · rfl

theorem w0'_at (hq : ∀ c, q (ix2 (later r) c) = ((Q c : ℝ) : EReal)) (hk : ∀ l c, k (ix2 l c) = ((K l c : ℝ) : EReal))
    (hv : ∀ l, k0_pay30 w b p p' (ix2 r l) = BitVec.ofBool (decide (ok l))) (hu : IsUe ue) (l : Fin 128) :
    k0_pay37 (F := Ideal) ue w k b (k0_pay26 q) (k0_pay27 k0_pay5) p p' (ix2 r l) = ((Row.w Q K ok 0 l : ℝ) : EReal) := by
  have h := w0_at hq hk hv hu l
  pointwise [k0_pay37, h]

/-- From here on the weights are any that read so. -/
theorem share0_at {w' : FVec Ideal S256x128 .f32} (hw : ∀ l, w' (ix2 r l) = ((Row.w Q K ok 0 l : ℝ) : EReal))
    (hd : ∀ c, dO (ix2 (later r) c) = ((D c : ℝ) : EReal)) (hvv : ∀ l c, v (ix2 l c) = ((V l c : ℝ) : EReal)) (l : Fin 128) :
    k0_pay39 (F := Ideal) w' (k0_pay38 dO) v (ix2 r l) = ((Row.share Q D K V ok 0 l : ℝ) : EReal) := by
  pointwise [k0_pay39, k0_pay38, hw, hd, hvv]
  rw [Row.share]
  push_cast [coe_sum]
  rfl

theorem gsums0_at {w' : FVec Ideal S256x128 .f32} (hw : ∀ l, w' (ix2 r l) = ((Row.w Q K ok 0 l : ℝ) : EReal))
    (hd : ∀ c, dO (ix2 (later r) c) = ((D c : ℝ) : EReal)) (hvv : ∀ l c, v (ix2 l c) = ((V l c : ℝ) : EReal)) {U : Fin 256 → Fin 256 → ℝ}
    (hu : ∀ a b, ui (ix2 a b) = ((U a b : ℝ) : EReal)) (e : Fin 256) :
    k0_pay40 (F := Ideal) ui w' (k0_pay38 dO) v (ix2 r e) = ((∑ j : Fin 128, Row.share Q D K V ok 0 j * U ⟨j.val, by omega⟩ e : ℝ) : EReal) := by
  have h := share0_at hw hd hvv
  pointwise [k0_pay40, h, hu]
  simp only [← EReal.coe_sub, sub_self, EReal.coe_zero, zero_mul, Finset.sum_const_zero, add_zero, coe_sum, EReal.coe_mul]

theorem g0_at {w' : FVec Ideal S256x128 .f32} (hw : ∀ l, w' (ix2 r l) = ((Row.w Q K ok 0 l : ℝ) : EReal))
    (hd : ∀ c, dO (ix2 (later r) c) = ((D c : ℝ) : EReal)) (hvv : ∀ l c, v (ix2 l c) = ((V l c : ℝ) : EReal)) (hu : IsUi ui) (l : Fin 128) :
    k0_pay45 (F := Ideal) ui k0_pay5 w' (k0_pay38 dO) v (ix2 r l) = ((∑ j, Row.share Q D K V ok 0 j : ℝ) : EReal) := by
  have h := gsums0_at hw hd hvv hu
  pointwise [k0_pay45, k0_pay5, h]

theorem dz0_at {w' sb : FVec Ideal S256x128 .f32} {val : IVec S256x128 1} (hw : ∀ l, w' (ix2 r l) = ((Row.w Q K ok 0 l : ℝ) : EReal))
    (hsb : ∀ l, sb (ix2 r l) = ((Row.z Q K l - spl (Row.z Q K l) : ℝ) : EReal))
    (hv : ∀ l, val (ix2 r l) = BitVec.ofBool (decide (ok l))) (ht : ∀ l, tot (ix2 (later r) l) = ((T : ℝ) : EReal))
    (hd : ∀ c, dO (ix2 (later r) c) = ((D c : ℝ) : EReal)) (hvv : ∀ l c, v (ix2 l c) = ((V l c : ℝ) : EReal)) (hu : IsUi ui) (l : Fin 128) :
    k0_pay41 (F := Ideal) ui k0_pay5 tot val sb w' (k0_pay38 dO) v (ix2 r l) = ((Row.dz Q D K V ok T 0 0 l : ℝ) : EReal) := by
  have h := gsums0_at hw hd hvv hu
  have h' := share0_at hw hd hvv
  pointwise [k0_pay41, k0_pay5, h, h', hsb, hv, ht]
  rw [Row.dz, eighth, EReal.coe_mul]
  congr 1
  split
  · have e : (∑ x : Fin 128, Row.share Q D K V ok 0 x * if l.val ≤ x.val % 128 then 1 else 0) = Row.since Q D K V ok 0 l := by
      rw [Row.since]; simp [Nat.mod_eq_of_lt (Fin.isLt _)]
    rw [Ideal.exp_coe]
    show ((_ : ℝ) : EReal) - ((_ : ℝ) : EReal) * (((_ : ℝ) : EReal) + (((_ : ℝ) : EReal)
      - ((∑ x : Fin 128, Row.share Q D K V ok 0 x * if l.val ≤ x.val % 128 then 1 else 0 : ℝ) : EReal))) = _
    rw [e, zero_add (Row.since Q D K V ok 0 l), ← EReal.coe_sub T, ← EReal.coe_add, ← EReal.coe_mul, ← EReal.coe_sub]
  · rfl

theorem dq0_at {dz : FVec Ideal S256x128 .bf16} {Z : Fin 128 → ℝ} (hz : ∀ l, dz (ix2 r l) = ((Z l : ℝ) : EReal))
    (hk : ∀ l c, k (ix2 l c) = ((K l c : ℝ) : EReal)) (c : Fin 128) :
    k0_pay48 (F := Ideal) k0_pay5 k dz (ix2 (later r) c) = ((∑ l, Z l * K l c : ℝ) : EReal) := by
  pointwise [k0_pay48, k0_pay5, hz, hk]
  push_cast [coe_sum]
  rfl

theorem dk0_at {w' sb : FVec Ideal S256x128 .f32} {val : IVec S256x128 1} {X Y : Fin 256 → Fin 128 → ℝ} {A : ℝ} (l c : Fin 128)
    (hz : ∀ r, k0_pay41 (F := Ideal) ui k0_pay5 tot val sb w' (k0_pay38 dO) v (ix2 r l) = ((X r l : ℝ) : EReal))
    (hq : ∀ r c, q (ix2 (later r) c) = ((Y r c : ℝ) : EReal)) (hx : x (ix2 l c) = ((A : ℝ) : EReal)) :
    k0_pay42 (F := Ideal) ui k0_pay5 q tot val sb w' (k0_pay38 dO) v x (ix2 l c) = ((A + ∑ r, X r l * Y r c : ℝ) : EReal) := by
  pointwise [k0_pay42, hz, hq, hx]
  push_cast [coe_sum]
  rfl

theorem dv0_at {ww : FVec Ideal S256x128 .bf16} {X Y : Fin 256 → Fin 128 → ℝ} {A : ℝ} (l c : Fin 128)
    (hw : ∀ r, ww (ix2 r l) = ((X r l : ℝ) : EReal)) (hd : ∀ r c, dO (ix2 (later r) c) = ((Y r c : ℝ) : EReal))
    (hx : x (ix2 l c) = ((A : ℝ) : EReal)) :
    k0_pay43 (F := Ideal) dO ww x (ix2 l c) = ((A + ∑ r, X r l * Y r c : ℝ) : EReal) := by
  pointwise [k0_pay43, hw, hd, hx]
  push_cast [coe_sum]
  rfl
end Last

end Cert.Proof.PI
-- ==== Proof.PI.Loop.lean ====
/-
  The loop over the query blocks and the body around it.
-/
module

public import proofs.«01_k».proof.Proof.PI.Trip

@[expose] public section

noncomputable section

namespace Cert.Proof.PI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

theorem trips_eq : k0_t1_loop.trips = 32 := rfl

/-- Row `y` is a row of tile `r` of block `t`. -/
theorem mem_rc1 (t : Fin k0_t1_loop.trips) (r : Fin 2) (y : S8192x128.Idx) :
    y ∈ (rc1 t r).set ↔ 256 * t.val + 128 * r.val ≤ (y 0).val ∧ (y 0).val < 256 * t.val + 128 * r.val + 128 := by
  rw [Rect.mem_set_unit, Fin.forall_fin_two, k0_off1_eq]
  have h1 := (y 1).isLt
  change (y 1).val < 128 at h1
  constructor
  · intro h; exact h.1
  · intro h; exact ⟨h, Nat.zero_le _, by simpa using h1⟩

/-- Inside the block the rest of the array does not matter. -/
theorem overlay2_in (t : Fin k0_t1_loop.trips) {α : Type} (d d' : S8192x128.Idx → α) (a : (rc1 t 0).shape.Idx → α) (b : (rc1 t 1).shape.Idx → α)
    (y : S8192x128.Idx) (hy : (y 0).val / 256 = t.val) :
    (rc1 t 1).overlay ((rc1 t 0).overlay d a) b y = (rc1 t 1).overlay ((rc1 t 0).overlay d' a) b y := by
  by_cases h1 : y ∈ (rc1 t 1).set
  · unfold Rect.overlay
    obtain ⟨z, hz⟩ : ∃ z, (rc1 t 1).emb z = y := by
      rw [← Rect.map_emb_univ] at h1; obtain ⟨z, -, hz⟩ := Finset.mem_map.mp h1; exact ⟨z, hz⟩
    subst hz; rw [preimage?_emb]
  · rw [Rect.overlay_of_not_mem _ _ _ h1, Rect.overlay_of_not_mem _ _ _ h1]
    have h0 : y ∈ (rc1 t 0).set := by
      rw [mem_rc1] at h1 ⊢
      simp only [Fin.val_zero, Fin.val_one] at h1 ⊢
      omega
    obtain ⟨z, hz⟩ : ∃ z, (rc1 t 0).emb z = y := by
      rw [← Rect.map_emb_univ] at h0; obtain ⟨z, -, hz⟩ := Finset.mem_map.mp h0; exact ⟨z, hz⟩
    subst hz; rw [Rect.overlay_emb, Rect.overlay_emb]

/-- Outside the block the array is as it was. -/
theorem overlay2_out (t : Fin k0_t1_loop.trips) {α : Type} (d : S8192x128.Idx → α) (a : (rc1 t 0).shape.Idx → α) (b : (rc1 t 1).shape.Idx → α)
    (y : S8192x128.Idx) (hy : (y 0).val / 256 ≠ t.val) :
    (rc1 t 1).overlay ((rc1 t 0).overlay d a) b y = d y := by
  rw [Rect.overlay_of_not_mem, Rect.overlay_of_not_mem] <;> rw [mem_rc1] <;> simp only [Fin.val_zero, Fin.val_one] <;> omega

variable (c : Dev nD) (i : grid0.Coords)
  (arg1 : Memref sig .tc .vmem S8192x128 .bf16) (harg1 : arg1.IsWhole) (arg2 : Memref sig .tc .vmem S8192x128 .bf16) (harg2 : arg2.IsWhole)
  (arg3 : Memref sig .tc .vmem S8192x128 .bf16) (harg3 : arg3.IsWhole) (arg4 : Memref sig .tc .vmem S8192x128 .f32) (harg4 : arg4.IsWhole)
  (arg5 : Memref sig .tc .vmem S8192x128 .f32) (harg5 : arg5.IsWhole) (arg6 : Memref sig .tc .vmem S8192x128 .bf16) (harg6 : arg6.IsWhole)
  (arg7 : Memref sig .tc .vmem S8192x128 .bf16) (harg7 : arg7.IsWhole) (arg8 : Memref sig .tc .vmem S8192x128 .bf16) (harg8 : arg8.IsWhole)
  (arg9 : Memref sig .tc .vmem S8192x128 .f32) (harg9 : arg9.IsWhole) (arg10 : Memref sig .tc .vmem S8192x128 .f32) (harg10 : arg10.IsWhole)
  (x : Ins F)

/-- The state block `t` ends with, from the accumulators it starts with. -/
def endAt (t : Fin k0_t1_loop.trips) (dk dv : Vec F S8192x128 .f32) : St F :=
  endOf c i arg2 harg2 arg3 harg3 arg9 harg9 arg10 harg10 t x
    (blockRun c i arg1 harg1 arg2 harg2 arg3 harg3 arg4 harg4 arg5 harg5 arg6 harg6 arg7 harg7 arg8 harg8 arg9 harg9 arg10 harg10 t x dk dv).1

/-- The two accumulators before block `k`. -/
def accAt : ℕ → Vec F S8192x128 .f32 × Vec F S8192x128 .f32
  | 0 => (k0_pay6 (F := F), k0_pay7 (F := F))
  | k + 1 => if h : k < k0_t1_loop.trips then
      let s := endAt c i arg1 harg1 arg2 harg2 arg3 harg3 arg4 harg4 arg5 harg5 arg6 harg6 arg7 harg7 arg8 harg8 arg9 harg9 arg10 harg10 x ⟨k, h⟩
        (accAt k).1 (accAt k).2
      (s.dk, s.dv)
    else accAt k

/-- The state block `t` ends with. -/
abbrev blockEnd (t : Fin k0_t1_loop.trips) : St F :=
  endAt c i arg1 harg1 arg2 harg2 arg3 harg3 arg4 harg4 arg5 harg5 arg6 harg6 arg7 harg7 arg8 harg8 arg9 harg9 arg10 harg10 x t
    (accAt c i arg1 harg1 arg2 harg2 arg3 harg3 arg4 harg4 arg5 harg5 arg6 harg6 arg7 harg7 arg8 harg8 arg9 harg9 arg10 harg10 x t.val).1
    (accAt c i arg1 harg1 arg2 harg2 arg3 harg3 arg4 harg4 arg5 harg5 arg6 harg6 arg7 harg7 arg8 harg8 arg9 harg9 arg10 harg10 x t.val).2

/-- The rows block `t` writes of the query gradient, over any array. -/
abbrev putDq (t : Fin k0_t1_loop.trips) (d : Vec F S8192x128 .bf16) (s : St F) : Vec F S8192x128 .bf16 :=
  (rc1 t 1).overlay ((rc1 t 0).overlay d (k0_pay100 s.dq)) (k0_pay101 s.dq)

/-- The query gradient. -/
def dqOut : Vec F S8192x128 .bf16 := fun y =>
  putDq ⟨(y 0).val / 256, by have := (y 0).isLt; change (y 0).val < 8192 at this; rw [trips_eq]; omega⟩ x.q
    (blockEnd c i arg1 harg1 arg2 harg2 arg3 harg3 arg4 harg4 arg5 harg5 arg6 harg6 arg7 harg7 arg8 harg8 arg9 harg9 arg10 harg10 x
      ⟨(y 0).val / 256, by have := (y 0).isLt; change (y 0).val < 8192 at this; rw [trips_eq]; omega⟩) y

/-- What the loop keeps before block `k`. -/
def loopInv (k : ℕ) (_ : Unit) : sProp 𝕄 :=
  iprop(∃ d : Vec F S8192x128 .bf16,
    ⌜∀ y : S8192x128.Idx, (y 0).val < 256 * k → d y =
      dqOut c i arg1 harg1 arg2 harg2 arg3 harg3 arg4 harg4 arg5 harg5 arg6 harg6 arg7 harg7 arg8 harg8 arg9 harg9 arg10 harg10 x y⌝
    ∗ heldB c arg1 arg2 arg3 arg4 arg5 arg6 arg9 arg10 x d
      (accAt c i arg1 harg1 arg2 harg2 arg3 harg3 arg4 harg4 arg5 harg5 arg6 harg6 arg7 harg7 arg8 harg8 arg9 harg9 arg10 harg10 x k).1
      (accAt c i arg1 harg1 arg2 harg2 arg3 harg3 arg4 harg4 arg5 harg5 arg6 harg6 arg7 harg7 arg8 harg8 arg9 harg9 arg10 harg10 x k).2)

theorem accAt_succ (t : Fin k0_t1_loop.trips) :
    accAt c i arg1 harg1 arg2 harg2 arg3 harg3 arg4 harg4 arg5 harg5 arg6 harg6 arg7 harg7 arg8 harg8 arg9 harg9 arg10 harg10 x (t.val + 1)
      = ((blockEnd c i arg1 harg1 arg2 harg2 arg3 harg3 arg4 harg4 arg5 harg5 arg6 harg6 arg7 harg7 arg8 harg8 arg9 harg9 arg10 harg10 x t).dk,
        (blockEnd c i arg1 harg1 arg2 harg2 arg3 harg3 arg4 harg4 arg5 harg5 arg6 harg6 arg7 harg7 arg8 harg8 arg9 harg9 arg10 harg10 x t).dv) := by
  rw [accAt, dif_pos t.isLt]

/-- The rows below block `t + 1` after block `t`. -/
theorem putDq_rows (t : Fin k0_t1_loop.trips) (d : Vec F S8192x128 .bf16)
    (hd : ∀ y : S8192x128.Idx, (y 0).val < 256 * t.val → d y =
      dqOut c i arg1 harg1 arg2 harg2 arg3 harg3 arg4 harg4 arg5 harg5 arg6 harg6 arg7 harg7 arg8 harg8 arg9 harg9 arg10 harg10 x y)
    (y : S8192x128.Idx) (hy : (y 0).val < 256 * (t.val + 1)) :
    putDq t d (blockEnd c i arg1 harg1 arg2 harg2 arg3 harg3 arg4 harg4 arg5 harg5 arg6 harg6 arg7 harg7 arg8 harg8 arg9 harg9 arg10 harg10 x t) y =
      dqOut c i arg1 harg1 arg2 harg2 arg3 harg3 arg4 harg4 arg5 harg5 arg6 harg6 arg7 harg7 arg8 harg8 arg9 harg9 arg10 harg10 x y := by
  by_cases ht : (y 0).val / 256 = t.val
  · unfold dqOut
    have e : (⟨(y 0).val / 256, by have := (y 0).isLt; change (y 0).val < 8192 at this; rw [trips_eq]; omega⟩ : Fin k0_t1_loop.trips) = t := Fin.ext ht
    rw [e]
    exact overlay2_in t _ _ _ _ y ht
  · exact (overlay2_out t _ _ _ y ht).trans (hd y (by omega))

/-- One block keeps it. -/
theorem loop_step (E : Set ℕ) (t : Fin k0_t1_loop.trips) (acc : Unit) :
    loopInv c i arg1 harg1 arg2 harg2 arg3 harg3 arg4 harg4 arg5 harg5 arg6 harg6 arg7 harg7 arg8 harg8 arg9 harg9 arg10 harg10 x t.val acc
      ⊢ wp frame (wpE (defs₀ (F := F)) 𝒱₀ (c : Thread nD τ) none) E
        (k0_t1_body i arg1 harg1 arg2 harg2 arg3 harg3 arg4 harg4 arg5 harg5 arg6 harg6 arg7 harg7 arg8 harg8 arg9 harg9 arg10 harg10 t acc)
        (loopInv c i arg1 harg1 arg2 harg2 arg3 harg3 arg4 harg4 arg5 harg5 arg6 harg6 arg7 harg7 arg8 harg8 arg9 harg9 arg10 harg10 x (t.val + 1)) := by
  unfold k0_t1_body
  dsimp only
  rw [wp_bind]
  conv_lhs => unfold loopInv
  iintro ⟨%d, %hd, H⟩
  iapply ((blockRun c i arg1 harg1 arg2 harg2 arg3 harg3 arg4 harg4 arg5 harg5 arg6 harg6 arg7 harg7 arg8 harg8 arg9 harg9 arg10 harg10 t x _ _).2 E d _)
  isplitl [H]; · iexact H
  iintro H
  rw [Prog.pure_eq_ret, wp_ret]
  imodintro
  unfold loopInv
  rw [accAt_succ]
  iexists _
  isplitr
  swap; · iexact H
  ipureintro
  exact putDq_rows c i arg1 harg1 arg2 harg2 arg3 harg3 arg4 harg4 arg5 harg5 arg6 harg6 arg7 harg7 arg8 harg8 arg9 harg9 arg10 harg10 x t d hd

/-- The accumulated key gradient, rounded. -/
def dkOut : Vec F S8192x128 .bf16 :=
  k0_pay8 (accAt c i arg1 harg1 arg2 harg2 arg3 harg3 arg4 harg4 arg5 harg5 arg6 harg6 arg7 harg7 arg8 harg8 arg9 harg9 arg10 harg10 x 32).1
/-- The accumulated value gradient, rounded. -/
def dvOut : Vec F S8192x128 .bf16 :=
  k0_pay9 (accAt c i arg1 harg1 arg2 harg2 arg3 harg3 arg4 harg4 arg5 harg5 arg6 harg6 arg7 harg7 arg8 harg8 arg9 harg9 arg10 harg10 x 32).2

/-- The body's buffers, apart from the scratch. -/
def heldAll (d e f : Vec F S8192x128 .bf16) : sProp 𝕄 :=
  iprop(owns (c : Thread nD τ) arg1 fullShare x.q ∗ owns (c : Thread nD τ) arg2 fullShare x.k
    ∗ owns (c : Thread nD τ) arg3 fullShare x.v ∗ owns (c : Thread nD τ) arg4 fullShare x.o
    ∗ owns (c : Thread nD τ) arg5 fullShare x.dO ∗ owns (c : Thread nD τ) arg6 fullShare d
    ∗ owns (c : Thread nD τ) arg7 fullShare e ∗ owns (c : Thread nD τ) arg8 fullShare f)

/-- The body. -/
theorem bodyRun (E : Set ℕ) (K : PUnit → sProp 𝕄) (d e f : Vec F S8192x128 .bf16) (a b : Vec F S8192x128 .f32) :
    iprop(heldAll c arg1 arg2 arg3 arg4 arg5 arg6 arg7 arg8 x d e f
        ∗ owns (c : Thread nD τ) arg9 fullShare a ∗ owns (c : Thread nD τ) arg10 fullShare b
        ∗ (iprop(heldAll c arg1 arg2 arg3 arg4 arg5 arg6 arg7 arg8 x
            (dqOut c i arg1 harg1 arg2 harg2 arg3 harg3 arg4 harg4 arg5 harg5 arg6 harg6 arg7 harg7 arg8 harg8 arg9 harg9 arg10 harg10 x)
            (dkOut c i arg1 harg1 arg2 harg2 arg3 harg3 arg4 harg4 arg5 harg5 arg6 harg6 arg7 harg7 arg8 harg8 arg9 harg9 arg10 harg10 x)
            (dvOut c i arg1 harg1 arg2 harg2 arg3 harg3 arg4 harg4 arg5 harg5 arg6 harg6 arg7 harg7 arg8 harg8 arg9 harg9 arg10 harg10 x)
            ∗ (∃ a, owns (c : Thread nD τ) arg9 fullShare a) ∗ (∃ b, owns (c : Thread nD τ) arg10 fullShare b)) -∗ K ⟨⟩))
      ⊢ wp frame (wpE (defs₀ (F := F)) 𝒱₀ (c : Thread nD τ) none) E
        (cc0_sb_bwd i arg1 harg1 arg2 harg2 arg3 harg3 arg4 harg4 arg5 harg5 arg6 harg6 arg7 harg7 arg8 harg8 arg9 harg9 arg10 harg10) K := by
  rw [cc0_sb_bwd_eq_skeleton]; unfold cc0_sb_bwd_skel
  simp only [Prog.lift, Prog.bind_op, Prog.bind_ret, Prog.pure_eq_ret]
  unfold heldAll
  iintro ⟨⟨H1, H2, H3, H4, H5, H6, H7, H8⟩, H9, H10, Hk⟩
  iapply (Own.load 𝒱₀ (c : Thread nD τ) none E (r := Rect.unit (s := S8192x128) ![0, 0] S8192x128.size inb_S8192x128_S8192x128_0_0)) $$ H9; iintro H9
  iapply (Own.store 𝒱₀ (c : Thread nD τ) none E (r := Rect.unit (s := S8192x128) ![0, 0] S8192x128.size inb_S8192x128_S8192x128_0_0)) $$ H9; iintro H9
  iapply (Own.load 𝒱₀ (c : Thread nD τ) none E (r := Rect.unit (s := S8192x128) ![0, 0] S8192x128.size inb_S8192x128_S8192x128_0_0)) $$ H10; iintro H10
  iapply (Own.store 𝒱₀ (c : Thread nD τ) none E (r := Rect.unit (s := S8192x128) ![0, 0] S8192x128.size inb_S8192x128_S8192x128_0_0)) $$ H10; iintro H10
  rw [Own.overlay_whole, Own.overlay_whole]
  iapply (Scf.wp_for_bind frame (wpE (defs₀ (F := F)) 𝒱₀ (c : Thread nD τ) none) E k0_t1_loop.lb k0_t1_loop.ub k0_t1_loop.st k0_t1_ok _ _
    (loopInv c i arg1 harg1 arg2 harg2 arg3 harg3 arg4 harg4 arg5 harg5 arg6 harg6 arg7 harg7 arg8 harg8 arg9 harg9 arg10 harg10 x)
    (loop_step c i arg1 harg1 arg2 harg2 arg3 harg3 arg4 harg4 arg5 harg5 arg6 harg6 arg7 harg7 arg8 harg8 arg9 harg9 arg10 harg10 x E)) $$ [H1 H2 H3 H4 H5 H6 H9 H10]
  · unfold loopInv heldB
    iexists d
    isplitr; · ipureintro; intro y hy; omega
    isplitl [H1]; · iexact H1
    isplitl [H2]; · iexact H2
    isplitl [H3]; · iexact H3
    isplitl [H4]; · iexact H4
    isplitl [H5]; · iexact H5
    isplitl [H6]; · iexact H6
    isplitl [H9]; · iexact H9
    iexact H10
  unfold loopInv heldB
  iintro %acc ⟨%d', %hd', H1, H2, H3, H4, H5, H6, H9, H10⟩
  iapply (Own.load 𝒱₀ (c : Thread nD τ) none E (r := Rect.unit (s := S8192x128) ![0, 0] S8192x128.size inb_S8192x128_S8192x128_0_0)) $$ H9; iintro H9
  iapply (Own.load 𝒱₀ (c : Thread nD τ) none E (r := Rect.unit (s := S8192x128) ![0, 0] S8192x128.size inb_S8192x128_S8192x128_0_0)) $$ H7; iintro H7
  iapply (Own.store 𝒱₀ (c : Thread nD τ) none E (r := Rect.unit (s := S8192x128) ![0, 0] S8192x128.size inb_S8192x128_S8192x128_0_0)) $$ H7; iintro H7
  iapply (Own.load 𝒱₀ (c : Thread nD τ) none E (r := Rect.unit (s := S8192x128) ![0, 0] S8192x128.size inb_S8192x128_S8192x128_0_0)) $$ H10; iintro H10
  iapply (Own.load 𝒱₀ (c : Thread nD τ) none E (r := Rect.unit (s := S8192x128) ![0, 0] S8192x128.size inb_S8192x128_S8192x128_0_0)) $$ H8; iintro H8
  iapply (Own.store 𝒱₀ (c : Thread nD τ) none E (r := Rect.unit (s := S8192x128) ![0, 0] S8192x128.size inb_S8192x128_S8192x128_0_0)) $$ H8; iintro H8
  rw [Own.overlay_whole, Own.overlay_whole, Own.ld_whole, Own.ld_whole]
  have e : d' = dqOut c i arg1 harg1 arg2 harg2 arg3 harg3 arg4 harg4 arg5 harg5 arg6 harg6 arg7 harg7 arg8 harg8 arg9 harg9 arg10 harg10 x := by
    funext y; exact hd' y (by have := (y 0).isLt; change (y 0).val < 8192 at this; change (y 0).val < 256 * 32; omega)
  subst e
  rw [wp_ret]
  imodintro
  iapply Hk
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexists _; iexact H9
  iexists _; iexact H10

end Cert.Proof.PI
-- ==== Proof.PI.HeadInv.lean ====
/-
  The peeled trip takes the sums from the row's own tile on.
-/
module

public import proofs.«01_k».proof.Proof.PI.HeadVal
public import proofs.«01_k».proof.Proof.PI.Loop

@[expose] public section

set_option maxRecDepth 16384

noncomputable section

namespace Cert.Proof.PI

open Cert.KernelIdeal Cert.KernelIdeal.Gen
open Idealize.ShloMosaic
open Idealize.ShloMosaic.TcCoe

/-- The five blocks are real ones. -/
structure IsIns (X : RIn) (O : ℕ → Fin 128 → ℝ) (x : Ins Ideal) : Prop where
  q : Is x.q X.q
  k : Is x.k X.k
  v : Is x.v X.v
  dO : ∀ (u : Fin 8192) (c : Fin 128), x.dO (ix2 u c) = ((X.dO u.val c : ℝ) : EReal)
  o : ∀ (u : Fin 8192) (c : Fin 128), x.o (ix2 u c) = ((O u.val c : ℝ) : EReal)
  tot : ∀ P h, X.tot P h = ∑ c : Fin 128, if c.val / 64 = h then X.dO P c * O P c else 0

variable {X : RIn} {O : ℕ → Fin 128 → ℝ} {x : Ins Ideal} {t : Fin k0_t1_loop.trips}

theorem off1_eq : ∀ (t : Fin k0_t1_loop.trips) (r : Fin 2), k0_off1 t (BitVec.ofNat 32 r.val) = ![128 * (2 * t.val + r.val), 0] := by decide +kernel

theorem ld1 {α : EltTy} (y : Vec Ideal S8192x128 α) (t : Fin k0_t1_loop.trips) (r : Fin 2) (l c : Fin 128) :
    View.ld y (rc1 t r) (ix2 l c) = y (ix2 (⟨128 * (2 * t.val + r.val) + l.val, by have := trips_lt t; omega⟩ : Fin 8192) c) :=
  ld_rows y _ (k0_off1_inb t r) (2 * t.val + r.val) (by have := trips_lt t; omega) (off1_eq t r) l c

/-- The stacked rows are the real ones. -/
theorem isBlk (h : IsIns X O x) : IsBlk X t (hB t x) := by
  have e0 : ∀ l : Fin 128, 128 * (2 * t.val + (0 : Fin 2).val) + l.val = 256 * t.val + l.val := fun l => by simp; omega
  have e1 : ∀ l : Fin 128, 128 * (2 * t.val + (1 : Fin 2).val) + l.val = 256 * t.val + 128 + l.val := fun l => by simp; omega
  refine ⟨fun r c => ?_, fun r c => ?_, fun r l => ?_, ue_at, ui_at⟩
  · exact stackQ_at (A := X.q) (t := t) (fun l c => by rw [ld1, h.q]; simp only [e0]) (fun l c => by rw [ld1, h.q]; simp only [e1]) r c
  · exact stackD_at (A := X.dO) (t := t) (fun l c => by rw [ld1, h.dO]; simp only [e0]) (fun l c => by rw [ld1, h.dO]; simp only [e1]) r c
  · refine (stackT_at (A := X.dO) (O := O) (t := t) (fun l c => by rw [ld1, h.dO]; simp only [e0]) (fun l c => by rw [ld1, h.dO]; simp only [e1])
      (fun l c => by rw [ld1, h.o]; simp only [e0]) (fun l c => by rw [ld1, h.o]; simp only [e1]) r l).trans ?_
    rw [rT, h.tot]; rfl

/-! ### The last key tile -/

theorem last_word : ∀ t : Fin k0_t1_loop.trips, Scalar.select (Scalar.cmpi .sge (Scalar.subi (Scalar.subi (lastOf t) 0#32) 0#32) 0#32)
    (Scalar.muli (Scalar.subi (Scalar.subi (lastOf t) 0#32) 0#32) 128#32) 1073741824#32 = BitVec.ofNat 32 (128 * (2 * t.val + 1)) := by
  decide +kernel
theorem later_word : ∀ t : Fin k0_t1_loop.trips, Scalar.muli (laterOf t) 128#32 = BitVec.ofNat 32 (128 * (2 * t.val + 1)) := by decide +kernel
theorem low_word : ∀ r : Fin 256, IntOp.addi (IntOp.andi (BitVec.ofNat 32 r.val) 127#32)
    (IntOp.shli .vector (IntOp.shrsi .vector (BitVec.ofNat 32 r.val) 8#32) 7#32) = BitVec.ofNat 32 (r.val % 128) := by decide +kernel

theorem pos_later (t : ℕ) (r : Fin 256) : pos t (later r) = 128 * (2 * t + 1) + r.val % 128 := by
  have := r.isLt
  show 256 * t + 128 * ((256 + r.val) / 256) + (256 + r.val) % 128 = _
  omega

theorem val0_at (r : Fin 256) (l : Fin 128) : val0 t (ix2 r l) = BitVec.ofBool (decide (tok (pos t (later r)) (2 * t.val + 1) l)) := by
  have ht := trips_lt t
  pointwise [val0, k0_pay30, k0_pay28, k0_pay29]
  rw [last_word, later_word, low_word]
  show IntOp.cmpi .slt (BitVec.ofNat 32 _ + BitVec.ofNat 32 l.val) (BitVec.ofNat 32 _ + BitVec.ofNat 32 _) = _
  rw [← BitVec.ofNat_add, ← BitVec.ofNat_add, WordCmp.cmpi_slt_ofNat (by omega) (by omega)]
  simp only [tok, pos_later]

/-- The earlier tile's rows have no weight there: what is put in front of the later tile's is zero. -/
theorem front_m (y : FVec Ideal S256x128 .f32) (r : Fin 512) (l : Fin 128) :
    k0_pay44 (F := Ideal) k0_pay5 y (ix2 r l) = if h : r.val < 256 then 0 else y (ix2 ⟨r.val - 256, by omega⟩ l) := by
  pointwise [k0_pay44, k0_pay5]
theorem front_g (y : FVec Ideal S256x128 .f32) (r : Fin 512) (l : Fin 128) :
    k0_pay47 (F := Ideal) y (k0_pay46 k0_pay5) (ix2 r l) = if h : r.val < 256 then 0 else y (ix2 ⟨r.val - 256, by omega⟩ l) := by
  pointwise [k0_pay46, k0_pay47, k0_pay5]
theorem front_dq (k : FVec Ideal S128x128 .bf16) (dz : FVec Ideal S256x128 .bf16) (r : Fin 512) (l : Fin 128) (h : r.val < 256) :
    k0_pay48 (F := Ideal) k0_pay5 k dz (ix2 r l) = 0 := by
  pointwise [k0_pay48, k0_pay5]
  rw [dif_pos h]

theorem pos_front {t : ℕ} {r : Fin 512} (h : r.val < 256) : pos t r ≤ 128 * (2 * t + 1) := by
  unfold pos; omega

/-- A sum over the stacked rows of what the earlier tile's have none of. -/
theorem sum_later {f : Fin 512 → ℝ} (h : ∀ r : Fin 512, r.val < 256 → f r = 0) : ∑ r, f r = ∑ r : Fin 256, f (later r) := by
  rw [show (∑ r, f r) = ∑ r : Fin (256 + 256), f r from rfl, Fin.sum_univ_add,
    Finset.sum_eq_zero (fun r _ => h _ (by simp)), zero_add]
  rfl

variable {dk dv : Vec Ideal S8192x128 .f32} {dk0 dv0 : ℕ → Fin 128 → ℝ}

set_option maxHeartbeats 2000000 in
theorem st0_inv (hx : IsIns X O x) (hdk : AccIs dk (2 * t.val + 2) dk0 (fun u c => ∑ r, rDZ X t r u * rQ X t r c))
    (hdv : AccIs dv (2 * t.val + 2) dv0 (fun u c => ∑ r, rW X t r u * rD X t r c)) :
    Inv X t (2 * t.val + 1) dk0 dv0 (st0 t x dk dv) := by
  have ht := trips_lt t
  have hj : 2 * t.val + 1 < 64 := by omega
  have hB := isBlk (t := t) hx
  have ho : k0_off2 t (BitVec.ofNat 32 (0 : Fin 4).val) = ![128 * (2 * t.val + 1), 0] := off2_eq t 0
  have hK : ∀ l c, View.ld x.k (rc2 t 0) (ix2 l c) = ((til X.k (2 * t.val + 1) l c : ℝ) : EReal) := fun l c => by
    rw [ld_rows x.k _ (k0_off2_inb t 0) _ hj ho, hx.k]
  have hV : ∀ l c, View.ld x.v (rc2 t 0) (ix2 l c) = ((til X.v (2 * t.val + 1) l c : ℝ) : EReal) := fun l c => by
    rw [ld_rows x.v _ (k0_off2_inb t 0) _ hj ho, hx.v]
  have zL : ∀ r : Fin 256, tail (rL X t (later r)) (128 * (2 * t.val + 1 + 1)) = 0 := fun r =>
    tail_L_zero _ _ _ _ (by rw [pos_later]; omega)
  have zS : ∀ r : Fin 256, tail (rS X t (later r)) (128 * (2 * t.val + 1 + 1)) = 0 := fun r =>
    Finset.sum_eq_zero fun u hu => S_zero _ _ _ _ _ _ (by have := (Finset.mem_Ico.1 hu).1; rw [pos_later]; omega)
  have hq := fun r : Fin 256 => hB.q (later r)
  have hd := fun r : Fin 256 => hB.d (later r)
  have hw := fun r => w0_at (hq r) hK (val0_at (t := t) r) ue_at
  have hw' := fun r => w0'_at (hq r) hK (val0_at (t := t) r) ue_at
  have hm := fun r => m0_at (hq r) hK (val0_at (t := t) r) ue_at
  have hg := fun r => g0_at (hw' r) (hd r) hV ui_at
  have hz := fun r => dz0_at (hw' r) (sub0_at (hq r) hK) (val0_at (t := t) r) (hB.tot (later r)) (hd r) hV ui_at
  have ew : ∀ r l, Row.w (rQ X t (later r)) (til X.k (2 * t.val + 1)) (tok (pos t (later r)) (2 * t.val + 1)) 0 l
      = rW X t (later r) (128 * (2 * t.val + 1) + l.val) := fun r l => by
    have := row_w (rQ X t (later r)) X.k (pos t (later r)) _ hj l
    rwa [zL] at this
  have es : ∀ r l, Row.share (rQ X t (later r)) (rD X t (later r)) (til X.k (2 * t.val + 1)) (til X.v (2 * t.val + 1))
      (tok (pos t (later r)) (2 * t.val + 1)) 0 l = rS X t (later r) (128 * (2 * t.val + 1) + l.val) := fun r l => by
    have := row_share (rQ X t (later r)) (rD X t (later r)) X.k X.v (pos t (later r)) _ hj l
    rwa [zL] at this
  have ez : ∀ r l, Row.dz (rQ X t (later r)) (rD X t (later r)) (til X.k (2 * t.val + 1)) (til X.v (2 * t.val + 1))
      (tok (pos t (later r)) (2 * t.val + 1)) (rT X t (later r)) 0 0 l = rDZ X t (later r) (128 * (2 * t.val + 1) + l.val) := fun r l => by
    have := row_dz (rQ X t (later r)) (rD X t (later r)) X.k X.v (pos t (later r)) (rT X t (later r)) _ hj l
    rwa [zL, zS] at this
  have em := fun r => row_m (rQ X t (later r)) X.k (pos t (later r)) _ hj
  simp only [zL, zero_add] at em
  have eg := fun r => tail_tile (rS X t (later r)) _ hj
  simp only [zS, zero_add] at eg
  simp only [ew] at hw
  simp only [es] at hg
  simp only [ez] at hz
  simp only [em] at hm
  simp only [← eg] at hg
  have front : ∀ r : Fin 512, ¬ r.val < 256 → r = later ⟨r.val - 256, by omega⟩ := fun r h => by
    apply Fin.ext; show r.val = 256 + (r.val - 256); omega
  refine ⟨fun r l => ?_, fun r l => ?_, fun r c => ?_, hdk.step hj ho fun l c => ?_, hdv.step hj ho fun l c => ?_⟩
  · refine (front_m _ r l).trans ?_
    split_ifs with h
    · rw [tail_L_zero _ _ _ _ (pos_front h)]; rfl
    · rw [hm, ← front r h]
  · refine (front_g _ r l).trans ?_
    split_ifs with h
    · have : tail (rS X t r) (128 * (2 * t.val + 1)) = 0 := Finset.sum_eq_zero fun u hu =>
        S_zero _ _ _ _ _ _ (le_trans (pos_front h) (Finset.mem_Ico.1 hu).1)
      rw [this]; rfl
    · rw [hg, ← front r h]
  · by_cases h : r.val < 256
    · have : tail (fun u => rDZ X t r u * X.k u c) (128 * (2 * t.val + 1)) = 0 := Finset.sum_eq_zero fun u hu => by
        rw [rDZ, DZ_zero _ _ _ _ _ _ _ (le_trans (pos_front h) (Finset.mem_Ico.1 hu).1), zero_mul]
      rw [this]; exact front_dq _ _ r c h
    · rw [front r h]
      refine (dq0_at (hz _) hK c).trans ?_
      have z : tail (fun u => rDZ X t (later ⟨r.val - 256, by omega⟩) u * X.k u c) (128 * (2 * t.val + 1 + 1)) = 0 :=
        Finset.sum_eq_zero fun u hu => by
          rw [rDZ, DZ_zero _ _ _ _ _ _ _ (by have := (Finset.mem_Ico.1 hu).1; rw [pos_later]; omega), zero_mul]
      rw [tail_tile _ _ hj, z, zero_add]
  · refine (dk0_at (X := fun r l => rDZ X t (later r) (128 * (2 * t.val + 1) + l.val)) (Y := fun r c => rQ X t (later r) c) l c (fun r => hz r l) (fun r c => hq r c) (hdk.ld hj ho l c)).trans ?_
    rw [sum_later fun r h => by rw [rDZ, DZ_zero _ _ _ _ _ _ _ (le_trans (pos_front h) (Nat.le_add_right _ _)), zero_mul]]
  · refine (dv0_at (X := fun r l => rW X t (later r) (128 * (2 * t.val + 1) + l.val)) (Y := fun r c => rD X t (later r) c) l c (fun r => hw r l) (fun r c => hd r c) (hdv.ld hj ho l c)).trans ?_
    rw [sum_later fun r h => by rw [rW, W_zero _ _ _ _ (le_trans (pos_front h) (Nat.le_add_right _ _)), zero_mul]]

theorem head_word : ∀ (t : Fin k0_t1_loop.trips) (r : Fin 4), Scalar.select
    (Scalar.cmpi .sge (Scalar.subi (Scalar.subi (lastOf t) 0#32) (BitVec.ofNat 32 r.val)) 0#32)
    (Scalar.muli (Scalar.subi (Scalar.subi (lastOf t) 0#32) (BitVec.ofNat 32 r.val)) 128#32) 1073741824#32
    = BitVec.ofNat 32 (if r.val ≤ 2 * t.val + 1 then 128 * (2 * t.val + 1 - r.val) else 1073741824) := by decide +kernel

/-- The peeled trip. -/
theorem headSt_inv (hx : IsIns X O x) (hdk : AccIs dk (2 * t.val + 2) dk0 (fun u c => ∑ r, rDZ X t r u * rQ X t r c))
    (hdv : AccIs dv (2 * t.val + 2) dv0 (fun u c => ∑ r, rW X t r u * rD X t r c)) :
    Inv X t (2 * t.val + 2 - 4 * 1) dk0 dv0 (headSt t x dk dv) := by
  have hB := isBlk (t := t) hx
  have h1 := any_inv hB hx.k hx.v _ 1 (head_word t 1) (inb := k0_off2_inb t 1) (off2_eq t 1) (st0_inv hx hdk hdv)
  have h2 := any_inv hB hx.k hx.v _ 2 (head_word t 2) (inb := k0_off2_inb t 2) (off2_eq t 2) h1
  exact any_inv hB hx.k hx.v _ 3 (head_word t 3) (inb := k0_off2_inb t 3) (off2_eq t 3) h2

variable (c : Dev nD) (i : grid0.Coords)
  (arg1 : Memref sig .tc .vmem S8192x128 .bf16) (harg1 : arg1.IsWhole) (arg2 : Memref sig .tc .vmem S8192x128 .bf16) (harg2 : arg2.IsWhole)
  (arg3 : Memref sig .tc .vmem S8192x128 .bf16) (harg3 : arg3.IsWhole) (arg4 : Memref sig .tc .vmem S8192x128 .f32) (harg4 : arg4.IsWhole)
  (arg5 : Memref sig .tc .vmem S8192x128 .f32) (harg5 : arg5.IsWhole) (arg6 : Memref sig .tc .vmem S8192x128 .bf16) (harg6 : arg6.IsWhole)
  (arg7 : Memref sig .tc .vmem S8192x128 .bf16) (harg7 : arg7.IsWhole) (arg8 : Memref sig .tc .vmem S8192x128 .bf16) (harg8 : arg8.IsWhole)
  (arg9 : Memref sig .tc .vmem S8192x128 .f32) (harg9 : arg9.IsWhole) (arg10 : Memref sig .tc .vmem S8192x128 .f32) (harg10 : arg10.IsWhole)

/-- A whole block. -/
theorem endAt_inv (hx : IsIns X O x) (hdk : AccIs dk (2 * t.val + 2) dk0 (fun u c => ∑ r, rDZ X t r u * rQ X t r c))
    (hdv : AccIs dv (2 * t.val + 2) dv0 (fun u c => ∑ r, rW X t r u * rD X t r c)) :
    Inv X t 0 dk0 dv0 (endAt c i arg1 harg1 arg2 harg2 arg3 harg3 arg4 harg4 arg5 harg5 arg6 harg6 arg7 harg7 arg8 harg8 arg9 harg9 arg10 harg10 x t dk dv) := by
  have h := headSt_inv hx hdk hdv
  rw [endAt, blockRun_val]
  unfold endOf
  have e : (stepOf c i t arg2 harg2 (headOf t x dk dv).q k0_pay3 arg3 harg3 (headOf t x dk dv).dO k0_pay4 (headOf t x dk dv).tot arg9 harg9 arg10 harg10 x.k x.v)
      = tripSt t (hB t x) x.k x.v := by
    funext n hn s; exact tripRun_val ..
  rw [e]
  exact walk_inv (isBlk hx) hx.k hx.v 16 1 _ _ rfl (alive_of_inv h) h

end Cert.Proof.PI
-- ==== Proof.PI.OutVal.lean ====
/-
  The three results of the kernel, over the reals.
-/
module

public import proofs.«01_k».proof.Proof.PI.HeadInv

@[expose] public section

set_option maxRecDepth 16384

noncomputable section

namespace Cert.Proof.PI

open Cert.KernelIdeal Cert.KernelIdeal.Gen
open Idealize.ShloMosaic
open Idealize.ShloMosaic.TcCoe

/-! ### By position and head -/

section Heads
variable (X : RIn) (P h : ℕ)
/-- A position's query, at one head's lanes, -/
def HQ (c : Fin 128) : ℝ := if c.val / 64 = h then X.q P c else 0
/-- its output gradient, -/
def HD (c : Fin 128) : ℝ := if c.val / 64 = h then X.dO P c else 0
/-- its weights -/
def HW (u : ℕ) : ℝ := Full.W (HQ X P h) X.k P u
/-- and its scores' gradient. -/
def HDZ (u : ℕ) : ℝ := Full.DZ (HQ X P h) (HD X P h) X.k X.v P (X.tot P h) u
end Heads

/-- The stacked rows of a block are the block's positions, once for each head. -/
theorem sum_stacked (f : ℕ → ℕ → ℝ) (t : ℕ) :
    ∑ r : Fin 512, f (pos t r) (hd r) = ∑ i ∈ Finset.range 256, (f (256 * t + i) 0 + f (256 * t + i) 1) := by
  rw [show (256 : ℕ) = 128 + 128 from rfl, Finset.sum_range_add, Finset.sum_range, Finset.sum_range,
    show (∑ r : Fin 512, f (pos t r) (hd r)) = ∑ r : Fin (256 + 256), f (pos t r) (hd r) from rfl, Fin.sum_univ_add,
    show (∑ r : Fin 256, f (pos t (Fin.castAdd 256 r)) (hd (Fin.castAdd 256 r)))
      = ∑ r : Fin (128 + 128), f (pos t (Fin.castAdd 256 r)) (hd (Fin.castAdd 256 r)) from rfl, Fin.sum_univ_add,
    show (∑ r : Fin 256, f (pos t (Fin.natAdd 256 r)) (hd (Fin.natAdd 256 r)))
      = ∑ r : Fin (128 + 128), f (pos t (Fin.natAdd 256 r)) (hd (Fin.natAdd 256 r)) from rfl, Fin.sum_univ_add,
    Finset.sum_add_distrib, Finset.sum_add_distrib]
  congr 1 <;> congr 1 <;> refine Finset.sum_congr rfl fun r _ => ?_ <;> have hr := r.isLt <;> unfold pos hd <;>
    simp only [Fin.val_castAdd, Fin.val_natAdd] <;> congr 1 <;> omega

theorem sum_blocks (f : ℕ → ℕ → ℝ) (k : ℕ) :
    ∑ t ∈ Finset.range k, ∑ r : Fin 512, f (pos t r) (hd r) = ∑ P ∈ Finset.range (256 * k), (f P 0 + f P 1) := by
  induction k with
  | zero => rfl
  | succ k ih => rw [Finset.sum_range_succ, ih, sum_stacked, Nat.mul_succ, Finset.sum_range_add]

theorem sum_all (f : ℕ → ℕ → ℝ) :
    ∑ t ∈ Finset.range 32, ∑ r : Fin 512, f (pos t r) (hd r) = ∑ P ∈ Finset.range 8192, (f P 0 + f P 1) := by
  have h := sum_blocks f 32
  rwa [show 256 * 32 = 8192 by norm_num] at h

/-- Of the two heads only the lane's own counts. -/
theorem sum_own (X : RIn) (g : ℕ → ℕ → ℝ) (A : ℕ → Fin 128 → ℝ) (n : ℕ) (c : Fin 128) :
    ∑ P ∈ Finset.range n, (g P 0 * (if c.val / 64 = 0 then A P c else 0) + g P 1 * (if c.val / 64 = 1 then A P c else 0))
      = ∑ P ∈ Finset.range n, g P (c.val / 64) * A P c := by
  refine Finset.sum_congr rfl fun P _ => ?_
  have hc := c.isLt
  rcases (show c.val / 64 = 0 ∨ c.val / 64 = 1 by omega) with h | h <;> simp [h]

variable {X : RIn} {O : ℕ → Fin 128 → ℝ} {x : Ins Ideal}

/-! ### The key and value gradients -/

variable (c : Dev nD) (i : grid0.Coords)
  (arg1 : Memref sig .tc .vmem S8192x128 .bf16) (harg1 : arg1.IsWhole) (arg2 : Memref sig .tc .vmem S8192x128 .bf16) (harg2 : arg2.IsWhole)
  (arg3 : Memref sig .tc .vmem S8192x128 .bf16) (harg3 : arg3.IsWhole) (arg4 : Memref sig .tc .vmem S8192x128 .f32) (harg4 : arg4.IsWhole)
  (arg5 : Memref sig .tc .vmem S8192x128 .f32) (harg5 : arg5.IsWhole) (arg6 : Memref sig .tc .vmem S8192x128 .bf16) (harg6 : arg6.IsWhole)
  (arg7 : Memref sig .tc .vmem S8192x128 .bf16) (harg7 : arg7.IsWhole) (arg8 : Memref sig .tc .vmem S8192x128 .bf16) (harg8 : arg8.IsWhole)
  (arg9 : Memref sig .tc .vmem S8192x128 .f32) (harg9 : arg9.IsWhole) (arg10 : Memref sig .tc .vmem S8192x128 .f32) (harg10 : arg10.IsWhole)

/-- What the first `k` blocks give key `u`. -/
def dkTo (X : RIn) (k u : ℕ) (l : Fin 128) : ℝ := ∑ t ∈ Finset.range k, ∑ r, rDZ X t r u * rQ X t r l
/-- What they give value `u`. -/
def dvTo (X : RIn) (k u : ℕ) (l : Fin 128) : ℝ := ∑ t ∈ Finset.range k, ∑ r, rW X t r u * rD X t r l

theorem pos_end (t : ℕ) (r : Fin 512) : pos t r ≤ 128 * (2 * t + 2) := by unfold pos; omega

/-- A block starts from what the earlier ones gave. -/
theorem start_dk {d : Vec Ideal S8192x128 .f32} {t : ℕ} (h : ∀ (u : Fin 8192) (l : Fin 128), d (ix2 u l) = ((dkTo X t u.val l : ℝ) : EReal)) :
    AccIs d (2 * t + 2) (dkTo X t) (fun u c => ∑ r, rDZ X t r u * rQ X t r c) := fun u l => by
  rw [h]
  split_ifs with hu
  · refine congrArg _ ((add_zero _).symm.trans (congrArg _ ?_))
    exact (Finset.sum_eq_zero fun r _ => mul_eq_zero_of_left (DZ_zero _ _ _ _ _ _ _ (le_trans (pos_end t r) hu)) _).symm
  · rw [add_zero]
theorem start_dv {d : Vec Ideal S8192x128 .f32} {t : ℕ} (h : ∀ (u : Fin 8192) (l : Fin 128), d (ix2 u l) = ((dvTo X t u.val l : ℝ) : EReal)) :
    AccIs d (2 * t + 2) (dvTo X t) (fun u c => ∑ r, rW X t r u * rD X t r c) := fun u l => by
  rw [h]
  split_ifs with hu
  · refine congrArg _ ((add_zero _).symm.trans (congrArg _ ?_))
    exact (Finset.sum_eq_zero fun r _ => mul_eq_zero_of_left (W_zero _ _ _ _ (le_trans (pos_end t r) hu)) _).symm
  · rw [add_zero]

theorem accAt_is (hx : IsIns X O x) : ∀ k ≤ 32, ∀ (u : Fin 8192) (l : Fin 128),
    (accAt c i arg1 harg1 arg2 harg2 arg3 harg3 arg4 harg4 arg5 harg5 arg6 harg6 arg7 harg7 arg8 harg8 arg9 harg9 arg10 harg10 x k).1 (ix2 u l)
        = ((dkTo X k u.val l : ℝ) : EReal)
      ∧ (accAt c i arg1 harg1 arg2 harg2 arg3 harg3 arg4 harg4 arg5 harg5 arg6 harg6 arg7 harg7 arg8 harg8 arg9 harg9 arg10 harg10 x k).2 (ix2 u l)
        = ((dvTo X k u.val l : ℝ) : EReal)
  | 0, _, u, l => by
    rw [accAt, dkTo, dvTo]
    constructor
    · show k0_pay6 (F := Ideal) (ix2 u l) = _
      pointwise [k0_pay6]
      simp
    · show k0_pay7 (F := Ideal) (ix2 u l) = _
      pointwise [k0_pay7]
      simp
  | k + 1, hk, u, l => by
    have ih := accAt_is hx k (by omega)
    have h := endAt_inv c i arg1 harg1 arg2 harg2 arg3 harg3 arg4 harg4 arg5 harg5 arg6 harg6 arg7 harg7 arg8 harg8 arg9 harg9 arg10 harg10
      (t := ⟨k, by rw [trips_eq]; omega⟩) hx (start_dk fun u l => (ih u l).1) (start_dv fun u l => (ih u l).2)
    rw [accAt_succ c i arg1 harg1 arg2 harg2 arg3 harg3 arg4 harg4 arg5 harg5 arg6 harg6 arg7 harg7 arg8 harg8 arg9 harg9 arg10 harg10 x
      ⟨k, by rw [trips_eq]; omega⟩]
    refine ⟨(h.dk u l).trans ?_, (h.dv u l).trans ?_⟩
    · rw [if_pos (by omega), dkTo, dkTo, Finset.sum_range_succ]
    · rw [if_pos (by omega), dvTo, dvTo, Finset.sum_range_succ]

theorem rDZ_eq (X : RIn) (t : ℕ) (r : Fin 512) (u : ℕ) : rDZ X t r u = HDZ X (pos t r) (hd r) u := rfl
theorem rW_eq (X : RIn) (t : ℕ) (r : Fin 512) (u : ℕ) : rW X t r u = HW X (pos t r) (hd r) u := rfl

/-- What all the blocks give. -/
theorem dkTo_all (X : RIn) (u : ℕ) (l : Fin 128) : dkTo X 32 u l = ∑ P ∈ Finset.range 8192, HDZ X P (l.val / 64) u * X.q P l := by
  rw [dkTo, ← sum_own X (fun P h => HDZ X P h u), ← sum_all (fun P h => HDZ X P h u * (if l.val / 64 = h then X.q P l else 0))]
  simp only [rDZ_eq, rQ]
theorem dvTo_all (X : RIn) (u : ℕ) (l : Fin 128) : dvTo X 32 u l = ∑ P ∈ Finset.range 8192, HW X P (l.val / 64) u * X.dO P l := by
  rw [dvTo, ← sum_own X (fun P h => HW X P h u), ← sum_all (fun P h => HW X P h u * (if l.val / 64 = h then X.dO P l else 0))]
  simp only [rW_eq, rD]

theorem pay8_at (y : Vec Ideal S8192x128 .f32) (u : Fin 8192) (l : Fin 128) : k0_pay8 y (ix2 u l) = y (ix2 u l) := by pointwise [k0_pay8]
theorem pay9_at (y : Vec Ideal S8192x128 .f32) (u : Fin 8192) (l : Fin 128) : k0_pay9 y (ix2 u l) = y (ix2 u l) := by pointwise [k0_pay9]

theorem dkOut_at (hx : IsIns X O x) (u : Fin 8192) (l : Fin 128) :
    dkOut c i arg1 harg1 arg2 harg2 arg3 harg3 arg4 harg4 arg5 harg5 arg6 harg6 arg7 harg7 arg8 harg8 arg9 harg9 arg10 harg10 x (ix2 u l)
      = ((∑ P ∈ Finset.range 8192, HDZ X P (l.val / 64) u.val * X.q P l : ℝ) : EReal) := by
  have h := (accAt_is c i arg1 harg1 arg2 harg2 arg3 harg3 arg4 harg4 arg5 harg5 arg6 harg6 arg7 harg7 arg8 harg8 arg9 harg9 arg10 harg10 hx 32
    le_rfl u l).1
  rw [dkTo_all] at h
  rw [dkOut, pay8_at, h]

theorem dvOut_at (hx : IsIns X O x) (u : Fin 8192) (l : Fin 128) :
    dvOut c i arg1 harg1 arg2 harg2 arg3 harg3 arg4 harg4 arg5 harg5 arg6 harg6 arg7 harg7 arg8 harg8 arg9 harg9 arg10 harg10 x (ix2 u l)
      = ((∑ P ∈ Finset.range 8192, HW X P (l.val / 64) u.val * X.dO P l : ℝ) : EReal) := by
  have h := (accAt_is c i arg1 harg1 arg2 harg2 arg3 harg3 arg4 harg4 arg5 harg5 arg6 harg6 arg7 harg7 arg8 harg8 arg9 harg9 arg10 harg10 hx 32
    le_rfl u l).2
  rw [dvTo_all] at h
  rw [dvOut, pay9_at, h]

/-! ### The query gradient -/

theorem pay100_at (d : FVec Ideal S512x128 .f32) (l : Fin 128) (k : Fin 128) :
    k0_pay100 d (ix2 l k) = d (ix2 (⟨128 * (k.val / 64) + l.val, by omega⟩ : Fin 512) k) := by
  pointwise [k0_pay100]
  rw [below64]
  split_ifs with h
  · congr 2; apply Fin.ext; show l.val = 128 * (k.val / 64) + l.val; omega
  · congr 2; apply Fin.ext; show 128 + l.val = 128 * (k.val / 64) + l.val; omega
theorem pay101_at (d : FVec Ideal S512x128 .f32) (l : Fin 128) (k : Fin 128) :
    k0_pay101 d (ix2 l k) = d (ix2 (⟨256 + 128 * (k.val / 64) + l.val, by omega⟩ : Fin 512) k) := by
  pointwise [k0_pay101]
  rw [below64]
  split_ifs with h
  · congr 2; apply Fin.ext; show 256 + l.val = 256 + 128 * (k.val / 64) + l.val; omega
  · congr 2; apply Fin.ext; show 256 + (128 + l.val) = 256 + 128 * (k.val / 64) + l.val; omega

theorem putDq_at {t : Fin k0_t1_loop.trips} {s : St Ideal} {dk0 dv0 : ℕ → Fin 128 → ℝ} (h : Inv X t 0 dk0 dv0 s) (d : Vec Ideal S8192x128 .bf16)
    (P : Fin 8192) (hP : P.val / 256 = t.val) (l : Fin 128) :
    putDq t d s (ix2 P l) = ((∑ u ∈ Finset.range 8192, HDZ X P.val (l.val / 64) u * X.k u l : ℝ) : EReal) := by
  have hl := l.isLt
  have ht := trips_lt t
  have key : ∀ r : Fin 512, pos t r = P.val → hd r = l.val / 64 →
      s.dq (ix2 r l) = ((∑ u ∈ Finset.range 8192, HDZ X P.val (l.val / 64) u * X.k u l : ℝ) : EReal) := fun r h1 h2 => by
    rw [h.dq, Nat.mul_zero, tail, ← Finset.range_eq_Ico, ← h1, ← h2]; rfl
  by_cases h2 : 128 * (2 * t.val + 1) ≤ P.val ∧ P.val < 128 * (2 * t.val + 1) + 128
  · have e : P = keyAt (2 * t.val + 1) (by omega) ⟨P.val - 128 * (2 * t.val + 1), by omega⟩ :=
      Fin.ext (by show P.val = 128 * (2 * t.val + 1) + (P.val - 128 * (2 * t.val + 1)); omega)
    refine Eq.trans (congrArg (fun P => putDq t d s (ix2 P l)) e) ((overlay_in _ _ (k0_off1_inb t 1) _ (2 * t.val + 1) (by omega) (off1_eq t 1) _ l).trans
      ((pay101_at _ _ l).trans (key _ ?_ ?_)))
    · unfold pos; simp only; omega
    · unfold hd; simp only; omega
  · refine (overlay_out _ _ (k0_off1_inb t 1) _ (2 * t.val + 1) (off1_eq t 1) P l h2).trans ?_
    have e : P = keyAt (2 * t.val) (by omega) ⟨P.val - 128 * (2 * t.val), by omega⟩ :=
      Fin.ext (by show P.val = 128 * (2 * t.val) + (P.val - 128 * (2 * t.val)); omega)
    refine Eq.trans (congrArg (fun P => (rc1 t 0).overlay d (k0_pay100 s.dq) (ix2 P l)) e)
      ((overlay_in _ _ (k0_off1_inb t 0) _ (2 * t.val) (by omega) (off1_eq t 0) _ l).trans ((pay100_at _ _ l).trans (key _ ?_ ?_)))
    · unfold pos; simp only; omega
    · unfold hd; simp only; omega

theorem dqOut_at (hx : IsIns X O x) (P : Fin 8192) (l : Fin 128) :
    dqOut c i arg1 harg1 arg2 harg2 arg3 harg3 arg4 harg4 arg5 harg5 arg6 harg6 arg7 harg7 arg8 harg8 arg9 harg9 arg10 harg10 x (ix2 P l)
      = ((∑ u ∈ Finset.range 8192, HDZ X P.val (l.val / 64) u * X.k u l : ℝ) : EReal) := by
  have hP := P.isLt
  have ih := accAt_is c i arg1 harg1 arg2 harg2 arg3 harg3 arg4 harg4 arg5 harg5 arg6 harg6 arg7 harg7 arg8 harg8 arg9 harg9 arg10 harg10 hx
    (P.val / 256) (by omega)
  exact putDq_at (endAt_inv c i arg1 harg1 arg2 harg2 arg3 harg3 arg4 harg4 arg5 harg5 arg6 harg6 arg7 harg7 arg8 harg8 arg9 harg9 arg10 harg10
    (t := ⟨P.val / 256, by rw [trips_eq]; omega⟩) hx (start_dk fun u l => (ih u l).1) (start_dv fun u l => (ih u l).2)) _ P rfl l

end Cert.Proof.PI
-- ==== Proof.HostOps.lean ====
/-
  The host's operations at an index, in the reals.
-/
module

public import proofs.«01_k».proof.Proof.Host
public import proofs.«01_k».proof.Proof.Cumsum
public import proofs.«01_k».proof.Proof.Model
public import proofs.«01_k».proof.Proof.PI.OutVal
public import Idealize.ShloMosaic.Lib.WordCmp

@[expose] public section

set_option maxRecDepth 16384

noncomputable section

namespace Cert.Proof.Host

open Cert.ReferenceIdeal Cert.ReferenceIdeal.Gen
open Idealize.ShloMosaic
open Idealize.ShloMosaic.TcCoe

/-- Columns, by head. -/
def Is64 (x : FVec Ideal S8x8192x64 .f32) (f : ℕ → ℕ → ℕ → ℝ) : Prop :=
  ∀ (h : Fin 8) (P : Fin 8192) (l : Fin 64), x (ix3 h P l) = ((f h.val P.val l.val : ℝ) : EReal)
/-- Pairs of positions, by head. -/
def IsPair (x : FVec Ideal S8x8192x8192 .f32) (f : ℕ → ℕ → ℕ → ℝ) : Prop :=
  ∀ (h : Fin 8) (P u : Fin 8192), x (ix3 h P u) = ((f h.val P.val u.val : ℝ) : EReal)

theorem byHead_at (x : FVec Ideal S8192x512 .f32) (h : Fin 8) (P : Fin 8192) (l : Fin 64) :
    byHead x (ix3 h P l) = x (ix2 P (⟨64 * h.val + l.val, by omega⟩ : Fin 512)) := by
  pointwise [byHead]
  exact congrArg x (congrArg (ix2 P) (Fin.ext (by show h.val * 64 + l.val = 64 * h.val + l.val; omega)))
theorem fromHeads_at (x : FVec Ideal S8x8192x64 .f32) (P : Fin 8192) (j : Fin 512) :
    rounded (fromHeads x) (ix2 P j) = x (ix3 (⟨j.val / 64, by omega⟩ : Fin 8) P (⟨j.val % 64, by omega⟩ : Fin 64)) := by
  pointwise [fromHeads, rounded]

variable {a : FVec Ideal S8192x3072 .bf16} {b : FVec Ideal S8192x512 .f32} {A B : ℕ → ℕ → ℝ}

theorem hq_is (ha : ∀ (P : Fin 8192) (j : Fin 3072), a (ix2 P j) = ((A P.val j.val : ℝ) : EReal)) : Is64 (hq a) fun h P l => A P (64 * h + l) := by
  intro h P l
  rw [hq, byHead_at]
  pointwise [ha]
theorem hk_is (ha : ∀ (P : Fin 8192) (j : Fin 3072), a (ix2 P j) = ((A P.val j.val : ℝ) : EReal)) : Is64 (hk a) fun h P l => A P (512 + (64 * h + l)) := by
  intro h P l
  rw [hk, byHead_at]
  pointwise [ha]
theorem hv_is (ha : ∀ (P : Fin 8192) (j : Fin 3072), a (ix2 P j) = ((A P.val j.val : ℝ) : EReal)) : Is64 (hv a) fun h P l => A P (1024 + (64 * h + l)) := by
  intro h P l
  rw [hv, byHead_at]
  pointwise [ha]
theorem hd_is (hb : ∀ (P : Fin 8192) (j : Fin 512), b (ix2 P j) = ((B P.val j.val : ℝ) : EReal)) : Is64 (byHead b) fun h P l => B P (64 * h + l) := by
  intro h P l
  rw [byHead_at, hb]

variable {x y : FVec Ideal S8x8192x64 .f32} {f g : ℕ → ℕ → ℕ → ℝ}

theorem prods_is (hx : Is64 x f) (hy : Is64 y g) : IsPair (prods x y) fun h P u => ∑ l ∈ Finset.range 64, f h P l * g h u l := by
  intro h P u
  unfold Is64 at hx hy
  pointwise [prods, hx, hy]
  simp only [Finset.sum_range, coe_sum, EReal.coe_mul]

theorem all_zero (h : Fin 8) (P u : Fin 8192) : all (F := Ideal) 0x00000000#32 (ix3 h P u) = 0 := by pointwise [all]
theorem all_eighth (h : Fin 8) (P u : Fin 8192) : all (F := Ideal) 0x3E000000#32 (ix3 h P u) = ((1 / 8 : ℝ) : EReal) := by
  pointwise [all]; exact eighth
theorem all_top (h : Fin 8) (P u : Fin 8192) : all (F := Ideal) 0x7F800000#32 (ix3 h P u) = ⊤ := by
  pointwise [all]
  simp [Ideal.ofBits, Ideal.ieee]

theorem valid_at (h : Fin 8) (P u : Fin 8192) : valid (ix3 h P u) = BitVec.ofBool (decide (u.val < P.val)) := by
  pointwise [valid]
  exact WordCmp.cmpi_slt_ofNat (by omega) (by omega)

variable {z w : FVec Ideal S8x8192x8192 .f32} {p r : ℕ → ℕ → ℕ → ℝ}

theorem masked_is (hz : IsPair z p) : IsPair (masked z) fun h P u => if u < P then p h P u else 0 := by
  intro h P u
  unfold IsPair at hz
  pointwise [masked, hz, valid_at]
  split <;> rfl

theorem soft_is (hz : IsPair z p) : IsPair (soft z) fun h P u => spl (p h P u) := by
  intro h P u
  unfold IsPair at hz
  pointwise [soft, hz]
  refine (if_neg (not_not.2 rfl)).trans ?_
  refine Eq.trans ?_ (PI.coe_spl (p h P u))
  show _ + Ideal.log1p (Ideal.exp (-FloatOps.absf (F := Ideal) (φ := .f32) _)) = _
  rw [← zero_sub]
  rfl

theorem neg_is (hz : IsPair z p) : IsPair (Host.negf z) fun h P u => -p h P u := by
  intro h P u
  unfold IsPair at hz
  pointwise [hz]
  exact (EReal.coe_neg _).symm

theorem slope_is (hz : IsPair z p) : IsPair (slope z) fun h P u => Real.exp (p h P u - spl (p h P u)) := by
  intro h P u
  have hs := soft_is hz
  unfold IsPair at hz hs
  have ht := all_top h P u
  pointwise [all] at ht
  pointwise [slope, hz, hs]
  rw [ht, if_neg (EReal.coe_ne_top _), if_neg (EReal.coe_ne_top _), ← EReal.coe_sub, Ideal.exp_coe]

theorem since_is (hz : IsPair z p) : IsPair (since z) fun h P u => tail (p h P) u := by
  intro h P u
  have hi : (broadcastInDim S_ ![] bcast_S_S_ (constant (F := Ideal) S_ .f32 0x00000000#32)) (S_.rowMajor.symm ⟨0, h_S_⟩) = 0 := by pointwise
  unfold since Host.reduceWindowAdd
  simp only [Ideal.hostReduceWindowAdd_def]
  erw [hi]
  exact since_at z _ (p h.val P.val) h P (fun j => hz h P j) u

theorem upto_is (hz : IsPair z p) : IsPair (upto z) fun h P u => ∑ j ∈ Finset.range (u + 1), p h P j := by
  intro h P u
  have hi : (broadcastInDim S_ ![] bcast_S_S_ (constant (F := Ideal) S_ .f32 0x00000000#32)) (S_.rowMajor.symm ⟨0, h_S_⟩) = 0 := by pointwise
  unfold upto Host.reduceWindowAdd
  simp only [Ideal.hostReduceWindowAdd_def]
  erw [hi]
  exact upto_at z _ (p h.val P.val) h P (fun j => hz h P j) u

theorem over_is (hz : IsPair z p) (hx : Is64 x f) : Is64 (over z x) fun h P l => ∑ u ∈ Finset.range 8192, p h P u * f h u l := by
  intro h P l
  unfold IsPair at hz
  unfold Is64 at hx
  pointwise [over, hz, hx]
  simp only [Finset.sum_range, coe_sum, EReal.coe_mul]

end Cert.Proof.Host
-- ==== Proof.HostVal.lean ====
/-
  The host's gradients over the reals: those of the kernel's rows.
-/
module

public import proofs.«01_k».proof.Proof.HostOps

@[expose] public section

set_option maxRecDepth 16384

noncomputable section

namespace Cert.Proof

/-! ### The soft plus -/

theorem spl_eq (x : ℝ) : spl x = Real.log (1 + Real.exp x) := by
  unfold spl
  rcases le_total 0 x with h | h
  · rw [max_eq_left h, abs_of_nonneg h]
    conv_lhs => rw [← Real.log_exp x]
    rw [← Real.log_mul (Real.exp_pos _).ne' (by positivity), mul_add, mul_one, ← Real.exp_add, Real.log_exp, add_neg_cancel, Real.exp_zero, add_comm]
  · rw [max_eq_right h, abs_of_nonpos h, neg_neg, zero_add]

theorem spl_neg (x : ℝ) : spl (-x) = spl x - x := by
  unfold spl
  rw [abs_neg]
  have : max (-x) 0 = max x 0 - x := by
    rcases le_total 0 x with h | h
    · rw [max_eq_left h, max_eq_right (by linarith)]; ring
    · rw [max_eq_right h, max_eq_left (by linarith)]; ring
  rw [this]; ring

theorem slope_neg (x : ℝ) : Real.exp (-x - spl (-x)) = 1 - Real.exp (x - spl x) := by
  have h : (0 : ℝ) < 1 + Real.exp x := by positivity
  rw [spl_neg, show -x - (spl x - x) = -spl x by ring, sub_eq_add_neg x, Real.exp_add, Real.exp_neg (spl x), spl_eq, Real.exp_log h]
  field_simp
  ring

theorem tail_succ (f : ℕ → ℝ) (u : ℕ) (hu : u < 8192) : tail f u = f u + tail f (u + 1) := Finset.sum_eq_sum_Ico_succ_bot hu f

theorem tail_add (f : ℕ → ℝ) (u : ℕ) (hu : u ≤ 8192) : ∑ j ∈ Finset.range u, f j + tail f u = ∑ j ∈ Finset.range 8192, f j := by
  simp only [tail, Finset.range_eq_Ico]
  exact Finset.sum_Ico_consecutive f (Nat.zero_le _) hu

/-- One head's lanes of a pair. -/
theorem sum_lanes (f : ℕ → ℝ) (e : ℕ) (he : e < 2) : (∑ c : Fin 128, if c.val / 64 = e then f c.val else 0) = ∑ l ∈ Finset.range 64, f (64 * e + l) := by
  rw [← Finset.sum_range (fun c => if c / 64 = e then f c else 0), ← Finset.sum_filter,
    show (Finset.range 128).filter (fun c => c / 64 = e) = Finset.Ico (64 * e) (64 * e + 64) by
      ext c; simp only [Finset.mem_filter, Finset.mem_range, Finset.mem_Ico]; omega,
    Finset.sum_Ico_eq_sum_range, show 64 * e + 64 - 64 * e = 64 by omega]

/-! ### A pair of heads -/

open PI (RIn HQ HD HW HDZ)

variable (A B : ℕ → ℕ → ℝ)

/-- The columns of pair `g`. -/
def pair₀ (g : ℕ) : RIn where
  q P c := A P (128 * g + c.val)
  k P c := A P (512 + (128 * g + c.val))
  v P c := A P (1024 + (128 * g + c.val))
  dO P c := B P (128 * g + c.val)
  tot _ _ := 0
/-- A position's share at a key, -/
def shareOf (g P e u : ℕ) : ℝ := Full.S (HQ (pair₀ A B g) P e) (HD (pair₀ A B g) P e) (pair₀ A B g).k (pair₀ A B g).v P u
/-- summed over the keys. -/
def pair (g : ℕ) : RIn := { pair₀ A B g with tot := fun P e => ∑ u ∈ Finset.range 8192, shareOf A B g P e u }

theorem dot_HQ (g P e : ℕ) (he : e < 2) (w o : ℕ) :
    ∑ c : Fin 128, HQ (pair A B g) P e c * A w (o + (128 * g + c.val)) = ∑ l ∈ Finset.range 64, A P (64 * (2 * g + e) + l) * A w (o + (64 * (2 * g + e) + l)) := by
  simp only [HQ, ite_mul, zero_mul]
  refine (sum_lanes (fun c => A P (128 * g + c) * A w (o + (128 * g + c))) e he).trans (Finset.sum_congr rfl fun l _ => ?_)
  rw [show 128 * g + (64 * e + l) = 64 * (2 * g + e) + l by omega]

theorem dot_HD (g P e : ℕ) (he : e < 2) (w o : ℕ) :
    ∑ c : Fin 128, HD (pair A B g) P e c * A w (o + (128 * g + c.val)) = ∑ l ∈ Finset.range 64, B P (64 * (2 * g + e) + l) * A w (o + (64 * (2 * g + e) + l)) := by
  simp only [HD, ite_mul, zero_mul]
  refine (sum_lanes (fun c => B P (128 * g + c) * A w (o + (128 * g + c))) e he).trans (Finset.sum_congr rfl fun l _ => ?_)
  rw [show 128 * g + (64 * e + l) = 64 * (2 * g + e) + l by omega]

/-! ### By head -/

/-- A head's pair -/
abbrev X (h : ℕ) : RIn := pair A B (h / 2)

/-- The scores. -/
def hZ (h P u : ℕ) : ℝ := Full.Z (HQ (X A B h) P (h % 2)) (X A B h).k u
/-- The weights. -/
def hW (h P u : ℕ) : ℝ := HW (X A B h) P (h % 2) u
/-- The shares. -/
def hS (h P u : ℕ) : ℝ := Full.S (HQ (X A B h) P (h % 2)) (HD (X A B h) P (h % 2)) (X A B h).k (X A B h).v P u
/-- The scores' gradient. -/
def hDZ (h P u : ℕ) : ℝ := HDZ (X A B h) P (h % 2) u

theorem hZ_eq (h P u : ℕ) : hZ A B h P u = (∑ l ∈ Finset.range 64, A P (64 * h + l) * A u (512 + (64 * h + l))) * (1 / 8) := by
  have := dot_HQ A B (h / 2) P (h % 2) (by omega) u 512
  rw [show 2 * (h / 2) + h % 2 = h by omega] at this
  exact congrArg (· * (1 / 8 : ℝ)) this

theorem hG_eq (h P u : ℕ) : ∑ c : Fin 128, HD (X A B h) P (h % 2) c * (X A B h).v u c = ∑ l ∈ Finset.range 64, B P (64 * h + l) * A u (1024 + (64 * h + l)) := by
  have := dot_HD A B (h / 2) P (h % 2) (by omega) u 1024
  rw [show 2 * (h / 2) + h % 2 = h by omega] at this
  exact this

namespace Host

open Cert.ReferenceIdeal Cert.ReferenceIdeal.Gen
open Idealize.ShloMosaic
open Idealize.ShloMosaic.TcCoe

variable {x y z w : FVec Ideal S8x8192x8192 .f32} {p r : ℕ → ℕ → ℕ → ℝ}

theorem IsPair.congr (hz : IsPair z p) (h : ∀ h P u, u < 8192 → p h P u = r h P u) : IsPair z r := fun i P u =>
  (hz i P u).trans (congrArg _ (h _ _ _ u.isLt))

theorem add_is (hz : IsPair z p) (hw : IsPair w r) : IsPair (addf z w) fun h P u => p h P u + r h P u := by
  intro h P u
  unfold IsPair at hz hw
  pointwise [hz, hw]
  exact (EReal.coe_add _ _).symm
theorem sub_is (hz : IsPair z p) (hw : IsPair w r) : IsPair (subf z w) fun h P u => p h P u - r h P u := by
  intro h P u
  unfold IsPair at hz hw
  pointwise [hz, hw]
  exact (EReal.coe_sub _ _).symm
theorem mul_is (hz : IsPair z p) (hw : IsPair w r) : IsPair (mulf z w) fun h P u => p h P u * r h P u := by
  intro h P u
  unfold IsPair at hz hw
  pointwise [hz, hw]
  exact (EReal.coe_mul _ _).symm
theorem exp_is (hz : IsPair z p) : IsPair (Host.exp z) fun h P u => Real.exp (p h P u) := by
  intro h P u
  unfold IsPair at hz
  pointwise [hz]
  exact Ideal.exp_coe _

variable {a : FVec Ideal S8192x3072 .bf16} {b : FVec Ideal S8192x512 .f32} {A B}
variable (ha : ∀ (P : Fin 8192) (j : Fin 3072), a (ix2 P j) = ((A P.val j.val : ℝ) : EReal))
variable (hb : ∀ (P : Fin 8192) (j : Fin 512), b (ix2 P j) = ((B P.val j.val : ℝ) : EReal))

include ha in
theorem scores_is : IsPair (scores a) (hZ A B) :=
  (mul_is (prods_is (hq_is ha) (hk_is ha)) (r := fun _ _ _ => 1 / 8) fun h P u => all_eighth h P u).congr fun h P u _ => (hZ_eq A B h P u).symm

include ha in
/-- The weights before the mask. -/
theorem weights_is : IsPair (weights (scores a)) fun h P u =>
    Real.exp (hZ A B h P u - spl (hZ A B h P u) + tail (Full.L (HQ (X A B h) P (h % 2)) (X A B h).k P) (u + 1)) := by
  have hz := scores_is (B := B) ha
  have hl : IsPair (masked (logSig (Host.negf (scores a)))) fun h P u => Full.L (HQ (X A B h) P (h % 2)) (X A B h).k P u :=
    (masked_is (neg_is (soft_is (neg_is (neg_is hz))))).congr fun h P u _ => by simp only [neg_neg]; rfl
  refine (exp_is (add_is (neg_is (soft_is (neg_is hz))) (sub_is (since_is hl) hl))).congr fun h P u hu => ?_
  refine congrArg Real.exp ?_
  rw [tail_succ _ u hu, spl_neg]
  ring

include ha in
theorem kept_is : IsPair (masked (weights (scores a))) (hW A B) :=
  (masked_is (weights_is (B := B) ha)).congr fun h P u _ => rfl

include ha hb in
theorem share_is : IsPair (share a b) (hS A B) := by
  refine (mul_is (masked_is (prods_is (hd_is hb) (hv_is ha))) (weights_is (B := B) ha)).congr fun h P u _ => ?_
  show _ = Full.W _ _ P u * ∑ c : Fin 128, HD (X A B h) P (h % 2) c * (X A B h).v u c
  rw [hG_eq]
  unfold Full.W
  split
  · exact mul_comm _ _
  · rw [zero_mul, zero_mul]

include ha hb in
theorem left_is : IsPair (left a b) fun h P u => if u < P then ∑ j ∈ Finset.range u, hS A B h P j else 0 := by
  have hs := share_is ha hb
  refine (masked_is (add_is (neg_is hs) (upto_is hs))).congr fun h P u _ => ?_
  rw [Finset.sum_range_succ, neg_add_eq_sub, add_sub_cancel_right]

include ha hb in
theorem dscores_is : IsPair (dscores a b) (hDZ A B) := by
  have hz := scores_is (B := B) ha
  have hs := share_is ha hb
  have hl := left_is ha hb
  refine (mul_is (add_is (neg_is (neg_is (mul_is (neg_is hl) (slope_is (neg_is (neg_is hz)))))) (neg_is (mul_is (neg_is hs) (slope_is (neg_is hz)))))
    (r := fun _ _ _ => 1 / 8) fun h P u => all_eighth h P u).congr fun h P u hu => ?_
  show _ = (if u < P then hS A B h P u - Real.exp (hZ A B h P u - spl (hZ A B h P u))
    * (hS A B h P u + (∑ j ∈ Finset.range 8192, hS A B h P j - tail (hS A B h P) u)) else 0) * (1 / 8)
  rw [← tail_add (hS A B h P) u hu.le, add_sub_cancel_right]
  refine congrArg (· * (1 / 8 : ℝ)) ?_
  simp only [neg_neg]
  rw [slope_neg]
  split
  · ring
  · rename_i hP
    have h0 : hS A B h P u = 0 := S_zero _ _ _ _ P u (by omega)
    rw [h0]; ring

variable {f : FVec Ideal S8x8192x64 .f32} {F : ℕ → ℕ → ℕ → ℝ}

theorem overRows_is (hz : IsPair z p) (hf : Is64 f F) :
    Is64 (Host.dotGeneral dot_S8x8192x8192_S8x8192x64_S8x8192x64_1_1_2_2_0_0 none z f) fun h u l => ∑ P ∈ Finset.range 8192, p h P u * F h P l := by
  intro h u l
  unfold IsPair at hz
  unfold Is64 at hf
  pointwise [hz, hf]
  simp only [Finset.sum_range, coe_sum, EReal.coe_mul]

theorem overRows'_is (hz : IsPair z p) (hf : Is64 f F) :
    Is64 (transpose S8x8192x64 [0, 2, 1] (Host.dotGeneral dot_S8x8192x64_S8x8192x8192_S8x64x8192_1_1_2_2_0_0 none f z) transposes_S8x64x8192_S8x8192x64_0_2_1)
      fun h u l => ∑ P ∈ Finset.range 8192, p h P u * F h P l := by
  intro h u l
  unfold IsPair at hz
  unfold Is64 at hf
  pointwise [hz, hf]
  simp only [Finset.sum_range, coe_sum, EReal.coe_mul, mul_comm]

/-! ### The three results, by pair and lane -/

include ha hb in
theorem dq_at (P : Fin 8192) (g : Fin 4) (l : Fin 128) : dq a b (ix2 P (⟨128 * g.val + l.val, by omega⟩ : Fin 512))
    = ((∑ u ∈ Finset.range 8192, HDZ (pair A B g.val) P.val (l.val / 64) u * (pair A B g.val).k u l : ℝ) : EReal) := by
  have e1 : (128 * g.val + l.val) / 64 / 2 = g.val := by omega
  have e2 : (128 * g.val + l.val) / 64 % 2 = l.val / 64 := by omega
  have e3 : 64 * ((128 * g.val + l.val) / 64) + (128 * g.val + l.val) % 64 = 128 * g.val + l.val := by omega
  rw [dq, fromHeads_at, over_is (dscores_is ha hb) (hk_is ha)]
  simp only [hDZ, X, e1, e2, e3]
  rfl

include ha hb in
theorem dk_at (u : Fin 8192) (g : Fin 4) (l : Fin 128) : dk a b (ix2 u (⟨128 * g.val + l.val, by omega⟩ : Fin 512))
    = ((∑ P ∈ Finset.range 8192, HDZ (pair A B g.val) P (l.val / 64) u.val * (pair A B g.val).q P l : ℝ) : EReal) := by
  have e1 : (128 * g.val + l.val) / 64 / 2 = g.val := by omega
  have e2 : (128 * g.val + l.val) / 64 % 2 = l.val / 64 := by omega
  have e3 : 64 * ((128 * g.val + l.val) / 64) + (128 * g.val + l.val) % 64 = 128 * g.val + l.val := by omega
  rw [dk, fromHeads_at, overRows_is (dscores_is ha hb) (hq_is ha)]
  simp only [hDZ, X, e1, e2, e3]
  rfl

include ha hb in
theorem dv_at (u : Fin 8192) (g : Fin 4) (l : Fin 128) : dv a b (ix2 u (⟨128 * g.val + l.val, by omega⟩ : Fin 512))
    = ((∑ P ∈ Finset.range 8192, PI.HW (pair A B g.val) P (l.val / 64) u.val * (pair A B g.val).dO P l : ℝ) : EReal) := by
  have e1 : (128 * g.val + l.val) / 64 / 2 = g.val := by omega
  have e2 : (128 * g.val + l.val) / 64 % 2 = l.val / 64 := by omega
  have e3 : 64 * ((128 * g.val + l.val) / 64) + (128 * g.val + l.val) % 64 = 128 * g.val + l.val := by omega
  rw [dv, fromHeads_at, overRows'_is (kept_is (B := B) ha) (hd_is hb)]
  simp only [hW, X, e1, e2, e3]
  rfl

/-! ### The output, by pair and lane -/

variable (A B) in
/-- The output. -/
def outOf (g P : ℕ) (c : Fin 128) : ℝ := ∑ u ∈ Finset.range 8192, PI.HW (pair A B g) P (c.val / 64) u * (pair A B g).v u c

theorem out_fromHeads_at (x : FVec Ideal S8x8192x64 .f32) (P : Fin 8192) (j : Fin 512) :
    fromHeads x (ix2 P j) = x (ix3 (⟨j.val / 64, by omega⟩ : Fin 8) P (⟨j.val % 64, by omega⟩ : Fin 64)) := fromHeads_at x P j

include ha in
theorem output_at (P : Fin 8192) (g : Fin 4) (l : Fin 128) : output a (ix2 P (⟨128 * g.val + l.val, by omega⟩ : Fin 512))
    = ((outOf A B g.val P.val l : ℝ) : EReal) := by
  have e1 : (128 * g.val + l.val) / 64 / 2 = g.val := by omega
  have e2 : (128 * g.val + l.val) / 64 % 2 = l.val / 64 := by omega
  have e3 : 64 * ((128 * g.val + l.val) / 64) + (128 * g.val + l.val) % 64 = 128 * g.val + l.val := by omega
  rw [output, out_fromHeads_at, over_is (kept_is (B := B) ha) (hv_is ha)]
  simp only [hW, X, e1, e2, e3]
  rfl

/-- The shares of a row add up to its output's product with its gradient. -/
theorem tot_eq (g P e : ℕ) : (pair A B g).tot P e = ∑ c : Fin 128, if c.val / 64 = e then (pair A B g).dO P c * outOf A B g P c else 0 := by
  have h : ∀ c : Fin 128, (if c.val / 64 = e then (pair A B g).dO P c * outOf A B g P c else 0)
      = ∑ u ∈ Finset.range 8192, PI.HW (pair A B g) P e u * (HD (pair A B g) P e c * (pair A B g).v u c) := by
    intro c
    unfold HD
    split
    · rename_i hc
      rw [outOf, Finset.mul_sum, hc]
      exact Finset.sum_congr rfl fun u _ => mul_left_comm _ _ _
    · simp only [zero_mul, mul_zero, Finset.sum_const_zero]
  simp only [h]
  rw [Finset.sum_comm]
  show ∑ u ∈ Finset.range 8192, shareOf A B g P e u = _
  refine Finset.sum_congr rfl fun u _ => ?_
  rw [← Finset.mul_sum]
  rfl

end Host

end Cert.Proof
-- ==== Proof.PI.Setup.lean ====
/-
  The launch: what the region finds, and the blocks its windows hold.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.PI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- What the region finds in core `c`'s buffers: the host operations' results. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor

set_option maxHeartbeats 800000 in
/-- The program up to the region: host operations, then the region. -/
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_prefixes (cfgs (F := F)) 0 defs₀ 𝒱₀ m main [hostOps0, hostOps0_1, hostOps0_2, hostOps0_3, hostOps0_4, hostOps0_5, hostOps0_6, hostOps0_7, hostOps0_8, hostOps0_9] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Input window 0's buffer holds its block at every point. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point. -/
theorem before0_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The arguments end as they were, from a run of the pipeline. -/
theorem frame_of (dats : (p : Fin 1) → (c : Dev nD) → Dat τ (Elt F) Unit ℕ (UR sig nD τ) ℕ ((cfgs (F := F)) p) c)
    (hA : ∀ c w, (dats 0 c).A w = V m c (Pipeline.arrRef spec0 w))
    (h : θ_run defs (onTc (τ := τ) (main (F := F))) (s₀ m ρ) (Pipeline.FramePost (cfgs (F := F)) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (((dats 0 c).arrAt_in 2 rfl _).trans ((hA c 2).trans (V_main_arg0 m c))),
      ((h c).1 4).trans (((dats 0 c).arrAt_in 4 rfl _).trans ((hA c 4).trans (V_main_arg1 m c)))⟩) h

/-- Each window's current staging memref at point `t`, spelled as the pipeline passes it (`bodyAt0`), and its wholeness. -/
abbrev ms0_0 (t : Fin (cfg0 (F := F)).N) : Memref sig .tc .vmem S8192x128 .bf16 := win0_0.stage ((cfg0 (F := F)).slots t 0)
abbrev hs0_0 (t : Fin (cfg0 (F := F)).N) : (ms0_0 t).IsWhole := hstage0_0 (((cfg0 (F := F)).slots t 0).cast nbuf0_0)
abbrev ms0_1 (t : Fin (cfg0 (F := F)).N) : Memref sig .tc .vmem S8192x128 .bf16 := win0_1.stage ((cfg0 (F := F)).slots t 1)
abbrev hs0_1 (t : Fin (cfg0 (F := F)).N) : (ms0_1 t).IsWhole := hstage0_1 (((cfg0 (F := F)).slots t 1).cast nbuf0_1)
abbrev ms0_2 (t : Fin (cfg0 (F := F)).N) : Memref sig .tc .vmem S8192x128 .bf16 := win0_2.stage ((cfg0 (F := F)).slots t 2)
abbrev hs0_2 (t : Fin (cfg0 (F := F)).N) : (ms0_2 t).IsWhole := hstage0_2 (((cfg0 (F := F)).slots t 2).cast nbuf0_2)
abbrev ms0_3 (t : Fin (cfg0 (F := F)).N) : Memref sig .tc .vmem S8192x128 .f32 := win0_3.stage ((cfg0 (F := F)).slots t 3)
abbrev hs0_3 (t : Fin (cfg0 (F := F)).N) : (ms0_3 t).IsWhole := hstage0_3 (((cfg0 (F := F)).slots t 3).cast nbuf0_3)
abbrev ms0_4 (t : Fin (cfg0 (F := F)).N) : Memref sig .tc .vmem S8192x128 .f32 := win0_4.stage ((cfg0 (F := F)).slots t 4)
abbrev hs0_4 (t : Fin (cfg0 (F := F)).N) : (ms0_4 t).IsWhole := hstage0_4 (((cfg0 (F := F)).slots t 4).cast nbuf0_4)
abbrev ms0_5 (t : Fin (cfg0 (F := F)).N) : Memref sig .tc .vmem S8192x128 .bf16 := win0_5.stage ((cfg0 (F := F)).slots t 5)
abbrev hs0_5 (t : Fin (cfg0 (F := F)).N) : (ms0_5 t).IsWhole := hstage0_5 (((cfg0 (F := F)).slots t 5).cast nbuf0_5)
abbrev ms0_6 (t : Fin (cfg0 (F := F)).N) : Memref sig .tc .vmem S8192x128 .bf16 := win0_6.stage ((cfg0 (F := F)).slots t 6)
abbrev hs0_6 (t : Fin (cfg0 (F := F)).N) : (ms0_6 t).IsWhole := hstage0_6 (((cfg0 (F := F)).slots t 6).cast nbuf0_6)
abbrev ms0_7 (t : Fin (cfg0 (F := F)).N) : Memref sig .tc .vmem S8192x128 .bf16 := win0_7.stage ((cfg0 (F := F)).slots t 7)
abbrev hs0_7 (t : Fin (cfg0 (F := F)).N) : (ms0_7 t).IsWhole := hstage0_7 (((cfg0 (F := F)).slots t 7).cast nbuf0_7)
/-- The scratch operands: whole scoped buffers of the kernel's own, passed beside the windows. -/
abbrev scM0_0 : Memref sig .tc .vmem S8192x128 .f32 := Memref.whole cc0_scratch0
abbrev scM0_1 : Memref sig .tc .vmem S8192x128 .f32 := Memref.whole cc0_scratch1

/-- The pipeline's invariant with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Proof.PI
-- ==== Proof.PI.Entry.lean ====
/-
  What the kernel finds: the attention's output, computed by the host before it.
-/
module

public import proofs.«01_k».proof.Proof.Host
public import proofs.«01_k».proof.Proof.PI.Setup
public import Idealize.ShloMosaic.Lib.Claim

@[expose] public section

set_option maxRecDepth 16384

noncomputable section

namespace Cert.Proof.PI

open Cert.KernelIdeal Cert.KernelIdeal.Gen
open Idealize.ShloMosaic
open Idealize.ShloMosaic.TcCoe

variable {F : FTy → Type} [FloatOps F] (m : (ℓ : Loc nD τ sig) → Buf (Elt F) ℓ)

set_option maxHeartbeats 4000000 in
theorem V_main_v30 (c : Dev nD) : V m c main_v30 = Host.output (m ((c : Thread nD τ).loc main_arg0)) := by
  entry_read
  rfl

end Cert.Proof.PI
-- ==== Proof.PI.Run.lean ====
/-
  The run of the whole program, and its frame.
-/
module

public import proofs.«01_k».proof.Proof.PI.Loop
public import proofs.«01_k».proof.Proof.PI.Setup
public import Idealize.ShloMosaic.Lib.Claim

@[expose] public section

set_option maxRecDepth 16384

noncomputable section

namespace Cert.Proof.PI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The input blocks at point `t`. -/
def insAt (c : Dev nD) (t : Fin (cfg0 (F := F)).N) : Ins F := ⟨iblk m c 0 t, iblk m c 1 t, iblk m c 2 t, iblk m c 3 t, iblk m c 4 t⟩

/-- The query gradient's block after point `t`. -/
def res5 (c : Dev nD) (t : Fin (cfg0 (F := F)).N) : Vec F S8192x128 .bf16 :=
  dqOut c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) scM0_0 (Memref.isWhole_whole _) scM0_1 (Memref.isWhole_whole _) (insAt m c t)

/-- The key gradient's block after point `t`. -/
def res6 (c : Dev nD) (t : Fin (cfg0 (F := F)).N) : Vec F S8192x128 .bf16 :=
  dkOut c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) scM0_0 (Memref.isWhole_whole _) scM0_1 (Memref.isWhole_whole _) (insAt m c t)

/-- The value gradient's block after point `t`. -/
def res7 (c : Dev nD) (t : Fin (cfg0 (F := F)).N) : Vec F S8192x128 .bf16 :=
  dvOut c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) scM0_0 (Memref.isWhole_whole _) scM0_1 (Memref.isWhole_whole _) (insAt m c t)

/-! ## The pipeline's proof data -/

/-- The pipeline's data on core `c`: inputs keep their blocks, outputs end at the body's results. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => res5 m c t
    | ⟨6, _⟩ => res6 m c t
    | ⟨7, _⟩ => res7 m c t
  Φ _ := Pipeline.ΦA spec0 c
  q w := Pipeline.shareOf spec0 w
  owed _ := 0

/-- The data's arrays are what the region finds. -/
theorem A_eq (c : Dev nD) (w : Fin (cfg0 (F := F)).W) : (dats m 0 c).A w = V m c (Pipeline.arrRef spec0 w) := by
  dsimp only [dats]

/-- What the body leaves, window by window (the proof data's `match` reduced by `dsimp`). -/
theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = iblk m c 3 t := rfl
theorem after0_4 (c : Dev nD) (t : Fin (cfg0 (F := F)).N) : (dats m 0 c).after 4 t = iblk m c 4 t := rfl
theorem after0_5 (c : Dev nD) (t : Fin (cfg0 (F := F)).N) : (dats m 0 c).after 5 t = res5 m c t := rfl
theorem after0_6 (c : Dev nD) (t : Fin (cfg0 (F := F)).N) : (dats m 0 c).after 6 t = res6 m c t := rfl
theorem after0_7 (c : Dev nD) (t : Fin (cfg0 (F := F)).N) : (dats m 0 c).after 7 t = res7 m c t := rfl

/-- Each input's current staging buffer holds its block at every point, fetched there or not . -/
theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d
theorem before0_4 (c : Dev nD) (t : Fin (cfg0 (F := F)).N) (d) : (dats m 0 c).before 4 t d = iblk m c 4 t :=
  before0_4_of m (dats m 0 c) (A_eq m c 4) (after0_4 m c) t d

/-! ## The body obligation, at a generic point -/

/-- What the body is called with at point `t` (the windows one by one), -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
/-- The body at any point. -/
theorem sound_body (c : Dev nD) (t : Fin (cfg0 (F := F)).N) :
    bodyPre m c t ⊢ wp Idealize.ShloMosaic.frame (wpE (defs₀ (F := F)) 𝒱₀ c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (bodyRun c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) scM0_0 (Memref.isWhole_whole _) scM0_1 (Memref.isWhole_whole _)
    (insAt m c t) Set.univ _ _ _ _ _ _)
  unfold heldAll
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [HS0]; · iexact HS0
  isplitl [HS1]; · iexact HS1
  iintro ⟨⟨H0, H1, H2, H3, H4, H5, H6, H7⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation, at every point: the body's triple restated. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost (cfgs (F := F)) (dats m) 0 (V m)) r ∧ r.2.sem = fun _ => 0) :=
  Pipeline.θ_run_frame_shared (Q' := _) (cfgs (F := F)) (dats m) (0 : Fin 1) launch₀0 defs₀ 𝒱₀ m ρ main
    (hbody := fun c => (body_obligation m c).loose) (hq := fun _ _ _ => rfl)
    (howed := fun _ _ => rfl) (V := V m) (hmain := hmain m 𝒱₀) (hA := A_eq m) (hΦ := fun _ _ => rfl)

/-- The run: every array of the pipeline ends at what its data say, every other buffer as the region found it. -/
theorem run_main : θ_run defs (onTc (τ := τ) (main (F := F))) (s₀ m ρ) (Pipeline.FramePost (cfgs (F := F)) (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the program ends, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Proof.PI
-- ==== Proof.PI.Value.lean ====
/-
  The kernel's results are the reference's.
-/
module

public import proofs.«01_k».proof.Proof.HostVal
public import proofs.«01_k».proof.Proof.PI.Entry
public import proofs.«01_k».proof.Proof.PI.Run
public import Idealize.ShloMosaic.Lib.Pipeline.ValueKit

@[expose] public section

set_option maxRecDepth 16384

noncomputable section

namespace Cert.Proof.PI

open Cert.KernelIdeal Cert.KernelIdeal.Gen
open Idealize.ShloMosaic
open Idealize.ShloMosaic.TcCoe
open Idealize.ShloMosaic.Pipeline (Dat)

variable (m : (ℓ : Loc nD τ sig) → Buf (Elt Ideal) ℓ) (c : Dev nD)

theorem idx : ∀ t : Fin (cfg0 (F := Ideal)).N, win0_0.index t = ![0, t.val] ∧ win0_1.index t = ![0, 4 + t.val] ∧ win0_2.index t = ![0, 8 + t.val]
    ∧ win0_3.index t = ![0, t.val] ∧ win0_4.index t = ![0, t.val] ∧ win0_5.index t = ![0, t.val] ∧ win0_6.index t = ![0, t.val] ∧ win0_7.index t = ![0, t.val] :=
  (by decide +kernel : ∀ t : Fin grid0.N, _)

theorem trips : (cfg0 (F := Ideal)).N = 4 := by decide +kernel

variable {m c} {A B : ℕ → ℕ → ℝ}
variable (ha : ∀ (P : Fin 8192) (j : Fin 3072), (m ((c : Thread nD τ).loc main_arg0) : FVec Ideal S8192x3072 .bf16) (ix2 P j) = ((A P.val j.val : ℝ) : EReal))
variable (hb : ∀ (P : Fin 8192) (j : Fin 512), (m ((c : Thread nD τ).loc main_arg1) : FVec Ideal S8192x512 .f32) (ix2 P j) = ((B P.val j.val : ℝ) : EReal))

/-- A pair as a point of the grid. -/
def pt (t : Fin (cfg0 (F := Ideal)).N) : Fin 4 := ⟨t.val, trips ▸ t.isLt⟩

variable (m c) in
/-- The arrays handed to the kernel, -/
abbrev arg0 : FVec Ideal S8192x3072 .bf16 := m ((c : Thread nD τ).loc main_arg0)
variable (m c) in
/-- both. -/
abbrev arg1 : FVec Ideal S8192x512 .f32 := m ((c : Thread nD τ).loc main_arg1)

theorem q_at (t : Fin (cfg0 (F := Ideal)).N) (u : Fin 8192) (l : Fin 128) :
    iblk m c 0 t (ix2 u l) = arg0 m c (ix2 u (⟨128 * (pt t).val + l.val, by omega⟩ : Fin 3072)) := by
  blk_ext [iblk, V_main_arg0, idx t, pt]
theorem k_at (t : Fin (cfg0 (F := Ideal)).N) (u : Fin 8192) (l : Fin 128) :
    iblk m c 1 t (ix2 u l) = arg0 m c (ix2 u (⟨512 + (128 * (pt t).val + l.val), by omega⟩ : Fin 3072)) := by
  blk_ext [iblk, V_main_arg0, idx t, pt]
theorem v_at (t : Fin (cfg0 (F := Ideal)).N) (u : Fin 8192) (l : Fin 128) :
    iblk m c 2 t (ix2 u l) = arg0 m c (ix2 u (⟨1024 + (128 * (pt t).val + l.val), by omega⟩ : Fin 3072)) := by
  blk_ext [iblk, V_main_arg0, idx t, pt]
theorem o_at (t : Fin (cfg0 (F := Ideal)).N) (u : Fin 8192) (l : Fin 128) :
    iblk m c 3 t (ix2 u l) = V m c main_v30 (ix2 u (⟨128 * (pt t).val + l.val, by omega⟩ : Fin 512)) := by
  blk_ext [iblk, idx t, pt]
theorem dO_at (t : Fin (cfg0 (F := Ideal)).N) (u : Fin 8192) (l : Fin 128) :
    iblk m c 4 t (ix2 u l) = arg1 m c (ix2 u (⟨128 * (pt t).val + l.val, by omega⟩ : Fin 512)) := by
  blk_ext [iblk, V_main_arg1, idx t, pt]

include ha in
theorem out_at (t : Fin (cfg0 (F := Ideal)).N) (u : Fin 8192) (l : Fin 128) :
    iblk m c 3 t (ix2 u l) = ((Host.outOf A B t.val u.val l : ℝ) : EReal) := by
  have e : (V m c main_v30 : FVec Ideal S8192x512 .f32) = Host.output (F := Ideal) (arg0 m c) := V_main_v30 m c
  rw [o_at, e]
  exact Host.output_at ha u (pt t) l

include ha in
theorem insQ (t : Fin (cfg0 (F := Ideal)).N) : Is (insAt m c t).q (pair A B t.val).q := fun u l => (q_at t u l).trans (ha u _)
include ha in
theorem insK (t : Fin (cfg0 (F := Ideal)).N) : Is (insAt m c t).k (pair A B t.val).k := fun u l => (k_at t u l).trans (ha u _)
include ha in
theorem insV (t : Fin (cfg0 (F := Ideal)).N) : Is (insAt m c t).v (pair A B t.val).v := fun u l => (v_at t u l).trans (ha u _)
include hb in
theorem insD (t : Fin (cfg0 (F := Ideal)).N) (u : Fin 8192) (l : Fin 128) : (insAt m c t).dO (ix2 u l) = (((pair A B t.val).dO u.val l : ℝ) : EReal) :=
  (dO_at t u l).trans (hb u _)
include ha in
theorem insO (t : Fin (cfg0 (F := Ideal)).N) (u : Fin 8192) (l : Fin 128) : (insAt m c t).o (ix2 u l) = ((Host.outOf A B t.val u.val l : ℝ) : EReal) :=
  out_at ha t u l

include ha hb in
/-- What the kernel is handed at a pair. -/
theorem insAt_is (t : Fin (cfg0 (F := Ideal)).N) : IsIns (pair A B t.val) (Host.outOf A B t.val) (insAt m c t) :=
  ⟨insQ ha t, insK ha t, insV ha t, insD hb t, insO ha t, fun P h => Host.tot_eq t.val P h⟩

theorem ix_of (y : S8192x128.Idx) : ∃ (u : Fin 8192) (l : Fin 128), y = ix2 u l :=
  ⟨y 0, y 1, by funext a; match a with | ⟨0, _⟩ => rfl | ⟨1, _⟩ => rfl⟩

include ha hb in
/-- The queries' gradient, -/
theorem final5 : (dats m 0 c).arrAt 5 (cfgs (F := Ideal) 0).N = (Host.dq (F := Ideal) (arg0 m c) (arg1 m c) : FVec Ideal S8192x512 .bf16) := by
  refine (dats m 0 c).arrAt_eq_of_covers 5 _ (by decide +kernel) fun t _ y => ?_
  blk_simp
  rw [after0_5]
  obtain ⟨u, l, rfl⟩ := ix_of y
  have e : (win0_5.blk t).view.emb (ix2 u l) = ix2 u (⟨128 * (pt t).val + l.val, by omega⟩ : Fin 512) := by blk_ext [idx t, pt]
  rw [e, Host.dq_at ha hb u (pt t) l]
  exact dqOut_at c _ _ _ _ _ _ _ _ _ _ _ _ _ _ _ _ _ _ _ _ _ (insAt_is ha hb t) u l

include ha hb in
/-- the keys' -/
theorem final6 : (dats m 0 c).arrAt 6 (cfgs (F := Ideal) 0).N = (Host.dk (F := Ideal) (arg0 m c) (arg1 m c) : FVec Ideal S8192x512 .bf16) := by
  refine (dats m 0 c).arrAt_eq_of_covers 6 _ (by decide +kernel) fun t _ y => ?_
  blk_simp
  rw [after0_6]
  obtain ⟨u, l, rfl⟩ := ix_of y
  have e : (win0_6.blk t).view.emb (ix2 u l) = ix2 u (⟨128 * (pt t).val + l.val, by omega⟩ : Fin 512) := by blk_ext [idx t, pt]
  rw [e, Host.dk_at ha hb u (pt t) l]
  exact dkOut_at c _ _ _ _ _ _ _ _ _ _ _ _ _ _ _ _ _ _ _ _ _ (insAt_is ha hb t) u l

include ha hb in
/-- and the values'. -/
theorem final7 : (dats m 0 c).arrAt 7 (cfgs (F := Ideal) 0).N = (Host.dv (F := Ideal) (arg0 m c) (arg1 m c) : FVec Ideal S8192x512 .bf16) := by
  refine (dats m 0 c).arrAt_eq_of_covers 7 _ (by decide +kernel) fun t _ y => ?_
  blk_simp
  rw [after0_7]
  obtain ⟨u, l, rfl⟩ := ix_of y
  have e : (win0_7.blk t).view.emb (ix2 u l) = ix2 u (⟨128 * (pt t).val + l.val, by omega⟩ : Fin 512) := by blk_ext [idx t, pt]
  rw [e, Host.dv_at ha hb u (pt t) l]
  exact dvOut_at c _ _ _ _ _ _ _ _ _ _ _ _ _ _ _ _ _ _ _ _ _ (insAt_is ha hb t) u l

end Cert.Proof.PI
-- ==== Proof.PI.RunVal.lean ====
/-
  The kernel's run, with its results.
-/
module

public import proofs.«01_k».proof.Proof.PI.Value

@[expose] public section

set_option maxRecDepth 16384

noncomputable section

namespace Cert.Proof.PI

open Cert.KernelIdeal Cert.KernelIdeal.Gen
open Idealize.ShloMosaic Idealize.SL.Sem
open Idealize.ShloMosaic.TcCoe

variable (m : (ℓ : Loc nD τ sig) → Buf (Elt Ideal) ℓ) (ρ : Dev nD → PrngReg)

/-- The arguments hold reals. -/
def Real (c : Dev nD) : Prop := ∃ A B : ℕ → ℕ → ℝ,
  (∀ (P : Fin 8192) (j : Fin 3072), arg0 m c (ix2 P j) = ((A P.val j.val : ℝ) : EReal))
  ∧ ∀ (P : Fin 8192) (j : Fin 512), arg1 m c (ix2 P j) = ((B P.val j.val : ℝ) : EReal)

/-- The results, -/
def vq (c : Dev nD) : Buf (Elt Ideal) ((c.tc : Thread nD τ).loc main_v31_0) := Host.dq (F := Ideal) (arg0 m c) (arg1 m c)
def vk (c : Dev nD) : Buf (Elt Ideal) ((c.tc : Thread nD τ).loc main_v31_1) := Host.dk (F := Ideal) (arg0 m c) (arg1 m c)
def vv (c : Dev nD) : Buf (Elt Ideal) ((c.tc : Thread nD τ).loc main_v31_2) := Host.dv (F := Ideal) (arg0 m c) (arg1 m c)

variable {m}

theorem arr5 {c : Dev nD} (h : Real m c) : (dats m 0 c).arrAt 5 (cfgs (F := Ideal) 0).N = vq m c := by
  obtain ⟨A, B, ha, hb⟩ := h
  exact final5 ha hb
theorem arr6 {c : Dev nD} (h : Real m c) : (dats m 0 c).arrAt 6 (cfgs (F := Ideal) 0).N = vk m c := by
  obtain ⟨A, B, ha, hb⟩ := h
  exact final6 ha hb
theorem arr7 {c : Dev nD} (h : Real m c) : (dats m 0 c).arrAt 7 (cfgs (F := Ideal) 0).N = vv m c := by
  obtain ⟨A, B, ha, hb⟩ := h
  exact final7 ha hb

variable (m)

/-- as the run leaves them. -/
theorem run_value (h : ∀ c, Real m c) : θ_run defs (onTc (τ := τ) (main (F := Ideal))) ⟨m, fun _ => 0, ρ⟩ (fun r => ∀ c : Dev nD,
      r.2.mem ((c.tc : Thread nD τ).loc main_v31_0) = vq m c
      ∧ r.2.mem ((c.tc : Thread nD τ).loc main_v31_1) = vk m c
      ∧ r.2.mem ((c.tc : Thread nD τ).loc main_v31_2) = vv m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ hr c => ⟨((hr.1 c).1 5).trans (arr5 (h c)), ((hr.1 c).1 6).trans (arr6 (h c)), ((hr.1 c).1 7).trans (arr7 (h c)), hr.2 c⟩)
    (θ_run_and (run_main m ρ) (unchanged m ρ))

end Cert.Proof.PI
-- ==== Proof.Algebraic.lean ====
/-
  The kernel's gradients and the reference's are the same.
-/
module

public import proofs.«01_k».proof.Defs
public import proofs.«01_k».proof.Proof.Finite
public import proofs.«01_k».proof.Proof.PI.RunVal

@[expose] public section

set_option maxRecDepth 16384

noncomputable section

namespace Cert.Proof

open Idealize.ShloMosaic Idealize.SL.Sem

/-- Finite arguments hold reals. -/
theorem real_of_finite (m : (ℓ : Loc Cert.KernelIdeal.nD Cert.KernelIdeal.τ Cert.KernelIdeal.sig) → Buf (Elt Ideal) ℓ)
    (h : Cert.Pre_KernelIdeal_finite (hPre_finite := finite_facts) m) (c : Dev Cert.KernelIdeal.nD) : PI.Real m c := by
  haveI := finite_facts
  obtain ⟨A, hA⟩ := exists_real (PI.arg0 m c) (real0 (b := PI.arg1 m c) (h c).1)
  obtain ⟨B, hB⟩ := exists_real (PI.arg1 m c) (real1 (a := PI.arg0 m c) (h c).2)
  exact ⟨A, B, hA, hB⟩

section Reference
open Cert.ReferenceIdeal
variable (m : (ℓ : Loc nD τ sig) → Buf (Elt Ideal) ℓ) (g : Dev nD → PrngReg)

/-- The reference's run, with its results. -/
theorem run_reference : θ_run (defs (F := Ideal)) (onTc (τ := τ) (main (F := Ideal))) ⟨m, fun _ => 0, g⟩ (fun r => ∀ c : Dev nD,
      r.2.mem ((c.tc : Thread nD τ).loc main_v56) = Host.dq (F := Ideal) (m ((c.tc : Thread nD τ).loc main_arg0)) (m ((c.tc : Thread nD τ).loc main_arg1))
      ∧ r.2.mem ((c.tc : Thread nD τ).loc main_v57) = Host.dk (F := Ideal) (m ((c.tc : Thread nD τ).loc main_arg0)) (m ((c.tc : Thread nD τ).loc main_arg1))
      ∧ r.2.mem ((c.tc : Thread nD τ).loc main_v58) = Host.dv (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨(h c).1.trans (Host.res_dq m c), (h c).2.1.trans (Host.res_dk m c), (h c).2.2.1.trans (Host.res_dv m c), (h c).2.2.2⟩)
    (Cert.ReferenceIdeal.Value.run m g)
end Reference

/-- On finite arguments the three arrays end the same. -/
theorem algebraic : Cert.algebraic_KernelIdeal_ReferenceIdeal_pre_finite (hPre_finite := finite_facts) := by
  intro m g m' g' hpre hagree
  refine ⟨PI.vq m, PI.vk m, PI.vv m, PI.run_value m g (real_of_finite m hpre), (θ_run _ _ _).mono (fun r h c => ?_) (run_reference m' g')⟩
  have h := h c
  rw [(hagree c).1, (hagree c).2] at h
  refine ⟨h.1, h.2.1, h.2.2.1, ?_, ?_⟩
  · rw [(hagree c).1]; exact h.2.2.2.1
  · rw [(hagree c).2]; exact h.2.2.2.2

end Cert.Proof
-- ==== Proof.W.Value.lean ====
/-
  The feed-forward weights' gradients: sixteen partial products added one after another are the whole product.
-/
module

public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

namespace Cert.Proof.W

open Idealize.ShloMosaic
open Idealize.ShloMosaic.TcCoe

/-! ## The reference's products -/

section Reference
open Cert.Reference2Ideal Cert.Reference2Ideal.Gen

/-- The gradient of a weight whose product with `h` has cotangent `d`. -/
def inner (h : FVec Ideal S8192x1024 .bf16) (d : FVec Ideal S4x8192x704 .bf16) : FVec Ideal S4x704x1024 .f32 :=
  Host.dotGeneral dot_S4x704x8192_S8192x1024_S4x704x1024_2_0_01_1_n_n none
    (transpose S4x704x8192 [0, 2, 1] (extf .f32 d bitsLt_bf16_f32) transposes_S4x8192x704_S4x704x8192_0_2_1) (extf .f32 h bitsLt_bf16_f32)

/-- The gradient of the weight multiplying `a` from the right, at cotangent `y`. -/
def outer (y : FVec Ideal S8192x1024 .bf16) (a : FVec Ideal S4x8192x704 .bf16) : FVec Ideal S4x704x1024 .f32 :=
  transpose S4x704x1024 [1, 2, 0] (Host.dotGeneral dot_S8192x1024_S4x8192x704_S1024x4x704_0_1_1_02_n_n none
    (extf .f32 y bitsLt_bf16_f32) (extf .f32 a bitsLt_bf16_f32)) transposes_S1024x4x704_S4x704x1024_1_2_0

theorem inner_apply (h d) (n : Fin 4) (f : Fin 704) (e : Fin 1024) :
    inner h d (ix3 n f e) = ∑ l : Fin 8192, d (ix3 n l f) * h (ix2 l e) := by pointwise [inner]

theorem outer_apply (y a) (n : Fin 4) (f : Fin 704) (e : Fin 1024) :
    outer y a (ix3 n f e) = ∑ l : Fin 8192, a (ix3 n l f) * y (ix2 l e) := by
  pointwise [outer]
  exact Finset.sum_congr rfl fun l _ => mul_comm _ _

end Reference

/-! ## The kernel's sums -/

section Kernel
open Cert.Kernel2Ideal Cert.Kernel2Ideal.Gen Cert.Kernel2Ideal.Value

/-- One block's part of a product. -/
def part (x : FVec Ideal S512x1024 .bf16) (y : FVec Ideal S1x512x704 .bf16) (i : S1x704x1024.Idx) : EReal :=
  ∑ k : Fin 512, y (ix3 0 k (i 1)) * x (ix2 k (i 2))

theorem first_apply (x acc y) (i : S1x704x1024.Idx) : k0_pay5 (F := Ideal) x acc y i = acc i + part x y i := by pointwise [k0_pay5, part]
theorem second_apply (x acc y) (i : S1x704x1024.Idx) : k0_pay6 (F := Ideal) x acc y i = acc i + part x y i := by pointwise [k0_pay6, part]
theorem third_apply (x acc y) (i : S1x704x1024.Idx) : k0_pay1 (F := Ideal) (k0_pay7 (F := Ideal) acc) y x i = acc i + part x y i := by
  pointwise [k0_pay1, k0_pay7, part]
theorem zero5 (i : S1x704x1024.Idx) : k0_pay2 (F := Ideal) i = (0 : EReal) := by pointwise [k0_pay2]
theorem zero6 (i : S1x704x1024.Idx) : k0_pay3 (F := Ideal) i = (0 : EReal) := by pointwise [k0_pay3]
theorem zero7 (i : S1x704x1024.Idx) : k0_pay4 (F := Ideal) i = (0 : EReal) := by pointwise [k0_pay4]

theorem points : cfg0.N = 64 := by decide +kernel

theorem idx : ∀ t : Fin cfg0.N, win0_0.index t = ![t.val % 16, 0] ∧ win0_1.index t = ![t.val % 16, 0]
    ∧ win0_2.index t = ![t.val / 16, t.val % 16, 0] ∧ win0_3.index t = ![t.val / 16, t.val % 16, 0] ∧ win0_4.index t = ![t.val / 16, t.val % 16, 0] :=
  (by decide +kernel : ∀ t : Fin grid0.N, _)

/-- Sixteen steps from a point that starts anew are the sum of sixteen parts. -/
theorem fold {a : (n : ℕ) → n < cfg0.N → S1x704x1024.Idx → EReal}
    {g : (n : ℕ) → n < cfg0.N → (S1x704x1024.Idx → EReal) → S1x704x1024.Idx → EReal}
    (M : (n : ℕ) → n < cfg0.N → S1x704x1024.Idx → EReal)
    (ha : ∀ n h i, a n h i = 0 + M n h i) (hg : ∀ n h acc i, g n h acc i = acc i + M n h i)
    (r : ℕ) (h : 16 * r + 15 < cfg0.N) (i : S1x704x1024.Idx) :
    Pipeline.accAt a g (16 * r) 15 h i = ∑ s : Fin 16, M (16 * r + s.val) (by omega) i := by
  rw [Pipeline.accAt_add_apply a g (fun _ => 0) (fun n i => if h : n < cfg0.N then M n h i else 0) (16 * r) 15
    (fun h i => by rw [ha, dif_pos h]) (fun n h acc i _ _ => by rw [hg, dif_pos h]) 15 le_rfl h i, zero_add, Finset.sum_range]
  exact Finset.sum_congr rfl fun s _ => dif_pos _

variable (m : (ℓ : Loc nD τ sig) → Buf (Elt Ideal) ℓ) (c : Dev nD)

/-- The arguments: the normed tokens, the cotangent of the block's output, the cotangents of the two inner products,
    and what the block's last product multiplies. -/
def arg0 : FVec Ideal Cert.Reference2Ideal.S8192x1024 .bf16 := m ((c.tc : Thread nD τ).loc main_arg0)
def arg1 : FVec Ideal Cert.Reference2Ideal.S8192x1024 .bf16 := m ((c.tc : Thread nD τ).loc main_arg1)
def arg2 : FVec Ideal Cert.Reference2Ideal.S4x8192x704 .bf16 := m ((c.tc : Thread nD τ).loc main_arg2)
def arg3 : FVec Ideal Cert.Reference2Ideal.S4x8192x704 .bf16 := m ((c.tc : Thread nD τ).loc main_arg3)
def arg4 : FVec Ideal Cert.Reference2Ideal.S4x8192x704 .bf16 := m ((c.tc : Thread nD τ).loc main_arg4)

variable (t : Fin cfg0.N) (n : Fin 4) (f : Fin 704) (e : Fin 1024) (s : Fin 16) (ht : t.val = 16 * n.val + s.val)
  (k : Fin 512) (l : Fin 8192) (hl : l.val = s.val * 512 + k.val)

include ht hl

/-- What the blocks of a point hold. -/
theorem block0 : iblk m c 0 t (ix2 k e) = arg0 m c (ix2 l e) := by
  blk_point [iblk, V, arg0, idx t]
theorem block1 : iblk m c 1 t (ix2 k e) = arg1 m c (ix2 l e) := by
  blk_point [iblk, V, arg1, idx t]
theorem block2 : iblk m c 2 t (ix3 0 k f) = arg2 m c (ix3 n l f) := by
  blk_point [iblk, V, arg2, idx t]
theorem block3 : iblk m c 3 t (ix3 0 k f) = arg3 m c (ix3 n l f) := by
  blk_point [iblk, V, arg3, idx t]
theorem block4 : iblk m c 4 t (ix3 0 k f) = arg4 m c (ix3 n l f) := by
  blk_point [iblk, V, arg4, idx t]

omit ht hl
variable (i : S4x704x1024.Idx)

/-- The run of the points that write an array's element. -/
theorem run_lt : 16 * (1 * ((i 0).val / 1 - 0) + 1 * ((i 1).val / 704 - 0) + 1 * ((i 2).val / 1024 - 0)) + 15 < cfg0.N := by
  have h0 : (i 0).val < 4 := (i 0).isLt
  have h1 : (i 1).val < 704 := (i 1).isLt
  have h2 : (i 2).val < 1024 := (i 2).isLt
  rw [points]
  omega

theorem run_eq : 1 * ((i 0).val / 1 - 0) + 1 * ((i 1).val / 704 - 0) + 1 * ((i 2).val / 1024 - 0) = (i 0).val := by
  have h1 : (i 1).val < 704 := (i 1).isLt
  have h2 : (i 2).val < 1024 := (i 2).isLt
  omega

theorem eq_ix3 : i = ix3 (i 0) (i 1) (i 2) := by ext a; fin_cases a <;> rfl

/-- Where an element lies in its block. -/
abbrev place : S1x704x1024.Idx := ix3 0 (i 1) (i 2)

theorem place_eq : loc5Of i = place i ∧ loc6Of i = place i ∧ loc7Of i = place i := by
  have h1 : (i 1).val < 704 := (i 1).isLt
  have h2 : (i 2).val < 1024 := (i 2).isLt
  refine ⟨?_, ?_, ?_⟩ <;>
  · ext a
    fin_cases a
    · exact Nat.mod_one _
    · exact Nat.mod_eq_of_lt h1
    · exact Nat.mod_eq_of_lt h2

theorem result5 : G5 m c = inner (arg0 m c) (arg2 m c) := by
  funext i
  have h := run_lt i
  have hf := fold (a := reset5 m c) (g := step5 m c) (fun n h => part (iblk m c 0 ⟨n, h⟩) (iblk m c 2 ⟨n, h⟩))
    (fun n h i => by rw [reset5, first_apply, zero5]) (fun n h acc i => first_apply _ _ _ _) _ h (loc5Of i)
  rw [G5, dif_pos h]
  refine hf.trans (Eq.trans ?_ ((congrArg (inner _ _) (eq_ix3 i)).trans (inner_apply _ _ _ _ _)).symm)
  refine Fin.sum_mul_add_congr fun s k hl => ?_
  rw [(place_eq i).1]
  exact congrArg₂ (· * ·) (block2 m c _ (i 0) (i 1) s (by simp only [run_eq]) k ⟨_, hl⟩ rfl)
    (block0 m c _ (i 0) (i 2) s (by simp only [run_eq]) k ⟨_, hl⟩ rfl)

theorem result6 : G6 m c = inner (arg0 m c) (arg3 m c) := by
  funext i
  have h := run_lt i
  have hf := fold (a := reset6 m c) (g := step6 m c) (fun n h => part (iblk m c 0 ⟨n, h⟩) (iblk m c 3 ⟨n, h⟩))
    (fun n h i => by rw [reset6, second_apply, zero6]) (fun n h acc i => second_apply _ _ _ _) _ h (loc6Of i)
  rw [G6, dif_pos h]
  refine hf.trans (Eq.trans ?_ ((congrArg (inner _ _) (eq_ix3 i)).trans (inner_apply _ _ _ _ _)).symm)
  refine Fin.sum_mul_add_congr fun s k hl => ?_
  rw [(place_eq i).2.1]
  exact congrArg₂ (· * ·) (block3 m c _ (i 0) (i 1) s (by simp only [run_eq]) k ⟨_, hl⟩ rfl)
    (block0 m c _ (i 0) (i 2) s (by simp only [run_eq]) k ⟨_, hl⟩ rfl)

theorem result7 : G7 m c = outer (arg1 m c) (arg4 m c) := by
  funext i
  have h := run_lt i
  have hf := fold (a := reset7 m c) (g := step7 m c) (fun n h => part (iblk m c 1 ⟨n, h⟩) (iblk m c 4 ⟨n, h⟩))
    (fun n h i => by rw [reset7, third_apply, zero7]) (fun n h acc i => third_apply _ _ _ _) _ h (loc7Of i)
  rw [G7, dif_pos h]
  refine hf.trans (Eq.trans ?_ ((congrArg (outer _ _) (eq_ix3 i)).trans (outer_apply _ _ _ _ _)).symm)
  refine Fin.sum_mul_add_congr fun s k hl => ?_
  rw [(place_eq i).2.2]
  exact congrArg₂ (· * ·) (block4 m c _ (i 0) (i 1) s (by simp only [run_eq]) k ⟨_, hl⟩ rfl)
    (block1 m c _ (i 0) (i 2) s (by simp only [run_eq]) k ⟨_, hl⟩ rfl)

end Kernel

end Cert.Proof.W
-- ==== Proof.W.Algebraic.lean ====
/-
  The kernel's gradients of the feed-forward weights and the reference's are the same, whatever the arguments hold.
-/
module

public import proofs.«01_k».proof.Defs
public import proofs.«01_k».proof.Proof.W.Value
public import Idealize.ShloMosaic.Lib.Quiescent

@[expose] public section

noncomputable section

namespace Cert.Proof.W

open Idealize.ShloMosaic Idealize.SL.Sem

section Reference
open Cert.Reference2Ideal
variable (m : (ℓ : Loc nD τ sig) → Buf (Elt Ideal) ℓ) (g : Dev nD → PrngReg)

/-- The reference runs, and leaves its arguments and every counter as they were. -/
theorem reference_frame : θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun _ h => ⟨fun c => (h c).2.2.2, sem_eq_zero_of_no_sems (by decide) _⟩) (Cert.Reference2Ideal.Value.run m g)
end Reference

/-- From the same arguments the three arrays end the same. -/
theorem algebraic : Cert.algebraic_Kernel2Ideal_Reference2Ideal := by
  intro m g m' g' _ hagree
  refine ⟨fun c => inner (arg0 m c) (arg2 m c), fun c => inner (arg0 m c) (arg3 m c), fun c => outer (arg1 m c) (arg4 m c), ?_, ?_⟩
  · refine (θ_run _ _ _).mono (fun r h c => ?_) (Cert.Kernel2Ideal.Value.run m g)
    have h := h c
    exact ⟨h.1.trans (result5 m c), h.2.1.trans (result6 m c), h.2.2.1.trans (result7 m c), h.2.2.2⟩
  · refine (θ_run _ _ _).mono (fun r h c => ?_) (Cert.Reference2Ideal.Value.run m' g')
    have h := h c
    obtain ⟨e0, e1, e2, e3, e4⟩ := hagree c
    refine ⟨h.1.trans ?_, h.2.1.trans ?_, h.2.2.1.trans ?_, h.2.2.2⟩
    · rw [e0, e2]; rfl
    · rw [e0, e3]; rfl
    · rw [e1, e4]; rfl

end Cert.Proof.W
-- ==== Proof.O.Value.lean ====
/-
  The output projection: the two halves' products added one after another are the product with the whole matrix.
-/
module

public import proofs.«01_k».proof.Proof.Gen.Kernel3Ideal.Value
public import proofs.«01_k».proof.Proof.Gen.Reference3Ideal.Run
public import Idealize.ShloMosaic.Lib.Pipeline.ValueKit

@[expose] public section

set_option maxRecDepth 16384

noncomputable section

namespace Cert.Proof.O

open Idealize.ShloMosaic
open Idealize.ShloMosaic.TcCoe

/-! ## The reference's projection -/

section Reference
open Cert.Reference3Ideal Cert.Reference3Ideal.Gen

/-- The root mean square norm of each row. -/
def norm (x : FVec Ideal S8192x512 .f32) (g : FVec Ideal S1x512 .f32) : FVec Ideal S8192x512 .f32 :=
  mulf (mulf x (broadcastInDim S8192x512 ![0, 1] bcast_S8192x1_S8192x512_0_1 (Host.rsqrt (addf
    (Host.divf (broadcastInDim S8192x1 ![0] bcast_S8192_S8192x1_0 (Host.reduceAdd (mulf x x) (constant S_ .f32 0x00000000#32) reducesTo_S8192x512_S8192_d1 h_S_))
      (broadcastInDim S8192x1 ![] bcast_S_S8192x1 (constant S_ .f32 0x44000000#32)))
    (broadcastInDim S8192x1 ![] bcast_S_S8192x1 (constant S_ .f32 0x358637BD#32))))))
    (broadcastInDim S8192x512 ![0, 1] bcast_S1x512_S8192x512_0_1 g)

/-- The two groups' normed outputs side by side, projected and added to the residual. -/
def project (a b : FVec Ideal S8192x512 .f32) (ga gb : FVec Ideal S1x512 .f32) (x : FVec Ideal S8192x1024 .f32)
    (w : FVec Ideal S1024x1024 .bf16) : FVec Ideal S8192x1024 .f32 :=
  addf x (Host.dotGeneral dot_S8192x1024_S1024x1024_S8192x1024_1_0_0_1_n_n none
    (concatenate S8192x1024 1 [⟨S8192x512, norm a ga⟩, ⟨S8192x512, norm b gb⟩] concatenates_S8192x512_S8192x512_S8192x1024_d1)
    (extf .f32 w bitsLt_bf16_f32))

/-- An element of the norm, from its row and its gain. -/
def normed (row : Fin 512 → EReal) (gain : EReal) (d : Fin 512) : EReal :=
  row d * Ideal.rsqrt (Ideal.div (∑ k, row k * row k) (Ideal.ofBits .f32 0x44000000#32) + Ideal.ofBits .f32 0x358637BD#32) * gain

theorem norm_apply (x g) (r : Fin 8192) (d : Fin 512) : norm x g (ix2 r d) = normed (fun k => x (ix2 r k)) (g (ix2 0 d)) d := by
  pointwise [norm, normed]

theorem project_apply (a b ga gb x w) (r : Fin 8192) (e : Fin 1024) :
    project a b ga gb x w (ix2 r e) = x (ix2 r e) + (∑ k : Fin 512, norm a ga (ix2 r k) * w (ix2 ⟨k.val, by omega⟩ e)
      + ∑ k : Fin 512, norm b gb (ix2 r k) * w (ix2 ⟨512 + k.val, by omega⟩ e)) := by
  pointwise [project]

end Reference

/-! ## The kernel's -/

section Kernel
open Cert.Kernel3Ideal Cert.Kernel3Ideal.Gen Cert.Kernel3Ideal.Value

theorem pay_apply (a ga b gb x wa wb) (r : Fin 512) (e : Fin 1024) : k0_pay1 (F := Ideal) a ga b gb x wa wb (ix2 r e)
    = x (ix2 r e) + ∑ k : Fin 512, normed (fun k => a (ix2 r k)) (ga (ix2 0 k)) k * wa (ix2 k e)
      + ∑ k : Fin 512, normed (fun k => b (ix2 r k)) (gb (ix2 0 k)) k * wb (ix2 k e) := by
  pointwise [k0_pay1, normed]

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![t.val, 0] :=
  (by decide +kernel : ∀ t : Fin grid0.N, _)

variable (m : (ℓ : Loc nD τ sig) → Buf (Elt Ideal) ℓ) (c : Dev nD)

/-- The arguments: the two groups' outputs, their gains, the residual and the matrix. -/
def arg0 : FVec Ideal Cert.Reference3Ideal.S8192x512 .f32 := m ((c.tc : Thread nD τ).loc main_arg0)
def arg1 : FVec Ideal Cert.Reference3Ideal.S8192x512 .f32 := m ((c.tc : Thread nD τ).loc main_arg1)
def arg2 : FVec Ideal Cert.Reference3Ideal.S1x512 .f32 := m ((c.tc : Thread nD τ).loc main_arg2)
def arg3 : FVec Ideal Cert.Reference3Ideal.S1x512 .f32 := m ((c.tc : Thread nD τ).loc main_arg3)
def arg4 : FVec Ideal Cert.Reference3Ideal.S8192x1024 .f32 := m ((c.tc : Thread nD τ).loc main_arg4)
def arg5 : FVec Ideal Cert.Reference3Ideal.S1024x1024 .bf16 := m ((c.tc : Thread nD τ).loc main_arg5)

variable (t : Fin cfg0.N) (r k : Fin 512) (e : Fin 1024) (l : Fin 8192)

/-- What the blocks of a point hold. -/
theorem block0 (hl : l.val = t.val * 512 + r.val) : iblk m c 0 t (ix2 r k) = arg0 m c (ix2 l k) := by
  blk_point [iblk, V, arg0, idx t]
theorem block1 (hl : l.val = t.val * 512 + r.val) : iblk m c 1 t (ix2 r k) = arg1 m c (ix2 l k) := by
  blk_point [iblk, V, arg1, idx t]
theorem block2 : iblk m c 2 t (ix2 0 k) = arg2 m c (ix2 0 k) := by
  blk_point [iblk, V, arg2, idx t]
theorem block3 : iblk m c 3 t (ix2 0 k) = arg3 m c (ix2 0 k) := by
  blk_point [iblk, V, arg3, idx t]
theorem block4 (hl : l.val = t.val * 512 + r.val) : iblk m c 4 t (ix2 r e) = arg4 m c (ix2 l e) := by
  blk_point [iblk, V, arg4, idx t]
theorem block5 : View.ld (iblk m c 5 t) r0_3 (ix2 k e) = arg5 m c (ix2 ⟨k.val, by omega⟩ e) := by
  blk_point [View.ld, r0_3, iblk, V, arg5, idx t] <;> simp [r0_3]
theorem block5' : View.ld (iblk m c 5 t) r0_4 (ix2 k e) = arg5 m c (ix2 ⟨512 + k.val, by omega⟩ e) := by
  blk_point [View.ld, r0_4, iblk, V, arg5, idx t] <;> simp [r0_4]

/-- The kernel's array is the projection. -/
theorem result : (dats m 0 c).arrAt 6 cfg0.N = (project (arg0 m c) (arg1 m c) (arg2 m c) (arg3 m c) (arg4 m c) (arg5 m c) :
    FVec Ideal Cert.Reference3Ideal.S8192x1024 .f32) := by
  refine (dats m 0 c).arrAt_eq_of_covers 6 _ (by decide +kernel) fun t _ y => ?_
  blk_simp
  rw [after0_6]
  frame_out [out0_6]
  obtain ⟨r, e, rfl⟩ : ∃ (r : Fin 512) (e : Fin 1024), y = ix2 r e := ⟨y 0, y 1, by ext a; fin_cases a <;> rfl⟩
  have ht : t.val < 16 := Nat.lt_of_lt_of_eq t.isLt N_0
  have eq : (win0_6.blk t).view.emb (ix2 r e) = ix2 (⟨t.val * 512 + r.val, by omega⟩ : Fin 8192) e := by blk_ext [idx t]
  rw [eq, project_apply, pay_apply]
  rw [block4 m c t r e ⟨t.val * 512 + r.val, by omega⟩ rfl, add_assoc]
  simp only [norm_apply, block0 m c t r _ ⟨t.val * 512 + r.val, by omega⟩ rfl, block1 m c t r _ ⟨t.val * 512 + r.val, by omega⟩ rfl, block2, block3, block5, block5']
end Kernel

end Cert.Proof.O
-- ==== Proof.O.Algebraic.lean ====
/-
  The kernel's output projection and the reference's are the same, whatever the arguments hold.
-/
module

public import proofs.«01_k».proof.Defs
public import proofs.«01_k».proof.Proof.O.Value
public import Idealize.ShloMosaic.Lib.Quiescent

@[expose] public section

noncomputable section

namespace Cert.Proof.O

open Idealize.ShloMosaic Idealize.SL.Sem

section Reference
open Cert.Reference3Ideal
variable (m : (ℓ : Loc nD τ sig) → Buf (Elt Ideal) ℓ) (g : Dev nD → PrngReg)

/-- The reference runs, and leaves its arguments and every counter as they were. -/
theorem reference_frame : θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run _ _ _).mono (fun _ h => ⟨fun c => (h c).2, sem_eq_zero_of_no_sems (by decide) _⟩) (Cert.Reference3Ideal.Value.run m g)
end Reference

/-- From the same arguments the arrays end the same. -/
theorem algebraic : Cert.algebraic_Kernel3Ideal_Reference3Ideal := by
  intro m g m' g' _ hagree
  refine ⟨fun c => project (arg0 m c) (arg1 m c) (arg2 m c) (arg3 m c) (arg4 m c) (arg5 m c), ?_, ?_⟩
  · refine (θ_run _ _ _).mono (fun r h c => ?_) (Cert.Kernel3Ideal.Value.run_blocks m g)
    exact ⟨(h c).1.trans (result m c), (h c).2⟩
  · refine (θ_run _ _ _).mono (fun r h c => ?_) (Cert.Reference3Ideal.Value.run m' g')
    obtain ⟨e0, e1, e2, e3, e4, e5⟩ := hagree c
    refine ⟨(h c).1.trans ?_, (h c).2⟩
    rw [e0, e1, e2, e3, e4, e5]
    rfl

end Cert.Proof.O
-- ==== Proof.SI.While.lean ====
/-
  One trip of the forward walk over the keys: the loads and values of the while's body, run on whole buffers, and what
  it hands to the next test; then the walk.
-/
module

public import proofs.«01_k».proof.Proof.Own
public import proofs.«01_k».proof.Proof.Gen.Kernel4Ideal.Skeleton

@[expose] public section

noncomputable section

namespace Cert.Proof.SI

open Cert.Kernel4Ideal Cert.Kernel4Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- What the walk over the keys carries: whether any row has weight left, the running log of the
    weight left, and the weighted values so far. -/
structure St (F : FTy → Type) [FloatOps F] [Named F] where
  alive : BitVec 32
  m : FVec F S512x128 .f32
  acc : FVec F S512x128 .f32

/-- The variants of the walk's calls: the trips left. -/
abbrev 𝒱₀ : Variants := Variants.nat

/-- The rows of key tile `r` of trip `n`. -/
abbrev rc3 (t : Fin k0_t1_loop.trips) (n : BitVec 32) (h : k0_chk1 t n) (r : Fin 4) : Rect S8192x128 :=
  Rect.unit (s := S8192x128) (k0_off3 t n (BitVec.ofNat 32 r.val)) S128x128.size (k0_off3_inb t n h r)

variable (c : Dev nD) (i : grid0.Coords) (t : Fin k0_t1_loop.trips)
  (arg2 : Memref sig .tc .vmem S8192x128 .bf16) (harg2 : arg2.IsWhole) (q2 : FVec F S512x128 .bf16) (ue : FVec F S256x256 .bf16)
  (arg3 : Memref sig .tc .vmem S8192x128 .bf16) (harg3 : arg3.IsWhole)

/-- The buffers the walk reads. -/
def held (xk xv : Vec F S8192x128 .bf16) : sProp 𝕄 :=
  iprop(owns (c : Thread nD τ) arg2 fullShare xk ∗ owns (c : Thread nD τ) arg3 fullShare xv)

/-- The last query tile of trip `t`'s query block. -/
abbrev lastOf (t : Fin k0_t1_loop.trips) : BitVec 32 :=
  Scalar.subi (Scalar.addi (Scalar.muli (Scf.iv 0#32 1#32 t) 2#32) 2#32) 1#32

/-- The test before trip `n`. -/
abbrev going (n alive : BitVec 32) : Prop :=
  Scalar.andi (Scalar.cmpi .sle (Scalar.muli n 4#32)
    (Scalar.subi (Scalar.addi (Scalar.muli (Scf.iv 0#32 1#32 t) 2#32) 2#32) 1#32)) (Scalar.cmpi .sgt alive 0#32) = 1#1

/-- One trip: its state, with the run of the body from the passed test to the next call. -/
def tripRun (xk xv : Vec F S8192x128 .bf16) (n : BitVec 32) (hn : k0_chk1 t n) (s : St F) :
    { s' : St F // ∀ (bd : Option 𝒱₀.V) (E : Set ℕ) (hgo : going t n s.alive)
        (K : BitVec 32 × BitVec 32 × FVec F S512x128 .f32 × FVec F S512x128 .f32 → sProp 𝕄),
      iprop(held c arg2 arg3 xk xv
          ∗ (held c arg2 arg3 xk xv
              -∗ wp frame (wpE (defs₀ (F := F)) 𝒱₀ (c : Thread nD τ) bd) E
                (.op (.call (1 : (Λ₀ F).Label) ⟨i, t, arg2, harg2, q2, ue, arg3, harg3,
                  Scalar.addi n 1#32, s'.alive, s'.m, s'.acc⟩) .ret) K))
        ⊢ wp frame (wpE (defs₀ (F := F)) 𝒱₀ (c : Thread nD τ) bd) E
          (cc0_while1 i t arg2 harg2 q2 ue arg3 harg3 n s.alive s.m s.acc) K } := by
  refine ⟨⟨?_, ?_, ?_⟩, fun bd E hgo K => ?run⟩
  case run =>
    simp only [cc0_while1_eq_skeleton]; unfold cc0_while1_skel
    simp only [k0_part8_eq_skeleton, k0_part9_eq_skeleton, k0_part10_eq_skeleton, k0_part11_eq_skeleton, k0_part12_eq_skeleton,
      k0_part13_eq_skeleton]
    unfold going at hgo
    simp only [hgo, ↓reduceIte]
    unfold k0_part8_skel k0_part9_skel k0_part10_skel k0_part11_skel k0_part12_skel k0_part13_skel
    simp only [Prog.lift, Prog.bind_op, Prog.bind_ret, Prog.pure_eq_ret]
    unfold held
    iintro ⟨⟨H2, H3⟩, Hk⟩
    iapply (wp_assume 𝒱₀ (c : Thread nD τ) bd E hn)
    iapply (Own.load 𝒱₀ (c : Thread nD τ) bd E (r := rc3 t n hn 0)) $$ H2; iintro H2
    iapply (Own.load 𝒱₀ (c : Thread nD τ) bd E (r := rc3 t n hn 0)) $$ H3; iintro H3
    iapply (Own.load 𝒱₀ (c : Thread nD τ) bd E (r := rc3 t n hn 1)) $$ H2; iintro H2
    iapply (Own.load 𝒱₀ (c : Thread nD τ) bd E (r := rc3 t n hn 1)) $$ H3; iintro H3
    iapply (Own.load 𝒱₀ (c : Thread nD τ) bd E (r := rc3 t n hn 2)) $$ H2; iintro H2
    iapply (Own.load 𝒱₀ (c : Thread nD τ) bd E (r := rc3 t n hn 2)) $$ H3; iintro H3
    iapply (Own.load 𝒱₀ (c : Thread nD τ) bd E (r := rc3 t n hn 3)) $$ H2; iintro H2
    iapply (Own.load 𝒱₀ (c : Thread nD τ) bd E (r := rc3 t n hn 3)) $$ H3; iintro H3
    iapply Hk
    isplitl [H2]; · iexact H2
    iexact H3

/-! ### The walk -/

/-- The walk from trip `a` on, at most `k` trips: the state when the test first fails. -/
def walk (t : Fin k0_t1_loop.trips) (step : (n : BitVec 32) → k0_chk1 t n → St F → St F) : ℕ → ℕ → St F → St F
  | 0, _, s => s
  | k + 1, a, s =>
    if going t (BitVec.ofNat 32 a) s.alive then
      if h : k0_chk1 t (BitVec.ofNat 32 a) then
        walk t step k (a + 1) (step (BitVec.ofNat 32 a) h s)
      else s
    else s

/-- The test's part on the key tiles left. -/
abbrev left (t : Fin k0_t1_loop.trips) (n : BitVec 32) : Prop := Scalar.cmpi .sle (Scalar.muli n 4#32) (lastOf t) = 1#1

theorem left_of_going {n alive : BitVec 32} (h : going t n alive) : left t n := by
  unfold going at h
  unfold left
  revert h
  generalize Scalar.cmpi .sle (Scalar.muli n 4#32) (lastOf t) = a
  generalize Scalar.cmpi .sgt alive 0#32 = b
  revert a b
  decide

theorem left_lt : ∀ t : Fin k0_t1_loop.trips, ¬ left t (BitVec.ofNat 32 17) := by decide +kernel

theorem chk_of_left : ∀ (t : Fin k0_t1_loop.trips) (a : Fin 17), left t (BitVec.ofNat 32 a.val) → k0_chk1 t (BitVec.ofNat 32 a.val) := by
  decide +kernel

theorem addi_succ (a : ℕ) : Scalar.addi (BitVec.ofNat 32 a) 1#32 = BitVec.ofNat 32 (a + 1) := by
  show BitVec.ofNat 32 a + BitVec.ofNat 32 1 = _
  rw [← BitVec.ofNat_add]

/-- The trip's state as a step of the walk. -/
abbrev stepOf (xk xv : Vec F S8192x128 .bf16) (n : BitVec 32) (hn : k0_chk1 t n) (s : St F) : St F :=
  (tripRun c i t arg2 harg2 q2 ue arg3 harg3 xk xv n hn s).1

/-- The label's specification with at most `k` trips to run from `a`: it returns the walk's weighted values. -/
def spec (xk xv : Vec F S8192x128 .bf16) (k a : ℕ) (s : St F) :
    sWPT 𝕄 (BitVec 32 × BitVec 32 × FVec F S512x128 .f32 × FVec F S512x128 .f32) := do
  sWPT.consume (held c arg2 arg3 xk xv)
  let r ← sWPT.arbitrary
  sWPT.assume (r.2.2.2 = (walk t (stepOf c i t arg2 harg2 q2 ue arg3 harg3 xk xv) k a s).acc)
  sWPT.produce (held c arg2 arg3 xk xv)
  pure r

theorem spec_apply (xk xv : Vec F S8192x128 .bf16) (k a : ℕ) (s : St F)
    (K : BitVec 32 × BitVec 32 × FVec F S512x128 .f32 × FVec F S512x128 .f32 → sProp 𝕄) :
    spec c i t arg2 harg2 q2 ue arg3 harg3 xk xv k a s K
      = iprop(held c arg2 arg3 xk xv ∗ ∀ r : BitVec 32 × BitVec 32 × FVec F S512x128 .f32 × FVec F S512x128 .f32,
        ⌜r.2.2.2 = (walk t (stepOf c i t arg2 harg2 q2 ue arg3 harg3 xk xv) k a s).acc⌝
          -∗ (held c arg2 arg3 xk xv -∗ K r)) := rfl

/-- The label's body meets it, by induction on the trips left. -/
theorem spec_le (E : Set ℕ) (xk xv : Vec F S8192x128 .bf16) :
    ∀ k a, a + k = 17 → ∀ s K,
      spec c i t arg2 harg2 q2 ue arg3 harg3 xk xv k a s K
      ⊢ wp frame (wpE (defs₀ (F := F)) 𝒱₀ (c : Thread nD τ) (some k)) E
          (defs₀ (F := F) .tc 1 ⟨i, t, arg2, harg2, q2, ue, arg3, harg3, BitVec.ofNat 32 a, s.alive, s.m, s.acc⟩) K := by
  intro k
  induction k with
  | zero =>
    intro a ha s K
    obtain rfl : a = 17 := by omega
    rw [spec_apply]
    show _ ⊢ wp frame (wpE (defs₀ (F := F)) 𝒱₀ (c : Thread nD τ) (some 0)) E
      (cc0_while1 i t arg2 harg2 q2 ue arg3 harg3 (BitVec.ofNat 32 17) s.alive s.m s.acc) K
    have hno : ¬ going t (BitVec.ofNat 32 17) s.alive := fun h => left_lt t (left_of_going t h)
    simp only [cc0_while1_eq_skeleton]; unfold cc0_while1_skel
    unfold going at hno
    simp only [hno, ↓reduceIte, Prog.pure_eq_ret]
    iintro ⟨H, Hk⟩
    rw [wp_ret]; imodintro
    iapply Hk
    · ipureintro; rfl
    · iexact H
  | succ k ih =>
    intro a ha s K
    rw [spec_apply]
    show _ ⊢ wp frame (wpE (defs₀ (F := F)) 𝒱₀ (c : Thread nD τ) (some (k + 1))) E
      (cc0_while1 i t arg2 harg2 q2 ue arg3 harg3 (BitVec.ofNat 32 a) s.alive s.m s.acc) K
    by_cases hgo : going t (BitVec.ofNat 32 a) s.alive
    · have hn : k0_chk1 t (BitVec.ofNat 32 a) := chk_of_left t ⟨a, by omega⟩ (left_of_going t hgo)
      have hw : walk t (stepOf c i t arg2 harg2 q2 ue arg3 harg3 xk xv) (k + 1) a s
          = walk t (stepOf c i t arg2 harg2 q2 ue arg3 harg3 xk xv) k (a + 1)
            (stepOf c i t arg2 harg2 q2 ue arg3 harg3 xk xv (BitVec.ofNat 32 a) hn s) := by
        rw [walk, if_pos hgo, dif_pos hn]
      rw [hw]
      iintro ⟨H, Hk⟩
      iapply ((tripRun c i t arg2 harg2 q2 ue arg3 harg3 xk xv (BitVec.ofNat 32 a) hn s).2 (some (k + 1)) E hgo K)
      isplitl [H]; · iexact H
      iintro H
      have ih' := ih (a + 1) (by omega)
        (stepOf c i t arg2 harg2 q2 ue arg3 harg3 xk xv (BitVec.ofNat 32 a) hn s)
      rw [← addi_succ] at ih'
      iapply (wp_call_spec 𝒱₀ (c : Thread nD τ) (some (k + 1)) E
        (spec c i t arg2 harg2 q2 ue arg3 harg3 xk xv k (a + 1)
            (stepOf c i t arg2 harg2 q2 ue arg3 harg3 xk xv (BitVec.ofNat 32 a) hn s)) k
        (fun u hu => by cases hu; exact Nat.lt_succ_self k)
        ih')
      rw [spec_apply]
      isplitl [H]; · iexact H
      iintro %r %hr H
      rw [wp_ret]; imodintro
      iapply Hk
      · ipureintro; exact hr
      · iexact H
    · have hw : walk t (stepOf c i t arg2 harg2 q2 ue arg3 harg3 xk xv) (k + 1) a s = s := by
        rw [walk, if_neg hgo]
      rw [hw]
      simp only [cc0_while1_eq_skeleton]; unfold cc0_while1_skel
      unfold going at hgo
      simp only [hgo, ↓reduceIte, Prog.pure_eq_ret]
      iintro ⟨H, Hk⟩
      rw [wp_ret]; imodintro
      iapply Hk
      · ipureintro; rfl
      · iexact H

end Cert.Proof.SI
-- ==== Proof.SI.TripVal.lean ====
/-
  The state a trip of the forward walk leaves, as four key tiles.
-/
module

public import proofs.«01_k».proof.Proof.SI.While
public import proofs.«01_k».proof.Proof.PI.HeadRun

@[expose] public section

set_option maxRecDepth 16384

noncomputable section

namespace Cert.Proof.SI

open Cert.Kernel4Ideal Cert.Kernel4Ideal.Gen
open Idealize.ShloMosaic
open Idealize.ShloMosaic.TcCoe
open PI (tValid tz tsp tsplit tstay lo hi rows mOf wOf dqOf)

variable {F : FTy → Type} [FloatOps F] [Named F]

/-- The two running values of the walk. -/
@[ext] structure Acc (F : FTy → Type) [FloatOps F] [Named F] where
  m : FVec F S512x128 .f32
  acc : FVec F S512x128 .f32

/-- One key tile: the values after it. -/
def tileAcc (val : IVec S512x128 1) (q : FVec F S512x128 .bf16) (ue : FVec F S256x256 .bf16) (xk xv : Vec F S8192x128 .bf16)
    (off : Fin 2 → ℕ) (inb : ∀ a, off a + S128x128.size a ≤ S8192x128.size a) (s : Acc F) : Acc F where
  m := mOf val (tsp (tz q (View.ld xk (rows off inb)))) s.m ue
  acc := dqOf s.acc (wOf val (tz q (View.ld xk (rows off inb))) (tsp (tz q (View.ld xk (rows off inb)))) s.m ue) (View.ld xv (rows off inb))

/-- Whether any row has weight left. -/
def aliveOf (m : FVec F S512x128 .f32) : BitVec 32 :=
  Scalar.extui (Scalar.cmpf .ogt (k0_pay4 m) (Named.named κ "dead" 0xC2D00000#32))

/-- The state of the walk with these values. -/
def Acc.st (a : Acc F) : St F := ⟨aliveOf a.m, a.m, a.acc⟩

/-- The first query tile of a block. -/
abbrev firstOf (t : Fin k0_t1_loop.trips) : BitVec 32 := Scalar.addi (Scalar.muli (Scf.iv 0#32 1#32 t) 2#32) 0#32

/-- Trip `n` of the walk of query block `t`: four key tiles, from the later to the earlier. -/
def tripAcc (t : Fin k0_t1_loop.trips) (q : FVec F S512x128 .bf16) (ue : FVec F S256x256 .bf16) (xk xv : Vec F S8192x128 .bf16)
    (n : BitVec 32) (hn : k0_chk1 t n) (s : Acc F) : Acc F :=
  let tl (r : Fin 4) : Acc F → Acc F :=
    tileAcc (tValid (Scalar.subi (Scalar.subi (lastOf t) (Scalar.muli n 4#32)) (BitVec.ofNat 32 r.val)) (firstOf t)) q ue xk xv
      (k0_off3 t n (BitVec.ofNat 32 r.val)) (k0_off3_inb t n hn r)
  tl 3 (tl 2 (tl 1 (tl 0 s)))

variable (c : Dev nD) (i : grid0.Coords) (t : Fin k0_t1_loop.trips)
  (arg2 : Memref sig .tc .vmem S8192x128 .bf16) (harg2 : arg2.IsWhole) (q2 : FVec F S512x128 .bf16) (ue : FVec F S256x256 .bf16)
  (arg3 : Memref sig .tc .vmem S8192x128 .bf16) (harg3 : arg3.IsWhole)

set_option maxHeartbeats 1000000 in
theorem tripRun_val (xk xv : Vec F S8192x128 .bf16) (n : BitVec 32) (hn : k0_chk1 t n) (s : St F) :
    (tripRun c i t arg2 harg2 q2 ue arg3 harg3 xk xv n hn s).1 = (tripAcc t q2 ue xk xv n hn ⟨s.m, s.acc⟩).st := by
  unfold tripRun
  dsimp only
  simp only [tripAcc, tileAcc, Acc.st]
  rfl
end Cert.Proof.SI
-- ==== Proof.SI.Trip.lean ====
/-
  One query block of the forward walk: its stacked rows, the peeled first trip over the keys, the walk over the rest,
  and the block's rows of the output.
-/
module

public import proofs.«01_k».proof.Proof.SI.While

@[expose] public section

noncomputable section

namespace Cert.Proof.SI

open Cert.Kernel4Ideal Cert.Kernel4Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The rows of query tile `r` of block `t`. -/
abbrev rc1 (t : Fin k0_t1_loop.trips) (r : Fin 2) : Rect S8192x128 :=
  Rect.unit (s := S8192x128) (k0_off1 t (BitVec.ofNat 32 r.val)) S128x128.size (k0_off1_inb t r)

/-- The rows of key tile `r` of the peeled trip. -/
abbrev rc2 (t : Fin k0_t1_loop.trips) (r : Fin 4) : Rect S8192x128 :=
  Rect.unit (s := S8192x128) (k0_off2 t (BitVec.ofNat 32 r.val)) S128x128.size (k0_off2_inb t r)

/-- The three input blocks. -/
structure Ins (F : FTy → Type) [FloatOps F] [Named F] where
  q : Vec F S8192x128 .bf16
  k : Vec F S8192x128 .bf16
  v : Vec F S8192x128 .bf16

/-- What the peeled trip hands to the walk. -/
structure Head (F : FTy → Type) [FloatOps F] [Named F] where
  q : FVec F S512x128 .bf16
  s : St F

variable (c : Dev nD) (i : grid0.Coords)
  (arg1 : Memref sig .tc .vmem S8192x128 .bf16) (harg1 : arg1.IsWhole) (arg2 : Memref sig .tc .vmem S8192x128 .bf16) (harg2 : arg2.IsWhole)
  (arg3 : Memref sig .tc .vmem S8192x128 .bf16) (harg3 : arg3.IsWhole) (arg4 : Memref sig .tc .vmem S8192x128 .f32) (harg4 : arg4.IsWhole)

/-- The body's buffers. -/
def heldB (x : Ins F) (d : Vec F S8192x128 .f32) : sProp 𝕄 :=
  iprop(owns (c : Thread nD τ) arg1 fullShare x.q ∗ owns (c : Thread nD τ) arg2 fullShare x.k
    ∗ owns (c : Thread nD τ) arg3 fullShare x.v ∗ owns (c : Thread nD τ) arg4 fullShare d)

/-- The state a block's walk ends with. -/
abbrev endOf (t : Fin k0_t1_loop.trips) (x : Ins F) (h : Head F) : St F :=
  walk t (stepOf c i t arg2 harg2 h.q (k0_pay1 (F := F)) arg3 harg3 x.k x.v) 16 1 h.s

/-- The call of the walk's label after a peeled trip. -/
theorem walkCall (t : Fin k0_t1_loop.trips) (x : Ins F) (h : Head F) (E : Set ℕ) {α : Type}
    (kk : BitVec 32 × BitVec 32 × FVec F S512x128 .f32 × FVec F S512x128 .f32 → Prog (TpuEff nD τ sig (Elt F) (Λ₀ F) .tc) α)
    (K : α → sProp 𝕄) :
    iprop(held c arg2 arg3 x.k x.v
        ∗ ∀ r : BitVec 32 × BitVec 32 × FVec F S512x128 .f32 × FVec F S512x128 .f32,
          ⌜r.2.2.2 = (endOf c i arg2 harg2 arg3 harg3 t x h).acc⌝
          -∗ (held c arg2 arg3 x.k x.v
            -∗ wp frame (wpE (defs₀ (F := F)) 𝒱₀ (c : Thread nD τ) none) E (kk r) K))
      ⊢ wp frame (wpE (defs₀ (F := F)) 𝒱₀ (c : Thread nD τ) none) E
        (.op (.call (1 : (Λ₀ F).Label) ⟨i, t, arg2, harg2, h.q, (k0_pay1 (F := F)), arg3, harg3, 1#32, h.s.alive, h.s.m, h.s.acc⟩) kk) K := by
  rw [← spec_apply c i t arg2 harg2 h.q (k0_pay1 (F := F)) arg3 harg3 x.k x.v 16 1 h.s
    (fun r => wp frame (wpE (defs₀ (F := F)) 𝒱₀ (c : Thread nD τ) none) E (kk r) K)]
  refine wp_call_spec (Λ := Λ₀ F) (ℓ := (1 : (Λ₀ F).Label)) 𝒱₀ (c : Thread nD τ) none E
      (spec c i t arg2 harg2 h.q (k0_pay1 (F := F)) arg3 harg3 x.k x.v 16 1 h.s)
      (16 : ℕ) (fun u hu => nomatch hu) ?_
  exact spec_le c i t arg2 harg2 h.q (k0_pay1 (F := F)) arg3 harg3 E x.k x.v 16 1 rfl h.s

set_option maxHeartbeats 4000000 in
/-- One query block: what its peeled trip hands over, with the run of the whole block. -/
def blockRun (t : Fin k0_t1_loop.trips) (x : Ins F) :
    { h : Head F // ∀ (E : Set ℕ) (d : Vec F S8192x128 .f32) (K : Unit → sProp 𝕄),
      iprop(heldB c arg1 arg2 arg3 arg4 x d
          ∗ (heldB c arg1 arg2 arg3 arg4 x
              ((rc1 t 1).overlay ((rc1 t 0).overlay d (k0_pay5 (endOf c i arg2 harg2 arg3 harg3 t x h).acc))
                (k0_pay6 (endOf c i arg2 harg2 arg3 harg3 t x h).acc)) -∗ K ⟨⟩))
        ⊢ wp frame (wpE (defs₀ (F := F)) 𝒱₀ (c : Thread nD τ) none) E
          (k0_t1_body i arg1 harg1 arg2 harg2 arg3 harg3 arg4 harg4 t ⟨⟩) K } := by
  refine ⟨⟨?q, ⟨?al, ?m, ?acc⟩⟩, fun E d K => ?run⟩
  case run =>
    unfold k0_t1_body
    simp only [k0_part1_eq_skeleton, k0_part2_eq_skeleton, k0_part3_eq_skeleton, k0_part4_eq_skeleton, k0_part5_eq_skeleton,
      k0_part6_eq_skeleton, k0_part7_eq_skeleton]
    unfold k0_part1_skel k0_part2_skel k0_part3_skel k0_part4_skel k0_part5_skel k0_part6_skel k0_part7_skel
    simp only [Prog.lift, Prog.bind_op, Prog.bind_ret, Prog.pure_eq_ret]
    unfold heldB
    iintro ⟨⟨H1, H2, H3, H4⟩, Hk⟩
    iapply (Own.load 𝒱₀ (c : Thread nD τ) none E (r := rc1 t 0)) $$ H1; iintro H1
    iapply (Own.load 𝒱₀ (c : Thread nD τ) none E (r := rc1 t 1)) $$ H1; iintro H1
    -- the peeled trip's key tiles
    iapply (Own.load 𝒱₀ (c : Thread nD τ) none E (r := rc2 t 0)) $$ H2; iintro H2
    iapply (Own.load 𝒱₀ (c : Thread nD τ) none E (r := rc2 t 0)) $$ H3; iintro H3
    iapply (Own.load 𝒱₀ (c : Thread nD τ) none E (r := rc2 t 1)) $$ H2; iintro H2
    iapply (Own.load 𝒱₀ (c : Thread nD τ) none E (r := rc2 t 1)) $$ H3; iintro H3
    iapply (Own.load 𝒱₀ (c : Thread nD τ) none E (r := rc2 t 2)) $$ H2; iintro H2
    iapply (Own.load 𝒱₀ (c : Thread nD τ) none E (r := rc2 t 2)) $$ H3; iintro H3
    iapply (Own.load 𝒱₀ (c : Thread nD τ) none E (r := rc2 t 3)) $$ H2; iintro H2
    iapply (Own.load 𝒱₀ (c : Thread nD τ) none E (r := rc2 t 3)) $$ H3; iintro H3
    -- the walk over the rest
    iapply (walkCall c i arg2 harg2 arg3 harg3 t x ⟨?q, ⟨?al, ?m, ?acc⟩⟩ E _ K)
    unfold held
    isplitl [H2 H3]
    · isplitl [H2]; · iexact H2
      iexact H3
    iintro %r %hr ⟨H2, H3⟩
    obtain ⟨r0, r1, r2, r3⟩ := r
    simp only at hr
    subst hr
    simp only
    iapply (Own.load 𝒱₀ (c : Thread nD τ) none E (r := rc1 t 0)) $$ H4; iintro H4
    iapply (Own.store 𝒱₀ (c : Thread nD τ) none E (r := rc1 t 0)) $$ H4; iintro H4
    iapply (Own.load 𝒱₀ (c : Thread nD τ) none E (r := rc1 t 1)) $$ H4; iintro H4
    iapply (Own.store 𝒱₀ (c : Thread nD τ) none E (r := rc1 t 1)) $$ H4; iintro H4
    rw [wp_ret]; imodintro
    iapply Hk
    isplitl [H1]; · iexact H1
    isplitl [H2]; · iexact H2
    isplitl [H3]; · iexact H3
    iexact H4

end Cert.Proof.SI
-- ==== Proof.SI.HeadRun.lean ====
/-
  The peeled trip of the forward walk as the tile functions.
-/
module

public import proofs.«01_k».proof.Proof.SI.TripVal
public import proofs.«01_k».proof.Proof.SI.Trip

@[expose] public section

set_option maxRecDepth 16384

noncomputable section

namespace Cert.Proof.SI

open Cert.Kernel4Ideal Cert.Kernel4Ideal.Gen
open Idealize.ShloMosaic
open Idealize.ShloMosaic.TcCoe
open PI (tValid)

variable {F : FTy → Type} [FloatOps F] [Named F]

variable (t : Fin k0_t1_loop.trips) (x : Ins F)

/-- The two query tiles, stacked by head: the stacking of the backward walk. -/
def hQ : FVec F S512x128 .bf16 :=
  KernelIdeal.Gen.k0_pay17 (View.ld x.q (rc1 t 1)) (KernelIdeal.Gen.k0_pay14 (View.ld x.q (rc1 t 0))) KernelIdeal.Gen.k0_pay15
    (KernelIdeal.Gen.k0_pay16 (View.ld x.q (rc1 t 1))) (Scalar.ofBits .f32 0x3F800000#32)

/-- The later query tile's weights of the last key tile, as in the backward walk, -/
abbrev w0 : FVec F S256x128 .bf16 :=
  KernelIdeal.Gen.k0_pay36 KernelIdeal.Gen.k0_pay3 (Scalar.subi (Scalar.subi (lastOf t) 0#32) 0#32) (View.ld x.k (rc2 t 0)) (PI.laterOf t)
    (KernelIdeal.Gen.k0_pay26 (hQ t x)) (KernelIdeal.Gen.k0_pay27 KernelIdeal.Gen.k0_pay5) KernelIdeal.Gen.k0_pay28 KernelIdeal.Gen.k0_pay29
/-- and the log of what they leave. -/
abbrev m0 : FVec F S256x128 .f32 :=
  KernelIdeal.Gen.k0_pay35 KernelIdeal.Gen.k0_pay3 (Scalar.subi (Scalar.subi (lastOf t) 0#32) 0#32) (View.ld x.k (rc2 t 0)) (PI.laterOf t)
    (KernelIdeal.Gen.k0_pay26 (hQ t x)) (KernelIdeal.Gen.k0_pay27 KernelIdeal.Gen.k0_pay5) KernelIdeal.Gen.k0_pay28 KernelIdeal.Gen.k0_pay29

/-- After the last key tile. -/
def acc0 : Acc F where
  m := KernelIdeal.Gen.k0_pay44 KernelIdeal.Gen.k0_pay5 (m0 t x)
  acc := KernelIdeal.Gen.k0_pay48 KernelIdeal.Gen.k0_pay5 (View.ld x.v (rc2 t 0)) (w0 t x)

/-- After the peeled trip. -/
def headAcc : Acc F :=
  let tl (r : Fin 4) : Acc F → Acc F :=
    tileAcc (tValid (Scalar.subi (Scalar.subi (lastOf t) 0#32) (BitVec.ofNat 32 r.val)) (firstOf t)) (hQ t x) k0_pay1 x.k x.v
      (k0_off2 t (BitVec.ofNat 32 r.val)) (k0_off2_inb t r)
  tl 3 (tl 2 (tl 1 (acc0 t x)))

/-- What the peeled trip hands to the walk. -/
def headOf : Head F := ⟨hQ t x, (headAcc t x).st⟩

variable (c : Dev nD) (i : grid0.Coords)
  (arg1 : Memref sig .tc .vmem S8192x128 .bf16) (harg1 : arg1.IsWhole) (arg2 : Memref sig .tc .vmem S8192x128 .bf16) (harg2 : arg2.IsWhole)
  (arg3 : Memref sig .tc .vmem S8192x128 .bf16) (harg3 : arg3.IsWhole) (arg4 : Memref sig .tc .vmem S8192x128 .f32) (harg4 : arg4.IsWhole)

set_option maxHeartbeats 1000000 in
theorem blockRun_val : (blockRun c i arg1 harg1 arg2 harg2 arg3 harg3 arg4 harg4 t x).1 = headOf t x := by
  unfold blockRun
  dsimp only
  simp only [headOf, headAcc, acc0, tileAcc, Acc.st]
  rfl
end Cert.Proof.SI
-- ==== Proof.SI.Inv.lean ====
/-
  What the forward walk over the keys keeps, and where it ends: after the tiles from `N` on, the sums over the keys from
  `128 N` on.
-/
module

public import proofs.«01_k».proof.Proof.SI.TripVal
public import proofs.«01_k».proof.Proof.PI.WalkVal

@[expose] public section

set_option maxRecDepth 16384

noncomputable section

namespace Cert.Proof.SI

open Cert.Kernel4Ideal Cert.Kernel4Ideal.Gen
open Idealize.ShloMosaic
open Idealize.ShloMosaic.TcCoe
open PI (tValid tz tsp tstay rows RIn rQ rL rW pos Is IsUe)

variable {X : RIn} {q : FVec Ideal S512x128 .bf16} {ue : FVec Ideal S256x256 .bf16} {xk xv : Vec Ideal S8192x128 .bf16}

/-- The stacked queries are the real ones. -/
def IsQ (X : RIn) (t : ℕ) (q : FVec Ideal S512x128 .bf16) : Prop := ∀ r c, q (ix2 r c) = ((rQ X t r c : ℝ) : EReal)

/-- After the tiles from `N` on. -/
structure Inv (X : RIn) (t N : ℕ) (s : Acc Ideal) : Prop where
  m : ∀ r (l : Fin 128), s.m (ix2 r l) = ((tail (rL X t r) (128 * N) : ℝ) : EReal)
  acc : ∀ r (c : Fin 128), s.acc (ix2 r c) = ((tail (fun u => rW X t r u * X.v u c) (128 * N) : ℝ) : EReal)

section Tile
variable {t : ℕ} {s : Acc Ideal} {val : IVec S512x128 1} {off : Fin 2 → ℕ} {inb : ∀ a, off a + S128x128.size a ≤ S8192x128.size a}

/-- A tile of keys. -/
theorem tile_inv (hq : IsQ X t q) (hu : IsUe ue) (hk : Is xk X.k) (hv : Is xv X.v) (j : ℕ) (hj : j < 64) (ho : off = ![128 * j, 0])
    (hval : ∀ r (l : Fin 128), val (ix2 r l) = BitVec.ofBool (decide (128 * j + l.val < pos t r)))
    (h : Inv X t (j + 1) s) : Inv X t j (tileAcc val q ue xk xv off inb s) := by
  have hK : ∀ l c, View.ld xk (rows off inb) (ix2 l c) = ((til X.k j l c : ℝ) : EReal) := fun l c => by
    rw [PI.ld_rows xk off inb j hj ho, hk]
  have hV : ∀ l c, View.ld xv (rows off inb) (ix2 l c) = ((til X.v j l c : ℝ) : EReal) := fun l c => by
    rw [PI.ld_rows xv off inb j hj ho, hv]
  have hw := fun r => PI.tileW_at (k := View.ld xk (rows off inb)) (ok := tok (pos t r) j) ⟨q, ue, q, ue, s.m⟩ (hq r) hK (hval r) hu (h.m r)
  simp only [row_w _ _ _ j hj] at hw
  refine ⟨fun r l => ?_, fun r c => ?_⟩
  · have := PI.hi_ue (PI.tstay_at (ok := tok (pos t r) j) (hq r) hK (hval r)) hu l
    show s.m _ + _ = _
    rw [← row_m (rQ X t r) X.k (pos t r) j hj, EReal.coe_add, h.m]
    exact congrArg _ this
  · refine (PI.dq_at c (hw r) hV (h.acc r c)).trans ?_
    rw [tail_tile _ j hj]

/-- A tile past the first key: nothing changes. -/
theorem pad_inv (hq : IsQ X t q) (hu : IsUe ue) (hk : Is xk X.k) (hv : Is xv X.v) (ho : off = ![128 * 0, 0])
    (hval : ∀ r (l : Fin 128), val (ix2 r l) = BitVec.ofBool (decide False))
    (h : Inv X t 0 s) : Inv X t 0 (tileAcc val q ue xk xv off inb s) := by
  have hK : ∀ l c, View.ld xk (rows off inb) (ix2 l c) = ((til X.k 0 l c : ℝ) : EReal) := fun l c => by
    rw [PI.ld_rows xk off inb 0 (by omega) ho, hk]
  have hV : ∀ l c, View.ld xv (rows off inb) (ix2 l c) = ((til X.v 0 l c : ℝ) : EReal) := fun l c => by
    rw [PI.ld_rows xv off inb 0 (by omega) ho, hv]
  have hw := fun r => PI.tileW_at (k := View.ld xk (rows off inb)) (ok := fun _ => False) ⟨q, ue, q, ue, s.m⟩ (hq r) hK (hval r) hu (h.m r)
  simp only [none_w] at hw
  refine ⟨fun r l => ?_, fun r c => ?_⟩
  · have := PI.hi_ue (PI.tstay_at (ok := fun _ => False) (hq r) hK (hval r)) hu l
    simp only [none_stay, Finset.sum_const_zero] at this
    show s.m _ + _ = _
    rw [h.m]; refine (congrArg _ this).trans ?_; rw [← EReal.coe_add, add_zero]
  · refine (PI.dq_at c (hw r) hV (h.acc r c)).trans ?_
    simp only [zero_mul, Finset.sum_const_zero, add_zero]
end Tile

variable {t : Fin k0_t1_loop.trips} {s : Acc Ideal}

/-- One tile of a trip, with or without keys. -/
theorem any_inv (hq : IsQ X t.val q) (hu : IsUe ue) (hk : Is xk X.k) (hv : Is xv X.v) (w : BitVec 32) (n : ℕ)
    (hw : Scalar.select (Scalar.cmpi .sge w 0#32) (Scalar.muli w 128#32) 1073741824#32
      = BitVec.ofNat 32 (if n ≤ 2 * t.val + 1 then 128 * (2 * t.val + 1 - n) else 1073741824))
    {off : Fin 2 → ℕ} {inb : ∀ a, off a + S128x128.size a ≤ S8192x128.size a} (ho : off = ![128 * (2 * t.val + 1 - n), 0])
    (h : Inv X t.val (2 * t.val + 2 - n) s) :
    Inv X t.val (2 * t.val + 2 - (n + 1)) (tileAcc (tValid w (firstOf t)) q ue xk xv off inb s) := by
  have ht := PI.trips_lt t
  by_cases hn : n ≤ 2 * t.val + 1
  · rw [if_pos hn] at hw
    rw [show 2 * t.val + 2 - (n + 1) = 2 * t.val + 1 - n by omega]
    rw [show 2 * t.val + 2 - n = (2 * t.val + 1 - n) + 1 by omega] at h
    exact tile_inv hq hu hk hv _ (by omega) ho (fun r l => PI.valid_at t w _ (by omega) hw r l) h
  · rw [if_neg hn] at hw
    rw [show 2 * t.val + 2 - (n + 1) = 0 by omega]
    rw [show 2 * t.val + 2 - n = 0 by omega] at h
    refine pad_inv hq hu hk hv (by rw [ho, show 2 * t.val + 1 - n = 0 by omega]) (fun r l => ?_) h
    refine (PI.valid_at t w _ (by omega) hw r l).trans ?_
    have := PI.pos_lt t r
    have h2 : ¬ 1073741824 + l.val < pos t.val r := by omega
    simp only [h2]

/-- The key tiles of a trip, as offsets. -/
theorem off3_eq : ∀ (t : Fin k0_t1_loop.trips) (a : Fin 17) (r : Fin 4), 4 * a.val ≤ 2 * t.val + 1 →
    k0_off3 t (BitVec.ofNat 32 a.val) (BitVec.ofNat 32 r.val) = ![128 * (2 * t.val + 1 - 4 * a.val - r.val), 0] := PI.off3_eq

/-- One trip. -/
theorem trip_inv (hq : IsQ X t.val q) (hu : IsUe ue) (hk : Is xk X.k) (hv : Is xv X.v) (a : ℕ) (ha : 4 * a ≤ 2 * t.val + 1)
    (hn : k0_chk1 t (BitVec.ofNat 32 a)) (h : Inv X t.val (2 * t.val + 2 - 4 * a) s) :
    Inv X t.val (2 * t.val + 2 - 4 * (a + 1)) (tripAcc t q ue xk xv (BitVec.ofNat 32 a) hn s) := by
  have ht := PI.trips_lt t
  have hw := fun r => PI.start_word t ⟨a, by omega⟩ r ha
  have ho := fun r => off3_eq t ⟨a, by omega⟩ r ha
  simp only [Nat.sub_sub] at hw ho
  simp only [← Nat.sub_sub] at hw ho
  have h0 := any_inv hq hu hk hv _ (4 * a + 0) (by rw [hw 0, Nat.sub_sub]; rfl) (inb := k0_off3_inb t _ hn 0) ((ho 0).trans (by rw [Nat.sub_sub]; rfl)) h
  have h1 := any_inv hq hu hk hv _ (4 * a + 1) (by rw [hw 1, Nat.sub_sub]; rfl) (inb := k0_off3_inb t _ hn 1) ((ho 1).trans (by rw [Nat.sub_sub]; rfl)) h0
  have h2 := any_inv hq hu hk hv _ (4 * a + 2) (by rw [hw 2, Nat.sub_sub]; rfl) (inb := k0_off3_inb t _ hn 2) ((ho 2).trans (by rw [Nat.sub_sub]; rfl)) h1
  exact any_inv hq hu hk hv _ (4 * a + 3) (by rw [hw 3, Nat.sub_sub]; rfl) (inb := k0_off3_inb t _ hn 3) ((ho 3).trans (by rw [Nat.sub_sub]; rfl)) h2

/-- Rows that are all real have weight left. -/
theorem alive_of_inv {N : ℕ} (h : Inv X t.val N s) : Scalar.cmpi .sgt (aliveOf s.m) 0#32 = 1#1 := by
  have hd : (Named.named (F := Ideal) κ "dead" 0xC2D00000#32 : Ideal .f32) = (⊥ : EReal) := by
    rfl
  pointwise [aliveOf, k0_pay4]
  rw [hd]
  have : (⊥ : EReal) < Finset.fold max (Ideal.ofBits FTy.f32 4286578688#32) (fun x : Fin 512 × Fin 128 => s.m (ix2 x.1 x.2)) Finset.univ := by
    rw [Finset.lt_fold_max]
    refine .inr ⟨(0, 0), Finset.mem_univ _, ?_⟩
    rw [h.m]; exact EReal.bot_lt_coe _
  rw [decide_eq_true this]; rfl

/-- A step of the walk that takes the values as a trip does ends at the first key. -/
theorem walk_inv (hq : IsQ X t.val q) (hu : IsUe ue) (hk : Is xk X.k) (hv : Is xv X.v)
    {step : (n : BitVec 32) → k0_chk1 t n → St Ideal → St Ideal}
    (hs : ∀ n hn (s : Acc Ideal), step n hn s.st = (tripAcc t q ue xk xv n hn s).st) :
    ∀ (k a : ℕ) (s : Acc Ideal), a + k = 17 → Inv X t.val (2 * t.val + 2 - 4 * a) s →
      ∃ e : Acc Ideal, walk t step k a s.st = e.st ∧ Inv X t.val 0 e
  | 0, a, s, hka, h => by
    have ht := PI.trips_lt t
    rw [walk]; rw [show 2 * t.val + 2 - 4 * a = 0 by omega] at h
    exact ⟨s, rfl, h⟩
  | k + 1, a, s, hka, h => by
    have ht := PI.trips_lt t
    rw [walk]
    by_cases ha : 4 * a ≤ 2 * t.val + 1
    · have hl : left t (BitVec.ofNat 32 a) := (PI.left_iff t ⟨a, by omega⟩).2 ha
      have hg : going t (BitVec.ofNat 32 a) s.st.alive := by
        have hal : Scalar.cmpi .sgt s.st.alive 0#32 = 1#1 := alive_of_inv h
        unfold going; unfold left at hl; rw [hal, show Scalar.cmpi .sle (Scalar.muli (BitVec.ofNat 32 a) 4#32) _ = 1#1 from hl]; rfl
      have hc := chk_of_left t ⟨a, by omega⟩ hl
      rw [if_pos hg, dif_pos hc, hs]
      exact walk_inv hq hu hk hv hs k (a + 1) _ (by omega) (trip_inv hq hu hk hv a ha hc h)
    · rw [show 2 * t.val + 2 - 4 * a = 0 by omega] at h
      by_cases hg : going t (BitVec.ofNat 32 a) s.st.alive
      · have hl := left_of_going t hg
        exact absurd ((PI.left_iff t ⟨a, by omega⟩).1 hl) ha
      · rw [if_neg hg]; exact ⟨s, rfl, h⟩

end Cert.Proof.SI
-- ==== Proof.SI.Loop.lean ====
/-
  The forward loop over the query blocks and the body around it.
-/
module

public import proofs.«01_k».proof.Proof.SI.Trip

@[expose] public section

noncomputable section

namespace Cert.Proof.SI

open Cert.Kernel4Ideal Cert.Kernel4Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

theorem trips_eq : k0_t1_loop.trips = 32 := rfl

/-- Row `y` is a row of tile `r` of block `t`. -/
theorem mem_rc1 (t : Fin k0_t1_loop.trips) (r : Fin 2) (y : S8192x128.Idx) :
    y ∈ (rc1 t r).set ↔ 256 * t.val + 128 * r.val ≤ (y 0).val ∧ (y 0).val < 256 * t.val + 128 * r.val + 128 := by
  rw [Rect.mem_set_unit, Fin.forall_fin_two, k0_off1_eq]
  have h1 := (y 1).isLt
  change (y 1).val < 128 at h1
  constructor
  · intro h; exact h.1
  · intro h; exact ⟨h, Nat.zero_le _, by simpa using h1⟩

/-- Inside the block the rest of the array does not matter. -/
theorem overlay2_in (t : Fin k0_t1_loop.trips) {α : Type} (d d' : S8192x128.Idx → α) (a : (rc1 t 0).shape.Idx → α) (b : (rc1 t 1).shape.Idx → α)
    (y : S8192x128.Idx) (hy : (y 0).val / 256 = t.val) :
    (rc1 t 1).overlay ((rc1 t 0).overlay d a) b y = (rc1 t 1).overlay ((rc1 t 0).overlay d' a) b y := by
  by_cases h1 : y ∈ (rc1 t 1).set
  · unfold Rect.overlay
    obtain ⟨z, hz⟩ : ∃ z, (rc1 t 1).emb z = y := by
      rw [← Rect.map_emb_univ] at h1; obtain ⟨z, -, hz⟩ := Finset.mem_map.mp h1; exact ⟨z, hz⟩
    subst hz; rw [preimage?_emb]
  · rw [Rect.overlay_of_not_mem _ _ _ h1, Rect.overlay_of_not_mem _ _ _ h1]
    have h0 : y ∈ (rc1 t 0).set := by
      rw [mem_rc1] at h1 ⊢
      simp only [Fin.val_zero, Fin.val_one] at h1 ⊢
      omega
    obtain ⟨z, hz⟩ : ∃ z, (rc1 t 0).emb z = y := by
      rw [← Rect.map_emb_univ] at h0; obtain ⟨z, -, hz⟩ := Finset.mem_map.mp h0; exact ⟨z, hz⟩
    subst hz; rw [Rect.overlay_emb, Rect.overlay_emb]

/-- Outside the block the array is as it was. -/
theorem overlay2_out (t : Fin k0_t1_loop.trips) {α : Type} (d : S8192x128.Idx → α) (a : (rc1 t 0).shape.Idx → α) (b : (rc1 t 1).shape.Idx → α)
    (y : S8192x128.Idx) (hy : (y 0).val / 256 ≠ t.val) :
    (rc1 t 1).overlay ((rc1 t 0).overlay d a) b y = d y := by
  rw [Rect.overlay_of_not_mem, Rect.overlay_of_not_mem] <;> rw [mem_rc1] <;> simp only [Fin.val_zero, Fin.val_one] <;> omega

variable (c : Dev nD) (i : grid0.Coords)
  (arg1 : Memref sig .tc .vmem S8192x128 .bf16) (harg1 : arg1.IsWhole) (arg2 : Memref sig .tc .vmem S8192x128 .bf16) (harg2 : arg2.IsWhole)
  (arg3 : Memref sig .tc .vmem S8192x128 .bf16) (harg3 : arg3.IsWhole) (arg4 : Memref sig .tc .vmem S8192x128 .f32) (harg4 : arg4.IsWhole)
  (x : Ins F)

/-- The state block `t` ends with. -/
def endAt (t : Fin k0_t1_loop.trips) : St F :=
  endOf c i arg2 harg2 arg3 harg3 t x (blockRun c i arg1 harg1 arg2 harg2 arg3 harg3 arg4 harg4 t x).1

/-- The rows block `t` writes of the output, over any array. -/
abbrev putOut (t : Fin k0_t1_loop.trips) (d : Vec F S8192x128 .f32) (s : St F) : Vec F S8192x128 .f32 :=
  (rc1 t 1).overlay ((rc1 t 0).overlay d (k0_pay5 s.acc)) (k0_pay6 s.acc)

/-- Any array, to write the rows over. -/
abbrev blank : Vec F S8192x128 .f32 := broadcast S8192x128 (Scalar.ofBits .f32 0x00000000#32)

/-- The output. -/
def outAt : Vec F S8192x128 .f32 := fun y =>
  putOut ⟨(y 0).val / 256, by have := (y 0).isLt; change (y 0).val < 8192 at this; rw [trips_eq]; omega⟩ blank
    (endAt c i arg1 harg1 arg2 harg2 arg3 harg3 arg4 harg4 x
      ⟨(y 0).val / 256, by have := (y 0).isLt; change (y 0).val < 8192 at this; rw [trips_eq]; omega⟩) y

/-- What the loop keeps before block `k`. -/
def loopInv (k : ℕ) (_ : Unit) : sProp 𝕄 :=
  iprop(∃ d : Vec F S8192x128 .f32,
    ⌜∀ y : S8192x128.Idx, (y 0).val < 256 * k → d y = outAt c i arg1 harg1 arg2 harg2 arg3 harg3 arg4 harg4 x y⌝
    ∗ heldB c arg1 arg2 arg3 arg4 x d)

/-- The rows below block `t + 1` after block `t`. -/
theorem putOut_rows (t : Fin k0_t1_loop.trips) (d : Vec F S8192x128 .f32)
    (hd : ∀ y : S8192x128.Idx, (y 0).val < 256 * t.val → d y = outAt c i arg1 harg1 arg2 harg2 arg3 harg3 arg4 harg4 x y)
    (y : S8192x128.Idx) (hy : (y 0).val < 256 * (t.val + 1)) :
    putOut t d (endAt c i arg1 harg1 arg2 harg2 arg3 harg3 arg4 harg4 x t) y = outAt c i arg1 harg1 arg2 harg2 arg3 harg3 arg4 harg4 x y := by
  by_cases ht : (y 0).val / 256 = t.val
  · unfold outAt
    have e : (⟨(y 0).val / 256, by have := (y 0).isLt; change (y 0).val < 8192 at this; rw [trips_eq]; omega⟩ : Fin k0_t1_loop.trips) = t := Fin.ext ht
    rw [e]
    exact overlay2_in t _ _ _ _ y ht
  · exact (overlay2_out t _ _ _ y ht).trans (hd y (by omega))

/-- One block keeps it. -/
theorem loop_step (E : Set ℕ) (t : Fin k0_t1_loop.trips) (acc : Unit) :
    loopInv c i arg1 harg1 arg2 harg2 arg3 harg3 arg4 harg4 x t.val acc
      ⊢ wp frame (wpE (defs₀ (F := F)) 𝒱₀ (c : Thread nD τ) none) E
        (k0_t1_body i arg1 harg1 arg2 harg2 arg3 harg3 arg4 harg4 t acc)
        (loopInv c i arg1 harg1 arg2 harg2 arg3 harg3 arg4 harg4 x (t.val + 1)) := by
  conv_lhs => unfold loopInv
  iintro ⟨%d, %hd, H⟩
  iapply ((blockRun c i arg1 harg1 arg2 harg2 arg3 harg3 arg4 harg4 t x).2 E d _)
  isplitl [H]; · iexact H
  iintro H
  unfold loopInv
  iexists _
  isplitr
  swap; · iexact H
  ipureintro
  exact putOut_rows c i arg1 harg1 arg2 harg2 arg3 harg3 arg4 harg4 x t d hd

/-- The body. -/
theorem bodyRun (E : Set ℕ) (K : PUnit → sProp 𝕄) (d : Vec F S8192x128 .f32) :
    iprop(heldB c arg1 arg2 arg3 arg4 x d
        ∗ (heldB c arg1 arg2 arg3 arg4 x (outAt c i arg1 harg1 arg2 harg2 arg3 harg3 arg4 harg4 x) -∗ K ⟨⟩))
      ⊢ wp frame (wpE (defs₀ (F := F)) 𝒱₀ (c : Thread nD τ) none) E
        (cc0_sb_fwd i arg1 harg1 arg2 harg2 arg3 harg3 arg4 harg4) K := by
  rw [cc0_sb_fwd_eq_skeleton]; unfold cc0_sb_fwd_skel
  simp only [Prog.lift, Prog.bind_op, Prog.bind_ret, Prog.pure_eq_ret]
  iintro ⟨H, Hk⟩
  iapply (Scf.wp_for_bind frame (wpE (defs₀ (F := F)) 𝒱₀ (c : Thread nD τ) none) E k0_t1_loop.lb k0_t1_loop.ub k0_t1_loop.st k0_t1_ok _ _
    (loopInv c i arg1 harg1 arg2 harg2 arg3 harg3 arg4 harg4 x)
    (loop_step c i arg1 harg1 arg2 harg2 arg3 harg3 arg4 harg4 x E)) $$ [H]
  · unfold loopInv
    iexists d
    isplitr; · ipureintro; intro y hy; omega
    iexact H
  unfold loopInv
  iintro %acc ⟨%d', %hd', H⟩
  have e : d' = outAt c i arg1 harg1 arg2 harg2 arg3 harg3 arg4 harg4 x := by
    funext y; exact hd' y (by have := (y 0).isLt; change (y 0).val < 8192 at this; change (y 0).val < 256 * 32; omega)
  subst e
  rw [wp_ret]
  imodintro
  iapply Hk
  iexact H

end Cert.Proof.SI
-- ==== Proof.SI.HeadInv.lean ====
/-
  The peeled trip of the forward walk takes the sums from the row's own tile on; a block's walk takes them from the first key.
-/
module

public import proofs.«01_k».proof.Proof.SI.HeadRun
public import proofs.«01_k».proof.Proof.SI.Inv
public import proofs.«01_k».proof.Proof.SI.Loop
public import proofs.«01_k».proof.Proof.PI.HeadInv

@[expose] public section

set_option maxRecDepth 16384

noncomputable section

namespace Cert.Proof.SI

open Cert.Kernel4Ideal Cert.Kernel4Ideal.Gen
open Idealize.ShloMosaic
open Idealize.ShloMosaic.TcCoe
open PI (RIn rQ rL rW pos later Is IsUe)

variable {X : RIn} {x : Ins Ideal} {t : Fin k0_t1_loop.trips}

/-- The three blocks are real ones. -/
structure IsIns (X : RIn) (x : Ins Ideal) : Prop where
  q : Is x.q X.q
  k : Is x.k X.k
  v : Is x.v X.v

/-- The suffix matrix is that of the backward walk. -/
theorem ue_is : IsUe (k0_pay1 (F := Ideal)) := PI.ue_at

theorem ld1 (y : Vec Ideal S8192x128 .bf16) (t : Fin k0_t1_loop.trips) (r : Fin 2) (l c : Fin 128) :
    View.ld y (rc1 t r) (ix2 l c) = y (ix2 (⟨128 * (2 * t.val + r.val) + l.val, by have := PI.trips_lt t; omega⟩ : Fin 8192) c) :=
  PI.ld_rows y _ (k0_off1_inb t r) (2 * t.val + r.val) (by have := PI.trips_lt t; omega) (PI.off1_eq t r) l c

/-- The stacked queries are the real ones. -/
theorem hQ_is (h : IsIns X x) : IsQ X t.val (hQ t x) := fun r c => by
  have e0 : ∀ l : Fin 128, 128 * (2 * t.val + (0 : Fin 2).val) + l.val = 256 * t.val + l.val := fun l => by simp; omega
  have e1 : ∀ l : Fin 128, 128 * (2 * t.val + (1 : Fin 2).val) + l.val = 256 * t.val + 128 + l.val := fun l => by simp; omega
  exact PI.stackQ_at (A := X.q) (t := t) (fun l c => by rw [ld1, h.q]; simp only [e0]) (fun l c => by rw [ld1, h.q]; simp only [e1]) r c

theorem acc0_inv (hx : IsIns X x) : Inv X t.val (2 * t.val + 1) (acc0 t x) := by
  have ht := PI.trips_lt t
  have hj : 2 * t.val + 1 < 64 := by omega
  have ho : k0_off2 t (BitVec.ofNat 32 (0 : Fin 4).val) = ![128 * (2 * t.val + 1), 0] := PI.off2_eq t 0
  have hK : ∀ l c, View.ld x.k (rc2 t 0) (ix2 l c) = ((til X.k (2 * t.val + 1) l c : ℝ) : EReal) := fun l c => by
    rw [PI.ld_rows x.k _ (k0_off2_inb t 0) _ hj ho, hx.k]
  have hV : ∀ l c, View.ld x.v (rc2 t 0) (ix2 l c) = ((til X.v (2 * t.val + 1) l c : ℝ) : EReal) := fun l c => by
    rw [PI.ld_rows x.v _ (k0_off2_inb t 0) _ hj ho, hx.v]
  have zL : ∀ r : Fin 256, tail (rL X t (later r)) (128 * (2 * t.val + 1 + 1)) = 0 := fun r =>
    tail_L_zero _ _ _ _ (by rw [PI.pos_later]; omega)
  have hq := fun r : Fin 256 => hQ_is (t := t) hx (later r)
  have hw := fun r => PI.w0_at (hq r) hK (PI.val0_at (t := t) r) PI.ue_at
  have hm := fun r => PI.m0_at (hq r) hK (PI.val0_at (t := t) r) PI.ue_at
  have ew : ∀ r l, Row.w (rQ X t (later r)) (til X.k (2 * t.val + 1)) (tok (pos t (later r)) (2 * t.val + 1)) 0 l
      = rW X t (later r) (128 * (2 * t.val + 1) + l.val) := fun r l => by
    have := row_w (rQ X t (later r)) X.k (pos t (later r)) _ hj l
    rwa [zL] at this
  have em := fun r => row_m (rQ X t (later r)) X.k (pos t (later r)) _ hj
  simp only [zL, zero_add] at em
  simp only [ew] at hw
  simp only [em] at hm
  have front : ∀ r : Fin 512, ¬ r.val < 256 → r = later ⟨r.val - 256, by omega⟩ := fun r h => by
    apply Fin.ext; show r.val = 256 + (r.val - 256); omega
  refine ⟨fun r l => ?_, fun r c => ?_⟩
  · refine (PI.front_m _ r l).trans ?_
    split_ifs with h
    · rw [tail_L_zero _ _ _ _ (PI.pos_front h)]; rfl
    · refine (hm _ l).trans ?_
      rw [← front r h]
  · by_cases h : r.val < 256
    · have : tail (fun u => rW X t r u * X.v u c) (128 * (2 * t.val + 1)) = 0 := Finset.sum_eq_zero fun u hu => by
        rw [rW, W_zero _ _ _ _ (le_trans (PI.pos_front h) (Finset.mem_Ico.1 hu).1), zero_mul]
      rw [this]; exact PI.front_dq _ _ r c h
    · rw [front r h]
      refine (PI.dq0_at (hw _) hV c).trans ?_
      have z : tail (fun u => rW X t (later ⟨r.val - 256, by omega⟩) u * X.v u c) (128 * (2 * t.val + 1 + 1)) = 0 :=
        Finset.sum_eq_zero fun u hu => by
          rw [rW, W_zero _ _ _ _ (by have := (Finset.mem_Ico.1 hu).1; rw [PI.pos_later]; omega), zero_mul]
      rw [tail_tile _ _ hj, z, zero_add]

/-- The peeled trip. -/
theorem headAcc_inv (hx : IsIns X x) : Inv X t.val (2 * t.val + 2 - 4 * 1) (headAcc t x) := by
  have hq := hQ_is (t := t) hx
  have h1 := any_inv hq ue_is hx.k hx.v _ 1 (PI.head_word t 1) (inb := k0_off2_inb t 1) (PI.off2_eq t 1) (acc0_inv hx)
  have h2 := any_inv hq ue_is hx.k hx.v _ 2 (PI.head_word t 2) (inb := k0_off2_inb t 2) (PI.off2_eq t 2) h1
  exact any_inv hq ue_is hx.k hx.v _ 3 (PI.head_word t 3) (inb := k0_off2_inb t 3) (PI.off2_eq t 3) h2

variable (c : Dev nD) (i : grid0.Coords)
  (arg1 : Memref sig .tc .vmem S8192x128 .bf16) (harg1 : arg1.IsWhole) (arg2 : Memref sig .tc .vmem S8192x128 .bf16) (harg2 : arg2.IsWhole)
  (arg3 : Memref sig .tc .vmem S8192x128 .bf16) (harg3 : arg3.IsWhole) (arg4 : Memref sig .tc .vmem S8192x128 .f32) (harg4 : arg4.IsWhole)

/-- A whole block. -/
theorem endAt_inv (hx : IsIns X x) :
    ∃ e : Acc Ideal, endAt c i arg1 harg1 arg2 harg2 arg3 harg3 arg4 harg4 x t = e.st ∧ Inv X t.val 0 e := by
  rw [endAt, blockRun_val]
  unfold endOf
  exact walk_inv (hQ_is hx) ue_is hx.k hx.v (fun n hn s => tripRun_val ..) 16 1 _ rfl (headAcc_inv hx)

end Cert.Proof.SI
-- ==== Proof.SI.OutVal.lean ====
/-
  The output of the forward kernel, over the reals.
-/
module

public import proofs.«01_k».proof.Proof.SI.HeadInv
public import proofs.«01_k».proof.Proof.PI.OutVal

@[expose] public section

set_option maxRecDepth 16384

noncomputable section

namespace Cert.Proof.SI

open Cert.Kernel4Ideal Cert.Kernel4Ideal.Gen
open Idealize.ShloMosaic
open Idealize.ShloMosaic.TcCoe
open PI (RIn HW hd pos keyAt)

variable {X : RIn} {x : Ins Ideal}

/-- The rows a block writes. -/
theorem putOut_at {t : Fin k0_t1_loop.trips} {s : Acc Ideal} (h : Inv X t.val 0 s) (d : Vec Ideal S8192x128 .f32)
    (P : Fin 8192) (hP : P.val / 256 = t.val) (l : Fin 128) :
    putOut t d s.st (ix2 P l) = ((∑ u ∈ Finset.range 8192, HW X P.val (l.val / 64) u * X.v u l : ℝ) : EReal) := by
  have hl := l.isLt
  have ht := PI.trips_lt t
  have key : ∀ r : Fin 512, pos t r = P.val → hd r = l.val / 64 →
      s.acc (ix2 r l) = ((∑ u ∈ Finset.range 8192, HW X P.val (l.val / 64) u * X.v u l : ℝ) : EReal) := fun r h1 h2 => by
    rw [h.acc, Nat.mul_zero, tail, ← Finset.range_eq_Ico, ← h1, ← h2]; rfl
  by_cases h2 : 128 * (2 * t.val + 1) ≤ P.val ∧ P.val < 128 * (2 * t.val + 1) + 128
  · have e : P = keyAt (2 * t.val + 1) (by omega) ⟨P.val - 128 * (2 * t.val + 1), by omega⟩ :=
      Fin.ext (by show P.val = 128 * (2 * t.val + 1) + (P.val - 128 * (2 * t.val + 1)); omega)
    refine Eq.trans (congrArg (fun P => putOut t d s.st (ix2 P l)) e) ((PI.overlay_in _ _ (k0_off1_inb t 1) _ (2 * t.val + 1) (by omega) (PI.off1_eq t 1) _ l).trans
      ((PI.pay101_at _ _ l).trans (key _ ?_ ?_)))
    · unfold pos; simp only; omega
    · unfold hd; simp only; omega
  · refine (PI.overlay_out _ _ (k0_off1_inb t 1) _ (2 * t.val + 1) (PI.off1_eq t 1) P l h2).trans ?_
    have e : P = keyAt (2 * t.val) (by omega) ⟨P.val - 128 * (2 * t.val), by omega⟩ :=
      Fin.ext (by show P.val = 128 * (2 * t.val) + (P.val - 128 * (2 * t.val)); omega)
    refine Eq.trans (congrArg (fun P => (rc1 t 0).overlay d (k0_pay5 s.acc) (ix2 P l)) e)
      ((PI.overlay_in _ _ (k0_off1_inb t 0) _ (2 * t.val) (by omega) (PI.off1_eq t 0) _ l).trans ((PI.pay100_at _ _ l).trans (key _ ?_ ?_)))
    · unfold pos; simp only; omega
    · unfold hd; simp only; omega

variable (c : Dev nD) (i : grid0.Coords)
  (arg1 : Memref sig .tc .vmem S8192x128 .bf16) (harg1 : arg1.IsWhole) (arg2 : Memref sig .tc .vmem S8192x128 .bf16) (harg2 : arg2.IsWhole)
  (arg3 : Memref sig .tc .vmem S8192x128 .bf16) (harg3 : arg3.IsWhole) (arg4 : Memref sig .tc .vmem S8192x128 .f32) (harg4 : arg4.IsWhole)

theorem outAt_at (hx : IsIns X x) (P : Fin 8192) (l : Fin 128) :
    outAt c i arg1 harg1 arg2 harg2 arg3 harg3 arg4 harg4 x (ix2 P l)
      = ((∑ u ∈ Finset.range 8192, HW X P.val (l.val / 64) u * X.v u l : ℝ) : EReal) := by
  have hP := P.isLt
  obtain ⟨e, he, h⟩ := endAt_inv c i arg1 harg1 arg2 harg2 arg3 harg3 arg4 harg4 (t := ⟨P.val / 256, by rw [trips_eq]; omega⟩) hx
  exact (congrArg (fun s => putOut ⟨P.val / 256, by rw [trips_eq]; omega⟩ blank s (ix2 P l)) he).trans (putOut_at h _ P rfl l)

end Cert.Proof.SI
-- ==== Proof.SI.Setup.lean ====
/-
  The forward kernel's launch: what the region finds, and the blocks its windows hold.
-/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.SI

open Cert.Kernel4Ideal Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the region finds in core `c`'s buffers: the memory as launched. -/
abbrev V (c : Dev nD) (b : Ref sig .tc) : Buf (Elt F) ((c : Thread nD τ).loc b) := m ((c : Thread nD τ).loc b)

set_option maxHeartbeats 800000 in
/-- The program is the region. -/
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_region (cfgs (F := F)) 0 defs₀ 𝒱₀ m main fun c => (main_chain c).trans rfl

theorem V_main_arg0 (c : Dev nD) : V m c main_arg0 = m ((c : Thread nD τ).loc main_arg0) := rfl

/-! ## The windows' blocks -/

/-- Window `w`'s block at point `t`, read off its array as the region finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Input window 0's buffer holds its block at every point. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The argument ends as it was, from a run of the pipeline. -/
theorem frame_of (dats : (p : Fin 1) → (c : Dev nD) → Dat τ (Elt F) Unit ℕ (UR sig nD τ) ℕ ((cfgs (F := F)) p) c)
    (hA : ∀ c w, (dats 0 c).A w = V m c (Pipeline.arrRef spec0 w))
    (h : θ_run defs (onTc (τ := τ) (main (F := F))) (s₀ m ρ) (Pipeline.FramePost (cfgs (F := F)) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 2).trans (((dats 0 c).arrAt_in 2 rfl _).trans ((hA c 2).trans (V_main_arg0 m c)))) h

/-- Each window's current staging memref at point `t`, and its wholeness. -/
abbrev ms0_0 (t : Fin (cfg0 (F := F)).N) : Memref sig .tc .vmem S8192x128 .bf16 := win0_0.stage ((cfg0 (F := F)).slots t 0)
abbrev hs0_0 (t : Fin (cfg0 (F := F)).N) : (ms0_0 t).IsWhole := hstage0_0 (((cfg0 (F := F)).slots t 0).cast nbuf0_0)
abbrev ms0_1 (t : Fin (cfg0 (F := F)).N) : Memref sig .tc .vmem S8192x128 .bf16 := win0_1.stage ((cfg0 (F := F)).slots t 1)
abbrev hs0_1 (t : Fin (cfg0 (F := F)).N) : (ms0_1 t).IsWhole := hstage0_1 (((cfg0 (F := F)).slots t 1).cast nbuf0_1)
abbrev ms0_2 (t : Fin (cfg0 (F := F)).N) : Memref sig .tc .vmem S8192x128 .bf16 := win0_2.stage ((cfg0 (F := F)).slots t 2)
abbrev hs0_2 (t : Fin (cfg0 (F := F)).N) : (ms0_2 t).IsWhole := hstage0_2 (((cfg0 (F := F)).slots t 2).cast nbuf0_2)
abbrev ms0_3 (t : Fin (cfg0 (F := F)).N) : Memref sig .tc .vmem S8192x128 .f32 := win0_3.stage ((cfg0 (F := F)).slots t 3)
abbrev hs0_3 (t : Fin (cfg0 (F := F)).N) : (ms0_3 t).IsWhole := hstage0_3 (((cfg0 (F := F)).slots t 3).cast nbuf0_3)

end Cert.Proof.SI
-- ==== Proof.SI.Run.lean ====
/-
  The run of the whole forward program, and its frame.
-/
module

public import proofs.«01_k».proof.Proof.SI.Loop
public import proofs.«01_k».proof.Proof.SI.Setup
public import Idealize.ShloMosaic.Lib.Claim

@[expose] public section

set_option maxRecDepth 16384

noncomputable section

namespace Cert.Proof.SI

open Cert.Kernel4Ideal Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The input blocks at point `t`. -/
def insAt (c : Dev nD) (t : Fin (cfg0 (F := F)).N) : Ins F := ⟨iblk m c 0 t, iblk m c 1 t, iblk m c 2 t⟩

/-- The output's block after point `t`. -/
def res3 (c : Dev nD) (t : Fin (cfg0 (F := F)).N) : Vec F S8192x128 .f32 :=
  outAt c (grid0.coords t) (ms0_0 t) (hs0_0 t) (ms0_1 t) (hs0_1 t) (ms0_2 t) (hs0_2 t) (ms0_3 t) (hs0_3 t) (insAt m c t)

/-! ## The pipeline's proof data -/

/-- The pipeline's data on core `c`: inputs keep their blocks, the output ends at the body's result. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => res3 m c t
  Φ _ := Pipeline.ΦA spec0 c
  q w := Pipeline.shareOf spec0 w
  owed _ := 0

/-- The data's arrays are what the region finds. -/
theorem A_eq (c : Dev nD) (w : Fin (cfg0 (F := F)).W) : (dats m 0 c).A w = V m c (Pipeline.arrRef spec0 w) := by
  dsimp only [dats]

/-- What the body leaves, window by window. -/
theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = res3 m c t := rfl

/-- Each input's current staging buffer holds its block at every point, fetched there or not. -/
theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d

/-! ## The body obligation, at a generic point -/

/-- What the body is called with at point `t` (the windows one by one), -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
/-- The body at any point. -/
theorem sound_body (c : Dev nD) (t : Fin (cfg0 (F := F)).N) :
    bodyPre m c t ⊢ wp Idealize.ShloMosaic.frame (wpE (defs₀ (F := F)) 𝒱₀ c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨Hφ, Ho, ⟨%d0, H0⟩, ⟨%d1, H1⟩, ⟨%d2, H2⟩, ⟨%d3, H3⟩⟩
  iapply (bodyRun c (grid0.coords t) (ms0_0 t) (hs0_0 t) (ms0_1 t) (hs0_1 t) (ms0_2 t) (hs0_2 t) (ms0_3 t) (hs0_3 t)
    (insAt m c t) Set.univ _ _)
  unfold heldB
  isplitl [H0 H1 H2 H3]
  · isplitl [H0]; · iexact H0
    isplitl [H1]; · iexact H1
    isplitl [H2]; · iexact H2
    iexact H3
  iintro ⟨H0, H1, H2, H3⟩
  isplitl [Hφ]; · iexact Hφ
  isplitl [Ho]; · iexact Ho
  isplitl [H0]; · iexact H0
  isplitl [H1]; · iexact H1
  isplitl [H2]; · iexact H2
  iexact H3

/-- The body table's row at point `t`'s slots is the body as `bodyAt0` spells it. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation, at every point: the body's triple restated. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run and the frame -/

set_option backward.isDefEq.respectTransparency.types false in
/-- The launch: every array ends at what its data say, and every semaphore counter at zero. -/
theorem run_main_quiescent : θ_run defs (onTc (τ := τ) (main (F := F))) (s₀ m ρ) (fun r => (Pipeline.FramePost (cfgs (F := F)) (dats m) 0 (V m)) r ∧ r.2.sem = fun _ => 0) :=
  Pipeline.θ_run_frame_shared (Q' := _) (cfgs (F := F)) (dats m) (0 : Fin 1) launch₀0 defs₀ 𝒱₀ m ρ main
    (hbody := fun c => (body_obligation m c).loose) (hq := fun _ _ _ => rfl)
    (howed := fun _ _ => rfl) (V := V m) (hmain := hmain m 𝒱₀) (hA := A_eq m) (hΦ := fun _ _ => rfl)

/-- The run: every array of the pipeline ends at what its data say, every other buffer as the region found it. -/
theorem run_main : θ_run defs (onTc (τ := τ) (main (F := F))) (s₀ m ρ) (Pipeline.FramePost (cfgs (F := F)) (dats m) 0 (V m)) :=
  (θ_run defs _ _).mono (fun _ h => h.1) (run_main_quiescent m ρ)

/-- `frame` without the counters: the argument array ends unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- The frame: the program ends, its argument unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.Proof.SI
-- ==== Proof.SI.Value.lean ====
/-
  The forward kernel's output is the reference's.
-/
module

public import proofs.«01_k».proof.Proof.HostVal
public import proofs.«01_k».proof.Proof.SI.OutVal
public import proofs.«01_k».proof.Proof.SI.Run
public import Idealize.ShloMosaic.Lib.Pipeline.ValueKit

@[expose] public section

set_option maxRecDepth 16384

noncomputable section

namespace Cert.Proof.SI

open Cert.Kernel4Ideal Cert.Kernel4Ideal.Gen
open Idealize.ShloMosaic Idealize.SL.Sem
open Idealize.ShloMosaic.TcCoe
open Idealize.ShloMosaic.Pipeline (Dat)
open PI (Is)

variable (m : (ℓ : Loc nD τ sig) → Buf (Elt Ideal) ℓ) (c : Dev nD)

theorem idx : ∀ t : Fin (cfg0 (F := Ideal)).N, win0_0.index t = ![0, t.val] ∧ win0_1.index t = ![0, 4 + t.val] ∧ win0_2.index t = ![0, 8 + t.val]
    ∧ win0_3.index t = ![0, t.val] :=
  (by decide +kernel : ∀ t : Fin grid0.N, _)

theorem trips : (cfg0 (F := Ideal)).N = 4 := by decide +kernel

/-- The array handed to the kernel. -/
abbrev arg0 : FVec Ideal S8192x3072 .bf16 := m ((c : Thread nD τ).loc main_arg0)

variable {m c} {A : ℕ → ℕ → ℝ}
variable (ha : ∀ (P : Fin 8192) (j : Fin 3072), arg0 m c (ix2 P j) = ((A P.val j.val : ℝ) : EReal))

/-- A pair as a point of the grid. -/
def pt (t : Fin (cfg0 (F := Ideal)).N) : Fin 4 := ⟨t.val, trips ▸ t.isLt⟩

theorem q_at (t : Fin (cfg0 (F := Ideal)).N) (u : Fin 8192) (l : Fin 128) :
    iblk m c 0 t (ix2 u l) = arg0 m c (ix2 u (⟨128 * (pt t).val + l.val, by omega⟩ : Fin 3072)) := by
  blk_ext [iblk, V_main_arg0, idx t, pt]
theorem k_at (t : Fin (cfg0 (F := Ideal)).N) (u : Fin 8192) (l : Fin 128) :
    iblk m c 1 t (ix2 u l) = arg0 m c (ix2 u (⟨512 + (128 * (pt t).val + l.val), by omega⟩ : Fin 3072)) := by
  blk_ext [iblk, V_main_arg0, idx t, pt]
theorem v_at (t : Fin (cfg0 (F := Ideal)).N) (u : Fin 8192) (l : Fin 128) :
    iblk m c 2 t (ix2 u l) = arg0 m c (ix2 u (⟨1024 + (128 * (pt t).val + l.val), by omega⟩ : Fin 3072)) := by
  blk_ext [iblk, V_main_arg0, idx t, pt]

/-- The pairs' columns; the output has no gradient here. -/
abbrev pairOf (A : ℕ → ℕ → ℝ) (g : ℕ) : PI.RIn := pair A (fun _ _ => 0) g

include ha in
/-- What the kernel is handed at a pair. -/
theorem insAt_is (t : Fin (cfg0 (F := Ideal)).N) : IsIns (pairOf A t.val) (insAt m c t) :=
  ⟨fun u l => (q_at t u l).trans (ha u _), fun u l => (k_at t u l).trans (ha u _), fun u l => (v_at t u l).trans (ha u _)⟩

include ha in
/-- The output. -/
theorem final3 : (dats m 0 c).arrAt 3 (cfgs (F := Ideal) 0).N = (Host.output (F := Ideal) (arg0 m c) : FVec Ideal S8192x512 .f32) := by
  refine (dats m 0 c).arrAt_eq_of_covers 3 _ (by decide +kernel) fun t _ y => ?_
  blk_simp
  rw [after0_3]
  obtain ⟨u, l, rfl⟩ : ∃ (u : Fin 8192) (l : Fin 128), y = ix2 u l := ⟨y 0, y 1, by funext a; match a with | ⟨0, _⟩ => rfl | ⟨1, _⟩ => rfl⟩
  have e : (win0_3.blk t).view.emb (ix2 u l) = ix2 u (⟨128 * (pt t).val + l.val, by omega⟩ : Fin 512) := by blk_ext [idx t, pt]
  rw [e, Host.output_at (B := fun _ _ => 0) ha u (pt t) l]
  exact outAt_at c _ _ _ _ _ _ _ _ _ (insAt_is ha t) u l

variable (m) (ρ : Dev nD → PrngReg)

/-- The argument holds reals. -/
def Real (c : Dev nD) : Prop := ∃ A : ℕ → ℕ → ℝ, ∀ (P : Fin 8192) (j : Fin 3072), arg0 m c (ix2 P j) = ((A P.val j.val : ℝ) : EReal)

/-- The result, -/
def vo (c : Dev nD) : Buf (Elt Ideal) ((c.tc : Thread nD τ).loc main_v0) := Host.output (F := Ideal) (arg0 m c)

variable {m} in
theorem arr3 {c : Dev nD} (h : Real m c) : (dats m 0 c).arrAt 3 (cfgs (F := Ideal) 0).N = vo m c := by
  obtain ⟨A, ha⟩ := h
  exact final3 ha

/-- as the run leaves it. -/
theorem run_value (h : ∀ c, Real m c) : θ_run defs (onTc (τ := τ) (main (F := Ideal))) ⟨m, fun _ => 0, ρ⟩ (fun r => ∀ c : Dev nD,
      r.2.mem ((c.tc : Thread nD τ).loc main_v0) = vo m c
      ∧ r.2.mem ((c.tc : Thread nD τ).loc main_arg0) = m ((c.tc : Thread nD τ).loc main_arg0)) :=
  (θ_run defs _ _).mono (fun _ hr c => ⟨((hr.1 c).1 3).trans (arr3 (h c)), hr.2 c⟩)
    (θ_run_and (run_main m ρ) (unchanged m ρ))

end Cert.Proof.SI
-- ==== Proof.SI.Algebraic.lean ====
/-
  The forward kernel's output and the reference's are the same.
-/
module

public import proofs.«01_k».proof.Defs
public import proofs.«01_k».proof.Proof.Finite
public import proofs.«01_k».proof.Proof.SI.Value
public import proofs.«01_k».proof.Proof.Gen.Reference4Ideal.Run
public import Idealize.ShloMosaic.Lib.Quiescent

@[expose] public section

set_option maxRecDepth 16384

noncomputable section

namespace Cert.Proof.SI

open Idealize.ShloMosaic Idealize.SL.Sem

theorem finite_facts : Cert.Pre_finite4.Facts := by
  constructor <;> decide

section Finite
open Cert.Pre_finite4
variable [Cert.Pre_finite4.Facts] {a : FVec Ideal S8192x3072 .bf16}

theorem real_at (h : fn (F := Ideal) a = fun _ => 1#1) (P : Fin 8192) (j : Fin 3072) : a (ix2 P j) = (((a (ix2 P j)).toReal : ℝ) : EReal) := by
  have := congrFun h (ix2 P j)
  pointwise [fn] at this
  exact coe_of_lt this
end Finite

/-- A finite argument holds reals. -/
theorem real_of_finite (m : (ℓ : Loc Cert.Kernel4Ideal.nD Cert.Kernel4Ideal.τ Cert.Kernel4Ideal.sig) → Buf (Elt Ideal) ℓ)
    (h : Cert.Pre_Kernel4Ideal_finite4 (hPre_finite4 := finite_facts) m) (c : Dev Cert.Kernel4Ideal.nD) : Real m c := by
  haveI := Cert.Proof.SI.finite_facts
  haveI := Cert.Proof.finite_facts
  exact exists_real (arg0 m c) (real_at (h c))

section Reference
open Cert.Reference4Ideal
variable (m : (ℓ : Loc nD τ sig) → Buf (Elt Ideal) ℓ) (g : Dev nD → PrngReg)

/-- The reference's result is the output the backward kernel's host computes. -/
theorem res_output (c : Dev nD) : Value.res_main_v30 m c = Host.output (F := Ideal) (m ((c.tc : Thread nD τ).loc main_arg0)) := rfl

/-- The reference runs, and leaves its argument and every counter as they were. -/
theorem reference_frame : θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0))
      ∧ r.2.sem = fun _ => 0) :=
  (θ_run _ _ _).mono (fun _ h => ⟨fun c => (h c).2, sem_eq_zero_of_no_sems (by decide) _⟩) (Cert.Reference4Ideal.Value.run m g)
end Reference

/-- On a finite argument the outputs end the same. -/
theorem algebraic : Cert.algebraic_Kernel4Ideal_Reference4Ideal_pre_finite4 (hPre_finite4 := finite_facts) := by
  intro m g m' g' hpre hagree
  refine ⟨vo m, run_value m g (real_of_finite m hpre), (θ_run _ _ _).mono (fun r h c => ?_) (Cert.Reference4Ideal.Value.run m' g')⟩
  refine ⟨((h c).1.trans (res_output m' c)).trans ?_, (h c).2⟩
  rw [hagree c]; rfl

end Cert.Proof.SI
-- ==== Proof.lean ====
/-
  The certificate.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Kernel5Ideal
public import proofs.«01_k».proof.Proof.Gen.Kernel5
public import proofs.«01_k».proof.Proof.E.Bits
public import proofs.«01_k».proof.Proof.E.Algebraic
public import proofs.«01_k».proof.Proof.Gen.Reference5Ideal
public import proofs.«01_k».proof.Proof.Gen.Reference5Ideal.Run
public import proofs.«01_k».proof.Proof.Gen.Reference4Ideal
public import proofs.«01_k».proof.Proof.Gen.Reference4Ideal.Run
public import proofs.«01_k».proof.Proof.P.Run
public import proofs.«01_k».proof.Proof.Algebraic
public import proofs.«01_k».proof.Proof.W.Algebraic
public import proofs.«01_k».proof.Proof.O.Algebraic
public import proofs.«01_k».proof.Proof.S.Run
public import proofs.«01_k».proof.Proof.SI.Algebraic
public import Idealize.ShloMosaic.Lib.Quiescent

@[expose] public section

noncomputable section

namespace Cert.Proof

open Idealize.ShloMosaic Idealize.SL.Sem

/-- The named constant is −∞. -/
theorem preserves : Cert.preserves_Kernel_KernelIdeal :=
  IdealRules.named_const.statement _ _ _ _ _ rfl

/-- And so it is in the forward kernel. -/
theorem preserves4 : Cert.preserves_Kernel4_Kernel4Ideal :=
  IdealRules.named_const.statement _ _ _ _ _ rfl

/-- The reference runs, and leaves its arguments and every counter as they were. -/
theorem ReferenceIdeal.frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run _ _ _).mono (fun _ h => ⟨fun c => (h c).2.2.2, sem_eq_zero_of_no_sems (by decide) _⟩) (Cert.ReferenceIdeal.Value.run m ρ)

section
open Cert.Reference5Ideal
/-- And so does the feed-forward block's. -/
theorem E.reference_frame (m : (ℓ : Loc nD τ sig) → Buf (Elt Ideal) ℓ) (ρ : Dev nD → PrngReg) :
    θ_run (defs (F := Ideal)) (onTc (τ := τ) (main (F := Ideal))) ⟨m, fun _ => 0, ρ⟩
      (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))
        ∧ r.2.sem = fun _ => 0) :=
  (θ_run _ _ _).mono (fun _ h => ⟨fun c => (h c).2.2.2.2.2, sem_eq_zero_of_no_sems (by decide) _⟩) (Cert.Reference5Ideal.Value.run m ρ)
end

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, finite_facts, SI.finite_facts, E.finite_facts,
  fun m ρ _ => P.frame m ρ, fun m ρ _ => PI.frame m ρ, fun m ρ _ => PI.frame m ρ, fun m ρ _ => ReferenceIdeal.frame m ρ,
  fun m ρ _ => ReferenceIdeal.frame m ρ, fun m ρ _ => Cert.Kernel2.Gen.frame m ρ, fun m ρ _ => Cert.Kernel2Ideal.Gen.frame m ρ,
  fun m ρ _ => W.reference_frame m ρ, fun m ρ _ => Cert.Kernel3.Gen.frame m ρ, fun m ρ _ => Cert.Kernel3Ideal.Gen.frame m ρ,
  fun m ρ _ => O.reference_frame m ρ, fun m ρ _ => S.frame m ρ, fun m ρ _ => SI.frame m ρ, fun m ρ _ => SI.frame m ρ,
  fun m ρ _ => SI.reference_frame m ρ, fun m ρ _ => SI.reference_frame m ρ,
  fun m ρ _ => E.frame_bits m ρ,
  fun m ρ _ => E.frame m ρ, fun m ρ _ => E.frame m ρ, fun m ρ _ => E.reference_frame m ρ, fun m ρ _ => E.reference_frame m ρ,
  preserves, algebraic, trivial, W.algebraic, trivial, O.algebraic, preserves4, SI.algebraic, trivial, E.algebraic⟩

end Cert.Proof

end
